-- ==== Defs.lean ====
def Pre_Kernel (m : (ℓ : Loc Cert.Kernel.nD Cert.Kernel.τ Cert.Kernel.sig) → Buf (Elt Bits) ℓ) : Prop :=
  True

def Pre_Kernel_no_tie [hPre_no_tie : Cert.Pre_no_tie.Facts] (m : (ℓ : Loc Cert.Kernel.nD Cert.Kernel.τ Cert.Kernel.sig) → Buf (Elt Bits) ℓ) : Prop :=
  ∀ c : Dev Cert.Kernel.nD,
    (Cert.Pre_no_tie.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_Kernel_pre_no_tie [hKernel : Cert.Kernel.Facts] [hPre_no_tie : Cert.Pre_no_tie.Facts] : Prop :=
  ∀ (m : (ℓ : Loc Cert.Kernel.nD Cert.Kernel.τ Cert.Kernel.sig) → Buf (Elt Bits) ℓ) (g : Dev Cert.Kernel.nD → PrngReg), Pre_Kernel_no_tie m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v321)) (v1 : (c : Dev Cert.KernelIdeal.nD) → Buf (Elt Ideal) ((c.tc : Thread Cert.KernelIdeal.nD Cert.KernelIdeal.τ).loc Cert.KernelIdeal.main_v126)) (v2 : (c : Dev Cert.KernelIdeal.nD) → Buf (Elt Ideal) ((c.tc : Thread Cert.KernelIdeal.nD Cert.KernelIdeal.τ).loc Cert.KernelIdeal.main_v124)) (v3 : (c : Dev Cert.KernelIdeal.nD) → Buf (Elt Ideal) ((c.tc : Thread Cert.KernelIdeal.nD Cert.KernelIdeal.τ).loc Cert.KernelIdeal.main_v129)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v321) = v0 c
          ∧ r.2.mem ((c.tc : Thread Cert.KernelIdeal.nD Cert.KernelIdeal.τ).loc Cert.KernelIdeal.main_v126) = v1 c
          ∧ r.2.mem ((c.tc : Thread Cert.KernelIdeal.nD Cert.KernelIdeal.τ).loc Cert.KernelIdeal.main_v124) = v2 c
          ∧ r.2.mem ((c.tc : Thread Cert.KernelIdeal.nD Cert.KernelIdeal.τ).loc Cert.KernelIdeal.main_v129) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v757) = v0 c
          ∧ r.2.mem ((c.tc : Thread Cert.ReferenceIdeal.nD Cert.ReferenceIdeal.τ).loc Cert.ReferenceIdeal.main_v566) = v1 c
          ∧ r.2.mem ((c.tc : Thread Cert.ReferenceIdeal.nD Cert.ReferenceIdeal.τ).loc Cert.ReferenceIdeal.main_v571) = v2 c
          ∧ r.2.mem ((c.tc : Thread Cert.ReferenceIdeal.nD Cert.ReferenceIdeal.τ).loc Cert.ReferenceIdeal.main_v573) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_Kernel_pre_no_tie (hKernel := hKernel) (hPre_no_tie := hPre_no_tie)
    ∧ quiescent_KernelIdeal (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal (hKernelIdeal := hKernelIdeal) (hReferenceIdeal := hReferenceIdeal) (hPre_no_tie := hPre_no_tie)
-- ==== Pre_no_tie.lean ====
abbrev S2x3x224x224 : Shape := ⟨4, ![2, 3, 224, 224]⟩
abbrev S64x3x4x4 : Shape := ⟨4, ![64, 3, 4, 4]⟩
abbrev S64 : Shape := ⟨1, ![64]⟩
abbrev S128x64x4x4 : Shape := ⟨4, ![128, 64, 4, 4]⟩
abbrev S128 : Shape := ⟨1, ![128]⟩
abbrev S256x128x3x3 : Shape := ⟨4, ![256, 128, 3, 3]⟩
abbrev S256 : Shape := ⟨1, ![256]⟩
abbrev S256x256x3x3 : Shape := ⟨4, ![256, 256, 3, 3]⟩
abbrev S4x1024x256 : Shape := ⟨3, ![4, 1024, 256]⟩
abbrev S128x256x3x3 : Shape := ⟨4, ![128, 256, 3, 3]⟩
abbrev S3 : Shape := ⟨1, ![3]⟩
abbrev S_ : Shape := ⟨0, ![]⟩
abbrev S4x4x64x3 : Shape := ⟨4, ![4, 4, 64, 3]⟩
abbrev S16x64x3 : Shape := ⟨3, ![16, 64, 3]⟩
abbrev S1x64x3 : Shape := ⟨3, ![1, 64, 3]⟩
abbrev S64x3 : Shape := ⟨2, ![64, 3]⟩
abbrev S4x4x128x64 : Shape := ⟨4, ![4, 4, 128, 64]⟩
abbrev S16x128x64 : Shape := ⟨3, ![16, 128, 64]⟩
abbrev S1x128x64 : Shape := ⟨3, ![1, 128, 64]⟩
abbrev S128x64 : Shape := ⟨2, ![128, 64]⟩
abbrev S3x3x256x128 : Shape := ⟨4, ![3, 3, 256, 128]⟩
abbrev S9x256x128 : Shape := ⟨3, ![9, 256, 128]⟩
abbrev S1x256x128 : Shape := ⟨3, ![1, 256, 128]⟩
abbrev S256x128 : Shape := ⟨2, ![256, 128]⟩
abbrev S3x3x256x256 : Shape := ⟨4, ![3, 3, 256, 256]⟩
abbrev S9x256x256 : Shape := ⟨3, ![9, 256, 256]⟩
abbrev S1x256x256 : Shape := ⟨3, ![1, 256, 256]⟩
abbrev S256x256 : Shape := ⟨2, ![256, 256]⟩
abbrev S2x3x226x226 : Shape := ⟨4, ![2, 3, 226, 226]⟩
abbrev S2x3x112x112 : Shape := ⟨4, ![2, 3, 112, 112]⟩
abbrev S2x3x12544 : Shape := ⟨3, ![2, 3, 12544]⟩
abbrev S64x2x12544 : Shape := ⟨3, ![64, 2, 12544]⟩
abbrev S64x2x112x112 : Shape := ⟨4, ![64, 2, 112, 112]⟩
abbrev S2x64x112x112 : Shape := ⟨4, ![2, 64, 112, 112]⟩
abbrev S1x64x1x1 : Shape := ⟨4, ![1, 64, 1, 1]⟩
abbrev S2x64x114x114 : Shape := ⟨4, ![2, 64, 114, 114]⟩
abbrev S2x64x56x56 : Shape := ⟨4, ![2, 64, 56, 56]⟩
abbrev S2x64x3136 : Shape := ⟨3, ![2, 64, 3136]⟩
abbrev S128x2x3136 : Shape := ⟨3, ![128, 2, 3136]⟩
abbrev S128x2x56x56 : Shape := ⟨4, ![128, 2, 56, 56]⟩
abbrev S2x128x56x56 : Shape := ⟨4, ![2, 128, 56, 56]⟩
abbrev S1x128x1x1 : Shape := ⟨4, ![1, 128, 1, 1]⟩
abbrev S2x128x58x58 : Shape := ⟨4, ![2, 128, 58, 58]⟩
abbrev S2x128x3136 : Shape := ⟨3, ![2, 128, 3136]⟩
abbrev S256x2x3136 : Shape := ⟨3, ![256, 2, 3136]⟩
abbrev S256x2x56x56 : Shape := ⟨4, ![256, 2, 56, 56]⟩
abbrev S2x256x56x56 : Shape := ⟨4, ![2, 256, 56, 56]⟩
abbrev S1x256x1x1 : Shape := ⟨4, ![1, 256, 1, 1]⟩
abbrev S2x256x58x58 : Shape := ⟨4, ![2, 256, 58, 58]⟩
abbrev S2x256x3136 : Shape := ⟨3, ![2, 256, 3136]⟩
abbrev S2x56x56x256 : Shape := ⟨4, ![2, 56, 56, 256]⟩
abbrev S2x3136x256 : Shape := ⟨3, ![2, 3136, 256]⟩
abbrev S1x1024x256 : Shape := ⟨3, ![1, 1024, 256]⟩
abbrev S1024x256 : Shape := ⟨2, ![1024, 256]⟩
abbrev S2x3136 : Shape := ⟨2, ![2, 3136]⟩
abbrev S2x3136x1 : Shape := ⟨3, ![2, 3136, 1]⟩
abbrev S256x1024 : Shape := ⟨2, ![256, 1024]⟩
abbrev S2x3136x1024 : Shape := ⟨3, ![2, 3136, 1024]⟩
abbrev S1024 : Shape := ⟨1, ![1024]⟩
abbrev S1x1x1024 : Shape := ⟨3, ![1, 1, 1024]⟩

class Facts : Prop where
  bcast_S_S4x1024x256 : S_.BroadcastsInDim S4x1024x256 (![] : Fin 0 → Fin S4x1024x256.rank)
  reducesTo_S4x1024x256_S_d0_1_2 : S4x1024x256.ReducesTo [0, 1, 2] S_
  h_S_ : 0 < S_.numel
  bcast_S_S2x3x224x224 : S_.BroadcastsInDim S2x3x224x224 (![] : Fin 0 → Fin S2x3x224x224.rank)
  reducesTo_S2x3x224x224_S_d0_1_2_3 : S2x3x224x224.ReducesTo [0, 1, 2, 3] S_
  bcast_S_S64x3x4x4 : S_.BroadcastsInDim S64x3x4x4 (![] : Fin 0 → Fin S64x3x4x4.rank)
  reducesTo_S64x3x4x4_S_d0_1_2_3 : S64x3x4x4.ReducesTo [0, 1, 2, 3] S_
  bcast_S_S64 : S_.BroadcastsInDim S64 (![] : Fin 0 → Fin S64.rank)
  reducesTo_S64_S_d0 : S64.ReducesTo [0] S_
  bcast_S_S128x64x4x4 : S_.BroadcastsInDim S128x64x4x4 (![] : Fin 0 → Fin S128x64x4x4.rank)
  reducesTo_S128x64x4x4_S_d0_1_2_3 : S128x64x4x4.ReducesTo [0, 1, 2, 3] S_
  bcast_S_S128 : S_.BroadcastsInDim S128 (![] : Fin 0 → Fin S128.rank)
  reducesTo_S128_S_d0 : S128.ReducesTo [0] S_
  bcast_S_S256x128x3x3 : S_.BroadcastsInDim S256x128x3x3 (![] : Fin 0 → Fin S256x128x3x3.rank)
  reducesTo_S256x128x3x3_S_d0_1_2_3 : S256x128x3x3.ReducesTo [0, 1, 2, 3] S_
  bcast_S_S256 : S_.BroadcastsInDim S256 (![] : Fin 0 → Fin S256.rank)
  reducesTo_S256_S_d0 : S256.ReducesTo [0] S_
  bcast_S_S256x256x3x3 : S_.BroadcastsInDim S256x256x3x3 (![] : Fin 0 → Fin S256x256x3x3.rank)
  reducesTo_S256x256x3x3_S_d0_1_2_3 : S256x256x3x3.ReducesTo [0, 1, 2, 3] S_
  transposes_S64x3x4x4_S4x4x64x3_2_3_0_1 : S64x3x4x4.Transposes [2, 3, 0, 1] S4x4x64x3
  shapeCasts_S4x4x64x3_S16x64x3 : S4x4x64x3.ShapeCasts S16x64x3
  slices_S16x64x3_S1x64x3_0_0_0 : S16x64x3.Slices ![0, 0, 0] S1x64x3
  shapeCasts_S1x64x3_S64x3 : S1x64x3.ShapeCasts S64x3
  slices_S16x64x3_S1x64x3_1_0_0 : S16x64x3.Slices ![1, 0, 0] S1x64x3
  slices_S16x64x3_S1x64x3_2_0_0 : S16x64x3.Slices ![2, 0, 0] S1x64x3
  slices_S16x64x3_S1x64x3_3_0_0 : S16x64x3.Slices ![3, 0, 0] S1x64x3
  slices_S16x64x3_S1x64x3_4_0_0 : S16x64x3.Slices ![4, 0, 0] S1x64x3
  slices_S16x64x3_S1x64x3_5_0_0 : S16x64x3.Slices ![5, 0, 0] S1x64x3
  slices_S16x64x3_S1x64x3_6_0_0 : S16x64x3.Slices ![6, 0, 0] S1x64x3
  slices_S16x64x3_S1x64x3_7_0_0 : S16x64x3.Slices ![7, 0, 0] S1x64x3
  slices_S16x64x3_S1x64x3_8_0_0 : S16x64x3.Slices ![8, 0, 0] S1x64x3
  slices_S16x64x3_S1x64x3_9_0_0 : S16x64x3.Slices ![9, 0, 0] S1x64x3
  slices_S16x64x3_S1x64x3_10_0_0 : S16x64x3.Slices ![10, 0, 0] S1x64x3
  slices_S16x64x3_S1x64x3_11_0_0 : S16x64x3.Slices ![11, 0, 0] S1x64x3
  slices_S16x64x3_S1x64x3_12_0_0 : S16x64x3.Slices ![12, 0, 0] S1x64x3
  slices_S16x64x3_S1x64x3_13_0_0 : S16x64x3.Slices ![13, 0, 0] S1x64x3
  slices_S16x64x3_S1x64x3_14_0_0 : S16x64x3.Slices ![14, 0, 0] S1x64x3
  slices_S16x64x3_S1x64x3_15_0_0 : S16x64x3.Slices ![15, 0, 0] S1x64x3
  transposes_S128x64x4x4_S4x4x128x64_2_3_0_1 : S128x64x4x4.Transposes [2, 3, 0, 1] S4x4x128x64
  shapeCasts_S4x4x128x64_S16x128x64 : S4x4x128x64.ShapeCasts S16x128x64
  slices_S16x128x64_S1x128x64_0_0_0 : S16x128x64.Slices ![0, 0, 0] S1x128x64
  shapeCasts_S1x128x64_S128x64 : S1x128x64.ShapeCasts S128x64
  slices_S16x128x64_S1x128x64_1_0_0 : S16x128x64.Slices ![1, 0, 0] S1x128x64
  slices_S16x128x64_S1x128x64_2_0_0 : S16x128x64.Slices ![2, 0, 0] S1x128x64
  slices_S16x128x64_S1x128x64_3_0_0 : S16x128x64.Slices ![3, 0, 0] S1x128x64
  slices_S16x128x64_S1x128x64_4_0_0 : S16x128x64.Slices ![4, 0, 0] S1x128x64
  slices_S16x128x64_S1x128x64_5_0_0 : S16x128x64.Slices ![5, 0, 0] S1x128x64
  slices_S16x128x64_S1x128x64_6_0_0 : S16x128x64.Slices ![6, 0, 0] S1x128x64
  slices_S16x128x64_S1x128x64_7_0_0 : S16x128x64.Slices ![7, 0, 0] S1x128x64
  slices_S16x128x64_S1x128x64_8_0_0 : S16x128x64.Slices ![8, 0, 0] S1x128x64
  slices_S16x128x64_S1x128x64_9_0_0 : S16x128x64.Slices ![9, 0, 0] S1x128x64
  slices_S16x128x64_S1x128x64_10_0_0 : S16x128x64.Slices ![10, 0, 0] S1x128x64
  slices_S16x128x64_S1x128x64_11_0_0 : S16x128x64.Slices ![11, 0, 0] S1x128x64
  slices_S16x128x64_S1x128x64_12_0_0 : S16x128x64.Slices ![12, 0, 0] S1x128x64
  slices_S16x128x64_S1x128x64_13_0_0 : S16x128x64.Slices ![13, 0, 0] S1x128x64
  slices_S16x128x64_S1x128x64_14_0_0 : S16x128x64.Slices ![14, 0, 0] S1x128x64
  slices_S16x128x64_S1x128x64_15_0_0 : S16x128x64.Slices ![15, 0, 0] S1x128x64
  transposes_S256x128x3x3_S3x3x256x128_2_3_0_1 : S256x128x3x3.Transposes [2, 3, 0, 1] S3x3x256x128
  shapeCasts_S3x3x256x128_S9x256x128 : S3x3x256x128.ShapeCasts S9x256x128
  slices_S9x256x128_S1x256x128_0_0_0 : S9x256x128.Slices ![0, 0, 0] S1x256x128
  shapeCasts_S1x256x128_S256x128 : S1x256x128.ShapeCasts S256x128
  slices_S9x256x128_S1x256x128_1_0_0 : S9x256x128.Slices ![1, 0, 0] S1x256x128
  slices_S9x256x128_S1x256x128_2_0_0 : S9x256x128.Slices ![2, 0, 0] S1x256x128
  slices_S9x256x128_S1x256x128_3_0_0 : S9x256x128.Slices ![3, 0, 0] S1x256x128
  slices_S9x256x128_S1x256x128_4_0_0 : S9x256x128.Slices ![4, 0, 0] S1x256x128
  slices_S9x256x128_S1x256x128_5_0_0 : S9x256x128.Slices ![5, 0, 0] S1x256x128
  slices_S9x256x128_S1x256x128_6_0_0 : S9x256x128.Slices ![6, 0, 0] S1x256x128
  slices_S9x256x128_S1x256x128_7_0_0 : S9x256x128.Slices ![7, 0, 0] S1x256x128
  slices_S9x256x128_S1x256x128_8_0_0 : S9x256x128.Slices ![8, 0, 0] S1x256x128
  transposes_S256x256x3x3_S3x3x256x256_2_3_0_1 : S256x256x3x3.Transposes [2, 3, 0, 1] S3x3x256x256
  shapeCasts_S3x3x256x256_S9x256x256 : S3x3x256x256.ShapeCasts S9x256x256
  slices_S9x256x256_S1x256x256_0_0_0 : S9x256x256.Slices ![0, 0, 0] S1x256x256
  shapeCasts_S1x256x256_S256x256 : S1x256x256.ShapeCasts S256x256
  slices_S9x256x256_S1x256x256_1_0_0 : S9x256x256.Slices ![1, 0, 0] S1x256x256
  slices_S9x256x256_S1x256x256_2_0_0 : S9x256x256.Slices ![2, 0, 0] S1x256x256
  slices_S9x256x256_S1x256x256_3_0_0 : S9x256x256.Slices ![3, 0, 0] S1x256x256
  slices_S9x256x256_S1x256x256_4_0_0 : S9x256x256.Slices ![4, 0, 0] S1x256x256
  slices_S9x256x256_S1x256x256_5_0_0 : S9x256x256.Slices ![5, 0, 0] S1x256x256
  slices_S9x256x256_S1x256x256_6_0_0 : S9x256x256.Slices ![6, 0, 0] S1x256x256
  slices_S9x256x256_S1x256x256_7_0_0 : S9x256x256.Slices ![7, 0, 0] S1x256x256
  slices_S9x256x256_S1x256x256_8_0_0 : S9x256x256.Slices ![8, 0, 0] S1x256x256
  pads_S2x3x224x224_S2x3x226x226_000_000_110_110 : S2x3x224x224.Pads (![0, 0, 1, 1] : Fin 4 → Nat) ![0, 0, 1, 1] ![0, 0, 0, 0] S2x3x226x226
  slicesBy_S2x3x226x226_S2x3x112x112_0s1_0s1_0s2_0s2 : S2x3x226x226.SlicesBy (![0, 0, 0, 0] : Fin 4 → Nat) ![1, 1, 2, 2] S2x3x112x112
  shapeCasts_S2x3x112x112_S2x3x12544 : S2x3x112x112.ShapeCasts S2x3x12544
  slicesBy_S2x3x226x226_S2x3x112x112_0s1_0s1_0s2_1s2 : S2x3x226x226.SlicesBy (![0, 0, 0, 1] : Fin 4 → Nat) ![1, 1, 2, 2] S2x3x112x112
  slicesBy_S2x3x226x226_S2x3x112x112_0s1_0s1_0s2_2s2 : S2x3x226x226.SlicesBy (![0, 0, 0, 2] : Fin 4 → Nat) ![1, 1, 2, 2] S2x3x112x112
  slicesBy_S2x3x226x226_S2x3x112x112_0s1_0s1_0s2_3s2 : S2x3x226x226.SlicesBy (![0, 0, 0, 3] : Fin 4 → Nat) ![1, 1, 2, 2] S2x3x112x112
  slicesBy_S2x3x226x226_S2x3x112x112_0s1_0s1_1s2_0s2 : S2x3x226x226.SlicesBy (![0, 0, 1, 0] : Fin 4 → Nat) ![1, 1, 2, 2] S2x3x112x112
  slicesBy_S2x3x226x226_S2x3x112x112_0s1_0s1_1s2_1s2 : S2x3x226x226.SlicesBy (![0, 0, 1, 1] : Fin 4 → Nat) ![1, 1, 2, 2] S2x3x112x112
  slicesBy_S2x3x226x226_S2x3x112x112_0s1_0s1_1s2_2s2 : S2x3x226x226.SlicesBy (![0, 0, 1, 2] : Fin 4 → Nat) ![1, 1, 2, 2] S2x3x112x112
  slicesBy_S2x3x226x226_S2x3x112x112_0s1_0s1_1s2_3s2 : S2x3x226x226.SlicesBy (![0, 0, 1, 3] : Fin 4 → Nat) ![1, 1, 2, 2] S2x3x112x112
  slicesBy_S2x3x226x226_S2x3x112x112_0s1_0s1_2s2_0s2 : S2x3x226x226.SlicesBy (![0, 0, 2, 0] : Fin 4 → Nat) ![1, 1, 2, 2] S2x3x112x112
  slicesBy_S2x3x226x226_S2x3x112x112_0s1_0s1_2s2_1s2 : S2x3x226x226.SlicesBy (![0, 0, 2, 1] : Fin 4 → Nat) ![1, 1, 2, 2] S2x3x112x112
  slicesBy_S2x3x226x226_S2x3x112x112_0s1_0s1_2s2_2s2 : S2x3x226x226.SlicesBy (![0, 0, 2, 2] : Fin 4 → Nat) ![1, 1, 2, 2] S2x3x112x112
  slicesBy_S2x3x226x226_S2x3x112x112_0s1_0s1_2s2_3s2 : S2x3x226x226.SlicesBy (![0, 0, 2, 3] : Fin 4 → Nat) ![1, 1, 2, 2] S2x3x112x112
  slicesBy_S2x3x226x226_S2x3x112x112_0s1_0s1_3s2_0s2 : S2x3x226x226.SlicesBy (![0, 0, 3, 0] : Fin 4 → Nat) ![1, 1, 2, 2] S2x3x112x112
  slicesBy_S2x3x226x226_S2x3x112x112_0s1_0s1_3s2_1s2 : S2x3x226x226.SlicesBy (![0, 0, 3, 1] : Fin 4 → Nat) ![1, 1, 2, 2] S2x3x112x112
  slicesBy_S2x3x226x226_S2x3x112x112_0s1_0s1_3s2_2s2 : S2x3x226x226.SlicesBy (![0, 0, 3, 2] : Fin 4 → Nat) ![1, 1, 2, 2] S2x3x112x112
  slicesBy_S2x3x226x226_S2x3x112x112_0s1_0s1_3s2_3s2 : S2x3x226x226.SlicesBy (![0, 0, 3, 3] : Fin 4 → Nat) ![1, 1, 2, 2] S2x3x112x112
  shapeCasts_S64x2x12544_S64x2x112x112 : S64x2x12544.ShapeCasts S64x2x112x112
  transposes_S64x2x112x112_S2x64x112x112_1_0_2_3 : S64x2x112x112.Transposes [1, 0, 2, 3] S2x64x112x112
  bcast_S64_S1x64x1x1_1 : S64.BroadcastsInDim S1x64x1x1 (![1] : Fin 1 → Fin S1x64x1x1.rank)
  bcast_S1x64x1x1_S2x64x112x112_0_1_2_3 : S1x64x1x1.BroadcastsInDim S2x64x112x112 (![0, 1, 2, 3] : Fin 4 → Fin S2x64x112x112.rank)
  bcast_S_S2x64x112x112 : S_.BroadcastsInDim S2x64x112x112 (![] : Fin 0 → Fin S2x64x112x112.rank)
  pads_S2x64x112x112_S2x64x114x114_000_000_110_110 : S2x64x112x112.Pads (![0, 0, 1, 1] : Fin 4 → Nat) ![0, 0, 1, 1] ![0, 0, 0, 0] S2x64x114x114
  slicesBy_S2x64x114x114_S2x64x56x56_0s1_0s1_0s2_0s2 : S2x64x114x114.SlicesBy (![0, 0, 0, 0] : Fin 4 → Nat) ![1, 1, 2, 2] S2x64x56x56
  shapeCasts_S2x64x56x56_S2x64x3136 : S2x64x56x56.ShapeCasts S2x64x3136
  slicesBy_S2x64x114x114_S2x64x56x56_0s1_0s1_0s2_1s2 : S2x64x114x114.SlicesBy (![0, 0, 0, 1] : Fin 4 → Nat) ![1, 1, 2, 2] S2x64x56x56
  slicesBy_S2x64x114x114_S2x64x56x56_0s1_0s1_0s2_2s2 : S2x64x114x114.SlicesBy (![0, 0, 0, 2] : Fin 4 → Nat) ![1, 1, 2, 2] S2x64x56x56
  slicesBy_S2x64x114x114_S2x64x56x56_0s1_0s1_0s2_3s2 : S2x64x114x114.SlicesBy (![0, 0, 0, 3] : Fin 4 → Nat) ![1, 1, 2, 2] S2x64x56x56
  slicesBy_S2x64x114x114_S2x64x56x56_0s1_0s1_1s2_0s2 : S2x64x114x114.SlicesBy (![0, 0, 1, 0] : Fin 4 → Nat) ![1, 1, 2, 2] S2x64x56x56
  slicesBy_S2x64x114x114_S2x64x56x56_0s1_0s1_1s2_1s2 : S2x64x114x114.SlicesBy (![0, 0, 1, 1] : Fin 4 → Nat) ![1, 1, 2, 2] S2x64x56x56
  slicesBy_S2x64x114x114_S2x64x56x56_0s1_0s1_1s2_2s2 : S2x64x114x114.SlicesBy (![0, 0, 1, 2] : Fin 4 → Nat) ![1, 1, 2, 2] S2x64x56x56
  slicesBy_S2x64x114x114_S2x64x56x56_0s1_0s1_1s2_3s2 : S2x64x114x114.SlicesBy (![0, 0, 1, 3] : Fin 4 → Nat) ![1, 1, 2, 2] S2x64x56x56
  slicesBy_S2x64x114x114_S2x64x56x56_0s1_0s1_2s2_0s2 : S2x64x114x114.SlicesBy (![0, 0, 2, 0] : Fin 4 → Nat) ![1, 1, 2, 2] S2x64x56x56
  slicesBy_S2x64x114x114_S2x64x56x56_0s1_0s1_2s2_1s2 : S2x64x114x114.SlicesBy (![0, 0, 2, 1] : Fin 4 → Nat) ![1, 1, 2, 2] S2x64x56x56
  slicesBy_S2x64x114x114_S2x64x56x56_0s1_0s1_2s2_2s2 : S2x64x114x114.SlicesBy (![0, 0, 2, 2] : Fin 4 → Nat) ![1, 1, 2, 2] S2x64x56x56
  slicesBy_S2x64x114x114_S2x64x56x56_0s1_0s1_2s2_3s2 : S2x64x114x114.SlicesBy (![0, 0, 2, 3] : Fin 4 → Nat) ![1, 1, 2, 2] S2x64x56x56
  slicesBy_S2x64x114x114_S2x64x56x56_0s1_0s1_3s2_0s2 : S2x64x114x114.SlicesBy (![0, 0, 3, 0] : Fin 4 → Nat) ![1, 1, 2, 2] S2x64x56x56
  slicesBy_S2x64x114x114_S2x64x56x56_0s1_0s1_3s2_1s2 : S2x64x114x114.SlicesBy (![0, 0, 3, 1] : Fin 4 → Nat) ![1, 1, 2, 2] S2x64x56x56
  slicesBy_S2x64x114x114_S2x64x56x56_0s1_0s1_3s2_2s2 : S2x64x114x114.SlicesBy (![0, 0, 3, 2] : Fin 4 → Nat) ![1, 1, 2, 2] S2x64x56x56
  slicesBy_S2x64x114x114_S2x64x56x56_0s1_0s1_3s2_3s2 : S2x64x114x114.SlicesBy (![0, 0, 3, 3] : Fin 4 → Nat) ![1, 1, 2, 2] S2x64x56x56
  shapeCasts_S128x2x3136_S128x2x56x56 : S128x2x3136.ShapeCasts S128x2x56x56
  transposes_S128x2x56x56_S2x128x56x56_1_0_2_3 : S128x2x56x56.Transposes [1, 0, 2, 3] S2x128x56x56
  bcast_S128_S1x128x1x1_1 : S128.BroadcastsInDim S1x128x1x1 (![1] : Fin 1 → Fin S1x128x1x1.rank)
  bcast_S1x128x1x1_S2x128x56x56_0_1_2_3 : S1x128x1x1.BroadcastsInDim S2x128x56x56 (![0, 1, 2, 3] : Fin 4 → Fin S2x128x56x56.rank)
  bcast_S_S2x128x56x56 : S_.BroadcastsInDim S2x128x56x56 (![] : Fin 0 → Fin S2x128x56x56.rank)
  pads_S2x128x56x56_S2x128x58x58_000_000_110_110 : S2x128x56x56.Pads (![0, 0, 1, 1] : Fin 4 → Nat) ![0, 0, 1, 1] ![0, 0, 0, 0] S2x128x58x58
  slices_S2x128x58x58_S2x128x56x56_0_0_0_0 : S2x128x58x58.Slices ![0, 0, 0, 0] S2x128x56x56
  shapeCasts_S2x128x56x56_S2x128x3136 : S2x128x56x56.ShapeCasts S2x128x3136
  slices_S2x128x58x58_S2x128x56x56_0_0_0_1 : S2x128x58x58.Slices ![0, 0, 0, 1] S2x128x56x56
  slices_S2x128x58x58_S2x128x56x56_0_0_0_2 : S2x128x58x58.Slices ![0, 0, 0, 2] S2x128x56x56
  slices_S2x128x58x58_S2x128x56x56_0_0_1_0 : S2x128x58x58.Slices ![0, 0, 1, 0] S2x128x56x56
  slices_S2x128x58x58_S2x128x56x56_0_0_1_1 : S2x128x58x58.Slices ![0, 0, 1, 1] S2x128x56x56
  slices_S2x128x58x58_S2x128x56x56_0_0_1_2 : S2x128x58x58.Slices ![0, 0, 1, 2] S2x128x56x56
  slices_S2x128x58x58_S2x128x56x56_0_0_2_0 : S2x128x58x58.Slices ![0, 0, 2, 0] S2x128x56x56
  slices_S2x128x58x58_S2x128x56x56_0_0_2_1 : S2x128x58x58.Slices ![0, 0, 2, 1] S2x128x56x56
  slices_S2x128x58x58_S2x128x56x56_0_0_2_2 : S2x128x58x58.Slices ![0, 0, 2, 2] S2x128x56x56
  shapeCasts_S256x2x3136_S256x2x56x56 : S256x2x3136.ShapeCasts S256x2x56x56
  transposes_S256x2x56x56_S2x256x56x56_1_0_2_3 : S256x2x56x56.Transposes [1, 0, 2, 3] S2x256x56x56
  bcast_S256_S1x256x1x1_1 : S256.BroadcastsInDim S1x256x1x1 (![1] : Fin 1 → Fin S1x256x1x1.rank)
  bcast_S1x256x1x1_S2x256x56x56_0_1_2_3 : S1x256x1x1.BroadcastsInDim S2x256x56x56 (![0, 1, 2, 3] : Fin 4 → Fin S2x256x56x56.rank)
  bcast_S_S2x256x56x56 : S_.BroadcastsInDim S2x256x56x56 (![] : Fin 0 → Fin S2x256x56x56.rank)
  pads_S2x256x56x56_S2x256x58x58_000_000_110_110 : S2x256x56x56.Pads (![0, 0, 1, 1] : Fin 4 → Nat) ![0, 0, 1, 1] ![0, 0, 0, 0] S2x256x58x58
  slices_S2x256x58x58_S2x256x56x56_0_0_0_0 : S2x256x58x58.Slices ![0, 0, 0, 0] S2x256x56x56
  shapeCasts_S2x256x56x56_S2x256x3136 : S2x256x56x56.ShapeCasts S2x256x3136
  slices_S2x256x58x58_S2x256x56x56_0_0_0_1 : S2x256x58x58.Slices ![0, 0, 0, 1] S2x256x56x56
  slices_S2x256x58x58_S2x256x56x56_0_0_0_2 : S2x256x58x58.Slices ![0, 0, 0, 2] S2x256x56x56
  slices_S2x256x58x58_S2x256x56x56_0_0_1_0 : S2x256x58x58.Slices ![0, 0, 1, 0] S2x256x56x56
  slices_S2x256x58x58_S2x256x56x56_0_0_1_1 : S2x256x58x58.Slices ![0, 0, 1, 1] S2x256x56x56
  slices_S2x256x58x58_S2x256x56x56_0_0_1_2 : S2x256x58x58.Slices ![0, 0, 1, 2] S2x256x56x56
  slices_S2x256x58x58_S2x256x56x56_0_0_2_0 : S2x256x58x58.Slices ![0, 0, 2, 0] S2x256x56x56
  slices_S2x256x58x58_S2x256x56x56_0_0_2_1 : S2x256x58x58.Slices ![0, 0, 2, 1] S2x256x56x56
  slices_S2x256x58x58_S2x256x56x56_0_0_2_2 : S2x256x58x58.Slices ![0, 0, 2, 2] S2x256x56x56
  transposes_S2x256x56x56_S2x56x56x256_0_2_3_1 : S2x256x56x56.Transposes [0, 2, 3, 1] S2x56x56x256
  shapeCasts_S2x56x56x256_S2x3136x256 : S2x56x56x256.ShapeCasts S2x3136x256
  slices_S4x1024x256_S1x1024x256_0_0_0 : S4x1024x256.Slices ![0, 0, 0] S1x1024x256
  shapeCasts_S1x1024x256_S1024x256 : S1x1024x256.ShapeCasts S1024x256
  reducesTo_S2x3136x256_S2x3136_d2 : S2x3136x256.ReducesTo [2] S2x3136
  bcast_S2x3136_S2x3136x1_0_1 : S2x3136.BroadcastsInDim S2x3136x1 (![0, 1] : Fin 2 → Fin S2x3136x1.rank)
  transposes_S1024x256_S256x1024_1_0 : S1024x256.Transposes [1, 0] S256x1024
  bcast_S_S2x3136x1024 : S_.BroadcastsInDim S2x3136x1024 (![] : Fin 0 → Fin S2x3136x1024.rank)
  bcast_S2x3136x1_S2x3136x1024_0_1_2 : S2x3136x1.BroadcastsInDim S2x3136x1024 (![0, 1, 2] : Fin 3 → Fin S2x3136x1024.rank)
  reducesTo_S1024x256_S1024_d1 : S1024x256.ReducesTo [1] S1024
  bcast_S1024_S1x1x1024_2 : S1024.BroadcastsInDim S1x1x1024 (![2] : Fin 1 → Fin S1x1x1024.rank)
  bcast_S1x1x1024_S2x3136x1024_0_1_2 : S1x1x1024.BroadcastsInDim S2x3136x1024 (![0, 1, 2] : Fin 3 → Fin S2x3136x1024.rank)
  reducesTo_S2x3136x1024_S2x3136_d2 : S2x3136x1024.ReducesTo [2] S2x3136
  bcast_S_S2x3136 : S_.BroadcastsInDim S2x3136 (![] : Fin 0 → Fin S2x3136.rank)
  reducesTo_S2x3136_S_d0_1 : S2x3136.ReducesTo [0, 1] S_
  slices_S4x1024x256_S1x1024x256_1_0_0 : S4x1024x256.Slices ![1, 0, 0] S1x1024x256
  slices_S4x1024x256_S1x1024x256_2_0_0 : S4x1024x256.Slices ![2, 0, 0] S1x1024x256
  slices_S4x1024x256_S1x1024x256_3_0_0 : S4x1024x256.Slices ![3, 0, 0] S1x1024x256
  dot_S64x3_S2x3x12544_S64x2x12544_1_1_0_02_n_n_wf : DotDims.WF S64x3 S2x3x12544 S64x2x12544 [1] [1] [0] [0, 2] [] []
  dot_S128x64_S2x64x3136_S128x2x3136_1_1_0_02_n_n_wf : DotDims.WF S128x64 S2x64x3136 S128x2x3136 [1] [1] [0] [0, 2] [] []
  dot_S256x128_S2x128x3136_S256x2x3136_1_1_0_02_n_n_wf : DotDims.WF S256x128 S2x128x3136 S256x2x3136 [1] [1] [0] [0, 2] [] []
  dot_S256x256_S2x256x3136_S256x2x3136_1_1_0_02_n_n_wf : DotDims.WF S256x256 S2x256x3136 S256x2x3136 [1] [1] [0] [0, 2] [] []
  dot_S2x3136x256_S256x1024_S2x3136x1024_2_0_01_1_n_n_wf : DotDims.WF S2x3136x256 S256x1024 S2x3136x1024 [2] [0] [0, 1] [1] [] []
  dot_S2x3136x1024_S1024x256_S2x3136x256_2_0_01_1_n_n_wf : DotDims.WF S2x3136x1024 S1024x256 S2x3136x256 [2] [0] [0, 1] [1] [] []

variable [Facts]

def dot_S64x3_S2x3x12544_S64x2x12544_1_1_0_02_n_n : DotDims S64x3 S2x3x12544 S64x2x12544 where
  lhsContracting := [1]
  rhsContracting := [1]
  lhsNonContracting := [0]
  rhsNonContracting := [0, 2]
  lhsBatch := []
  rhsBatch := []
  wf := dot_S64x3_S2x3x12544_S64x2x12544_1_1_0_02_n_n_wf
def dot_S128x64_S2x64x3136_S128x2x3136_1_1_0_02_n_n : DotDims S128x64 S2x64x3136 S128x2x3136 where
  lhsContracting := [1]
  rhsContracting := [1]
  lhsNonContracting := [0]
  rhsNonContracting := [0, 2]
  lhsBatch := []
  rhsBatch := []
  wf := dot_S128x64_S2x64x3136_S128x2x3136_1_1_0_02_n_n_wf
def dot_S256x128_S2x128x3136_S256x2x3136_1_1_0_02_n_n : DotDims S256x128 S2x128x3136 S256x2x3136 where
  lhsContracting := [1]
  rhsContracting := [1]
  lhsNonContracting := [0]
  rhsNonContracting := [0, 2]
  lhsBatch := []
  rhsBatch := []
  wf := dot_S256x128_S2x128x3136_S256x2x3136_1_1_0_02_n_n_wf
def dot_S256x256_S2x256x3136_S256x2x3136_1_1_0_02_n_n : DotDims S256x256 S2x256x3136 S256x2x3136 where
  lhsContracting := [1]
  rhsContracting := [1]
  lhsNonContracting := [0]
  rhsNonContracting := [0, 2]
  lhsBatch := []
  rhsBatch := []
  wf := dot_S256x256_S2x256x3136_S256x2x3136_1_1_0_02_n_n_wf
def dot_S2x3136x256_S256x1024_S2x3136x1024_2_0_01_1_n_n : DotDims S2x3136x256 S256x1024 S2x3136x1024 where
  lhsContracting := [2]
  rhsContracting := [0]
  lhsNonContracting := [0, 1]
  rhsNonContracting := [1]
  lhsBatch := []
  rhsBatch := []
  wf := dot_S2x3136x256_S256x1024_S2x3136x1024_2_0_01_1_n_n_wf
def dot_S2x3136x1024_S1024x256_S2x3136x256_2_0_01_1_n_n : DotDims S2x3136x1024 S1024x256 S2x3136x256 where
  lhsContracting := [2]
  rhsContracting := [0]
  lhsNonContracting := [0, 1]
  rhsNonContracting := [1]
  lhsBatch := []
  rhsBatch := []
  wf := dot_S2x3136x1024_S1024x256_S2x3136x256_2_0_01_1_n_n_wf
def fn_part22 {F : FTy → Type} [FloatOps F] (main_v466 : IVec S_ 1) (main_v468 : FVec F S2x3136x256 .f32) (main_v470 : FVec F S1024x256 .f32) (main_v473 : FVec F S2x3136x1 .f32) (main_v477 : FVec F S2x3136x1024 .f32) : IVec S_ 1 :=
  let main_v478 : FVec F S2x3136x1024 .f32 := broadcastInDim S2x3136x1024 ![0, 1, 2] bcast_S2x3136x1_S2x3136x1024_0_1_2 main_v473
  let main_v479 : FVec F S2x3136x1024 .f32 := subf main_v478 main_v477
  let main_v480 : FVec F S1024x256 .f32 := mulf main_v470 main_v470
  let main_cst_48 : FVec F S_ .f32 := constant S_ .f32 0x00000000#32
  let main_v481 : FVec F S1024 .f32 := (fun x v => Host.reduceAdd x v reducesTo_S1024x256_S1024_d1 h_S_) main_v480 main_cst_48
  let main_v482 : FVec F S1x1x1024 .f32 := broadcastInDim S1x1x1024 ![2] bcast_S1024_S1x1x1024_2 main_v481
  let main_v483 : FVec F S2x3136x1024 .f32 := broadcastInDim S2x3136x1024 ![0, 1, 2] bcast_S1x1x1024_S2x3136x1024_0_1_2 main_v482
  let main_v484 : FVec F S2x3136x1024 .f32 := addf main_v479 main_v483
  let main_cst_49 : FVec F S_ .f32 := constant S_ .f32 0x7F800000#32
  let main_v485 : FVec F S2x3136 .f32 := (fun x v => Host.reduce FloatOps.minimumf x v reducesTo_S2x3136x1024_S2x3136_d2 h_S_) main_v484 main_cst_49
  let main_v486 : FVec F S2x3136x1 .f32 := broadcastInDim S2x3136x1 ![0, 1] bcast_S2x3136_S2x3136x1_0_1 main_v485
  let main_v487 : FVec F S2x3136x1024 .f32 := broadcastInDim S2x3136x1024 ![0, 1, 2] bcast_S2x3136x1_S2x3136x1024_0_1_2 main_v486
  let main_v488 : IVec S2x3136x1024 1 := cmpf .oeq main_v484 main_v487
  let main_v489 : FVec F S2x3136x1024 .f32 := uitofp .f32 main_v488
  let main_cst_50 : FVec F S_ .f32 := constant S_ .f32 0x00000000#32
  let main_v490 : FVec F S2x3136 .f32 := (fun x v => Host.reduceAdd x v reducesTo_S2x3136x1024_S2x3136_d2 h_S_) main_v489 main_cst_50
  let main_cst_51 : FVec F S_ .f32 := constant S_ .f32 0x3F800000#32
  let main_v491 : FVec F S2x3136 .f32 := broadcastInDim S2x3136 ![] bcast_S_S2x3136 main_cst_51
  let main_v492 : IVec S2x3136 1 := cmpf .oeq main_v490 main_v491
  let main_c_52 : IVec S_ 1 := constantI S_ 1 1#1
  let main_v493 : IVec S_ 1 := (fun x v => Host.reduce IntOp.andi x v reducesTo_S2x3136_S_d0_1 h_S_) main_v492 main_c_52
  let main_v494 : IVec S_ 1 := andi main_v466 main_v493
  let main_v495 : FVec F S2x3136x256 .f32 := (fun l r => Host.dotGeneral dot_S2x3136x1024_S1024x256_S2x3136x256_2_0_01_1_n_n none l r) main_v489 main_v470
  let main_v496 : FVec F S2x3136x256 .f32 := subf main_v468 main_v495
  main_v494

def fn_part21 {F : FTy → Type} [FloatOps F] (main_arg9 : FVec F S4x1024x256 .f32) (main_v438 : IVec S_ 1) (main_v440 : FVec F S2x3136x256 .f32) (main_v442 : FVec F S1024x256 .f32) (main_v456 : FVec F S2x3136x1024 .f32) (main_v458 : FVec F S2x3136x1 .f32) : IVec S_ 1 :=
  let main_v459 : FVec F S2x3136x1024 .f32 := broadcastInDim S2x3136x1024 ![0, 1, 2] bcast_S2x3136x1_S2x3136x1024_0_1_2 main_v458
  let main_v460 : IVec S2x3136x1024 1 := cmpf .oeq main_v456 main_v459
  let main_v461 : FVec F S2x3136x1024 .f32 := uitofp .f32 main_v460
  let main_cst_43 : FVec F S_ .f32 := constant S_ .f32 0x00000000#32
  let main_v462 : FVec F S2x3136 .f32 := (fun x v => Host.reduceAdd x v reducesTo_S2x3136x1024_S2x3136_d2 h_S_) main_v461 main_cst_43
  let main_cst_44 : FVec F S_ .f32 := constant S_ .f32 0x3F800000#32
  let main_v463 : FVec F S2x3136 .f32 := broadcastInDim S2x3136 ![] bcast_S_S2x3136 main_cst_44
  let main_v464 : IVec S2x3136 1 := cmpf .oeq main_v462 main_v463
  let main_c_45 : IVec S_ 1 := constantI S_ 1 1#1
  let main_v465 : IVec S_ 1 := (fun x v => Host.reduce IntOp.andi x v reducesTo_S2x3136_S_d0_1 h_S_) main_v464 main_c_45
  let main_v466 : IVec S_ 1 := andi main_v438 main_v465
  let main_v467 : FVec F S2x3136x256 .f32 := (fun l r => Host.dotGeneral dot_S2x3136x1024_S1024x256_S2x3136x256_2_0_01_1_n_n none l r) main_v461 main_v442
  let main_v468 : FVec F S2x3136x256 .f32 := subf main_v440 main_v467
  let main_v469 : FVec F S1x1024x256 .f32 := (extractStridedSlice S1x1024x256 ![3, 0, 0] · slices_S4x1024x256_S1x1024x256_3_0_0) main_arg9
  let main_v470 : FVec F S1024x256 .f32 := shapeCast S1024x256 main_v469 shapeCasts_S1x1024x256_S1024x256
  let main_v471 : FVec F S2x3136x256 .f32 := mulf main_v468 main_v468
  let main_cst_46 : FVec F S_ .f32 := constant S_ .f32 0x00000000#32
  let main_v472 : FVec F S2x3136 .f32 := (fun x v => Host.reduceAdd x v reducesTo_S2x3136x256_S2x3136_d2 h_S_) main_v471 main_cst_46
  let main_v473 : FVec F S2x3136x1 .f32 := broadcastInDim S2x3136x1 ![0, 1] bcast_S2x3136_S2x3136x1_0_1 main_v472
  let main_v474 : FVec F S256x1024 .f32 := (transpose S256x1024 [1, 0] · transposes_S1024x256_S256x1024_1_0) main_v470
  let main_v475 : FVec F S2x3136x1024 .f32 := (fun l r => Host.dotGeneral dot_S2x3136x256_S256x1024_S2x3136x1024_2_0_01_1_n_n none l r) main_v468 main_v474
  let main_cst_47 : FVec F S_ .f32 := constant S_ .f32 0x40000000#32
  let main_v476 : FVec F S2x3136x1024 .f32 := broadcastInDim S2x3136x1024 ![] bcast_S_S2x3136x1024 main_cst_47
  let main_v477 : FVec F S2x3136x1024 .f32 := mulf main_v476 main_v475
  fn_part22 (F := F) main_v466 main_v468 main_v470 main_v473 main_v477

def fn_part20 {F : FTy → Type} [FloatOps F] (main_arg9 : FVec F S4x1024x256 .f32) (main_v412 : FVec F S2x3136x256 .f32) (main_v414 : FVec F S1024x256 .f32) (main_v433 : FVec F S2x3136x1024 .f32) (main_v438 : IVec S_ 1) : IVec S_ 1 :=
  let main_v439 : FVec F S2x3136x256 .f32 := (fun l r => Host.dotGeneral dot_S2x3136x1024_S1024x256_S2x3136x256_2_0_01_1_n_n none l r) main_v433 main_v414
  let main_v440 : FVec F S2x3136x256 .f32 := subf main_v412 main_v439
  let main_v441 : FVec F S1x1024x256 .f32 := (extractStridedSlice S1x1024x256 ![2, 0, 0] · slices_S4x1024x256_S1x1024x256_2_0_0) main_arg9
  let main_v442 : FVec F S1024x256 .f32 := shapeCast S1024x256 main_v441 shapeCasts_S1x1024x256_S1024x256
  let main_v443 : FVec F S2x3136x256 .f32 := mulf main_v440 main_v440
  let main_cst_39 : FVec F S_ .f32 := constant S_ .f32 0x00000000#32
  let main_v444 : FVec F S2x3136 .f32 := (fun x v => Host.reduceAdd x v reducesTo_S2x3136x256_S2x3136_d2 h_S_) main_v443 main_cst_39
  let main_v445 : FVec F S2x3136x1 .f32 := broadcastInDim S2x3136x1 ![0, 1] bcast_S2x3136_S2x3136x1_0_1 main_v444
  let main_v446 : FVec F S256x1024 .f32 := (transpose S256x1024 [1, 0] · transposes_S1024x256_S256x1024_1_0) main_v442
  let main_v447 : FVec F S2x3136x1024 .f32 := (fun l r => Host.dotGeneral dot_S2x3136x256_S256x1024_S2x3136x1024_2_0_01_1_n_n none l r) main_v440 main_v446
  let main_cst_40 : FVec F S_ .f32 := constant S_ .f32 0x40000000#32
  let main_v448 : FVec F S2x3136x1024 .f32 := broadcastInDim S2x3136x1024 ![] bcast_S_S2x3136x1024 main_cst_40
  let main_v449 : FVec F S2x3136x1024 .f32 := mulf main_v448 main_v447
  let main_v450 : FVec F S2x3136x1024 .f32 := broadcastInDim S2x3136x1024 ![0, 1, 2] bcast_S2x3136x1_S2x3136x1024_0_1_2 main_v445
  let main_v451 : FVec F S2x3136x1024 .f32 := subf main_v450 main_v449
  let main_v452 : FVec F S1024x256 .f32 := mulf main_v442 main_v442
  let main_cst_41 : FVec F S_ .f32 := constant S_ .f32 0x00000000#32
  let main_v453 : FVec F S1024 .f32 := (fun x v => Host.reduceAdd x v reducesTo_S1024x256_S1024_d1 h_S_) main_v452 main_cst_41
  let main_v454 : FVec F S1x1x1024 .f32 := broadcastInDim S1x1x1024 ![2] bcast_S1024_S1x1x1024_2 main_v453
  let main_v455 : FVec F S2x3136x1024 .f32 := broadcastInDim S2x3136x1024 ![0, 1, 2] bcast_S1x1x1024_S2x3136x1024_0_1_2 main_v454
  let main_v456 : FVec F S2x3136x1024 .f32 := addf main_v451 main_v455
  let main_cst_42 : FVec F S_ .f32 := constant S_ .f32 0x7F800000#32
  let main_v457 : FVec F S2x3136 .f32 := (fun x v => Host.reduce FloatOps.minimumf x v reducesTo_S2x3136x1024_S2x3136_d2 h_S_) main_v456 main_cst_42
  let main_v458 : FVec F S2x3136x1 .f32 := broadcastInDim S2x3136x1 ![0, 1] bcast_S2x3136_S2x3136x1_0_1 main_v457
  fn_part21 (F := F) main_arg9 main_v438 main_v440 main_v442 main_v456 main_v458

def fn_part19 {F : FTy → Type} [FloatOps F] (main_arg9 : FVec F S4x1024x256 .f32) (main_v410 : IVec S_ 1) (main_v412 : FVec F S2x3136x256 .f32) (main_v414 : FVec F S1024x256 .f32) (main_v417 : FVec F S2x3136x1 .f32) (main_v419 : FVec F S2x3136x1024 .f32) (main_cst_33 : FVec F S_ .f32) : IVec S_ 1 :=
  let main_v420 : FVec F S2x3136x1024 .f32 := broadcastInDim S2x3136x1024 ![] bcast_S_S2x3136x1024 main_cst_33
  let main_v421 : FVec F S2x3136x1024 .f32 := mulf main_v420 main_v419
  let main_v422 : FVec F S2x3136x1024 .f32 := broadcastInDim S2x3136x1024 ![0, 1, 2] bcast_S2x3136x1_S2x3136x1024_0_1_2 main_v417
  let main_v423 : FVec F S2x3136x1024 .f32 := subf main_v422 main_v421
  let main_v424 : FVec F S1024x256 .f32 := mulf main_v414 main_v414
  let main_cst_34 : FVec F S_ .f32 := constant S_ .f32 0x00000000#32
  let main_v425 : FVec F S1024 .f32 := (fun x v => Host.reduceAdd x v reducesTo_S1024x256_S1024_d1 h_S_) main_v424 main_cst_34
  let main_v426 : FVec F S1x1x1024 .f32 := broadcastInDim S1x1x1024 ![2] bcast_S1024_S1x1x1024_2 main_v425
  let main_v427 : FVec F S2x3136x1024 .f32 := broadcastInDim S2x3136x1024 ![0, 1, 2] bcast_S1x1x1024_S2x3136x1024_0_1_2 main_v426
  let main_v428 : FVec F S2x3136x1024 .f32 := addf main_v423 main_v427
  let main_cst_35 : FVec F S_ .f32 := constant S_ .f32 0x7F800000#32
  let main_v429 : FVec F S2x3136 .f32 := (fun x v => Host.reduce FloatOps.minimumf x v reducesTo_S2x3136x1024_S2x3136_d2 h_S_) main_v428 main_cst_35
  let main_v430 : FVec F S2x3136x1 .f32 := broadcastInDim S2x3136x1 ![0, 1] bcast_S2x3136_S2x3136x1_0_1 main_v429
  let main_v431 : FVec F S2x3136x1024 .f32 := broadcastInDim S2x3136x1024 ![0, 1, 2] bcast_S2x3136x1_S2x3136x1024_0_1_2 main_v430
  let main_v432 : IVec S2x3136x1024 1 := cmpf .oeq main_v428 main_v431
  let main_v433 : FVec F S2x3136x1024 .f32 := uitofp .f32 main_v432
  let main_cst_36 : FVec F S_ .f32 := constant S_ .f32 0x00000000#32
  let main_v434 : FVec F S2x3136 .f32 := (fun x v => Host.reduceAdd x v reducesTo_S2x3136x1024_S2x3136_d2 h_S_) main_v433 main_cst_36
  let main_cst_37 : FVec F S_ .f32 := constant S_ .f32 0x3F800000#32
  let main_v435 : FVec F S2x3136 .f32 := broadcastInDim S2x3136 ![] bcast_S_S2x3136 main_cst_37
  let main_v436 : IVec S2x3136 1 := cmpf .oeq main_v434 main_v435
  let main_c_38 : IVec S_ 1 := constantI S_ 1 1#1
  let main_v437 : IVec S_ 1 := (fun x v => Host.reduce IntOp.andi x v reducesTo_S2x3136_S_d0_1 h_S_) main_v436 main_c_38
  let main_v438 : IVec S_ 1 := andi main_v410 main_v437
  fn_part20 (F := F) main_arg9 main_v412 main_v414 main_v433 main_v438

def fn_part18 {F : FTy → Type} [FloatOps F] (main_arg9 : FVec F S4x1024x256 .f32) (main_v48 : IVec S_ 1) (main_v384 : FVec F S2x3136x256 .f32) (main_v386 : FVec F S1024x256 .f32) (main_v400 : FVec F S2x3136x1024 .f32) (main_cst_28 : FVec F S_ .f32) : IVec S_ 1 :=
  let main_v401 : FVec F S2x3136 .f32 := (fun x v => Host.reduce FloatOps.minimumf x v reducesTo_S2x3136x1024_S2x3136_d2 h_S_) main_v400 main_cst_28
  let main_v402 : FVec F S2x3136x1 .f32 := broadcastInDim S2x3136x1 ![0, 1] bcast_S2x3136_S2x3136x1_0_1 main_v401
  let main_v403 : FVec F S2x3136x1024 .f32 := broadcastInDim S2x3136x1024 ![0, 1, 2] bcast_S2x3136x1_S2x3136x1024_0_1_2 main_v402
  let main_v404 : IVec S2x3136x1024 1 := cmpf .oeq main_v400 main_v403
  let main_v405 : FVec F S2x3136x1024 .f32 := uitofp .f32 main_v404
  let main_cst_29 : FVec F S_ .f32 := constant S_ .f32 0x00000000#32
  let main_v406 : FVec F S2x3136 .f32 := (fun x v => Host.reduceAdd x v reducesTo_S2x3136x1024_S2x3136_d2 h_S_) main_v405 main_cst_29
  let main_cst_30 : FVec F S_ .f32 := constant S_ .f32 0x3F800000#32
  let main_v407 : FVec F S2x3136 .f32 := broadcastInDim S2x3136 ![] bcast_S_S2x3136 main_cst_30
  let main_v408 : IVec S2x3136 1 := cmpf .oeq main_v406 main_v407
  let main_c_31 : IVec S_ 1 := constantI S_ 1 1#1
  let main_v409 : IVec S_ 1 := (fun x v => Host.reduce IntOp.andi x v reducesTo_S2x3136_S_d0_1 h_S_) main_v408 main_c_31
  let main_v410 : IVec S_ 1 := andi main_v48 main_v409
  let main_v411 : FVec F S2x3136x256 .f32 := (fun l r => Host.dotGeneral dot_S2x3136x1024_S1024x256_S2x3136x256_2_0_01_1_n_n none l r) main_v405 main_v386
  let main_v412 : FVec F S2x3136x256 .f32 := subf main_v384 main_v411
  let main_v413 : FVec F S1x1024x256 .f32 := (extractStridedSlice S1x1024x256 ![1, 0, 0] · slices_S4x1024x256_S1x1024x256_1_0_0) main_arg9
  let main_v414 : FVec F S1024x256 .f32 := shapeCast S1024x256 main_v413 shapeCasts_S1x1024x256_S1024x256
  let main_v415 : FVec F S2x3136x256 .f32 := mulf main_v412 main_v412
  let main_cst_32 : FVec F S_ .f32 := constant S_ .f32 0x00000000#32
  let main_v416 : FVec F S2x3136 .f32 := (fun x v => Host.reduceAdd x v reducesTo_S2x3136x256_S2x3136_d2 h_S_) main_v415 main_cst_32
  let main_v417 : FVec F S2x3136x1 .f32 := broadcastInDim S2x3136x1 ![0, 1] bcast_S2x3136_S2x3136x1_0_1 main_v416
  let main_v418 : FVec F S256x1024 .f32 := (transpose S256x1024 [1, 0] · transposes_S1024x256_S256x1024_1_0) main_v414
  let main_v419 : FVec F S2x3136x1024 .f32 := (fun l r => Host.dotGeneral dot_S2x3136x256_S256x1024_S2x3136x1024_2_0_01_1_n_n none l r) main_v412 main_v418
  let main_cst_33 : FVec F S_ .f32 := constant S_ .f32 0x40000000#32
  fn_part19 (F := F) main_arg9 main_v410 main_v412 main_v414 main_v417 main_v419 main_cst_33

def fn_part17 {F : FTy → Type} [FloatOps F] (main_arg9 : FVec F S4x1024x256 .f32) (main_v48 : IVec S_ 1) (main_v379 : FVec F S2x256x56x56 .f32) (main_v380 : FVec F S1x256x1x1 .f32) : IVec S_ 1 :=
  let main_v381 : FVec F S2x256x56x56 .f32 := broadcastInDim S2x256x56x56 ![0, 1, 2, 3] bcast_S1x256x1x1_S2x256x56x56_0_1_2_3 main_v380
  let main_v382 : FVec F S2x256x56x56 .f32 := addf main_v379 main_v381
  let main_v383 : FVec F S2x56x56x256 .f32 := (transpose S2x56x56x256 [0, 2, 3, 1] · transposes_S2x256x56x56_S2x56x56x256_0_2_3_1) main_v382
  let main_v384 : FVec F S2x3136x256 .f32 := shapeCast S2x3136x256 main_v383 shapeCasts_S2x56x56x256_S2x3136x256
  let main_v385 : FVec F S1x1024x256 .f32 := (extractStridedSlice S1x1024x256 ![0, 0, 0] · slices_S4x1024x256_S1x1024x256_0_0_0) main_arg9
  let main_v386 : FVec F S1024x256 .f32 := shapeCast S1024x256 main_v385 shapeCasts_S1x1024x256_S1024x256
  let main_v387 : FVec F S2x3136x256 .f32 := mulf main_v384 main_v384
  let main_cst_25 : FVec F S_ .f32 := constant S_ .f32 0x00000000#32
  let main_v388 : FVec F S2x3136 .f32 := (fun x v => Host.reduceAdd x v reducesTo_S2x3136x256_S2x3136_d2 h_S_) main_v387 main_cst_25
  let main_v389 : FVec F S2x3136x1 .f32 := broadcastInDim S2x3136x1 ![0, 1] bcast_S2x3136_S2x3136x1_0_1 main_v388
  let main_v390 : FVec F S256x1024 .f32 := (transpose S256x1024 [1, 0] · transposes_S1024x256_S256x1024_1_0) main_v386
  let main_v391 : FVec F S2x3136x1024 .f32 := (fun l r => Host.dotGeneral dot_S2x3136x256_S256x1024_S2x3136x1024_2_0_01_1_n_n none l r) main_v384 main_v390
  let main_cst_26 : FVec F S_ .f32 := constant S_ .f32 0x40000000#32
  let main_v392 : FVec F S2x3136x1024 .f32 := broadcastInDim S2x3136x1024 ![] bcast_S_S2x3136x1024 main_cst_26
  let main_v393 : FVec F S2x3136x1024 .f32 := mulf main_v392 main_v391
  let main_v394 : FVec F S2x3136x1024 .f32 := broadcastInDim S2x3136x1024 ![0, 1, 2] bcast_S2x3136x1_S2x3136x1024_0_1_2 main_v389
  let main_v395 : FVec F S2x3136x1024 .f32 := subf main_v394 main_v393
  let main_v396 : FVec F S1024x256 .f32 := mulf main_v386 main_v386
  let main_cst_27 : FVec F S_ .f32 := constant S_ .f32 0x00000000#32
  let main_v397 : FVec F S1024 .f32 := (fun x v => Host.reduceAdd x v reducesTo_S1024x256_S1024_d1 h_S_) main_v396 main_cst_27
  let main_v398 : FVec F S1x1x1024 .f32 := broadcastInDim S1x1x1024 ![2] bcast_S1024_S1x1x1024_2 main_v397
  let main_v399 : FVec F S2x3136x1024 .f32 := broadcastInDim S2x3136x1024 ![0, 1, 2] bcast_S1x1x1024_S2x3136x1024_0_1_2 main_v398
  let main_v400 : FVec F S2x3136x1024 .f32 := addf main_v395 main_v399
  let main_cst_28 : FVec F S_ .f32 := constant S_ .f32 0x7F800000#32
  fn_part18 (F := F) main_arg9 main_v48 main_v384 main_v386 main_v400 main_cst_28

def fn_part16 {F : FTy → Type} [FloatOps F] (main_arg8 : FVec F S256 .f32) (main_arg9 : FVec F S4x1024x256 .f32) (main_v48 : IVec S_ 1) (main_v148 : FVec F S256x256 .f32) (main_v150 : FVec F S256x256 .f32) (main_v152 : FVec F S256x256 .f32) (main_v154 : FVec F S256x256 .f32) (main_v156 : FVec F S256x256 .f32) (main_v342 : FVec F S2x256x58x58 .f32) (main_v353 : FVec F S256x2x3136 .f32) (main_v356 : FVec F S256x2x3136 .f32) : IVec S_ 1 :=
  let main_v357 : FVec F S256x2x3136 .f32 := addf main_v353 main_v356
  let main_v358 : FVec F S2x256x56x56 .f32 := (extractStridedSlice S2x256x56x56 ![0, 0, 1, 1] · slices_S2x256x58x58_S2x256x56x56_0_0_1_1) main_v342
  let main_v359 : FVec F S2x256x3136 .f32 := shapeCast S2x256x3136 main_v358 shapeCasts_S2x256x56x56_S2x256x3136
  let main_v360 : FVec F S256x2x3136 .f32 := (fun l r => Host.dotGeneral dot_S256x256_S2x256x3136_S256x2x3136_1_1_0_02_n_n none l r) main_v148 main_v359
  let main_v361 : FVec F S256x2x3136 .f32 := addf main_v357 main_v360
  let main_v362 : FVec F S2x256x56x56 .f32 := (extractStridedSlice S2x256x56x56 ![0, 0, 1, 2] · slices_S2x256x58x58_S2x256x56x56_0_0_1_2) main_v342
  let main_v363 : FVec F S2x256x3136 .f32 := shapeCast S2x256x3136 main_v362 shapeCasts_S2x256x56x56_S2x256x3136
  let main_v364 : FVec F S256x2x3136 .f32 := (fun l r => Host.dotGeneral dot_S256x256_S2x256x3136_S256x2x3136_1_1_0_02_n_n none l r) main_v150 main_v363
  let main_v365 : FVec F S256x2x3136 .f32 := addf main_v361 main_v364
  let main_v366 : FVec F S2x256x56x56 .f32 := (extractStridedSlice S2x256x56x56 ![0, 0, 2, 0] · slices_S2x256x58x58_S2x256x56x56_0_0_2_0) main_v342
  let main_v367 : FVec F S2x256x3136 .f32 := shapeCast S2x256x3136 main_v366 shapeCasts_S2x256x56x56_S2x256x3136
  let main_v368 : FVec F S256x2x3136 .f32 := (fun l r => Host.dotGeneral dot_S256x256_S2x256x3136_S256x2x3136_1_1_0_02_n_n none l r) main_v152 main_v367
  let main_v369 : FVec F S256x2x3136 .f32 := addf main_v365 main_v368
  let main_v370 : FVec F S2x256x56x56 .f32 := (extractStridedSlice S2x256x56x56 ![0, 0, 2, 1] · slices_S2x256x58x58_S2x256x56x56_0_0_2_1) main_v342
  let main_v371 : FVec F S2x256x3136 .f32 := shapeCast S2x256x3136 main_v370 shapeCasts_S2x256x56x56_S2x256x3136
  let main_v372 : FVec F S256x2x3136 .f32 := (fun l r => Host.dotGeneral dot_S256x256_S2x256x3136_S256x2x3136_1_1_0_02_n_n none l r) main_v154 main_v371
  let main_v373 : FVec F S256x2x3136 .f32 := addf main_v369 main_v372
  let main_v374 : FVec F S2x256x56x56 .f32 := (extractStridedSlice S2x256x56x56 ![0, 0, 2, 2] · slices_S2x256x58x58_S2x256x56x56_0_0_2_2) main_v342
  let main_v375 : FVec F S2x256x3136 .f32 := shapeCast S2x256x3136 main_v374 shapeCasts_S2x256x56x56_S2x256x3136
  let main_v376 : FVec F S256x2x3136 .f32 := (fun l r => Host.dotGeneral dot_S256x256_S2x256x3136_S256x2x3136_1_1_0_02_n_n none l r) main_v156 main_v375
  let main_v377 : FVec F S256x2x3136 .f32 := addf main_v373 main_v376
  let main_v378 : FVec F S256x2x56x56 .f32 := shapeCast S256x2x56x56 main_v377 shapeCasts_S256x2x3136_S256x2x56x56
  let main_v379 : FVec F S2x256x56x56 .f32 := (transpose S2x256x56x56 [1, 0, 2, 3] · transposes_S256x2x56x56_S2x256x56x56_1_0_2_3) main_v378
  let main_v380 : FVec F S1x256x1x1 .f32 := broadcastInDim S1x256x1x1 ![1] bcast_S256_S1x256x1x1_1 main_arg8
  fn_part17 (F := F) main_arg9 main_v48 main_v379 main_v380

def fn_part15 {F : FTy → Type} [FloatOps F] (main_arg6 : FVec F S256 .f32) (main_arg8 : FVec F S256 .f32) (main_arg9 : FVec F S4x1024x256 .f32) (main_v48 : IVec S_ 1) (main_v140 : FVec F S256x256 .f32) (main_v142 : FVec F S256x256 .f32) (main_v144 : FVec F S256x256 .f32) (main_v146 : FVec F S256x256 .f32) (main_v148 : FVec F S256x256 .f32) (main_v150 : FVec F S256x256 .f32) (main_v152 : FVec F S256x256 .f32) (main_v154 : FVec F S256x256 .f32) (main_v156 : FVec F S256x256 .f32) (main_v334 : FVec F S256x2x3136 .f32) : IVec S_ 1 :=
  let main_v335 : FVec F S256x2x56x56 .f32 := shapeCast S256x2x56x56 main_v334 shapeCasts_S256x2x3136_S256x2x56x56
  let main_v336 : FVec F S2x256x56x56 .f32 := (transpose S2x256x56x56 [1, 0, 2, 3] · transposes_S256x2x56x56_S2x256x56x56_1_0_2_3) main_v335
  let main_v337 : FVec F S1x256x1x1 .f32 := broadcastInDim S1x256x1x1 ![1] bcast_S256_S1x256x1x1_1 main_arg6
  let main_v338 : FVec F S2x256x56x56 .f32 := broadcastInDim S2x256x56x56 ![0, 1, 2, 3] bcast_S1x256x1x1_S2x256x56x56_0_1_2_3 main_v337
  let main_v339 : FVec F S2x256x56x56 .f32 := addf main_v336 main_v338
  let main_cst_23 : FVec F S_ .f32 := constant S_ .f32 0x00000000#32
  let main_v340 : FVec F S2x256x56x56 .f32 := broadcastInDim S2x256x56x56 ![] bcast_S_S2x256x56x56 main_cst_23
  let main_v341 : FVec F S2x256x56x56 .f32 := maximumf main_v339 main_v340
  let main_cst_24 : FVec F S_ .f32 := constant S_ .f32 0x00000000#32
  let main_v342 : FVec F S2x256x58x58 .f32 := (fun x v => pad S2x256x58x58 ![0, 0, 1, 1] ![0, 0, 1, 1] ![0, 0, 0, 0] x v pads_S2x256x56x56_S2x256x58x58_000_000_110_110 h_S_) main_v341 main_cst_24
  let main_v343 : FVec F S2x256x56x56 .f32 := (extractStridedSlice S2x256x56x56 ![0, 0, 0, 0] · slices_S2x256x58x58_S2x256x56x56_0_0_0_0) main_v342
  let main_v344 : FVec F S2x256x3136 .f32 := shapeCast S2x256x3136 main_v343 shapeCasts_S2x256x56x56_S2x256x3136
  let main_v345 : FVec F S256x2x3136 .f32 := (fun l r => Host.dotGeneral dot_S256x256_S2x256x3136_S256x2x3136_1_1_0_02_n_n none l r) main_v140 main_v344
  let main_v346 : FVec F S2x256x56x56 .f32 := (extractStridedSlice S2x256x56x56 ![0, 0, 0, 1] · slices_S2x256x58x58_S2x256x56x56_0_0_0_1) main_v342
  let main_v347 : FVec F S2x256x3136 .f32 := shapeCast S2x256x3136 main_v346 shapeCasts_S2x256x56x56_S2x256x3136
  let main_v348 : FVec F S256x2x3136 .f32 := (fun l r => Host.dotGeneral dot_S256x256_S2x256x3136_S256x2x3136_1_1_0_02_n_n none l r) main_v142 main_v347
  let main_v349 : FVec F S256x2x3136 .f32 := addf main_v345 main_v348
  let main_v350 : FVec F S2x256x56x56 .f32 := (extractStridedSlice S2x256x56x56 ![0, 0, 0, 2] · slices_S2x256x58x58_S2x256x56x56_0_0_0_2) main_v342
  let main_v351 : FVec F S2x256x3136 .f32 := shapeCast S2x256x3136 main_v350 shapeCasts_S2x256x56x56_S2x256x3136
  let main_v352 : FVec F S256x2x3136 .f32 := (fun l r => Host.dotGeneral dot_S256x256_S2x256x3136_S256x2x3136_1_1_0_02_n_n none l r) main_v144 main_v351
  let main_v353 : FVec F S256x2x3136 .f32 := addf main_v349 main_v352
  let main_v354 : FVec F S2x256x56x56 .f32 := (extractStridedSlice S2x256x56x56 ![0, 0, 1, 0] · slices_S2x256x58x58_S2x256x56x56_0_0_1_0) main_v342
  let main_v355 : FVec F S2x256x3136 .f32 := shapeCast S2x256x3136 main_v354 shapeCasts_S2x256x56x56_S2x256x3136
  let main_v356 : FVec F S256x2x3136 .f32 := (fun l r => Host.dotGeneral dot_S256x256_S2x256x3136_S256x2x3136_1_1_0_02_n_n none l r) main_v146 main_v355
  fn_part16 (F := F) main_arg8 main_arg9 main_v48 main_v148 main_v150 main_v152 main_v154 main_v156 main_v342 main_v353 main_v356

def fn_part14 {F : FTy → Type} [FloatOps F] (main_arg6 : FVec F S256 .f32) (main_arg8 : FVec F S256 .f32) (main_arg9 : FVec F S4x1024x256 .f32) (main_v48 : IVec S_ 1) (main_v126 : FVec F S256x128 .f32) (main_v128 : FVec F S256x128 .f32) (main_v130 : FVec F S256x128 .f32) (main_v132 : FVec F S256x128 .f32) (main_v134 : FVec F S256x128 .f32) (main_v136 : FVec F S256x128 .f32) (main_v140 : FVec F S256x256 .f32) (main_v142 : FVec F S256x256 .f32) (main_v144 : FVec F S256x256 .f32) (main_v146 : FVec F S256x256 .f32) (main_v148 : FVec F S256x256 .f32) (main_v150 : FVec F S256x256 .f32) (main_v152 : FVec F S256x256 .f32) (main_v154 : FVec F S256x256 .f32) (main_v156 : FVec F S256x256 .f32) (main_v299 : FVec F S2x128x58x58 .f32) (main_v310 : FVec F S256x2x3136 .f32) : IVec S_ 1 :=
  let main_v311 : FVec F S2x128x56x56 .f32 := (extractStridedSlice S2x128x56x56 ![0, 0, 1, 0] · slices_S2x128x58x58_S2x128x56x56_0_0_1_0) main_v299
  let main_v312 : FVec F S2x128x3136 .f32 := shapeCast S2x128x3136 main_v311 shapeCasts_S2x128x56x56_S2x128x3136
  let main_v313 : FVec F S256x2x3136 .f32 := (fun l r => Host.dotGeneral dot_S256x128_S2x128x3136_S256x2x3136_1_1_0_02_n_n none l r) main_v126 main_v312
  let main_v314 : FVec F S256x2x3136 .f32 := addf main_v310 main_v313
  let main_v315 : FVec F S2x128x56x56 .f32 := (extractStridedSlice S2x128x56x56 ![0, 0, 1, 1] · slices_S2x128x58x58_S2x128x56x56_0_0_1_1) main_v299
  let main_v316 : FVec F S2x128x3136 .f32 := shapeCast S2x128x3136 main_v315 shapeCasts_S2x128x56x56_S2x128x3136
  let main_v317 : FVec F S256x2x3136 .f32 := (fun l r => Host.dotGeneral dot_S256x128_S2x128x3136_S256x2x3136_1_1_0_02_n_n none l r) main_v128 main_v316
  let main_v318 : FVec F S256x2x3136 .f32 := addf main_v314 main_v317
  let main_v319 : FVec F S2x128x56x56 .f32 := (extractStridedSlice S2x128x56x56 ![0, 0, 1, 2] · slices_S2x128x58x58_S2x128x56x56_0_0_1_2) main_v299
  let main_v320 : FVec F S2x128x3136 .f32 := shapeCast S2x128x3136 main_v319 shapeCasts_S2x128x56x56_S2x128x3136
  let main_v321 : FVec F S256x2x3136 .f32 := (fun l r => Host.dotGeneral dot_S256x128_S2x128x3136_S256x2x3136_1_1_0_02_n_n none l r) main_v130 main_v320
  let main_v322 : FVec F S256x2x3136 .f32 := addf main_v318 main_v321
  let main_v323 : FVec F S2x128x56x56 .f32 := (extractStridedSlice S2x128x56x56 ![0, 0, 2, 0] · slices_S2x128x58x58_S2x128x56x56_0_0_2_0) main_v299
  let main_v324 : FVec F S2x128x3136 .f32 := shapeCast S2x128x3136 main_v323 shapeCasts_S2x128x56x56_S2x128x3136
  let main_v325 : FVec F S256x2x3136 .f32 := (fun l r => Host.dotGeneral dot_S256x128_S2x128x3136_S256x2x3136_1_1_0_02_n_n none l r) main_v132 main_v324
  let main_v326 : FVec F S256x2x3136 .f32 := addf main_v322 main_v325
  let main_v327 : FVec F S2x128x56x56 .f32 := (extractStridedSlice S2x128x56x56 ![0, 0, 2, 1] · slices_S2x128x58x58_S2x128x56x56_0_0_2_1) main_v299
  let main_v328 : FVec F S2x128x3136 .f32 := shapeCast S2x128x3136 main_v327 shapeCasts_S2x128x56x56_S2x128x3136
  let main_v329 : FVec F S256x2x3136 .f32 := (fun l r => Host.dotGeneral dot_S256x128_S2x128x3136_S256x2x3136_1_1_0_02_n_n none l r) main_v134 main_v328
  let main_v330 : FVec F S256x2x3136 .f32 := addf main_v326 main_v329
  let main_v331 : FVec F S2x128x56x56 .f32 := (extractStridedSlice S2x128x56x56 ![0, 0, 2, 2] · slices_S2x128x58x58_S2x128x56x56_0_0_2_2) main_v299
  let main_v332 : FVec F S2x128x3136 .f32 := shapeCast S2x128x3136 main_v331 shapeCasts_S2x128x56x56_S2x128x3136
  let main_v333 : FVec F S256x2x3136 .f32 := (fun l r => Host.dotGeneral dot_S256x128_S2x128x3136_S256x2x3136_1_1_0_02_n_n none l r) main_v136 main_v332
  let main_v334 : FVec F S256x2x3136 .f32 := addf main_v330 main_v333
  fn_part15 (F := F) main_arg6 main_arg8 main_arg9 main_v48 main_v140 main_v142 main_v144 main_v146 main_v148 main_v150 main_v152 main_v154 main_v156 main_v334

def fn_part13 {F : FTy → Type} [FloatOps F] (main_arg4 : FVec F S128 .f32) (main_arg6 : FVec F S256 .f32) (main_arg8 : FVec F S256 .f32) (main_arg9 : FVec F S4x1024x256 .f32) (main_v48 : IVec S_ 1) (main_v116 : FVec F S128x64 .f32) (main_v120 : FVec F S256x128 .f32) (main_v122 : FVec F S256x128 .f32) (main_v124 : FVec F S256x128 .f32) (main_v126 : FVec F S256x128 .f32) (main_v128 : FVec F S256x128 .f32) (main_v130 : FVec F S256x128 .f32) (main_v132 : FVec F S256x128 .f32) (main_v134 : FVec F S256x128 .f32) (main_v136 : FVec F S256x128 .f32) (main_v140 : FVec F S256x256 .f32) (main_v142 : FVec F S256x256 .f32) (main_v144 : FVec F S256x256 .f32) (main_v146 : FVec F S256x256 .f32) (main_v148 : FVec F S256x256 .f32) (main_v150 : FVec F S256x256 .f32) (main_v152 : FVec F S256x256 .f32) (main_v154 : FVec F S256x256 .f32) (main_v156 : FVec F S256x256 .f32) (main_v287 : FVec F S128x2x3136 .f32) (main_v288 : FVec F S2x64x56x56 .f32) : IVec S_ 1 :=
  let main_v289 : FVec F S2x64x3136 .f32 := shapeCast S2x64x3136 main_v288 shapeCasts_S2x64x56x56_S2x64x3136
  let main_v290 : FVec F S128x2x3136 .f32 := (fun l r => Host.dotGeneral dot_S128x64_S2x64x3136_S128x2x3136_1_1_0_02_n_n none l r) main_v116 main_v289
  let main_v291 : FVec F S128x2x3136 .f32 := addf main_v287 main_v290
  let main_v292 : FVec F S128x2x56x56 .f32 := shapeCast S128x2x56x56 main_v291 shapeCasts_S128x2x3136_S128x2x56x56
  let main_v293 : FVec F S2x128x56x56 .f32 := (transpose S2x128x56x56 [1, 0, 2, 3] · transposes_S128x2x56x56_S2x128x56x56_1_0_2_3) main_v292
  let main_v294 : FVec F S1x128x1x1 .f32 := broadcastInDim S1x128x1x1 ![1] bcast_S128_S1x128x1x1_1 main_arg4
  let main_v295 : FVec F S2x128x56x56 .f32 := broadcastInDim S2x128x56x56 ![0, 1, 2, 3] bcast_S1x128x1x1_S2x128x56x56_0_1_2_3 main_v294
  let main_v296 : FVec F S2x128x56x56 .f32 := addf main_v293 main_v295
  let main_cst_21 : FVec F S_ .f32 := constant S_ .f32 0x00000000#32
  let main_v297 : FVec F S2x128x56x56 .f32 := broadcastInDim S2x128x56x56 ![] bcast_S_S2x128x56x56 main_cst_21
  let main_v298 : FVec F S2x128x56x56 .f32 := maximumf main_v296 main_v297
  let main_cst_22 : FVec F S_ .f32 := constant S_ .f32 0x00000000#32
  let main_v299 : FVec F S2x128x58x58 .f32 := (fun x v => pad S2x128x58x58 ![0, 0, 1, 1] ![0, 0, 1, 1] ![0, 0, 0, 0] x v pads_S2x128x56x56_S2x128x58x58_000_000_110_110 h_S_) main_v298 main_cst_22
  let main_v300 : FVec F S2x128x56x56 .f32 := (extractStridedSlice S2x128x56x56 ![0, 0, 0, 0] · slices_S2x128x58x58_S2x128x56x56_0_0_0_0) main_v299
  let main_v301 : FVec F S2x128x3136 .f32 := shapeCast S2x128x3136 main_v300 shapeCasts_S2x128x56x56_S2x128x3136
  let main_v302 : FVec F S256x2x3136 .f32 := (fun l r => Host.dotGeneral dot_S256x128_S2x128x3136_S256x2x3136_1_1_0_02_n_n none l r) main_v120 main_v301
  let main_v303 : FVec F S2x128x56x56 .f32 := (extractStridedSlice S2x128x56x56 ![0, 0, 0, 1] · slices_S2x128x58x58_S2x128x56x56_0_0_0_1) main_v299
  let main_v304 : FVec F S2x128x3136 .f32 := shapeCast S2x128x3136 main_v303 shapeCasts_S2x128x56x56_S2x128x3136
  let main_v305 : FVec F S256x2x3136 .f32 := (fun l r => Host.dotGeneral dot_S256x128_S2x128x3136_S256x2x3136_1_1_0_02_n_n none l r) main_v122 main_v304
  let main_v306 : FVec F S256x2x3136 .f32 := addf main_v302 main_v305
  let main_v307 : FVec F S2x128x56x56 .f32 := (extractStridedSlice S2x128x56x56 ![0, 0, 0, 2] · slices_S2x128x58x58_S2x128x56x56_0_0_0_2) main_v299
  let main_v308 : FVec F S2x128x3136 .f32 := shapeCast S2x128x3136 main_v307 shapeCasts_S2x128x56x56_S2x128x3136
  let main_v309 : FVec F S256x2x3136 .f32 := (fun l r => Host.dotGeneral dot_S256x128_S2x128x3136_S256x2x3136_1_1_0_02_n_n none l r) main_v124 main_v308
  let main_v310 : FVec F S256x2x3136 .f32 := addf main_v306 main_v309
  fn_part14 (F := F) main_arg6 main_arg8 main_arg9 main_v48 main_v126 main_v128 main_v130 main_v132 main_v134 main_v136 main_v140 main_v142 main_v144 main_v146 main_v148 main_v150 main_v152 main_v154 main_v156 main_v299 main_v310

def fn_part12 {F : FTy → Type} [FloatOps F] (main_arg4 : FVec F S128 .f32) (main_arg6 : FVec F S256 .f32) (main_arg8 : FVec F S256 .f32) (main_arg9 : FVec F S4x1024x256 .f32) (main_v48 : IVec S_ 1) (main_v104 : FVec F S128x64 .f32) (main_v106 : FVec F S128x64 .f32) (main_v108 : FVec F S128x64 .f32) (main_v110 : FVec F S128x64 .f32) (main_v112 : FVec F S128x64 .f32) (main_v114 : FVec F S128x64 .f32) (main_v116 : FVec F S128x64 .f32) (main_v120 : FVec F S256x128 .f32) (main_v122 : FVec F S256x128 .f32) (main_v124 : FVec F S256x128 .f32) (main_v126 : FVec F S256x128 .f32) (main_v128 : FVec F S256x128 .f32) (main_v130 : FVec F S256x128 .f32) (main_v132 : FVec F S256x128 .f32) (main_v134 : FVec F S256x128 .f32) (main_v136 : FVec F S256x128 .f32) (main_v140 : FVec F S256x256 .f32) (main_v142 : FVec F S256x256 .f32) (main_v144 : FVec F S256x256 .f32) (main_v146 : FVec F S256x256 .f32) (main_v148 : FVec F S256x256 .f32) (main_v150 : FVec F S256x256 .f32) (main_v152 : FVec F S256x256 .f32) (main_v154 : FVec F S256x256 .f32) (main_v156 : FVec F S256x256 .f32) (main_v228 : FVec F S2x64x114x114 .f32) (main_v263 : FVec F S128x2x3136 .f32) (main_v264 : FVec F S2x64x56x56 .f32) : IVec S_ 1 :=
  let main_v265 : FVec F S2x64x3136 .f32 := shapeCast S2x64x3136 main_v264 shapeCasts_S2x64x56x56_S2x64x3136
  let main_v266 : FVec F S128x2x3136 .f32 := (fun l r => Host.dotGeneral dot_S128x64_S2x64x3136_S128x2x3136_1_1_0_02_n_n none l r) main_v104 main_v265
  let main_v267 : FVec F S128x2x3136 .f32 := addf main_v263 main_v266
  let main_v268 : FVec F S2x64x56x56 .f32 := (Host.slice S2x64x56x56 ![0, 0, 2, 2] ![1, 1, 2, 2] · slicesBy_S2x64x114x114_S2x64x56x56_0s1_0s1_2s2_2s2) main_v228
  let main_v269 : FVec F S2x64x3136 .f32 := shapeCast S2x64x3136 main_v268 shapeCasts_S2x64x56x56_S2x64x3136
  let main_v270 : FVec F S128x2x3136 .f32 := (fun l r => Host.dotGeneral dot_S128x64_S2x64x3136_S128x2x3136_1_1_0_02_n_n none l r) main_v106 main_v269
  let main_v271 : FVec F S128x2x3136 .f32 := addf main_v267 main_v270
  let main_v272 : FVec F S2x64x56x56 .f32 := (Host.slice S2x64x56x56 ![0, 0, 2, 3] ![1, 1, 2, 2] · slicesBy_S2x64x114x114_S2x64x56x56_0s1_0s1_2s2_3s2) main_v228
  let main_v273 : FVec F S2x64x3136 .f32 := shapeCast S2x64x3136 main_v272 shapeCasts_S2x64x56x56_S2x64x3136
  let main_v274 : FVec F S128x2x3136 .f32 := (fun l r => Host.dotGeneral dot_S128x64_S2x64x3136_S128x2x3136_1_1_0_02_n_n none l r) main_v108 main_v273
  let main_v275 : FVec F S128x2x3136 .f32 := addf main_v271 main_v274
  let main_v276 : FVec F S2x64x56x56 .f32 := (Host.slice S2x64x56x56 ![0, 0, 3, 0] ![1, 1, 2, 2] · slicesBy_S2x64x114x114_S2x64x56x56_0s1_0s1_3s2_0s2) main_v228
  let main_v277 : FVec F S2x64x3136 .f32 := shapeCast S2x64x3136 main_v276 shapeCasts_S2x64x56x56_S2x64x3136
  let main_v278 : FVec F S128x2x3136 .f32 := (fun l r => Host.dotGeneral dot_S128x64_S2x64x3136_S128x2x3136_1_1_0_02_n_n none l r) main_v110 main_v277
  let main_v279 : FVec F S128x2x3136 .f32 := addf main_v275 main_v278
  let main_v280 : FVec F S2x64x56x56 .f32 := (Host.slice S2x64x56x56 ![0, 0, 3, 1] ![1, 1, 2, 2] · slicesBy_S2x64x114x114_S2x64x56x56_0s1_0s1_3s2_1s2) main_v228
  let main_v281 : FVec F S2x64x3136 .f32 := shapeCast S2x64x3136 main_v280 shapeCasts_S2x64x56x56_S2x64x3136
  let main_v282 : FVec F S128x2x3136 .f32 := (fun l r => Host.dotGeneral dot_S128x64_S2x64x3136_S128x2x3136_1_1_0_02_n_n none l r) main_v112 main_v281
  let main_v283 : FVec F S128x2x3136 .f32 := addf main_v279 main_v282
  let main_v284 : FVec F S2x64x56x56 .f32 := (Host.slice S2x64x56x56 ![0, 0, 3, 2] ![1, 1, 2, 2] · slicesBy_S2x64x114x114_S2x64x56x56_0s1_0s1_3s2_2s2) main_v228
  let main_v285 : FVec F S2x64x3136 .f32 := shapeCast S2x64x3136 main_v284 shapeCasts_S2x64x56x56_S2x64x3136
  let main_v286 : FVec F S128x2x3136 .f32 := (fun l r => Host.dotGeneral dot_S128x64_S2x64x3136_S128x2x3136_1_1_0_02_n_n none l r) main_v114 main_v285
  let main_v287 : FVec F S128x2x3136 .f32 := addf main_v283 main_v286
  let main_v288 : FVec F S2x64x56x56 .f32 := (Host.slice S2x64x56x56 ![0, 0, 3, 3] ![1, 1, 2, 2] · slicesBy_S2x64x114x114_S2x64x56x56_0s1_0s1_3s2_3s2) main_v228
  fn_part13 (F := F) main_arg4 main_arg6 main_arg8 main_arg9 main_v48 main_v116 main_v120 main_v122 main_v124 main_v126 main_v128 main_v130 main_v132 main_v134 main_v136 main_v140 main_v142 main_v144 main_v146 main_v148 main_v150 main_v152 main_v154 main_v156 main_v287 main_v288

def fn_part11 {F : FTy → Type} [FloatOps F] (main_arg4 : FVec F S128 .f32) (main_arg6 : FVec F S256 .f32) (main_arg8 : FVec F S256 .f32) (main_arg9 : FVec F S4x1024x256 .f32) (main_v48 : IVec S_ 1) (main_v92 : FVec F S128x64 .f32) (main_v94 : FVec F S128x64 .f32) (main_v96 : FVec F S128x64 .f32) (main_v98 : FVec F S128x64 .f32) (main_v100 : FVec F S128x64 .f32) (main_v102 : FVec F S128x64 .f32) (main_v104 : FVec F S128x64 .f32) (main_v106 : FVec F S128x64 .f32) (main_v108 : FVec F S128x64 .f32) (main_v110 : FVec F S128x64 .f32) (main_v112 : FVec F S128x64 .f32) (main_v114 : FVec F S128x64 .f32) (main_v116 : FVec F S128x64 .f32) (main_v120 : FVec F S256x128 .f32) (main_v122 : FVec F S256x128 .f32) (main_v124 : FVec F S256x128 .f32) (main_v126 : FVec F S256x128 .f32) (main_v128 : FVec F S256x128 .f32) (main_v130 : FVec F S256x128 .f32) (main_v132 : FVec F S256x128 .f32) (main_v134 : FVec F S256x128 .f32) (main_v136 : FVec F S256x128 .f32) (main_v140 : FVec F S256x256 .f32) (main_v142 : FVec F S256x256 .f32) (main_v144 : FVec F S256x256 .f32) (main_v146 : FVec F S256x256 .f32) (main_v148 : FVec F S256x256 .f32) (main_v150 : FVec F S256x256 .f32) (main_v152 : FVec F S256x256 .f32) (main_v154 : FVec F S256x256 .f32) (main_v156 : FVec F S256x256 .f32) (main_v228 : FVec F S2x64x114x114 .f32) (main_v239 : FVec F S128x2x3136 .f32) (main_v240 : FVec F S2x64x56x56 .f32) : IVec S_ 1 :=
  let main_v241 : FVec F S2x64x3136 .f32 := shapeCast S2x64x3136 main_v240 shapeCasts_S2x64x56x56_S2x64x3136
  let main_v242 : FVec F S128x2x3136 .f32 := (fun l r => Host.dotGeneral dot_S128x64_S2x64x3136_S128x2x3136_1_1_0_02_n_n none l r) main_v92 main_v241
  let main_v243 : FVec F S128x2x3136 .f32 := addf main_v239 main_v242
  let main_v244 : FVec F S2x64x56x56 .f32 := (Host.slice S2x64x56x56 ![0, 0, 1, 0] ![1, 1, 2, 2] · slicesBy_S2x64x114x114_S2x64x56x56_0s1_0s1_1s2_0s2) main_v228
  let main_v245 : FVec F S2x64x3136 .f32 := shapeCast S2x64x3136 main_v244 shapeCasts_S2x64x56x56_S2x64x3136
  let main_v246 : FVec F S128x2x3136 .f32 := (fun l r => Host.dotGeneral dot_S128x64_S2x64x3136_S128x2x3136_1_1_0_02_n_n none l r) main_v94 main_v245
  let main_v247 : FVec F S128x2x3136 .f32 := addf main_v243 main_v246
  let main_v248 : FVec F S2x64x56x56 .f32 := (Host.slice S2x64x56x56 ![0, 0, 1, 1] ![1, 1, 2, 2] · slicesBy_S2x64x114x114_S2x64x56x56_0s1_0s1_1s2_1s2) main_v228
  let main_v249 : FVec F S2x64x3136 .f32 := shapeCast S2x64x3136 main_v248 shapeCasts_S2x64x56x56_S2x64x3136
  let main_v250 : FVec F S128x2x3136 .f32 := (fun l r => Host.dotGeneral dot_S128x64_S2x64x3136_S128x2x3136_1_1_0_02_n_n none l r) main_v96 main_v249
  let main_v251 : FVec F S128x2x3136 .f32 := addf main_v247 main_v250
  let main_v252 : FVec F S2x64x56x56 .f32 := (Host.slice S2x64x56x56 ![0, 0, 1, 2] ![1, 1, 2, 2] · slicesBy_S2x64x114x114_S2x64x56x56_0s1_0s1_1s2_2s2) main_v228
  let main_v253 : FVec F S2x64x3136 .f32 := shapeCast S2x64x3136 main_v252 shapeCasts_S2x64x56x56_S2x64x3136
  let main_v254 : FVec F S128x2x3136 .f32 := (fun l r => Host.dotGeneral dot_S128x64_S2x64x3136_S128x2x3136_1_1_0_02_n_n none l r) main_v98 main_v253
  let main_v255 : FVec F S128x2x3136 .f32 := addf main_v251 main_v254
  let main_v256 : FVec F S2x64x56x56 .f32 := (Host.slice S2x64x56x56 ![0, 0, 1, 3] ![1, 1, 2, 2] · slicesBy_S2x64x114x114_S2x64x56x56_0s1_0s1_1s2_3s2) main_v228
  let main_v257 : FVec F S2x64x3136 .f32 := shapeCast S2x64x3136 main_v256 shapeCasts_S2x64x56x56_S2x64x3136
  let main_v258 : FVec F S128x2x3136 .f32 := (fun l r => Host.dotGeneral dot_S128x64_S2x64x3136_S128x2x3136_1_1_0_02_n_n none l r) main_v100 main_v257
  let main_v259 : FVec F S128x2x3136 .f32 := addf main_v255 main_v258
  let main_v260 : FVec F S2x64x56x56 .f32 := (Host.slice S2x64x56x56 ![0, 0, 2, 0] ![1, 1, 2, 2] · slicesBy_S2x64x114x114_S2x64x56x56_0s1_0s1_2s2_0s2) main_v228
  let main_v261 : FVec F S2x64x3136 .f32 := shapeCast S2x64x3136 main_v260 shapeCasts_S2x64x56x56_S2x64x3136
  let main_v262 : FVec F S128x2x3136 .f32 := (fun l r => Host.dotGeneral dot_S128x64_S2x64x3136_S128x2x3136_1_1_0_02_n_n none l r) main_v102 main_v261
  let main_v263 : FVec F S128x2x3136 .f32 := addf main_v259 main_v262
  let main_v264 : FVec F S2x64x56x56 .f32 := (Host.slice S2x64x56x56 ![0, 0, 2, 1] ![1, 1, 2, 2] · slicesBy_S2x64x114x114_S2x64x56x56_0s1_0s1_2s2_1s2) main_v228
  fn_part12 (F := F) main_arg4 main_arg6 main_arg8 main_arg9 main_v48 main_v104 main_v106 main_v108 main_v110 main_v112 main_v114 main_v116 main_v120 main_v122 main_v124 main_v126 main_v128 main_v130 main_v132 main_v134 main_v136 main_v140 main_v142 main_v144 main_v146 main_v148 main_v150 main_v152 main_v154 main_v156 main_v228 main_v263 main_v264

def fn_part10 {F : FTy → Type} [FloatOps F] (main_arg2 : FVec F S64 .f32) (main_arg4 : FVec F S128 .f32) (main_arg6 : FVec F S256 .f32) (main_arg8 : FVec F S256 .f32) (main_arg9 : FVec F S4x1024x256 .f32) (main_v48 : IVec S_ 1) (main_v82 : FVec F S64x3 .f32) (main_v86 : FVec F S128x64 .f32) (main_v88 : FVec F S128x64 .f32) (main_v90 : FVec F S128x64 .f32) (main_v92 : FVec F S128x64 .f32) (main_v94 : FVec F S128x64 .f32) (main_v96 : FVec F S128x64 .f32) (main_v98 : FVec F S128x64 .f32) (main_v100 : FVec F S128x64 .f32) (main_v102 : FVec F S128x64 .f32) (main_v104 : FVec F S128x64 .f32) (main_v106 : FVec F S128x64 .f32) (main_v108 : FVec F S128x64 .f32) (main_v110 : FVec F S128x64 .f32) (main_v112 : FVec F S128x64 .f32) (main_v114 : FVec F S128x64 .f32) (main_v116 : FVec F S128x64 .f32) (main_v120 : FVec F S256x128 .f32) (main_v122 : FVec F S256x128 .f32) (main_v124 : FVec F S256x128 .f32) (main_v126 : FVec F S256x128 .f32) (main_v128 : FVec F S256x128 .f32) (main_v130 : FVec F S256x128 .f32) (main_v132 : FVec F S256x128 .f32) (main_v134 : FVec F S256x128 .f32) (main_v136 : FVec F S256x128 .f32) (main_v140 : FVec F S256x256 .f32) (main_v142 : FVec F S256x256 .f32) (main_v144 : FVec F S256x256 .f32) (main_v146 : FVec F S256x256 .f32) (main_v148 : FVec F S256x256 .f32) (main_v150 : FVec F S256x256 .f32) (main_v152 : FVec F S256x256 .f32) (main_v154 : FVec F S256x256 .f32) (main_v156 : FVec F S256x256 .f32) (main_v216 : FVec F S64x2x12544 .f32) (main_v218 : FVec F S2x3x12544 .f32) : IVec S_ 1 :=
  let main_v219 : FVec F S64x2x12544 .f32 := (fun l r => Host.dotGeneral dot_S64x3_S2x3x12544_S64x2x12544_1_1_0_02_n_n none l r) main_v82 main_v218
  let main_v220 : FVec F S64x2x12544 .f32 := addf main_v216 main_v219
  let main_v221 : FVec F S64x2x112x112 .f32 := shapeCast S64x2x112x112 main_v220 shapeCasts_S64x2x12544_S64x2x112x112
  let main_v222 : FVec F S2x64x112x112 .f32 := (transpose S2x64x112x112 [1, 0, 2, 3] · transposes_S64x2x112x112_S2x64x112x112_1_0_2_3) main_v221
  let main_v223 : FVec F S1x64x1x1 .f32 := broadcastInDim S1x64x1x1 ![1] bcast_S64_S1x64x1x1_1 main_arg2
  let main_v224 : FVec F S2x64x112x112 .f32 := broadcastInDim S2x64x112x112 ![0, 1, 2, 3] bcast_S1x64x1x1_S2x64x112x112_0_1_2_3 main_v223
  let main_v225 : FVec F S2x64x112x112 .f32 := addf main_v222 main_v224
  let main_cst_19 : FVec F S_ .f32 := constant S_ .f32 0x00000000#32
  let main_v226 : FVec F S2x64x112x112 .f32 := broadcastInDim S2x64x112x112 ![] bcast_S_S2x64x112x112 main_cst_19
  let main_v227 : FVec F S2x64x112x112 .f32 := maximumf main_v225 main_v226
  let main_cst_20 : FVec F S_ .f32 := constant S_ .f32 0x00000000#32
  let main_v228 : FVec F S2x64x114x114 .f32 := (fun x v => pad S2x64x114x114 ![0, 0, 1, 1] ![0, 0, 1, 1] ![0, 0, 0, 0] x v pads_S2x64x112x112_S2x64x114x114_000_000_110_110 h_S_) main_v227 main_cst_20
  let main_v229 : FVec F S2x64x56x56 .f32 := (Host.slice S2x64x56x56 ![0, 0, 0, 0] ![1, 1, 2, 2] · slicesBy_S2x64x114x114_S2x64x56x56_0s1_0s1_0s2_0s2) main_v228
  let main_v230 : FVec F S2x64x3136 .f32 := shapeCast S2x64x3136 main_v229 shapeCasts_S2x64x56x56_S2x64x3136
  let main_v231 : FVec F S128x2x3136 .f32 := (fun l r => Host.dotGeneral dot_S128x64_S2x64x3136_S128x2x3136_1_1_0_02_n_n none l r) main_v86 main_v230
  let main_v232 : FVec F S2x64x56x56 .f32 := (Host.slice S2x64x56x56 ![0, 0, 0, 1] ![1, 1, 2, 2] · slicesBy_S2x64x114x114_S2x64x56x56_0s1_0s1_0s2_1s2) main_v228
  let main_v233 : FVec F S2x64x3136 .f32 := shapeCast S2x64x3136 main_v232 shapeCasts_S2x64x56x56_S2x64x3136
  let main_v234 : FVec F S128x2x3136 .f32 := (fun l r => Host.dotGeneral dot_S128x64_S2x64x3136_S128x2x3136_1_1_0_02_n_n none l r) main_v88 main_v233
  let main_v235 : FVec F S128x2x3136 .f32 := addf main_v231 main_v234
  let main_v236 : FVec F S2x64x56x56 .f32 := (Host.slice S2x64x56x56 ![0, 0, 0, 2] ![1, 1, 2, 2] · slicesBy_S2x64x114x114_S2x64x56x56_0s1_0s1_0s2_2s2) main_v228
  let main_v237 : FVec F S2x64x3136 .f32 := shapeCast S2x64x3136 main_v236 shapeCasts_S2x64x56x56_S2x64x3136
  let main_v238 : FVec F S128x2x3136 .f32 := (fun l r => Host.dotGeneral dot_S128x64_S2x64x3136_S128x2x3136_1_1_0_02_n_n none l r) main_v90 main_v237
  let main_v239 : FVec F S128x2x3136 .f32 := addf main_v235 main_v238
  let main_v240 : FVec F S2x64x56x56 .f32 := (Host.slice S2x64x56x56 ![0, 0, 0, 3] ![1, 1, 2, 2] · slicesBy_S2x64x114x114_S2x64x56x56_0s1_0s1_0s2_3s2) main_v228
  fn_part11 (F := F) main_arg4 main_arg6 main_arg8 main_arg9 main_v48 main_v92 main_v94 main_v96 main_v98 main_v100 main_v102 main_v104 main_v106 main_v108 main_v110 main_v112 main_v114 main_v116 main_v120 main_v122 main_v124 main_v126 main_v128 main_v130 main_v132 main_v134 main_v136 main_v140 main_v142 main_v144 main_v146 main_v148 main_v150 main_v152 main_v154 main_v156 main_v228 main_v239 main_v240

def fn_part9 {F : FTy → Type} [FloatOps F] (main_arg2 : FVec F S64 .f32) (main_arg4 : FVec F S128 .f32) (main_arg6 : FVec F S256 .f32) (main_arg8 : FVec F S256 .f32) (main_arg9 : FVec F S4x1024x256 .f32) (main_v48 : IVec S_ 1) (main_v70 : FVec F S64x3 .f32) (main_v72 : FVec F S64x3 .f32) (main_v74 : FVec F S64x3 .f32) (main_v76 : FVec F S64x3 .f32) (main_v78 : FVec F S64x3 .f32) (main_v80 : FVec F S64x3 .f32) (main_v82 : FVec F S64x3 .f32) (main_v86 : FVec F S128x64 .f32) (main_v88 : FVec F S128x64 .f32) (main_v90 : FVec F S128x64 .f32) (main_v92 : FVec F S128x64 .f32) (main_v94 : FVec F S128x64 .f32) (main_v96 : FVec F S128x64 .f32) (main_v98 : FVec F S128x64 .f32) (main_v100 : FVec F S128x64 .f32) (main_v102 : FVec F S128x64 .f32) (main_v104 : FVec F S128x64 .f32) (main_v106 : FVec F S128x64 .f32) (main_v108 : FVec F S128x64 .f32) (main_v110 : FVec F S128x64 .f32) (main_v112 : FVec F S128x64 .f32) (main_v114 : FVec F S128x64 .f32) (main_v116 : FVec F S128x64 .f32) (main_v120 : FVec F S256x128 .f32) (main_v122 : FVec F S256x128 .f32) (main_v124 : FVec F S256x128 .f32) (main_v126 : FVec F S256x128 .f32) (main_v128 : FVec F S256x128 .f32) (main_v130 : FVec F S256x128 .f32) (main_v132 : FVec F S256x128 .f32) (main_v134 : FVec F S256x128 .f32) (main_v136 : FVec F S256x128 .f32) (main_v140 : FVec F S256x256 .f32) (main_v142 : FVec F S256x256 .f32) (main_v144 : FVec F S256x256 .f32) (main_v146 : FVec F S256x256 .f32) (main_v148 : FVec F S256x256 .f32) (main_v150 : FVec F S256x256 .f32) (main_v152 : FVec F S256x256 .f32) (main_v154 : FVec F S256x256 .f32) (main_v156 : FVec F S256x256 .f32) (main_v157 : FVec F S2x3x226x226 .f32) (main_v192 : FVec F S64x2x12544 .f32) (main_v194 : FVec F S2x3x12544 .f32) : IVec S_ 1 :=
  let main_v195 : FVec F S64x2x12544 .f32 := (fun l r => Host.dotGeneral dot_S64x3_S2x3x12544_S64x2x12544_1_1_0_02_n_n none l r) main_v70 main_v194
  let main_v196 : FVec F S64x2x12544 .f32 := addf main_v192 main_v195
  let main_v197 : FVec F S2x3x112x112 .f32 := (Host.slice S2x3x112x112 ![0, 0, 2, 2] ![1, 1, 2, 2] · slicesBy_S2x3x226x226_S2x3x112x112_0s1_0s1_2s2_2s2) main_v157
  let main_v198 : FVec F S2x3x12544 .f32 := shapeCast S2x3x12544 main_v197 shapeCasts_S2x3x112x112_S2x3x12544
  let main_v199 : FVec F S64x2x12544 .f32 := (fun l r => Host.dotGeneral dot_S64x3_S2x3x12544_S64x2x12544_1_1_0_02_n_n none l r) main_v72 main_v198
  let main_v200 : FVec F S64x2x12544 .f32 := addf main_v196 main_v199
  let main_v201 : FVec F S2x3x112x112 .f32 := (Host.slice S2x3x112x112 ![0, 0, 2, 3] ![1, 1, 2, 2] · slicesBy_S2x3x226x226_S2x3x112x112_0s1_0s1_2s2_3s2) main_v157
  let main_v202 : FVec F S2x3x12544 .f32 := shapeCast S2x3x12544 main_v201 shapeCasts_S2x3x112x112_S2x3x12544
  let main_v203 : FVec F S64x2x12544 .f32 := (fun l r => Host.dotGeneral dot_S64x3_S2x3x12544_S64x2x12544_1_1_0_02_n_n none l r) main_v74 main_v202
  let main_v204 : FVec F S64x2x12544 .f32 := addf main_v200 main_v203
  let main_v205 : FVec F S2x3x112x112 .f32 := (Host.slice S2x3x112x112 ![0, 0, 3, 0] ![1, 1, 2, 2] · slicesBy_S2x3x226x226_S2x3x112x112_0s1_0s1_3s2_0s2) main_v157
  let main_v206 : FVec F S2x3x12544 .f32 := shapeCast S2x3x12544 main_v205 shapeCasts_S2x3x112x112_S2x3x12544
  let main_v207 : FVec F S64x2x12544 .f32 := (fun l r => Host.dotGeneral dot_S64x3_S2x3x12544_S64x2x12544_1_1_0_02_n_n none l r) main_v76 main_v206
  let main_v208 : FVec F S64x2x12544 .f32 := addf main_v204 main_v207
  let main_v209 : FVec F S2x3x112x112 .f32 := (Host.slice S2x3x112x112 ![0, 0, 3, 1] ![1, 1, 2, 2] · slicesBy_S2x3x226x226_S2x3x112x112_0s1_0s1_3s2_1s2) main_v157
  let main_v210 : FVec F S2x3x12544 .f32 := shapeCast S2x3x12544 main_v209 shapeCasts_S2x3x112x112_S2x3x12544
  let main_v211 : FVec F S64x2x12544 .f32 := (fun l r => Host.dotGeneral dot_S64x3_S2x3x12544_S64x2x12544_1_1_0_02_n_n none l r) main_v78 main_v210
  let main_v212 : FVec F S64x2x12544 .f32 := addf main_v208 main_v211
  let main_v213 : FVec F S2x3x112x112 .f32 := (Host.slice S2x3x112x112 ![0, 0, 3, 2] ![1, 1, 2, 2] · slicesBy_S2x3x226x226_S2x3x112x112_0s1_0s1_3s2_2s2) main_v157
  let main_v214 : FVec F S2x3x12544 .f32 := shapeCast S2x3x12544 main_v213 shapeCasts_S2x3x112x112_S2x3x12544
  let main_v215 : FVec F S64x2x12544 .f32 := (fun l r => Host.dotGeneral dot_S64x3_S2x3x12544_S64x2x12544_1_1_0_02_n_n none l r) main_v80 main_v214
  let main_v216 : FVec F S64x2x12544 .f32 := addf main_v212 main_v215
  let main_v217 : FVec F S2x3x112x112 .f32 := (Host.slice S2x3x112x112 ![0, 0, 3, 3] ![1, 1, 2, 2] · slicesBy_S2x3x226x226_S2x3x112x112_0s1_0s1_3s2_3s2) main_v157
  let main_v218 : FVec F S2x3x12544 .f32 := shapeCast S2x3x12544 main_v217 shapeCasts_S2x3x112x112_S2x3x12544
  fn_part10 (F := F) main_arg2 main_arg4 main_arg6 main_arg8 main_arg9 main_v48 main_v82 main_v86 main_v88 main_v90 main_v92 main_v94 main_v96 main_v98 main_v100 main_v102 main_v104 main_v106 main_v108 main_v110 main_v112 main_v114 main_v116 main_v120 main_v122 main_v124 main_v126 main_v128 main_v130 main_v132 main_v134 main_v136 main_v140 main_v142 main_v144 main_v146 main_v148 main_v150 main_v152 main_v154 main_v156 main_v216 main_v218

def fn_part8 {F : FTy → Type} [FloatOps F] (main_arg2 : FVec F S64 .f32) (main_arg4 : FVec F S128 .f32) (main_arg6 : FVec F S256 .f32) (main_arg8 : FVec F S256 .f32) (main_arg9 : FVec F S4x1024x256 .f32) (main_v48 : IVec S_ 1) (main_v58 : FVec F S64x3 .f32) (main_v60 : FVec F S64x3 .f32) (main_v62 : FVec F S64x3 .f32) (main_v64 : FVec F S64x3 .f32) (main_v66 : FVec F S64x3 .f32) (main_v68 : FVec F S64x3 .f32) (main_v70 : FVec F S64x3 .f32) (main_v72 : FVec F S64x3 .f32) (main_v74 : FVec F S64x3 .f32) (main_v76 : FVec F S64x3 .f32) (main_v78 : FVec F S64x3 .f32) (main_v80 : FVec F S64x3 .f32) (main_v82 : FVec F S64x3 .f32) (main_v86 : FVec F S128x64 .f32) (main_v88 : FVec F S128x64 .f32) (main_v90 : FVec F S128x64 .f32) (main_v92 : FVec F S128x64 .f32) (main_v94 : FVec F S128x64 .f32) (main_v96 : FVec F S128x64 .f32) (main_v98 : FVec F S128x64 .f32) (main_v100 : FVec F S128x64 .f32) (main_v102 : FVec F S128x64 .f32) (main_v104 : FVec F S128x64 .f32) (main_v106 : FVec F S128x64 .f32) (main_v108 : FVec F S128x64 .f32) (main_v110 : FVec F S128x64 .f32) (main_v112 : FVec F S128x64 .f32) (main_v114 : FVec F S128x64 .f32) (main_v116 : FVec F S128x64 .f32) (main_v120 : FVec F S256x128 .f32) (main_v122 : FVec F S256x128 .f32) (main_v124 : FVec F S256x128 .f32) (main_v126 : FVec F S256x128 .f32) (main_v128 : FVec F S256x128 .f32) (main_v130 : FVec F S256x128 .f32) (main_v132 : FVec F S256x128 .f32) (main_v134 : FVec F S256x128 .f32) (main_v136 : FVec F S256x128 .f32) (main_v140 : FVec F S256x256 .f32) (main_v142 : FVec F S256x256 .f32) (main_v144 : FVec F S256x256 .f32) (main_v146 : FVec F S256x256 .f32) (main_v148 : FVec F S256x256 .f32) (main_v150 : FVec F S256x256 .f32) (main_v152 : FVec F S256x256 .f32) (main_v154 : FVec F S256x256 .f32) (main_v156 : FVec F S256x256 .f32) (main_v157 : FVec F S2x3x226x226 .f32) (main_v168 : FVec F S64x2x12544 .f32) (main_v170 : FVec F S2x3x12544 .f32) : IVec S_ 1 :=
  let main_v171 : FVec F S64x2x12544 .f32 := (fun l r => Host.dotGeneral dot_S64x3_S2x3x12544_S64x2x12544_1_1_0_02_n_n none l r) main_v58 main_v170
  let main_v172 : FVec F S64x2x12544 .f32 := addf main_v168 main_v171
  let main_v173 : FVec F S2x3x112x112 .f32 := (Host.slice S2x3x112x112 ![0, 0, 1, 0] ![1, 1, 2, 2] · slicesBy_S2x3x226x226_S2x3x112x112_0s1_0s1_1s2_0s2) main_v157
  let main_v174 : FVec F S2x3x12544 .f32 := shapeCast S2x3x12544 main_v173 shapeCasts_S2x3x112x112_S2x3x12544
  let main_v175 : FVec F S64x2x12544 .f32 := (fun l r => Host.dotGeneral dot_S64x3_S2x3x12544_S64x2x12544_1_1_0_02_n_n none l r) main_v60 main_v174
  let main_v176 : FVec F S64x2x12544 .f32 := addf main_v172 main_v175
  let main_v177 : FVec F S2x3x112x112 .f32 := (Host.slice S2x3x112x112 ![0, 0, 1, 1] ![1, 1, 2, 2] · slicesBy_S2x3x226x226_S2x3x112x112_0s1_0s1_1s2_1s2) main_v157
  let main_v178 : FVec F S2x3x12544 .f32 := shapeCast S2x3x12544 main_v177 shapeCasts_S2x3x112x112_S2x3x12544
  let main_v179 : FVec F S64x2x12544 .f32 := (fun l r => Host.dotGeneral dot_S64x3_S2x3x12544_S64x2x12544_1_1_0_02_n_n none l r) main_v62 main_v178
  let main_v180 : FVec F S64x2x12544 .f32 := addf main_v176 main_v179
  let main_v181 : FVec F S2x3x112x112 .f32 := (Host.slice S2x3x112x112 ![0, 0, 1, 2] ![1, 1, 2, 2] · slicesBy_S2x3x226x226_S2x3x112x112_0s1_0s1_1s2_2s2) main_v157
  let main_v182 : FVec F S2x3x12544 .f32 := shapeCast S2x3x12544 main_v181 shapeCasts_S2x3x112x112_S2x3x12544
  let main_v183 : FVec F S64x2x12544 .f32 := (fun l r => Host.dotGeneral dot_S64x3_S2x3x12544_S64x2x12544_1_1_0_02_n_n none l r) main_v64 main_v182
  let main_v184 : FVec F S64x2x12544 .f32 := addf main_v180 main_v183
  let main_v185 : FVec F S2x3x112x112 .f32 := (Host.slice S2x3x112x112 ![0, 0, 1, 3] ![1, 1, 2, 2] · slicesBy_S2x3x226x226_S2x3x112x112_0s1_0s1_1s2_3s2) main_v157
  let main_v186 : FVec F S2x3x12544 .f32 := shapeCast S2x3x12544 main_v185 shapeCasts_S2x3x112x112_S2x3x12544
  let main_v187 : FVec F S64x2x12544 .f32 := (fun l r => Host.dotGeneral dot_S64x3_S2x3x12544_S64x2x12544_1_1_0_02_n_n none l r) main_v66 main_v186
  let main_v188 : FVec F S64x2x12544 .f32 := addf main_v184 main_v187
  let main_v189 : FVec F S2x3x112x112 .f32 := (Host.slice S2x3x112x112 ![0, 0, 2, 0] ![1, 1, 2, 2] · slicesBy_S2x3x226x226_S2x3x112x112_0s1_0s1_2s2_0s2) main_v157
  let main_v190 : FVec F S2x3x12544 .f32 := shapeCast S2x3x12544 main_v189 shapeCasts_S2x3x112x112_S2x3x12544
  let main_v191 : FVec F S64x2x12544 .f32 := (fun l r => Host.dotGeneral dot_S64x3_S2x3x12544_S64x2x12544_1_1_0_02_n_n none l r) main_v68 main_v190
  let main_v192 : FVec F S64x2x12544 .f32 := addf main_v188 main_v191
  let main_v193 : FVec F S2x3x112x112 .f32 := (Host.slice S2x3x112x112 ![0, 0, 2, 1] ![1, 1, 2, 2] · slicesBy_S2x3x226x226_S2x3x112x112_0s1_0s1_2s2_1s2) main_v157
  let main_v194 : FVec F S2x3x12544 .f32 := shapeCast S2x3x12544 main_v193 shapeCasts_S2x3x112x112_S2x3x12544
  fn_part9 (F := F) main_arg2 main_arg4 main_arg6 main_arg8 main_arg9 main_v48 main_v70 main_v72 main_v74 main_v76 main_v78 main_v80 main_v82 main_v86 main_v88 main_v90 main_v92 main_v94 main_v96 main_v98 main_v100 main_v102 main_v104 main_v106 main_v108 main_v110 main_v112 main_v114 main_v116 main_v120 main_v122 main_v124 main_v126 main_v128 main_v130 main_v132 main_v134 main_v136 main_v140 main_v142 main_v144 main_v146 main_v148 main_v150 main_v152 main_v154 main_v156 main_v157 main_v192 main_v194

def fn_part7 {F : FTy → Type} [FloatOps F] (main_arg0 : FVec F S2x3x224x224 .f32) (main_arg2 : FVec F S64 .f32) (main_arg4 : FVec F S128 .f32) (main_arg6 : FVec F S256 .f32) (main_arg8 : FVec F S256 .f32) (main_arg9 : FVec F S4x1024x256 .f32) (main_v48 : IVec S_ 1) (main_v52 : FVec F S64x3 .f32) (main_v54 : FVec F S64x3 .f32) (main_v56 : FVec F S64x3 .f32) (main_v58 : FVec F S64x3 .f32) (main_v60 : FVec F S64x3 .f32) (main_v62 : FVec F S64x3 .f32) (main_v64 : FVec F S64x3 .f32) (main_v66 : FVec F S64x3 .f32) (main_v68 : FVec F S64x3 .f32) (main_v70 : FVec F S64x3 .f32) (main_v72 : FVec F S64x3 .f32) (main_v74 : FVec F S64x3 .f32) (main_v76 : FVec F S64x3 .f32) (main_v78 : FVec F S64x3 .f32) (main_v80 : FVec F S64x3 .f32) (main_v82 : FVec F S64x3 .f32) (main_v86 : FVec F S128x64 .f32) (main_v88 : FVec F S128x64 .f32) (main_v90 : FVec F S128x64 .f32) (main_v92 : FVec F S128x64 .f32) (main_v94 : FVec F S128x64 .f32) (main_v96 : FVec F S128x64 .f32) (main_v98 : FVec F S128x64 .f32) (main_v100 : FVec F S128x64 .f32) (main_v102 : FVec F S128x64 .f32) (main_v104 : FVec F S128x64 .f32) (main_v106 : FVec F S128x64 .f32) (main_v108 : FVec F S128x64 .f32) (main_v110 : FVec F S128x64 .f32) (main_v112 : FVec F S128x64 .f32) (main_v114 : FVec F S128x64 .f32) (main_v116 : FVec F S128x64 .f32) (main_v120 : FVec F S256x128 .f32) (main_v122 : FVec F S256x128 .f32) (main_v124 : FVec F S256x128 .f32) (main_v126 : FVec F S256x128 .f32) (main_v128 : FVec F S256x128 .f32) (main_v130 : FVec F S256x128 .f32) (main_v132 : FVec F S256x128 .f32) (main_v134 : FVec F S256x128 .f32) (main_v136 : FVec F S256x128 .f32) (main_v138 : FVec F S9x256x256 .f32) (main_v140 : FVec F S256x256 .f32) (main_v142 : FVec F S256x256 .f32) (main_v144 : FVec F S256x256 .f32) (main_v146 : FVec F S256x256 .f32) (main_v147 : FVec F S1x256x256 .f32) : IVec S_ 1 :=
  let main_v148 : FVec F S256x256 .f32 := shapeCast S256x256 main_v147 shapeCasts_S1x256x256_S256x256
  let main_v149 : FVec F S1x256x256 .f32 := (extractStridedSlice S1x256x256 ![5, 0, 0] · slices_S9x256x256_S1x256x256_5_0_0) main_v138
  let main_v150 : FVec F S256x256 .f32 := shapeCast S256x256 main_v149 shapeCasts_S1x256x256_S256x256
  let main_v151 : FVec F S1x256x256 .f32 := (extractStridedSlice S1x256x256 ![6, 0, 0] · slices_S9x256x256_S1x256x256_6_0_0) main_v138
  let main_v152 : FVec F S256x256 .f32 := shapeCast S256x256 main_v151 shapeCasts_S1x256x256_S256x256
  let main_v153 : FVec F S1x256x256 .f32 := (extractStridedSlice S1x256x256 ![7, 0, 0] · slices_S9x256x256_S1x256x256_7_0_0) main_v138
  let main_v154 : FVec F S256x256 .f32 := shapeCast S256x256 main_v153 shapeCasts_S1x256x256_S256x256
  let main_v155 : FVec F S1x256x256 .f32 := (extractStridedSlice S1x256x256 ![8, 0, 0] · slices_S9x256x256_S1x256x256_8_0_0) main_v138
  let main_v156 : FVec F S256x256 .f32 := shapeCast S256x256 main_v155 shapeCasts_S1x256x256_S256x256
  let main_cst_18 : FVec F S_ .f32 := constant S_ .f32 0x00000000#32
  let main_v157 : FVec F S2x3x226x226 .f32 := (fun x v => pad S2x3x226x226 ![0, 0, 1, 1] ![0, 0, 1, 1] ![0, 0, 0, 0] x v pads_S2x3x224x224_S2x3x226x226_000_000_110_110 h_S_) main_arg0 main_cst_18
  let main_v158 : FVec F S2x3x112x112 .f32 := (Host.slice S2x3x112x112 ![0, 0, 0, 0] ![1, 1, 2, 2] · slicesBy_S2x3x226x226_S2x3x112x112_0s1_0s1_0s2_0s2) main_v157
  let main_v159 : FVec F S2x3x12544 .f32 := shapeCast S2x3x12544 main_v158 shapeCasts_S2x3x112x112_S2x3x12544
  let main_v160 : FVec F S64x2x12544 .f32 := (fun l r => Host.dotGeneral dot_S64x3_S2x3x12544_S64x2x12544_1_1_0_02_n_n none l r) main_v52 main_v159
  let main_v161 : FVec F S2x3x112x112 .f32 := (Host.slice S2x3x112x112 ![0, 0, 0, 1] ![1, 1, 2, 2] · slicesBy_S2x3x226x226_S2x3x112x112_0s1_0s1_0s2_1s2) main_v157
  let main_v162 : FVec F S2x3x12544 .f32 := shapeCast S2x3x12544 main_v161 shapeCasts_S2x3x112x112_S2x3x12544
  let main_v163 : FVec F S64x2x12544 .f32 := (fun l r => Host.dotGeneral dot_S64x3_S2x3x12544_S64x2x12544_1_1_0_02_n_n none l r) main_v54 main_v162
  let main_v164 : FVec F S64x2x12544 .f32 := addf main_v160 main_v163
  let main_v165 : FVec F S2x3x112x112 .f32 := (Host.slice S2x3x112x112 ![0, 0, 0, 2] ![1, 1, 2, 2] · slicesBy_S2x3x226x226_S2x3x112x112_0s1_0s1_0s2_2s2) main_v157
  let main_v166 : FVec F S2x3x12544 .f32 := shapeCast S2x3x12544 main_v165 shapeCasts_S2x3x112x112_S2x3x12544
  let main_v167 : FVec F S64x2x12544 .f32 := (fun l r => Host.dotGeneral dot_S64x3_S2x3x12544_S64x2x12544_1_1_0_02_n_n none l r) main_v56 main_v166
  let main_v168 : FVec F S64x2x12544 .f32 := addf main_v164 main_v167
  let main_v169 : FVec F S2x3x112x112 .f32 := (Host.slice S2x3x112x112 ![0, 0, 0, 3] ![1, 1, 2, 2] · slicesBy_S2x3x226x226_S2x3x112x112_0s1_0s1_0s2_3s2) main_v157
  let main_v170 : FVec F S2x3x12544 .f32 := shapeCast S2x3x12544 main_v169 shapeCasts_S2x3x112x112_S2x3x12544
  fn_part8 (F := F) main_arg2 main_arg4 main_arg6 main_arg8 main_arg9 main_v48 main_v58 main_v60 main_v62 main_v64 main_v66 main_v68 main_v70 main_v72 main_v74 main_v76 main_v78 main_v80 main_v82 main_v86 main_v88 main_v90 main_v92 main_v94 main_v96 main_v98 main_v100 main_v102 main_v104 main_v106 main_v108 main_v110 main_v112 main_v114 main_v116 main_v120 main_v122 main_v124 main_v126 main_v128 main_v130 main_v132 main_v134 main_v136 main_v140 main_v142 main_v144 main_v146 main_v148 main_v150 main_v152 main_v154 main_v156 main_v157 main_v168 main_v170

def fn_part6 {F : FTy → Type} [FloatOps F] (main_arg0 : FVec F S2x3x224x224 .f32) (main_arg2 : FVec F S64 .f32) (main_arg4 : FVec F S128 .f32) (main_arg6 : FVec F S256 .f32) (main_arg7 : FVec F S256x256x3x3 .f32) (main_arg8 : FVec F S256 .f32) (main_arg9 : FVec F S4x1024x256 .f32) (main_v48 : IVec S_ 1) (main_v52 : FVec F S64x3 .f32) (main_v54 : FVec F S64x3 .f32) (main_v56 : FVec F S64x3 .f32) (main_v58 : FVec F S64x3 .f32) (main_v60 : FVec F S64x3 .f32) (main_v62 : FVec F S64x3 .f32) (main_v64 : FVec F S64x3 .f32) (main_v66 : FVec F S64x3 .f32) (main_v68 : FVec F S64x3 .f32) (main_v70 : FVec F S64x3 .f32) (main_v72 : FVec F S64x3 .f32) (main_v74 : FVec F S64x3 .f32) (main_v76 : FVec F S64x3 .f32) (main_v78 : FVec F S64x3 .f32) (main_v80 : FVec F S64x3 .f32) (main_v82 : FVec F S64x3 .f32) (main_v86 : FVec F S128x64 .f32) (main_v88 : FVec F S128x64 .f32) (main_v90 : FVec F S128x64 .f32) (main_v92 : FVec F S128x64 .f32) (main_v94 : FVec F S128x64 .f32) (main_v96 : FVec F S128x64 .f32) (main_v98 : FVec F S128x64 .f32) (main_v100 : FVec F S128x64 .f32) (main_v102 : FVec F S128x64 .f32) (main_v104 : FVec F S128x64 .f32) (main_v106 : FVec F S128x64 .f32) (main_v108 : FVec F S128x64 .f32) (main_v110 : FVec F S128x64 .f32) (main_v112 : FVec F S128x64 .f32) (main_v114 : FVec F S128x64 .f32) (main_v116 : FVec F S128x64 .f32) (main_v118 : FVec F S9x256x128 .f32) (main_v120 : FVec F S256x128 .f32) (main_v122 : FVec F S256x128 .f32) (main_v123 : FVec F S1x256x128 .f32) : IVec S_ 1 :=
  let main_v124 : FVec F S256x128 .f32 := shapeCast S256x128 main_v123 shapeCasts_S1x256x128_S256x128
  let main_v125 : FVec F S1x256x128 .f32 := (extractStridedSlice S1x256x128 ![3, 0, 0] · slices_S9x256x128_S1x256x128_3_0_0) main_v118
  let main_v126 : FVec F S256x128 .f32 := shapeCast S256x128 main_v125 shapeCasts_S1x256x128_S256x128
  let main_v127 : FVec F S1x256x128 .f32 := (extractStridedSlice S1x256x128 ![4, 0, 0] · slices_S9x256x128_S1x256x128_4_0_0) main_v118
  let main_v128 : FVec F S256x128 .f32 := shapeCast S256x128 main_v127 shapeCasts_S1x256x128_S256x128
  let main_v129 : FVec F S1x256x128 .f32 := (extractStridedSlice S1x256x128 ![5, 0, 0] · slices_S9x256x128_S1x256x128_5_0_0) main_v118
  let main_v130 : FVec F S256x128 .f32 := shapeCast S256x128 main_v129 shapeCasts_S1x256x128_S256x128
  let main_v131 : FVec F S1x256x128 .f32 := (extractStridedSlice S1x256x128 ![6, 0, 0] · slices_S9x256x128_S1x256x128_6_0_0) main_v118
  let main_v132 : FVec F S256x128 .f32 := shapeCast S256x128 main_v131 shapeCasts_S1x256x128_S256x128
  let main_v133 : FVec F S1x256x128 .f32 := (extractStridedSlice S1x256x128 ![7, 0, 0] · slices_S9x256x128_S1x256x128_7_0_0) main_v118
  let main_v134 : FVec F S256x128 .f32 := shapeCast S256x128 main_v133 shapeCasts_S1x256x128_S256x128
  let main_v135 : FVec F S1x256x128 .f32 := (extractStridedSlice S1x256x128 ![8, 0, 0] · slices_S9x256x128_S1x256x128_8_0_0) main_v118
  let main_v136 : FVec F S256x128 .f32 := shapeCast S256x128 main_v135 shapeCasts_S1x256x128_S256x128
  let main_v137 : FVec F S3x3x256x256 .f32 := (transpose S3x3x256x256 [2, 3, 0, 1] · transposes_S256x256x3x3_S3x3x256x256_2_3_0_1) main_arg7
  let main_v138 : FVec F S9x256x256 .f32 := shapeCast S9x256x256 main_v137 shapeCasts_S3x3x256x256_S9x256x256
  let main_v139 : FVec F S1x256x256 .f32 := (extractStridedSlice S1x256x256 ![0, 0, 0] · slices_S9x256x256_S1x256x256_0_0_0) main_v138
  let main_v140 : FVec F S256x256 .f32 := shapeCast S256x256 main_v139 shapeCasts_S1x256x256_S256x256
  let main_v141 : FVec F S1x256x256 .f32 := (extractStridedSlice S1x256x256 ![1, 0, 0] · slices_S9x256x256_S1x256x256_1_0_0) main_v138
  let main_v142 : FVec F S256x256 .f32 := shapeCast S256x256 main_v141 shapeCasts_S1x256x256_S256x256
  let main_v143 : FVec F S1x256x256 .f32 := (extractStridedSlice S1x256x256 ![2, 0, 0] · slices_S9x256x256_S1x256x256_2_0_0) main_v138
  let main_v144 : FVec F S256x256 .f32 := shapeCast S256x256 main_v143 shapeCasts_S1x256x256_S256x256
  let main_v145 : FVec F S1x256x256 .f32 := (extractStridedSlice S1x256x256 ![3, 0, 0] · slices_S9x256x256_S1x256x256_3_0_0) main_v138
  let main_v146 : FVec F S256x256 .f32 := shapeCast S256x256 main_v145 shapeCasts_S1x256x256_S256x256
  let main_v147 : FVec F S1x256x256 .f32 := (extractStridedSlice S1x256x256 ![4, 0, 0] · slices_S9x256x256_S1x256x256_4_0_0) main_v138
  fn_part7 (F := F) main_arg0 main_arg2 main_arg4 main_arg6 main_arg8 main_arg9 main_v48 main_v52 main_v54 main_v56 main_v58 main_v60 main_v62 main_v64 main_v66 main_v68 main_v70 main_v72 main_v74 main_v76 main_v78 main_v80 main_v82 main_v86 main_v88 main_v90 main_v92 main_v94 main_v96 main_v98 main_v100 main_v102 main_v104 main_v106 main_v108 main_v110 main_v112 main_v114 main_v116 main_v120 main_v122 main_v124 main_v126 main_v128 main_v130 main_v132 main_v134 main_v136 main_v138 main_v140 main_v142 main_v144 main_v146 main_v147

def fn_part5 {F : FTy → Type} [FloatOps F] (main_arg0 : FVec F S2x3x224x224 .f32) (main_arg2 : FVec F S64 .f32) (main_arg4 : FVec F S128 .f32) (main_arg5 : FVec F S256x128x3x3 .f32) (main_arg6 : FVec F S256 .f32) (main_arg7 : FVec F S256x256x3x3 .f32) (main_arg8 : FVec F S256 .f32) (main_arg9 : FVec F S4x1024x256 .f32) (main_v48 : IVec S_ 1) (main_v52 : FVec F S64x3 .f32) (main_v54 : FVec F S64x3 .f32) (main_v56 : FVec F S64x3 .f32) (main_v58 : FVec F S64x3 .f32) (main_v60 : FVec F S64x3 .f32) (main_v62 : FVec F S64x3 .f32) (main_v64 : FVec F S64x3 .f32) (main_v66 : FVec F S64x3 .f32) (main_v68 : FVec F S64x3 .f32) (main_v70 : FVec F S64x3 .f32) (main_v72 : FVec F S64x3 .f32) (main_v74 : FVec F S64x3 .f32) (main_v76 : FVec F S64x3 .f32) (main_v78 : FVec F S64x3 .f32) (main_v80 : FVec F S64x3 .f32) (main_v82 : FVec F S64x3 .f32) (main_v84 : FVec F S16x128x64 .f32) (main_v86 : FVec F S128x64 .f32) (main_v88 : FVec F S128x64 .f32) (main_v90 : FVec F S128x64 .f32) (main_v92 : FVec F S128x64 .f32) (main_v94 : FVec F S128x64 .f32) (main_v96 : FVec F S128x64 .f32) (main_v98 : FVec F S128x64 .f32) (main_v99 : FVec F S1x128x64 .f32) : IVec S_ 1 :=
  let main_v100 : FVec F S128x64 .f32 := shapeCast S128x64 main_v99 shapeCasts_S1x128x64_S128x64
  let main_v101 : FVec F S1x128x64 .f32 := (extractStridedSlice S1x128x64 ![8, 0, 0] · slices_S16x128x64_S1x128x64_8_0_0) main_v84
  let main_v102 : FVec F S128x64 .f32 := shapeCast S128x64 main_v101 shapeCasts_S1x128x64_S128x64
  let main_v103 : FVec F S1x128x64 .f32 := (extractStridedSlice S1x128x64 ![9, 0, 0] · slices_S16x128x64_S1x128x64_9_0_0) main_v84
  let main_v104 : FVec F S128x64 .f32 := shapeCast S128x64 main_v103 shapeCasts_S1x128x64_S128x64
  let main_v105 : FVec F S1x128x64 .f32 := (extractStridedSlice S1x128x64 ![10, 0, 0] · slices_S16x128x64_S1x128x64_10_0_0) main_v84
  let main_v106 : FVec F S128x64 .f32 := shapeCast S128x64 main_v105 shapeCasts_S1x128x64_S128x64
  let main_v107 : FVec F S1x128x64 .f32 := (extractStridedSlice S1x128x64 ![11, 0, 0] · slices_S16x128x64_S1x128x64_11_0_0) main_v84
  let main_v108 : FVec F S128x64 .f32 := shapeCast S128x64 main_v107 shapeCasts_S1x128x64_S128x64
  let main_v109 : FVec F S1x128x64 .f32 := (extractStridedSlice S1x128x64 ![12, 0, 0] · slices_S16x128x64_S1x128x64_12_0_0) main_v84
  let main_v110 : FVec F S128x64 .f32 := shapeCast S128x64 main_v109 shapeCasts_S1x128x64_S128x64
  let main_v111 : FVec F S1x128x64 .f32 := (extractStridedSlice S1x128x64 ![13, 0, 0] · slices_S16x128x64_S1x128x64_13_0_0) main_v84
  let main_v112 : FVec F S128x64 .f32 := shapeCast S128x64 main_v111 shapeCasts_S1x128x64_S128x64
  let main_v113 : FVec F S1x128x64 .f32 := (extractStridedSlice S1x128x64 ![14, 0, 0] · slices_S16x128x64_S1x128x64_14_0_0) main_v84
  let main_v114 : FVec F S128x64 .f32 := shapeCast S128x64 main_v113 shapeCasts_S1x128x64_S128x64
  let main_v115 : FVec F S1x128x64 .f32 := (extractStridedSlice S1x128x64 ![15, 0, 0] · slices_S16x128x64_S1x128x64_15_0_0) main_v84
  let main_v116 : FVec F S128x64 .f32 := shapeCast S128x64 main_v115 shapeCasts_S1x128x64_S128x64
  let main_v117 : FVec F S3x3x256x128 .f32 := (transpose S3x3x256x128 [2, 3, 0, 1] · transposes_S256x128x3x3_S3x3x256x128_2_3_0_1) main_arg5
  let main_v118 : FVec F S9x256x128 .f32 := shapeCast S9x256x128 main_v117 shapeCasts_S3x3x256x128_S9x256x128
  let main_v119 : FVec F S1x256x128 .f32 := (extractStridedSlice S1x256x128 ![0, 0, 0] · slices_S9x256x128_S1x256x128_0_0_0) main_v118
  let main_v120 : FVec F S256x128 .f32 := shapeCast S256x128 main_v119 shapeCasts_S1x256x128_S256x128
  let main_v121 : FVec F S1x256x128 .f32 := (extractStridedSlice S1x256x128 ![1, 0, 0] · slices_S9x256x128_S1x256x128_1_0_0) main_v118
  let main_v122 : FVec F S256x128 .f32 := shapeCast S256x128 main_v121 shapeCasts_S1x256x128_S256x128
  let main_v123 : FVec F S1x256x128 .f32 := (extractStridedSlice S1x256x128 ![2, 0, 0] · slices_S9x256x128_S1x256x128_2_0_0) main_v118
  fn_part6 (F := F) main_arg0 main_arg2 main_arg4 main_arg6 main_arg7 main_arg8 main_arg9 main_v48 main_v52 main_v54 main_v56 main_v58 main_v60 main_v62 main_v64 main_v66 main_v68 main_v70 main_v72 main_v74 main_v76 main_v78 main_v80 main_v82 main_v86 main_v88 main_v90 main_v92 main_v94 main_v96 main_v98 main_v100 main_v102 main_v104 main_v106 main_v108 main_v110 main_v112 main_v114 main_v116 main_v118 main_v120 main_v122 main_v123

def fn_part4 {F : FTy → Type} [FloatOps F] (main_arg0 : FVec F S2x3x224x224 .f32) (main_arg2 : FVec F S64 .f32) (main_arg3 : FVec F S128x64x4x4 .f32) (main_arg4 : FVec F S128 .f32) (main_arg5 : FVec F S256x128x3x3 .f32) (main_arg6 : FVec F S256 .f32) (main_arg7 : FVec F S256x256x3x3 .f32) (main_arg8 : FVec F S256 .f32) (main_arg9 : FVec F S4x1024x256 .f32) (main_v48 : IVec S_ 1) (main_v50 : FVec F S16x64x3 .f32) (main_v52 : FVec F S64x3 .f32) (main_v54 : FVec F S64x3 .f32) (main_v56 : FVec F S64x3 .f32) (main_v58 : FVec F S64x3 .f32) (main_v60 : FVec F S64x3 .f32) (main_v62 : FVec F S64x3 .f32) (main_v64 : FVec F S64x3 .f32) (main_v66 : FVec F S64x3 .f32) (main_v68 : FVec F S64x3 .f32) (main_v70 : FVec F S64x3 .f32) (main_v72 : FVec F S64x3 .f32) (main_v74 : FVec F S64x3 .f32) (main_v75 : FVec F S1x64x3 .f32) : IVec S_ 1 :=
  let main_v76 : FVec F S64x3 .f32 := shapeCast S64x3 main_v75 shapeCasts_S1x64x3_S64x3
  let main_v77 : FVec F S1x64x3 .f32 := (extractStridedSlice S1x64x3 ![13, 0, 0] · slices_S16x64x3_S1x64x3_13_0_0) main_v50
  let main_v78 : FVec F S64x3 .f32 := shapeCast S64x3 main_v77 shapeCasts_S1x64x3_S64x3
  let main_v79 : FVec F S1x64x3 .f32 := (extractStridedSlice S1x64x3 ![14, 0, 0] · slices_S16x64x3_S1x64x3_14_0_0) main_v50
  let main_v80 : FVec F S64x3 .f32 := shapeCast S64x3 main_v79 shapeCasts_S1x64x3_S64x3
  let main_v81 : FVec F S1x64x3 .f32 := (extractStridedSlice S1x64x3 ![15, 0, 0] · slices_S16x64x3_S1x64x3_15_0_0) main_v50
  let main_v82 : FVec F S64x3 .f32 := shapeCast S64x3 main_v81 shapeCasts_S1x64x3_S64x3
  let main_v83 : FVec F S4x4x128x64 .f32 := (transpose S4x4x128x64 [2, 3, 0, 1] · transposes_S128x64x4x4_S4x4x128x64_2_3_0_1) main_arg3
  let main_v84 : FVec F S16x128x64 .f32 := shapeCast S16x128x64 main_v83 shapeCasts_S4x4x128x64_S16x128x64
  let main_v85 : FVec F S1x128x64 .f32 := (extractStridedSlice S1x128x64 ![0, 0, 0] · slices_S16x128x64_S1x128x64_0_0_0) main_v84
  let main_v86 : FVec F S128x64 .f32 := shapeCast S128x64 main_v85 shapeCasts_S1x128x64_S128x64
  let main_v87 : FVec F S1x128x64 .f32 := (extractStridedSlice S1x128x64 ![1, 0, 0] · slices_S16x128x64_S1x128x64_1_0_0) main_v84
  let main_v88 : FVec F S128x64 .f32 := shapeCast S128x64 main_v87 shapeCasts_S1x128x64_S128x64
  let main_v89 : FVec F S1x128x64 .f32 := (extractStridedSlice S1x128x64 ![2, 0, 0] · slices_S16x128x64_S1x128x64_2_0_0) main_v84
  let main_v90 : FVec F S128x64 .f32 := shapeCast S128x64 main_v89 shapeCasts_S1x128x64_S128x64
  let main_v91 : FVec F S1x128x64 .f32 := (extractStridedSlice S1x128x64 ![3, 0, 0] · slices_S16x128x64_S1x128x64_3_0_0) main_v84
  let main_v92 : FVec F S128x64 .f32 := shapeCast S128x64 main_v91 shapeCasts_S1x128x64_S128x64
  let main_v93 : FVec F S1x128x64 .f32 := (extractStridedSlice S1x128x64 ![4, 0, 0] · slices_S16x128x64_S1x128x64_4_0_0) main_v84
  let main_v94 : FVec F S128x64 .f32 := shapeCast S128x64 main_v93 shapeCasts_S1x128x64_S128x64
  let main_v95 : FVec F S1x128x64 .f32 := (extractStridedSlice S1x128x64 ![5, 0, 0] · slices_S16x128x64_S1x128x64_5_0_0) main_v84
  let main_v96 : FVec F S128x64 .f32 := shapeCast S128x64 main_v95 shapeCasts_S1x128x64_S128x64
  let main_v97 : FVec F S1x128x64 .f32 := (extractStridedSlice S1x128x64 ![6, 0, 0] · slices_S16x128x64_S1x128x64_6_0_0) main_v84
  let main_v98 : FVec F S128x64 .f32 := shapeCast S128x64 main_v97 shapeCasts_S1x128x64_S128x64
  let main_v99 : FVec F S1x128x64 .f32 := (extractStridedSlice S1x128x64 ![7, 0, 0] · slices_S16x128x64_S1x128x64_7_0_0) main_v84
  fn_part5 (F := F) main_arg0 main_arg2 main_arg4 main_arg5 main_arg6 main_arg7 main_arg8 main_arg9 main_v48 main_v52 main_v54 main_v56 main_v58 main_v60 main_v62 main_v64 main_v66 main_v68 main_v70 main_v72 main_v74 main_v76 main_v78 main_v80 main_v82 main_v84 main_v86 main_v88 main_v90 main_v92 main_v94 main_v96 main_v98 main_v99

def fn_part3 {F : FTy → Type} [FloatOps F] (main_arg0 : FVec F S2x3x224x224 .f32) (main_arg2 : FVec F S64 .f32) (main_arg3 : FVec F S128x64x4x4 .f32) (main_arg4 : FVec F S128 .f32) (main_arg5 : FVec F S256x128x3x3 .f32) (main_arg6 : FVec F S256 .f32) (main_arg7 : FVec F S256x256x3x3 .f32) (main_arg8 : FVec F S256 .f32) (main_arg9 : FVec F S4x1024x256 .f32) (main_v48 : IVec S_ 1) (main_v50 : FVec F S16x64x3 .f32) (main_v51 : FVec F S1x64x3 .f32) : IVec S_ 1 :=
  let main_v52 : FVec F S64x3 .f32 := shapeCast S64x3 main_v51 shapeCasts_S1x64x3_S64x3
  let main_v53 : FVec F S1x64x3 .f32 := (extractStridedSlice S1x64x3 ![1, 0, 0] · slices_S16x64x3_S1x64x3_1_0_0) main_v50
  let main_v54 : FVec F S64x3 .f32 := shapeCast S64x3 main_v53 shapeCasts_S1x64x3_S64x3
  let main_v55 : FVec F S1x64x3 .f32 := (extractStridedSlice S1x64x3 ![2, 0, 0] · slices_S16x64x3_S1x64x3_2_0_0) main_v50
  let main_v56 : FVec F S64x3 .f32 := shapeCast S64x3 main_v55 shapeCasts_S1x64x3_S64x3
  let main_v57 : FVec F S1x64x3 .f32 := (extractStridedSlice S1x64x3 ![3, 0, 0] · slices_S16x64x3_S1x64x3_3_0_0) main_v50
  let main_v58 : FVec F S64x3 .f32 := shapeCast S64x3 main_v57 shapeCasts_S1x64x3_S64x3
  let main_v59 : FVec F S1x64x3 .f32 := (extractStridedSlice S1x64x3 ![4, 0, 0] · slices_S16x64x3_S1x64x3_4_0_0) main_v50
  let main_v60 : FVec F S64x3 .f32 := shapeCast S64x3 main_v59 shapeCasts_S1x64x3_S64x3
  let main_v61 : FVec F S1x64x3 .f32 := (extractStridedSlice S1x64x3 ![5, 0, 0] · slices_S16x64x3_S1x64x3_5_0_0) main_v50
  let main_v62 : FVec F S64x3 .f32 := shapeCast S64x3 main_v61 shapeCasts_S1x64x3_S64x3
  let main_v63 : FVec F S1x64x3 .f32 := (extractStridedSlice S1x64x3 ![6, 0, 0] · slices_S16x64x3_S1x64x3_6_0_0) main_v50
  let main_v64 : FVec F S64x3 .f32 := shapeCast S64x3 main_v63 shapeCasts_S1x64x3_S64x3
  let main_v65 : FVec F S1x64x3 .f32 := (extractStridedSlice S1x64x3 ![7, 0, 0] · slices_S16x64x3_S1x64x3_7_0_0) main_v50
  let main_v66 : FVec F S64x3 .f32 := shapeCast S64x3 main_v65 shapeCasts_S1x64x3_S64x3
  let main_v67 : FVec F S1x64x3 .f32 := (extractStridedSlice S1x64x3 ![8, 0, 0] · slices_S16x64x3_S1x64x3_8_0_0) main_v50
  let main_v68 : FVec F S64x3 .f32 := shapeCast S64x3 main_v67 shapeCasts_S1x64x3_S64x3
  let main_v69 : FVec F S1x64x3 .f32 := (extractStridedSlice S1x64x3 ![9, 0, 0] · slices_S16x64x3_S1x64x3_9_0_0) main_v50
  let main_v70 : FVec F S64x3 .f32 := shapeCast S64x3 main_v69 shapeCasts_S1x64x3_S64x3
  let main_v71 : FVec F S1x64x3 .f32 := (extractStridedSlice S1x64x3 ![10, 0, 0] · slices_S16x64x3_S1x64x3_10_0_0) main_v50
  let main_v72 : FVec F S64x3 .f32 := shapeCast S64x3 main_v71 shapeCasts_S1x64x3_S64x3
  let main_v73 : FVec F S1x64x3 .f32 := (extractStridedSlice S1x64x3 ![11, 0, 0] · slices_S16x64x3_S1x64x3_11_0_0) main_v50
  let main_v74 : FVec F S64x3 .f32 := shapeCast S64x3 main_v73 shapeCasts_S1x64x3_S64x3
  let main_v75 : FVec F S1x64x3 .f32 := (extractStridedSlice S1x64x3 ![12, 0, 0] · slices_S16x64x3_S1x64x3_12_0_0) main_v50
  fn_part4 (F := F) main_arg0 main_arg2 main_arg3 main_arg4 main_arg5 main_arg6 main_arg7 main_arg8 main_arg9 main_v48 main_v50 main_v52 main_v54 main_v56 main_v58 main_v60 main_v62 main_v64 main_v66 main_v68 main_v70 main_v72 main_v74 main_v75

def fn_part2 {F : FTy → Type} [FloatOps F] (main_arg0 : FVec F S2x3x224x224 .f32) (main_arg1 : FVec F S64x3x4x4 .f32) (main_arg2 : FVec F S64 .f32) (main_arg3 : FVec F S128x64x4x4 .f32) (main_arg4 : FVec F S128 .f32) (main_arg5 : FVec F S256x128x3x3 .f32) (main_arg6 : FVec F S256 .f32) (main_arg7 : FVec F S256x256x3x3 .f32) (main_arg8 : FVec F S256 .f32) (main_arg9 : FVec F S4x1024x256 .f32) (main_v33 : IVec S_ 1) : IVec S_ 1 :=
  let main_v34 : FVec F S256 .f32 := Host.absf main_arg6
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256x3x3 .f32 := Host.absf main_arg7
  let main_cst_14 : FVec F S_ .f32 := constant S_ .f32 0x7F800000#32
  let main_v40 : FVec F S256x256x3x3 .f32 := broadcastInDim S256x256x3x3 ![] bcast_S_S256x256x3x3 main_cst_14
  let main_v41 : IVec S256x256x3x3 1 := cmpf .olt main_v39 main_v40
  let main_c_15 : IVec S_ 1 := constantI S_ 1 1#1
  let main_v42 : IVec S_ 1 := (fun x v => Host.reduce IntOp.andi x v reducesTo_S256x256x3x3_S_d0_1_2_3 h_S_) main_v41 main_c_15
  let main_v43 : IVec S_ 1 := andi main_v38 main_v42
  let main_v44 : FVec F S256 .f32 := Host.absf main_arg8
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S4x4x64x3 .f32 := (transpose S4x4x64x3 [2, 3, 0, 1] · transposes_S64x3x4x4_S4x4x64x3_2_3_0_1) main_arg1
  let main_v50 : FVec F S16x64x3 .f32 := shapeCast S16x64x3 main_v49 shapeCasts_S4x4x64x3_S16x64x3
  let main_v51 : FVec F S1x64x3 .f32 := (extractStridedSlice S1x64x3 ![0, 0, 0] · slices_S16x64x3_S1x64x3_0_0_0) main_v50
  fn_part3 (F := F) main_arg0 main_arg2 main_arg3 main_arg4 main_arg5 main_arg6 main_arg7 main_arg8 main_arg9 main_v48 main_v50 main_v51

def fn_part1 {F : FTy → Type} [FloatOps F] (main_arg0 : FVec F S2x3x224x224 .f32) (main_arg1 : FVec F S64x3x4x4 .f32) (main_arg2 : FVec F S64 .f32) (main_arg3 : FVec F S128x64x4x4 .f32) (main_arg4 : FVec F S128 .f32) (main_arg5 : FVec F S256x128x3x3 .f32) (main_arg6 : FVec F S256 .f32) (main_arg7 : FVec F S256x256x3x3 .f32) (main_arg8 : FVec F S256 .f32) (main_arg9 : FVec F S4x1024x256 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64x4x4 .f32 := Host.absf main_arg3
  let main_cst_6 : FVec F S_ .f32 := constant S_ .f32 0x7F800000#32
  let main_v20 : FVec F S128x64x4x4 .f32 := broadcastInDim S128x64x4x4 ![] bcast_S_S128x64x4x4 main_cst_6
  let main_v21 : IVec S128x64x4x4 1 := cmpf .olt main_v19 main_v20
  let main_c_7 : IVec S_ 1 := constantI S_ 1 1#1
  let main_v22 : IVec S_ 1 := (fun x v => Host.reduce IntOp.andi x v reducesTo_S128x64x4x4_S_d0_1_2_3 h_S_) main_v21 main_c_7
  let main_v23 : IVec S_ 1 := andi main_v18 main_v22
  let main_v24 : FVec F S128 .f32 := Host.absf main_arg4
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128x3x3 .f32 := Host.absf main_arg5
  let main_cst_10 : FVec F S_ .f32 := constant S_ .f32 0x7F800000#32
  let main_v30 : FVec F S256x128x3x3 .f32 := broadcastInDim S256x128x3x3 ![] bcast_S_S256x128x3x3 main_cst_10
  let main_v31 : IVec S256x128x3x3 1 := cmpf .olt main_v29 main_v30
  let main_c_11 : IVec S_ 1 := constantI S_ 1 1#1
  let main_v32 : IVec S_ 1 := (fun x v => Host.reduce IntOp.andi x v reducesTo_S256x128x3x3_S_d0_1_2_3 h_S_) main_v31 main_c_11
  let main_v33 : IVec S_ 1 := andi main_v28 main_v32
  fn_part2 (F := F) main_arg0 main_arg1 main_arg2 main_arg3 main_arg4 main_arg5 main_arg6 main_arg7 main_arg8 main_arg9 main_v33

def fn {F : FTy → Type} [FloatOps F] (main_arg0 : FVec F S2x3x224x224 .f32) (main_arg1 : FVec F S64x3x4x4 .f32) (main_arg2 : FVec F S64 .f32) (main_arg3 : FVec F S128x64x4x4 .f32) (main_arg4 : FVec F S128 .f32) (main_arg5 : FVec F S256x128x3x3 .f32) (main_arg6 : FVec F S256 .f32) (main_arg7 : FVec F S256x256x3x3 .f32) (main_arg8 : FVec F S256 .f32) (main_arg9 : FVec F S4x1024x256 .f32) (main_arg10 : FVec F S128x256x3x3 .f32) (main_arg11 : FVec F S128 .f32) (main_arg12 : FVec F S128x64x4x4 .f32) (main_arg13 : FVec F S64 .f32) (main_arg14 : FVec F S64x3x4x4 .f32) (main_arg15 : FVec F S3 .f32) : IVec S_ 1 :=
  let main_v0 : FVec F S4x1024x256 .f32 := Host.absf main_arg9
  let main_cst : FVec F S_ .f32 := constant S_ .f32 0x7F800000#32
  let main_v1 : FVec F S4x1024x256 .f32 := broadcastInDim S4x1024x256 ![] bcast_S_S4x1024x256 main_cst
  let main_v2 : IVec S4x1024x256 1 := cmpf .olt main_v0 main_v1
  let main_c : IVec S_ 1 := constantI S_ 1 1#1
  let main_v3 : IVec S_ 1 := (fun x v => Host.reduce IntOp.andi x v reducesTo_S4x1024x256_S_d0_1_2 h_S_) main_v2 main_c
  let main_v4 : FVec F S2x3x224x224 .f32 := Host.absf main_arg0
  let main_cst_0 : FVec F S_ .f32 := constant S_ .f32 0x7F800000#32
  let main_v5 : FVec F S2x3x224x224 .f32 := broadcastInDim S2x3x224x224 ![] bcast_S_S2x3x224x224 main_cst_0
  let main_v6 : IVec S2x3x224x224 1 := cmpf .olt main_v4 main_v5
  let main_c_1 : IVec S_ 1 := constantI S_ 1 1#1
  let main_v7 : IVec S_ 1 := (fun x v => Host.reduce IntOp.andi x v reducesTo_S2x3x224x224_S_d0_1_2_3 h_S_) main_v6 main_c_1
  let main_v8 : IVec S_ 1 := andi main_v3 main_v7
  let main_v9 : FVec F S64x3x4x4 .f32 := Host.absf main_arg1
  let main_cst_2 : FVec F S_ .f32 := constant S_ .f32 0x7F800000#32
  let main_v10 : FVec F S64x3x4x4 .f32 := broadcastInDim S64x3x4x4 ![] bcast_S_S64x3x4x4 main_cst_2
  let main_v11 : IVec S64x3x4x4 1 := cmpf .olt main_v9 main_v10
  let main_c_3 : IVec S_ 1 := constantI S_ 1 1#1
  let main_v12 : IVec S_ 1 := (fun x v => Host.reduce IntOp.andi x v reducesTo_S64x3x4x4_S_d0_1_2_3 h_S_) main_v11 main_c_3
  let main_v13 : IVec S_ 1 := andi main_v8 main_v12
  let main_v14 : FVec F S64 .f32 := Host.absf main_arg2
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg0 main_arg1 main_arg2 main_arg3 main_arg4 main_arg5 main_arg6 main_arg7 main_arg8 main_arg9 main_v13 main_v16
-- ==== Kernel.lean ====
abbrev S2x3x224x224 : Shape := ⟨4, ![2, 3, 224, 224]⟩
abbrev S64x3x4x4 : Shape := ⟨4, ![64, 3, 4, 4]⟩
abbrev S64 : Shape := ⟨1, ![64]⟩
abbrev S128x64x4x4 : Shape := ⟨4, ![128, 64, 4, 4]⟩
abbrev S128 : Shape := ⟨1, ![128]⟩
abbrev S256x128x3x3 : Shape := ⟨4, ![256, 128, 3, 3]⟩
abbrev S256 : Shape := ⟨1, ![256]⟩
abbrev S256x256x3x3 : Shape := ⟨4, ![256, 256, 3, 3]⟩
abbrev S4x1024x256 : Shape := ⟨3, ![4, 1024, 256]⟩
abbrev S128x256x3x3 : Shape := ⟨4, ![128, 256, 3, 3]⟩
abbrev S3 : Shape := ⟨1, ![3]⟩
abbrev S2x224x224x3 : Shape := ⟨4, ![2, 224, 224, 3]⟩
abbrev S_ : Shape := ⟨0, ![]⟩
abbrev S2x226x226x3 : Shape := ⟨4, ![2, 226, 226, 3]⟩
abbrev S2x112x112x3 : Shape := ⟨4, ![2, 112, 112, 3]⟩
abbrev S2x112x112x48 : Shape := ⟨4, ![2, 112, 112, 48]⟩
abbrev S25088x48 : Shape := ⟨2, ![25088, 48]⟩
abbrev S4x4x3x64 : Shape := ⟨4, ![4, 4, 3, 64]⟩
abbrev S48x64 : Shape := ⟨2, ![48, 64]⟩
abbrev S1x64 : Shape := ⟨2, ![1, 64]⟩
abbrev S25088x64 : Shape := ⟨2, ![25088, 64]⟩
abbrev S1792x48 : Shape := ⟨2, ![1792, 48]⟩
abbrev S1792x64 : Shape := ⟨2, ![1792, 64]⟩
abbrev S2x112x112x64 : Shape := ⟨4, ![2, 112, 112, 64]⟩
abbrev S2x114x114x64 : Shape := ⟨4, ![2, 114, 114, 64]⟩
abbrev S2x57x2x57x2x64 : Shape := ⟨6, ![2, 57, 2, 57, 2, 64]⟩
abbrev S2x2x2x57x57x64 : Shape := ⟨6, ![2, 2, 2, 57, 57, 64]⟩
abbrev S2x1x1x56x56x64 : Shape := ⟨6, ![2, 1, 1, 56, 56, 64]⟩
abbrev S2x56x56x64 : Shape := ⟨4, ![2, 56, 56, 64]⟩
abbrev S2x56x56x1024 : Shape := ⟨4, ![2, 56, 56, 1024]⟩
abbrev S6272x1024 : Shape := ⟨2, ![6272, 1024]⟩
abbrev S4x4x64x128 : Shape := ⟨4, ![4, 4, 64, 128]⟩
abbrev S1024x128 : Shape := ⟨2, ![1024, 128]⟩
abbrev S1x128 : Shape := ⟨2, ![1, 128]⟩
abbrev S6272x128 : Shape := ⟨2, ![6272, 128]⟩
abbrev S896x1024 : Shape := ⟨2, ![896, 1024]⟩
abbrev S896x128 : Shape := ⟨2, ![896, 128]⟩
abbrev S2x56x56x128 : Shape := ⟨4, ![2, 56, 56, 128]⟩
abbrev S2x58x58x128 : Shape := ⟨4, ![2, 58, 58, 128]⟩
abbrev S2x56x56x1152 : Shape := ⟨4, ![2, 56, 56, 1152]⟩
abbrev S6272x1152 : Shape := ⟨2, ![6272, 1152]⟩
abbrev S3x3x128x256 : Shape := ⟨4, ![3, 3, 128, 256]⟩
abbrev S1152x256 : Shape := ⟨2, ![1152, 256]⟩
abbrev S1x256 : Shape := ⟨2, ![1, 256]⟩
abbrev S6272x256 : Shape := ⟨2, ![6272, 256]⟩
abbrev S896x1152 : Shape := ⟨2, ![896, 1152]⟩
abbrev S896x256 : Shape := ⟨2, ![896, 256]⟩
abbrev S2x56x56x256 : Shape := ⟨4, ![2, 56, 56, 256]⟩
abbrev S2x58x58x256 : Shape := ⟨4, ![2, 58, 58, 256]⟩
abbrev S2x56x56x2304 : Shape := ⟨4, ![2, 56, 56, 2304]⟩
abbrev S6272x2304 : Shape := ⟨2, ![6272, 2304]⟩
abbrev S3x3x256x256 : Shape := ⟨4, ![3, 3, 256, 256]⟩
abbrev S2304x256 : Shape := ⟨2, ![2304, 256]⟩
abbrev S896x2304 : Shape := ⟨2, ![896, 2304]⟩
abbrev S1x4x1024x256 : Shape := ⟨4, ![1, 4, 1024, 256]⟩
abbrev S3x4x1024x256 : Shape := ⟨4, ![3, 4, 1024, 256]⟩
abbrev S256x6272 : Shape := ⟨2, ![256, 6272]⟩
abbrev S4x6272 : Shape := ⟨2, ![4, 6272]⟩
abbrev S4x128 : Shape := ⟨2, ![4, 128]⟩
abbrev S256x896 : Shape := ⟨2, ![256, 896]⟩
abbrev S4x896 : Shape := ⟨2, ![4, 896]⟩
abbrev S1x1024x256 : Shape := ⟨3, ![1, 1024, 256]⟩
abbrev S1024x256 : Shape := ⟨2, ![1024, 256]⟩
abbrev S896 : Shape := ⟨1, ![896]⟩
abbrev S896x1 : Shape := ⟨2, ![896, 1]⟩
abbrev S1024 : Shape := ⟨1, ![1024]⟩
abbrev S1x1024 : Shape := ⟨2, ![1, 1024]⟩
abbrev S1x1x1024x256 : Shape := ⟨4, ![1, 1, 1024, 256]⟩
abbrev S1x896 : Shape := ⟨2, ![1, 896]⟩
abbrev S2x128 : Shape := ⟨2, ![2, 128]⟩
abbrev S4 : Shape := ⟨1, ![4]⟩
abbrev S4x2x56x56 : Shape := ⟨4, ![4, 2, 56, 56]⟩
abbrev S2x4x56x56 : Shape := ⟨4, ![2, 4, 56, 56]⟩
abbrev S256x2x56x56 : Shape := ⟨4, ![256, 2, 56, 56]⟩
abbrev S2x256x56x56 : Shape := ⟨4, ![2, 256, 56, 56]⟩
abbrev S3x3x256x128 : Shape := ⟨4, ![3, 3, 256, 128]⟩
abbrev S2304x128 : Shape := ⟨2, ![2304, 128]⟩
abbrev S4x64 : Shape := ⟨2, ![4, 64]⟩
abbrev S128x64x1x1 : Shape := ⟨4, ![128, 64, 1, 1]⟩
abbrev S128x64 : Shape := ⟨2, ![128, 64]⟩
abbrev S128x256 : Shape := ⟨2, ![128, 256]⟩
abbrev S2x56x56x2x2x64 : Shape := ⟨6, ![2, 56, 56, 2, 2, 64]⟩
abbrev S2x56x2x56x2x64 : Shape := ⟨6, ![2, 56, 2, 56, 2, 64]⟩
abbrev S1x3 : Shape := ⟨2, ![1, 3]⟩
abbrev S4x3 : Shape := ⟨2, ![4, 3]⟩
abbrev S12 : Shape := ⟨1, ![12]⟩
abbrev S2x112x112x576 : Shape := ⟨4, ![2, 112, 112, 576]⟩
abbrev S25088x576 : Shape := ⟨2, ![25088, 576]⟩
abbrev S64x3x1x1 : Shape := ⟨4, ![64, 3, 1, 1]⟩
abbrev S64x3 : Shape := ⟨2, ![64, 3]⟩
abbrev S64x12 : Shape := ⟨2, ![64, 12]⟩
abbrev S576x12 : Shape := ⟨2, ![576, 12]⟩
abbrev S576x128 : Shape := ⟨2, ![576, 128]⟩
abbrev S25088x128 : Shape := ⟨2, ![25088, 128]⟩
abbrev S1792x576 : Shape := ⟨2, ![1792, 576]⟩
abbrev S1792x128 : Shape := ⟨2, ![1792, 128]⟩
abbrev S25088x12 : Shape := ⟨2, ![25088, 12]⟩
abbrev S2x112x112x2x2x3 : Shape := ⟨6, ![2, 112, 112, 2, 2, 3]⟩
abbrev S2x112x2x112x2x3 : Shape := ⟨6, ![2, 112, 2, 112, 2, 3]⟩

abbrev nBuf : Space → Nat
  | .hbm => 403
  | .vmem => 53
  | .smem => 0
  | _ => 0

abbrev hbmTy0_0 (i : Nat) : BufTy := match i % 128 with
  | 0 => ⟨S2x3x224x224, .f32⟩
  | 1 => ⟨S64x3x4x4, .f32⟩
  | 2 => ⟨S64, .f32⟩
  | 3 => ⟨S128x64x4x4, .f32⟩
  | 4 => ⟨S128, .f32⟩
  | 5 => ⟨S256x128x3x3, .f32⟩
  | 6 => ⟨S256, .f32⟩
  | 7 => ⟨S256x256x3x3, .f32⟩
  | 8 => ⟨S256, .f32⟩
  | 9 => ⟨S4x1024x256, .f32⟩
  | 10 => ⟨S128x256x3x3, .f32⟩
  | 11 => ⟨S128, .f32⟩
  | 12 => ⟨S128x64x4x4, .f32⟩
  | 13 => ⟨S64, .f32⟩
  | 14 => ⟨S64x3x4x4, .f32⟩
  | 15 => ⟨S3, .f32⟩
  | 16 => ⟨S2x224x224x3, .f32⟩
  | 17 => ⟨S_, .i32⟩
  | 18 => ⟨S_, .f32⟩
  | 19 => ⟨S2x226x226x3, .f32⟩
  | 20 => ⟨S2x226x226x3, .bf16⟩
  | 21 => ⟨S2x112x112x3, .bf16⟩
  | 22 => ⟨S2x112x112x3, .bf16⟩
  | 23 => ⟨S2x112x112x3, .bf16⟩
  | 24 => ⟨S2x112x112x3, .bf16⟩
  | 25 => ⟨S2x112x112x3, .bf16⟩
  | 26 => ⟨S2x112x112x3, .bf16⟩
  | 27 => ⟨S2x112x112x3, .bf16⟩
  | 28 => ⟨S2x112x112x3, .bf16⟩
  | 29 => ⟨S2x112x112x3, .bf16⟩
  | 30 => ⟨S2x112x112x3, .bf16⟩
  | 31 => ⟨S2x112x112x3, .bf16⟩
  | 32 => ⟨S2x112x112x3, .bf16⟩
  | 33 => ⟨S2x112x112x3, .bf16⟩
  | 34 => ⟨S2x112x112x3, .bf16⟩
  | 35 => ⟨S2x112x112x3, .bf16⟩
  | 36 => ⟨S2x112x112x3, .bf16⟩
  | 37 => ⟨S2x112x112x48, .bf16⟩
  | 38 => ⟨S25088x48, .bf16⟩
  | 39 => ⟨S4x4x3x64, .f32⟩
  | 40 => ⟨S48x64, .f32⟩
  | 41 => ⟨S48x64, .bf16⟩
  | 42 => ⟨S1x64, .f32⟩
  | 43 => ⟨S25088x64, .f32⟩
  | 44 => ⟨S2x112x112x64, .f32⟩
  | 45 => ⟨S_, .i32⟩
  | 46 => ⟨S_, .f32⟩
  | 47 => ⟨S2x114x114x64, .f32⟩
  | 48 => ⟨S2x114x114x64, .bf16⟩
  | 49 => ⟨S2x57x2x57x2x64, .bf16⟩
  | 50 => ⟨S2x2x2x57x57x64, .bf16⟩
  | 51 => ⟨S2x1x1x56x56x64, .bf16⟩
  | 52 => ⟨S2x56x56x64, .bf16⟩
  | 53 => ⟨S2x1x1x56x56x64, .bf16⟩
  | 54 => ⟨S2x56x56x64, .bf16⟩
  | 55 => ⟨S2x1x1x56x56x64, .bf16⟩
  | 56 => ⟨S2x56x56x64, .bf16⟩
  | 57 => ⟨S2x1x1x56x56x64, .bf16⟩
  | 58 => ⟨S2x56x56x64, .bf16⟩
  | 59 => ⟨S2x1x1x56x56x64, .bf16⟩
  | 60 => ⟨S2x56x56x64, .bf16⟩
  | 61 => ⟨S2x1x1x56x56x64, .bf16⟩
  | 62 => ⟨S2x56x56x64, .bf16⟩
  | 63 => ⟨S2x1x1x56x56x64, .bf16⟩
  | 64 => ⟨S2x56x56x64, .bf16⟩
  | 65 => ⟨S2x1x1x56x56x64, .bf16⟩
  | 66 => ⟨S2x56x56x64, .bf16⟩
  | 67 => ⟨S2x1x1x56x56x64, .bf16⟩
  | 68 => ⟨S2x56x56x64, .bf16⟩
  | 69 => ⟨S2x1x1x56x56x64, .bf16⟩
  | 70 => ⟨S2x56x56x64, .bf16⟩
  | 71 => ⟨S2x1x1x56x56x64, .bf16⟩
  | 72 => ⟨S2x56x56x64, .bf16⟩
  | 73 => ⟨S2x1x1x56x56x64, .bf16⟩
  | 74 => ⟨S2x56x56x64, .bf16⟩
  | 75 => ⟨S2x1x1x56x56x64, .bf16⟩
  | 76 => ⟨S2x56x56x64, .bf16⟩
  | 77 => ⟨S2x1x1x56x56x64, .bf16⟩
  | 78 => ⟨S2x56x56x64, .bf16⟩
  | 79 => ⟨S2x1x1x56x56x64, .bf16⟩
  | 80 => ⟨S2x56x56x64, .bf16⟩
  | 81 => ⟨S2x1x1x56x56x64, .bf16⟩
  | 82 => ⟨S2x56x56x64, .bf16⟩
  | 83 => ⟨S2x56x56x1024, .bf16⟩
  | 84 => ⟨S6272x1024, .bf16⟩
  | 85 => ⟨S4x4x64x128, .f32⟩
  | 86 => ⟨S1024x128, .f32⟩
  | 87 => ⟨S1024x128, .bf16⟩
  | 88 => ⟨S1x128, .f32⟩
  | 89 => ⟨S6272x128, .f32⟩
  | 90 => ⟨S2x56x56x128, .f32⟩
  | 91 => ⟨S_, .i32⟩
  | 92 => ⟨S_, .f32⟩
  | 93 => ⟨S2x58x58x128, .f32⟩
  | 94 => ⟨S2x58x58x128, .bf16⟩
  | 95 => ⟨S2x56x56x128, .bf16⟩
  | 96 => ⟨S2x56x56x128, .bf16⟩
  | 97 => ⟨S2x56x56x128, .bf16⟩
  | 98 => ⟨S2x56x56x128, .bf16⟩
  | 99 => ⟨S2x56x56x128, .bf16⟩
  | 100 => ⟨S2x56x56x128, .bf16⟩
  | 101 => ⟨S2x56x56x128, .bf16⟩
  | 102 => ⟨S2x56x56x128, .bf16⟩
  | 103 => ⟨S2x56x56x128, .bf16⟩
  | 104 => ⟨S2x56x56x1152, .bf16⟩
  | 105 => ⟨S6272x1152, .bf16⟩
  | 106 => ⟨S3x3x128x256, .f32⟩
  | 107 => ⟨S1152x256, .f32⟩
  | 108 => ⟨S1152x256, .bf16⟩
  | 109 => ⟨S1x256, .f32⟩
  | 110 => ⟨S6272x256, .f32⟩
  | 111 => ⟨S2x56x56x256, .f32⟩
  | 112 => ⟨S_, .i32⟩
  | 113 => ⟨S_, .f32⟩
  | 114 => ⟨S2x58x58x256, .f32⟩
  | 115 => ⟨S2x58x58x256, .bf16⟩
  | 116 => ⟨S2x56x56x256, .bf16⟩
  | 117 => ⟨S2x56x56x256, .bf16⟩
  | 118 => ⟨S2x56x56x256, .bf16⟩
  | 119 => ⟨S2x56x56x256, .bf16⟩
  | 120 => ⟨S2x56x56x256, .bf16⟩
  | 121 => ⟨S2x56x56x256, .bf16⟩
  | 122 => ⟨S2x56x56x256, .bf16⟩
  | 123 => ⟨S2x56x56x256, .bf16⟩
  | 124 => ⟨S2x56x56x256, .bf16⟩
  | 125 => ⟨S2x56x56x2304, .bf16⟩
  | 126 => ⟨S6272x2304, .bf16⟩
  | 127 => ⟨S3x3x256x256, .f32⟩
  | _ => ⟨S2x3x224x224, .f32⟩

abbrev hbmTy0_1 (i : Nat) : BufTy := match i % 128 with
  | 0 => ⟨S2304x256, .f32⟩
  | 1 => ⟨S2304x256, .bf16⟩
  | 2 => ⟨S1x256, .f32⟩
  | 3 => ⟨S6272x256, .f32⟩
  | 4 => ⟨S4x1024x256, .bf16⟩
  | 5 => ⟨S4x1024x256, .f32⟩
  | 6 => ⟨S4x1024x256, .f32⟩
  | 7 => ⟨S4x1024x256, .bf16⟩
  | 8 => ⟨S4x1024x256, .f32⟩
  | 9 => ⟨S4x1024x256, .f32⟩
  | 10 => ⟨S4x1024x256, .f32⟩
  | 11 => ⟨S4x1024x256, .f32⟩
  | 12 => ⟨S4x1024x256, .bf16⟩
  | 13 => ⟨S1x4x1024x256, .bf16⟩
  | 14 => ⟨S1x4x1024x256, .bf16⟩
  | 15 => ⟨S1x4x1024x256, .bf16⟩
  | 16 => ⟨S3x4x1024x256, .bf16⟩
  | 17 => ⟨S6272x256, .f32⟩
  | 18 => ⟨S256x6272, .f32⟩
  | 19 => ⟨S4x6272, .i32⟩
  | 20 => ⟨S4x128, .f32⟩
  | 21 => ⟨S_, .f32⟩
  | 22 => ⟨S4, .f32⟩
  | 23 => ⟨S_, .f32⟩
  | 24 => ⟨S4, .f32⟩
  | 25 => ⟨S4, .f32⟩
  | 26 => ⟨S4x2x56x56, .i32⟩
  | 27 => ⟨S2x4x56x56, .i32⟩
  | 28 => ⟨S2x56x56x256, .f32⟩
  | 29 => ⟨S256x2x56x56, .f32⟩
  | 30 => ⟨S2x256x56x56, .f32⟩
  | 31 => ⟨S_, .i32⟩
  | 32 => ⟨S_, .f32⟩
  | 33 => ⟨S2x58x58x256, .f32⟩
  | 34 => ⟨S2x58x58x256, .bf16⟩
  | 35 => ⟨S2x56x56x256, .bf16⟩
  | 36 => ⟨S2x56x56x256, .bf16⟩
  | 37 => ⟨S2x56x56x256, .bf16⟩
  | 38 => ⟨S2x56x56x256, .bf16⟩
  | 39 => ⟨S2x56x56x256, .bf16⟩
  | 40 => ⟨S2x56x56x256, .bf16⟩
  | 41 => ⟨S2x56x56x256, .bf16⟩
  | 42 => ⟨S2x56x56x256, .bf16⟩
  | 43 => ⟨S2x56x56x256, .bf16⟩
  | 44 => ⟨S2x56x56x2304, .bf16⟩
  | 45 => ⟨S6272x2304, .bf16⟩
  | 46 => ⟨S3x3x256x128, .f32⟩
  | 47 => ⟨S2304x128, .f32⟩
  | 48 => ⟨S2304x128, .bf16⟩
  | 49 => ⟨S1x128, .f32⟩
  | 50 => ⟨S6272x128, .f32⟩
  | 51 => ⟨S2x56x56x128, .f32⟩
  | 52 => ⟨S1x64, .f32⟩
  | 53 => ⟨S4x64, .f32⟩
  | 54 => ⟨S256, .f32⟩
  | 55 => ⟨S_, .i32⟩
  | 56 => ⟨S_, .f32⟩
  | 57 => ⟨S256, .f32⟩
  | 58 => ⟨S_, .i32⟩
  | 59 => ⟨S_, .f32⟩
  | 60 => ⟨S2x58x58x128, .f32⟩
  | 61 => ⟨S2x58x58x128, .bf16⟩
  | 62 => ⟨S2x56x56x128, .bf16⟩
  | 63 => ⟨S2x56x56x128, .bf16⟩
  | 64 => ⟨S2x56x56x128, .bf16⟩
  | 65 => ⟨S2x56x56x128, .bf16⟩
  | 66 => ⟨S2x56x56x128, .bf16⟩
  | 67 => ⟨S2x56x56x128, .bf16⟩
  | 68 => ⟨S2x56x56x128, .bf16⟩
  | 69 => ⟨S2x56x56x128, .bf16⟩
  | 70 => ⟨S2x56x56x128, .bf16⟩
  | 71 => ⟨S2x56x56x1152, .bf16⟩
  | 72 => ⟨S6272x1152, .bf16⟩
  | 73 => ⟨S128x64x1x1, .f32⟩
  | 74 => ⟨S128x64, .f32⟩
  | 75 => ⟨S_, .f32⟩
  | 76 => ⟨S128x64, .f32⟩
  | 77 => ⟨S_, .f32⟩
  | 78 => ⟨S128x64, .f32⟩
  | 79 => ⟨S_, .f32⟩
  | 80 => ⟨S128x64, .f32⟩
  | 81 => ⟨S128x256, .f32⟩
  | 82 => ⟨S128x64x1x1, .f32⟩
  | 83 => ⟨S128x64, .f32⟩
  | 84 => ⟨S128x64x1x1, .f32⟩
  | 85 => ⟨S128x64, .f32⟩
  | 86 => ⟨S_, .f32⟩
  | 87 => ⟨S128x64, .f32⟩
  | 88 => ⟨S_, .f32⟩
  | 89 => ⟨S128x64, .f32⟩
  | 90 => ⟨S128x256, .f32⟩
  | 91 => ⟨S_, .f32⟩
  | 92 => ⟨S128x64, .f32⟩
  | 93 => ⟨S128x64x1x1, .f32⟩
  | 94 => ⟨S128x64, .f32⟩
  | 95 => ⟨S_, .f32⟩
  | 96 => ⟨S128x64, .f32⟩
  | 97 => ⟨S_, .f32⟩
  | 98 => ⟨S128x64, .f32⟩
  | 99 => ⟨S128x256, .f32⟩
  | 100 => ⟨S128x64x1x1, .f32⟩
  | 101 => ⟨S128x64, .f32⟩
  | 102 => ⟨S_, .f32⟩
  | 103 => ⟨S128x64, .f32⟩
  | 104 => ⟨S128x64x1x1, .f32⟩
  | 105 => ⟨S128x64, .f32⟩
  | 106 => ⟨S_, .f32⟩
  | 107 => ⟨S128x64, .f32⟩
  | 108 => ⟨S128x256, .f32⟩
  | 109 => ⟨S128x64x1x1, .f32⟩
  | 110 => ⟨S128x64, .f32⟩
  | 111 => ⟨S128x64x1x1, .f32⟩
  | 112 => ⟨S128x64, .f32⟩
  | 113 => ⟨S128x64x1x1, .f32⟩
  | 114 => ⟨S128x64, .f32⟩
  | 115 => ⟨S128x64x1x1, .f32⟩
  | 116 => ⟨S128x64, .f32⟩
  | 117 => ⟨S128x256, .f32⟩
  | 118 => ⟨S_, .f32⟩
  | 119 => ⟨S128x64, .f32⟩
  | 120 => ⟨S128x64x1x1, .f32⟩
  | 121 => ⟨S128x64, .f32⟩
  | 122 => ⟨S_, .f32⟩
  | 123 => ⟨S128x64, .f32⟩
  | 124 => ⟨S128x64x1x1, .f32⟩
  | 125 => ⟨S128x64, .f32⟩
  | 126 => ⟨S128x256, .f32⟩
  | 127 => ⟨S_, .f32⟩
  | _ => ⟨S2x3x224x224, .f32⟩

abbrev hbmTy0_2 (i : Nat) : BufTy := match i % 128 with
  | 0 => ⟨S128x64, .f32⟩
  | 1 => ⟨S_, .f32⟩
  | 2 => ⟨S128x64, .f32⟩
  | 3 => ⟨S128x64x1x1, .f32⟩
  | 4 => ⟨S128x64, .f32⟩
  | 5 => ⟨S_, .f32⟩
  | 6 => ⟨S128x64, .f32⟩
  | 7 => ⟨S128x256, .f32⟩
  | 8 => ⟨S_, .f32⟩
  | 9 => ⟨S128x64, .f32⟩
  | 10 => ⟨S_, .f32⟩
  | 11 => ⟨S128x64, .f32⟩
  | 12 => ⟨S128x64x1x1, .f32⟩
  | 13 => ⟨S128x64, .f32⟩
  | 14 => ⟨S128x64x1x1, .f32⟩
  | 15 => ⟨S128x64, .f32⟩
  | 16 => ⟨S128x256, .f32⟩
  | 17 => ⟨S_, .f32⟩
  | 18 => ⟨S128x64, .f32⟩
  | 19 => ⟨S_, .f32⟩
  | 20 => ⟨S128x64, .f32⟩
  | 21 => ⟨S_, .f32⟩
  | 22 => ⟨S128x64, .f32⟩
  | 23 => ⟨S128x64x1x1, .f32⟩
  | 24 => ⟨S128x64, .f32⟩
  | 25 => ⟨S128x256, .f32⟩
  | 26 => ⟨S1152x256, .f32⟩
  | 27 => ⟨S1152x256, .bf16⟩
  | 28 => ⟨S1x256, .f32⟩
  | 29 => ⟨S6272x256, .f32⟩
  | 30 => ⟨S2x56x56x2x2x64, .f32⟩
  | 31 => ⟨S2x56x2x56x2x64, .f32⟩
  | 32 => ⟨S2x112x112x64, .f32⟩
  | 33 => ⟨S1x3, .f32⟩
  | 34 => ⟨S4x3, .f32⟩
  | 35 => ⟨S12, .f32⟩
  | 36 => ⟨S_, .i32⟩
  | 37 => ⟨S_, .f32⟩
  | 38 => ⟨S128, .f32⟩
  | 39 => ⟨S_, .i32⟩
  | 40 => ⟨S_, .f32⟩
  | 41 => ⟨S2x114x114x64, .f32⟩
  | 42 => ⟨S2x114x114x64, .bf16⟩
  | 43 => ⟨S2x112x112x64, .bf16⟩
  | 44 => ⟨S2x112x112x64, .bf16⟩
  | 45 => ⟨S2x112x112x64, .bf16⟩
  | 46 => ⟨S2x112x112x64, .bf16⟩
  | 47 => ⟨S2x112x112x64, .bf16⟩
  | 48 => ⟨S2x112x112x64, .bf16⟩
  | 49 => ⟨S2x112x112x64, .bf16⟩
  | 50 => ⟨S2x112x112x64, .bf16⟩
  | 51 => ⟨S2x112x112x64, .bf16⟩
  | 52 => ⟨S2x112x112x576, .bf16⟩
  | 53 => ⟨S25088x576, .bf16⟩
  | 54 => ⟨S64x3x1x1, .f32⟩
  | 55 => ⟨S64x3, .f32⟩
  | 56 => ⟨S_, .f32⟩
  | 57 => ⟨S64x3, .f32⟩
  | 58 => ⟨S_, .f32⟩
  | 59 => ⟨S64x3, .f32⟩
  | 60 => ⟨S_, .f32⟩
  | 61 => ⟨S64x3, .f32⟩
  | 62 => ⟨S64x12, .f32⟩
  | 63 => ⟨S64x3x1x1, .f32⟩
  | 64 => ⟨S64x3, .f32⟩
  | 65 => ⟨S64x3x1x1, .f32⟩
  | 66 => ⟨S64x3, .f32⟩
  | 67 => ⟨S_, .f32⟩
  | 68 => ⟨S64x3, .f32⟩
  | 69 => ⟨S_, .f32⟩
  | 70 => ⟨S64x3, .f32⟩
  | 71 => ⟨S64x12, .f32⟩
  | 72 => ⟨S_, .f32⟩
  | 73 => ⟨S64x3, .f32⟩
  | 74 => ⟨S64x3x1x1, .f32⟩
  | 75 => ⟨S64x3, .f32⟩
  | 76 => ⟨S_, .f32⟩
  | 77 => ⟨S64x3, .f32⟩
  | 78 => ⟨S_, .f32⟩
  | 79 => ⟨S64x3, .f32⟩
  | 80 => ⟨S64x12, .f32⟩
  | 81 => ⟨S64x3x1x1, .f32⟩
  | 82 => ⟨S64x3, .f32⟩
  | 83 => ⟨S_, .f32⟩
  | 84 => ⟨S64x3, .f32⟩
  | 85 => ⟨S64x3x1x1, .f32⟩
  | 86 => ⟨S64x3, .f32⟩
  | 87 => ⟨S_, .f32⟩
  | 88 => ⟨S64x3, .f32⟩
  | 89 => ⟨S64x12, .f32⟩
  | 90 => ⟨S64x3x1x1, .f32⟩
  | 91 => ⟨S64x3, .f32⟩
  | 92 => ⟨S64x3x1x1, .f32⟩
  | 93 => ⟨S64x3, .f32⟩
  | 94 => ⟨S64x3x1x1, .f32⟩
  | 95 => ⟨S64x3, .f32⟩
  | 96 => ⟨S64x3x1x1, .f32⟩
  | 97 => ⟨S64x3, .f32⟩
  | 98 => ⟨S64x12, .f32⟩
  | 99 => ⟨S_, .f32⟩
  | 100 => ⟨S64x3, .f32⟩
  | 101 => ⟨S64x3x1x1, .f32⟩
  | 102 => ⟨S64x3, .f32⟩
  | 103 => ⟨S_, .f32⟩
  | 104 => ⟨S64x3, .f32⟩
  | 105 => ⟨S64x3x1x1, .f32⟩
  | 106 => ⟨S64x3, .f32⟩
  | 107 => ⟨S64x12, .f32⟩
  | 108 => ⟨S_, .f32⟩
  | 109 => ⟨S64x3, .f32⟩
  | 110 => ⟨S_, .f32⟩
  | 111 => ⟨S64x3, .f32⟩
  | 112 => ⟨S64x3x1x1, .f32⟩
  | 113 => ⟨S64x3, .f32⟩
  | 114 => ⟨S_, .f32⟩
  | 115 => ⟨S64x3, .f32⟩
  | 116 => ⟨S64x12, .f32⟩
  | 117 => ⟨S_, .f32⟩
  | 118 => ⟨S64x3, .f32⟩
  | 119 => ⟨S_, .f32⟩
  | 120 => ⟨S64x3, .f32⟩
  | 121 => ⟨S64x3x1x1, .f32⟩
  | 122 => ⟨S64x3, .f32⟩
  | 123 => ⟨S64x3x1x1, .f32⟩
  | 124 => ⟨S64x3, .f32⟩
  | 125 => ⟨S64x12, .f32⟩
  | 126 => ⟨S_, .f32⟩
  | 127 => ⟨S64x3, .f32⟩
  | _ => ⟨S2x3x224x224, .f32⟩

abbrev hbmTy0_3 (i : Nat) : BufTy := match i % 128 with
  | 0 => ⟨S_, .f32⟩
  | 1 => ⟨S64x3, .f32⟩
  | 2 => ⟨S_, .f32⟩
  | 3 => ⟨S64x3, .f32⟩
  | 4 => ⟨S64x3x1x1, .f32⟩
  | 5 => ⟨S64x3, .f32⟩
  | 6 => ⟨S64x12, .f32⟩
  | 7 => ⟨S576x12, .f32⟩
  | 8 => ⟨S_, .i32⟩
  | 9 => ⟨S_, .f32⟩
  | 10 => ⟨S576x128, .f32⟩
  | 11 => ⟨S576x128, .bf16⟩
  | 12 => ⟨S1x128, .f32⟩
  | 13 => ⟨S25088x128, .f32⟩
  | 14 => ⟨S25088x12, .f32⟩
  | 15 => ⟨S2x112x112x2x2x3, .f32⟩
  | 16 => ⟨S2x112x2x112x2x3, .f32⟩
  | 17 => ⟨S2x224x224x3, .f32⟩
  | 18 => ⟨S2x3x224x224, .f32⟩
  | _ => ⟨S2x3x224x224, .f32⟩

abbrev hbmTy (i : Nat) : BufTy := match i / 128 with
  | 0 => hbmTy0_0 i
  | 1 => hbmTy0_1 i
  | 2 => hbmTy0_2 i
  | 3 => hbmTy0_3 i
  | _ => ⟨S2x3x224x224, .f32⟩

abbrev bufTy : (tb : Table) → Fin (tcTables nBuf tb) → BufTy
  | .hbm, ⟨i, _⟩ => hbmTy i
  | .local _ .vmem, ⟨0, _⟩ => ⟨S1792x48, .bf16⟩
  | .local _ .vmem, ⟨1, _⟩ => ⟨S1792x48, .bf16⟩
  | .local _ .vmem, ⟨2, _⟩ => ⟨S48x64, .bf16⟩
  | .local _ .vmem, ⟨3, _⟩ => ⟨S1x64, .f32⟩
  | .local _ .vmem, ⟨4, _⟩ => ⟨S1792x64, .f32⟩
  | .local _ .vmem, ⟨5, _⟩ => ⟨S1792x64, .f32⟩
  | .local _ .vmem, ⟨6, _⟩ => ⟨S896x1024, .bf16⟩
  | .local _ .vmem, ⟨7, _⟩ => ⟨S896x1024, .bf16⟩
  | .local _ .vmem, ⟨8, _⟩ => ⟨S1024x128, .bf16⟩
  | .local _ .vmem, ⟨9, _⟩ => ⟨S1x128, .f32⟩
  | .local _ .vmem, ⟨10, _⟩ => ⟨S896x128, .f32⟩
  | .local _ .vmem, ⟨11, _⟩ => ⟨S896x128, .f32⟩
  | .local _ .vmem, ⟨12, _⟩ => ⟨S896x1152, .bf16⟩
  | .local _ .vmem, ⟨13, _⟩ => ⟨S896x1152, .bf16⟩
  | .local _ .vmem, ⟨14, _⟩ => ⟨S1152x256, .bf16⟩
  | .local _ .vmem, ⟨15, _⟩ => ⟨S1x256, .f32⟩
  | .local _ .vmem, ⟨16, _⟩ => ⟨S896x256, .f32⟩
  | .local _ .vmem, ⟨17, _⟩ => ⟨S896x256, .f32⟩
  | .local _ .vmem, ⟨18, _⟩ => ⟨S896x2304, .bf16⟩
  | .local _ .vmem, ⟨19, _⟩ => ⟨S896x2304, .bf16⟩
  | .local _ .vmem, ⟨20, _⟩ => ⟨S2304x256, .bf16⟩
  | .local _ .vmem, ⟨21, _⟩ => ⟨S1x256, .f32⟩
  | .local _ .vmem, ⟨22, _⟩ => ⟨S896x256, .f32⟩
  | .local _ .vmem, ⟨23, _⟩ => ⟨S896x256, .f32⟩
  | .local _ .vmem, ⟨24, _⟩ => ⟨S896x256, .f32⟩
  | .local _ .vmem, ⟨25, _⟩ => ⟨S896x256, .f32⟩
  | .local _ .vmem, ⟨26, _⟩ => ⟨S4x1024x256, .f32⟩
  | .local _ .vmem, ⟨27, _⟩ => ⟨S3x4x1024x256, .bf16⟩
  | .local _ .vmem, ⟨28, _⟩ => ⟨S896x256, .f32⟩
  | .local _ .vmem, ⟨29, _⟩ => ⟨S896x256, .f32⟩
  | .local _ .vmem, ⟨30, _⟩ => ⟨S256x896, .f32⟩
  | .local _ .vmem, ⟨31, _⟩ => ⟨S256x896, .f32⟩
  | .local _ .vmem, ⟨32, _⟩ => ⟨S4x896, .i32⟩
  | .local _ .vmem, ⟨33, _⟩ => ⟨S4x896, .i32⟩
  | .local _ .vmem, ⟨34, _⟩ => ⟨S4x128, .f32⟩
  | .local _ .vmem, ⟨35, _⟩ => ⟨S896x2304, .bf16⟩
  | .local _ .vmem, ⟨36, _⟩ => ⟨S896x2304, .bf16⟩
  | .local _ .vmem, ⟨37, _⟩ => ⟨S2304x128, .bf16⟩
  | .local _ .vmem, ⟨38, _⟩ => ⟨S1x128, .f32⟩
  | .local _ .vmem, ⟨39, _⟩ => ⟨S896x128, .f32⟩
  | .local _ .vmem, ⟨40, _⟩ => ⟨S896x128, .f32⟩
  | .local _ .vmem, ⟨41, _⟩ => ⟨S896x1152, .bf16⟩
  | .local _ .vmem, ⟨42, _⟩ => ⟨S896x1152, .bf16⟩
  | .local _ .vmem, ⟨43, _⟩ => ⟨S1152x256, .bf16⟩
  | .local _ .vmem, ⟨44, _⟩ => ⟨S1x256, .f32⟩
  | .local _ .vmem, ⟨45, _⟩ => ⟨S896x256, .f32⟩
  | .local _ .vmem, ⟨46, _⟩ => ⟨S896x256, .f32⟩
  | .local _ .vmem, ⟨47, _⟩ => ⟨S1792x576, .bf16⟩
  | .local _ .vmem, ⟨48, _⟩ => ⟨S1792x576, .bf16⟩
  | .local _ .vmem, ⟨49, _⟩ => ⟨S576x128, .bf16⟩
  | .local _ .vmem, ⟨50, _⟩ => ⟨S1x128, .f32⟩
  | .local _ .vmem, ⟨51, _⟩ => ⟨S1792x128, .f32⟩
  | .local _ .vmem, ⟨52, _⟩ => ⟨S1792x128, .f32⟩
  | _, _ => ⟨S2x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_call0_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_0 : Ref sig .tc := ⟨.hbm, 45, rfl⟩
abbrev main_call1_v0 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_c_1 : Ref sig .tc := ⟨.hbm, 91, rfl⟩
abbrev main_call2_v0 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_c_2 : Ref sig .tc := ⟨.hbm, 112, rfl⟩
abbrev main_call3_v0 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121_0 : Ref sig .tc := ⟨.hbm, 145, rfl⟩
abbrev main_v121_1 : Ref sig .tc := ⟨.hbm, 146, rfl⟩
abbrev main_v121_2 : Ref sig .tc := ⟨.hbm, 147, rfl⟩
abbrev main_v121_3 : Ref sig .tc := ⟨.hbm, 148, rfl⟩
abbrev main_cst : Ref sig .tc := ⟨.hbm, 149, rfl⟩
abbrev main_v122 : Ref sig .tc := ⟨.hbm, 150, rfl⟩
abbrev main_cst_3 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_c_4 : Ref sig .tc := ⟨.hbm, 159, rfl⟩
abbrev main_call4_v0 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_c_5 : Ref sig .tc := ⟨.hbm, 183, rfl⟩
abbrev main_call5_v0 : Ref sig .tc := ⟨.hbm, 184, rfl⟩
abbrev main_v152 : Ref sig .tc := ⟨.hbm, 185, rfl⟩
abbrev main_c_6 : Ref sig .tc := ⟨.hbm, 186, rfl⟩
abbrev main_call6_v0 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_cst_7 : Ref sig .tc := ⟨.hbm, 203, rfl⟩
abbrev main_v168 : Ref sig .tc := ⟨.hbm, 204, rfl⟩
abbrev main_cst_8 : Ref sig .tc := ⟨.hbm, 205, rfl⟩
abbrev main_v169 : Ref sig .tc := ⟨.hbm, 206, rfl⟩
abbrev main_cst_9 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_cst_10 : Ref sig .tc := ⟨.hbm, 214, rfl⟩
abbrev main_v176 : Ref sig .tc := ⟨.hbm, 215, rfl⟩
abbrev main_cst_11 : Ref sig .tc := ⟨.hbm, 216, rfl⟩
abbrev main_v177 : Ref sig .tc := ⟨.hbm, 217, rfl⟩
abbrev main_v178 : Ref sig .tc := ⟨.hbm, 218, rfl⟩
abbrev main_cst_12 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_cst_13 : Ref sig .tc := ⟨.hbm, 223, rfl⟩
abbrev main_v182 : Ref sig .tc := ⟨.hbm, 224, rfl⟩
abbrev main_cst_14 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_cst_15 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_cst_16 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_cst_17 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_cst_18 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩
abbrev main_v207 : Ref sig .tc := ⟨.hbm, 254, rfl⟩
abbrev main_cst_19 : Ref sig .tc := ⟨.hbm, 255, rfl⟩
abbrev main_v208 : Ref sig .tc := ⟨.hbm, 256, rfl⟩
abbrev main_cst_20 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩
abbrev main_cst_21 : Ref sig .tc := ⟨.hbm, 261, rfl⟩
abbrev main_v212 : Ref sig .tc := ⟨.hbm, 262, rfl⟩
abbrev main_v213 : Ref sig .tc := ⟨.hbm, 263, rfl⟩
abbrev main_cst_22 : Ref sig .tc := ⟨.hbm, 264, rfl⟩
abbrev main_v214 : Ref sig .tc := ⟨.hbm, 265, rfl⟩
abbrev main_cst_23 : Ref sig .tc := ⟨.hbm, 266, rfl⟩
abbrev main_v215 : Ref sig .tc := ⟨.hbm, 267, rfl⟩
abbrev main_v216 : Ref sig .tc := ⟨.hbm, 268, rfl⟩
abbrev main_v217 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_cst_24 : Ref sig .tc := ⟨.hbm, 273, rfl⟩
abbrev main_v221 : Ref sig .tc := ⟨.hbm, 274, rfl⟩
abbrev main_cst_25 : Ref sig .tc := ⟨.hbm, 275, rfl⟩
abbrev main_v222 : Ref sig .tc := ⟨.hbm, 276, rfl⟩
abbrev main_cst_26 : Ref sig .tc := ⟨.hbm, 277, rfl⟩
abbrev main_v223 : Ref sig .tc := ⟨.hbm, 278, rfl⟩
abbrev main_v224 : Ref sig .tc := ⟨.hbm, 279, rfl⟩
abbrev main_v225 : Ref sig .tc := ⟨.hbm, 280, rfl⟩
abbrev main_v226 : Ref sig .tc := ⟨.hbm, 281, rfl⟩
abbrev main_v227 : Ref sig .tc := ⟨.hbm, 282, rfl⟩
abbrev main_v228 : Ref sig .tc := ⟨.hbm, 283, rfl⟩
abbrev main_v229 : Ref sig .tc := ⟨.hbm, 284, rfl⟩
abbrev main_v230 : Ref sig .tc := ⟨.hbm, 285, rfl⟩
abbrev main_v231 : Ref sig .tc := ⟨.hbm, 286, rfl⟩
abbrev main_v232 : Ref sig .tc := ⟨.hbm, 287, rfl⟩
abbrev main_v233 : Ref sig .tc := ⟨.hbm, 288, rfl⟩
abbrev main_v234 : Ref sig .tc := ⟨.hbm, 289, rfl⟩
abbrev main_v235 : Ref sig .tc := ⟨.hbm, 290, rfl⟩
abbrev main_v236 : Ref sig .tc := ⟨.hbm, 291, rfl⟩
abbrev main_c_27 : Ref sig .tc := ⟨.hbm, 292, rfl⟩
abbrev main_call7_v0 : Ref sig .tc := ⟨.hbm, 293, rfl⟩
abbrev main_v237 : Ref sig .tc := ⟨.hbm, 294, rfl⟩
abbrev main_c_28 : Ref sig .tc := ⟨.hbm, 295, rfl⟩
abbrev main_call8_v0 : Ref sig .tc := ⟨.hbm, 296, rfl⟩
abbrev main_v238 : Ref sig .tc := ⟨.hbm, 297, rfl⟩
abbrev main_v239 : Ref sig .tc := ⟨.hbm, 298, rfl⟩
abbrev main_v240 : Ref sig .tc := ⟨.hbm, 299, rfl⟩
abbrev main_v241 : Ref sig .tc := ⟨.hbm, 300, rfl⟩
abbrev main_v242 : Ref sig .tc := ⟨.hbm, 301, rfl⟩
abbrev main_v243 : Ref sig .tc := ⟨.hbm, 302, rfl⟩
abbrev main_v244 : Ref sig .tc := ⟨.hbm, 303, rfl⟩
abbrev main_v245 : Ref sig .tc := ⟨.hbm, 304, rfl⟩
abbrev main_v246 : Ref sig .tc := ⟨.hbm, 305, rfl⟩
abbrev main_v247 : Ref sig .tc := ⟨.hbm, 306, rfl⟩
abbrev main_v248 : Ref sig .tc := ⟨.hbm, 307, rfl⟩
abbrev main_v249 : Ref sig .tc := ⟨.hbm, 308, rfl⟩
abbrev main_v250 : Ref sig .tc := ⟨.hbm, 309, rfl⟩
abbrev main_v251 : Ref sig .tc := ⟨.hbm, 310, rfl⟩
abbrev main_v252 : Ref sig .tc := ⟨.hbm, 311, rfl⟩
abbrev main_cst_29 : Ref sig .tc := ⟨.hbm, 312, rfl⟩
abbrev main_v253 : Ref sig .tc := ⟨.hbm, 313, rfl⟩
abbrev main_cst_30 : Ref sig .tc := ⟨.hbm, 314, rfl⟩
abbrev main_v254 : Ref sig .tc := ⟨.hbm, 315, rfl⟩
abbrev main_cst_31 : Ref sig .tc := ⟨.hbm, 316, rfl⟩
abbrev main_v255 : Ref sig .tc := ⟨.hbm, 317, rfl⟩
abbrev main_v256 : Ref sig .tc := ⟨.hbm, 318, rfl⟩
abbrev main_v257 : Ref sig .tc := ⟨.hbm, 319, rfl⟩
abbrev main_v258 : Ref sig .tc := ⟨.hbm, 320, rfl⟩
abbrev main_v259 : Ref sig .tc := ⟨.hbm, 321, rfl⟩
abbrev main_v260 : Ref sig .tc := ⟨.hbm, 322, rfl⟩
abbrev main_cst_32 : Ref sig .tc := ⟨.hbm, 323, rfl⟩
abbrev main_v261 : Ref sig .tc := ⟨.hbm, 324, rfl⟩
abbrev main_cst_33 : Ref sig .tc := ⟨.hbm, 325, rfl⟩
abbrev main_v262 : Ref sig .tc := ⟨.hbm, 326, rfl⟩
abbrev main_v263 : Ref sig .tc := ⟨.hbm, 327, rfl⟩
abbrev main_cst_34 : Ref sig .tc := ⟨.hbm, 328, rfl⟩
abbrev main_v264 : Ref sig .tc := ⟨.hbm, 329, rfl⟩
abbrev main_v265 : Ref sig .tc := ⟨.hbm, 330, rfl⟩
abbrev main_v266 : Ref sig .tc := ⟨.hbm, 331, rfl⟩
abbrev main_cst_35 : Ref sig .tc := ⟨.hbm, 332, rfl⟩
abbrev main_v267 : Ref sig .tc := ⟨.hbm, 333, rfl⟩
abbrev main_cst_36 : Ref sig .tc := ⟨.hbm, 334, rfl⟩
abbrev main_v268 : Ref sig .tc := ⟨.hbm, 335, rfl⟩
abbrev main_v269 : Ref sig .tc := ⟨.hbm, 336, rfl⟩
abbrev main_v270 : Ref sig .tc := ⟨.hbm, 337, rfl⟩
abbrev main_v271 : Ref sig .tc := ⟨.hbm, 338, rfl⟩
abbrev main_cst_37 : Ref sig .tc := ⟨.hbm, 339, rfl⟩
abbrev main_v272 : Ref sig .tc := ⟨.hbm, 340, rfl⟩
abbrev main_v273 : Ref sig .tc := ⟨.hbm, 341, rfl⟩
abbrev main_v274 : Ref sig .tc := ⟨.hbm, 342, rfl⟩
abbrev main_cst_38 : Ref sig .tc := ⟨.hbm, 343, rfl⟩
abbrev main_v275 : Ref sig .tc := ⟨.hbm, 344, rfl⟩
abbrev main_v276 : Ref sig .tc := ⟨.hbm, 345, rfl⟩
abbrev main_v277 : Ref sig .tc := ⟨.hbm, 346, rfl⟩
abbrev main_v278 : Ref sig .tc := ⟨.hbm, 347, rfl⟩
abbrev main_v279 : Ref sig .tc := ⟨.hbm, 348, rfl⟩
abbrev main_v280 : Ref sig .tc := ⟨.hbm, 349, rfl⟩
abbrev main_v281 : Ref sig .tc := ⟨.hbm, 350, rfl⟩
abbrev main_v282 : Ref sig .tc := ⟨.hbm, 351, rfl⟩
abbrev main_v283 : Ref sig .tc := ⟨.hbm, 352, rfl⟩
abbrev main_v284 : Ref sig .tc := ⟨.hbm, 353, rfl⟩
abbrev main_v285 : Ref sig .tc := ⟨.hbm, 354, rfl⟩
abbrev main_cst_39 : Ref sig .tc := ⟨.hbm, 355, rfl⟩
abbrev main_v286 : Ref sig .tc := ⟨.hbm, 356, rfl⟩
abbrev main_v287 : Ref sig .tc := ⟨.hbm, 357, rfl⟩
abbrev main_v288 : Ref sig .tc := ⟨.hbm, 358, rfl⟩
abbrev main_cst_40 : Ref sig .tc := ⟨.hbm, 359, rfl⟩
abbrev main_v289 : Ref sig .tc := ⟨.hbm, 360, rfl⟩
abbrev main_v290 : Ref sig .tc := ⟨.hbm, 361, rfl⟩
abbrev main_v291 : Ref sig .tc := ⟨.hbm, 362, rfl⟩
abbrev main_v292 : Ref sig .tc := ⟨.hbm, 363, rfl⟩
abbrev main_cst_41 : Ref sig .tc := ⟨.hbm, 364, rfl⟩
abbrev main_v293 : Ref sig .tc := ⟨.hbm, 365, rfl⟩
abbrev main_cst_42 : Ref sig .tc := ⟨.hbm, 366, rfl⟩
abbrev main_v294 : Ref sig .tc := ⟨.hbm, 367, rfl⟩
abbrev main_v295 : Ref sig .tc := ⟨.hbm, 368, rfl⟩
abbrev main_v296 : Ref sig .tc := ⟨.hbm, 369, rfl⟩
abbrev main_cst_43 : Ref sig .tc := ⟨.hbm, 370, rfl⟩
abbrev main_v297 : Ref sig .tc := ⟨.hbm, 371, rfl⟩
abbrev main_v298 : Ref sig .tc := ⟨.hbm, 372, rfl⟩
abbrev main_cst_44 : Ref sig .tc := ⟨.hbm, 373, rfl⟩
abbrev main_v299 : Ref sig .tc := ⟨.hbm, 374, rfl⟩
abbrev main_cst_45 : Ref sig .tc := ⟨.hbm, 375, rfl⟩
abbrev main_v300 : Ref sig .tc := ⟨.hbm, 376, rfl⟩
abbrev main_v301 : Ref sig .tc := ⟨.hbm, 377, rfl⟩
abbrev main_v302 : Ref sig .tc := ⟨.hbm, 378, rfl⟩
abbrev main_v303 : Ref sig .tc := ⟨.hbm, 379, rfl⟩
abbrev main_v304 : Ref sig .tc := ⟨.hbm, 380, rfl⟩
abbrev main_v305 : Ref sig .tc := ⟨.hbm, 381, rfl⟩
abbrev main_cst_46 : Ref sig .tc := ⟨.hbm, 382, rfl⟩
abbrev main_v306 : Ref sig .tc := ⟨.hbm, 383, rfl⟩
abbrev main_cst_47 : Ref sig .tc := ⟨.hbm, 384, rfl⟩
abbrev main_v307 : Ref sig .tc := ⟨.hbm, 385, rfl⟩
abbrev main_cst_48 : Ref sig .tc := ⟨.hbm, 386, rfl⟩
abbrev main_v308 : Ref sig .tc := ⟨.hbm, 387, rfl⟩
abbrev main_v309 : Ref sig .tc := ⟨.hbm, 388, rfl⟩
abbrev main_v310 : Ref sig .tc := ⟨.hbm, 389, rfl⟩
abbrev main_v311 : Ref sig .tc := ⟨.hbm, 390, rfl⟩
abbrev main_v312 : Ref sig .tc := ⟨.hbm, 391, rfl⟩
abbrev main_c_49 : Ref sig .tc := ⟨.hbm, 392, rfl⟩
abbrev main_call9_v0 : Ref sig .tc := ⟨.hbm, 393, rfl⟩
abbrev main_v313 : Ref sig .tc := ⟨.hbm, 394, rfl⟩
abbrev main_v314 : Ref sig .tc := ⟨.hbm, 395, rfl⟩
abbrev main_v315 : Ref sig .tc := ⟨.hbm, 396, rfl⟩
abbrev main_v316 : Ref sig .tc := ⟨.hbm, 397, rfl⟩
abbrev main_v317 : Ref sig .tc := ⟨.hbm, 398, rfl⟩
abbrev main_v318 : Ref sig .tc := ⟨.hbm, 399, rfl⟩
abbrev main_v319 : Ref sig .tc := ⟨.hbm, 400, rfl⟩
abbrev main_v320 : Ref sig .tc := ⟨.hbm, 401, rfl⟩
abbrev main_v321 : Ref sig .tc := ⟨.hbm, 402, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc4_stg4_0 : Ref sig .tc := ⟨.vmem, 30, rfl⟩
abbrev cc4_stg4_1 : Ref sig .tc := ⟨.vmem, 31, rfl⟩
abbrev cc4_stg5_0 : Ref sig .tc := ⟨.vmem, 32, rfl⟩
abbrev cc4_stg5_1 : Ref sig .tc := ⟨.vmem, 33, rfl⟩
abbrev cc4_stg6_0 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg3_1 : Ref sig .tc := ⟨.vmem, 40, rfl⟩
abbrev cc6_stg0_0 : Ref sig .tc := ⟨.vmem, 41, rfl⟩
abbrev cc6_stg0_1 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg3_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg2_0 : Ref sig .tc := ⟨.vmem, 50, rfl⟩
abbrev cc7_stg3_0 : Ref sig .tc := ⟨.vmem, 51, rfl⟩
abbrev cc7_stg3_1 : Ref sig .tc := ⟨.vmem, 52, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc4_sem4_0 : DmaSem sig := 30
abbrev cc4_sem4_1 : DmaSem sig := 31
abbrev cc4_sem5_0 : DmaSem sig := 32
abbrev cc4_sem5_1 : DmaSem sig := 33
abbrev cc4_sem6_0 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem3_0 : DmaSem sig := 39
abbrev cc5_sem3_1 : DmaSem sig := 40
abbrev cc6_sem0_0 : DmaSem sig := 41
abbrev cc6_sem0_1 : DmaSem sig := 42
abbrev cc6_sem1_0 : DmaSem sig := 43
abbrev cc6_sem2_0 : DmaSem sig := 44
abbrev cc6_sem3_0 : DmaSem sig := 45
abbrev cc6_sem3_1 : DmaSem sig := 46
abbrev cc7_sem0_0 : DmaSem sig := 47
abbrev cc7_sem0_1 : DmaSem sig := 48
abbrev cc7_sem1_0 : DmaSem sig := 49
abbrev cc7_sem2_0 : DmaSem sig := 50
abbrev cc7_sem3_0 : DmaSem sig := 51
abbrev cc7_sem3_1 : DmaSem sig := 52

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1792x48 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S48x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1792x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![7], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S896x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S896x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![7], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S896x1152 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1152x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S896x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![7], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S896x2304 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2304x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S896x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![7], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_2 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S896x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S4x1024x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S3x4x1024x256 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S896x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S256x896 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S4x896 .i32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S4x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![7], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S896x2304 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S2304x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S896x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![7], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S896x1152 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1152x256 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S896x256 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![14], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1792x576 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S576x128 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S1792x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]
-- ==== ReferenceIdeal.lean ====
abbrev S2x3x224x224 : Shape := ⟨4, ![2, 3, 224, 224]⟩
abbrev S64x3x4x4 : Shape := ⟨4, ![64, 3, 4, 4]⟩
abbrev S64 : Shape := ⟨1, ![64]⟩
abbrev S128x64x4x4 : Shape := ⟨4, ![128, 64, 4, 4]⟩
abbrev S128 : Shape := ⟨1, ![128]⟩
abbrev S256x128x3x3 : Shape := ⟨4, ![256, 128, 3, 3]⟩
abbrev S256 : Shape := ⟨1, ![256]⟩
abbrev S256x256x3x3 : Shape := ⟨4, ![256, 256, 3, 3]⟩
abbrev S4x1024x256 : Shape := ⟨3, ![4, 1024, 256]⟩
abbrev S128x256x3x3 : Shape := ⟨4, ![128, 256, 3, 3]⟩
abbrev S3 : Shape := ⟨1, ![3]⟩
abbrev S4x4x64x3 : Shape := ⟨4, ![4, 4, 64, 3]⟩
abbrev S16x64x3 : Shape := ⟨3, ![16, 64, 3]⟩
abbrev S1x64x3 : Shape := ⟨3, ![1, 64, 3]⟩
abbrev S64x3 : Shape := ⟨2, ![64, 3]⟩
abbrev S4x4x128x64 : Shape := ⟨4, ![4, 4, 128, 64]⟩
abbrev S16x128x64 : Shape := ⟨3, ![16, 128, 64]⟩
abbrev S1x128x64 : Shape := ⟨3, ![1, 128, 64]⟩
abbrev S128x64 : Shape := ⟨2, ![128, 64]⟩
abbrev S3x3x256x128 : Shape := ⟨4, ![3, 3, 256, 128]⟩
abbrev S9x256x128 : Shape := ⟨3, ![9, 256, 128]⟩
abbrev S1x256x128 : Shape := ⟨3, ![1, 256, 128]⟩
abbrev S256x128 : Shape := ⟨2, ![256, 128]⟩
abbrev S3x3x256x256 : Shape := ⟨4, ![3, 3, 256, 256]⟩
abbrev S9x256x256 : Shape := ⟨3, ![9, 256, 256]⟩
abbrev S1x256x256 : Shape := ⟨3, ![1, 256, 256]⟩
abbrev S256x256 : Shape := ⟨2, ![256, 256]⟩
abbrev S3x3x128x256 : Shape := ⟨4, ![3, 3, 128, 256]⟩
abbrev S9x128x256 : Shape := ⟨3, ![9, 128, 256]⟩
abbrev S1x128x256 : Shape := ⟨3, ![1, 128, 256]⟩
abbrev S128x256 : Shape := ⟨2, ![128, 256]⟩
abbrev S64x128x4x4 : Shape := ⟨4, ![64, 128, 4, 4]⟩
abbrev S4x4x64x128 : Shape := ⟨4, ![4, 4, 64, 128]⟩
abbrev S16x64x128 : Shape := ⟨3, ![16, 64, 128]⟩
abbrev S1x64x128 : Shape := ⟨3, ![1, 64, 128]⟩
abbrev S64x128 : Shape := ⟨2, ![64, 128]⟩
abbrev S3x64x4x4 : Shape := ⟨4, ![3, 64, 4, 4]⟩
abbrev S4x4x3x64 : Shape := ⟨4, ![4, 4, 3, 64]⟩
abbrev S16x3x64 : Shape := ⟨3, ![16, 3, 64]⟩
abbrev S1x3x64 : Shape := ⟨3, ![1, 3, 64]⟩
abbrev S3x64 : Shape := ⟨2, ![3, 64]⟩
abbrev S_ : Shape := ⟨0, ![]⟩
abbrev S2x3x226x226 : Shape := ⟨4, ![2, 3, 226, 226]⟩
abbrev S2x3x112x112 : Shape := ⟨4, ![2, 3, 112, 112]⟩
abbrev S2x3x12544 : Shape := ⟨3, ![2, 3, 12544]⟩
abbrev S64x2x12544 : Shape := ⟨3, ![64, 2, 12544]⟩
abbrev S64x2x112x112 : Shape := ⟨4, ![64, 2, 112, 112]⟩
abbrev S2x64x112x112 : Shape := ⟨4, ![2, 64, 112, 112]⟩
abbrev S1x64x1x1 : Shape := ⟨4, ![1, 64, 1, 1]⟩
abbrev S2x64x114x114 : Shape := ⟨4, ![2, 64, 114, 114]⟩
abbrev S2x64x56x56 : Shape := ⟨4, ![2, 64, 56, 56]⟩
abbrev S2x64x3136 : Shape := ⟨3, ![2, 64, 3136]⟩
abbrev S128x2x3136 : Shape := ⟨3, ![128, 2, 3136]⟩
abbrev S128x2x56x56 : Shape := ⟨4, ![128, 2, 56, 56]⟩
abbrev S2x128x56x56 : Shape := ⟨4, ![2, 128, 56, 56]⟩
abbrev S1x128x1x1 : Shape := ⟨4, ![1, 128, 1, 1]⟩
abbrev S2x128x58x58 : Shape := ⟨4, ![2, 128, 58, 58]⟩
abbrev S2x128x3136 : Shape := ⟨3, ![2, 128, 3136]⟩
abbrev S256x2x3136 : Shape := ⟨3, ![256, 2, 3136]⟩
abbrev S256x2x56x56 : Shape := ⟨4, ![256, 2, 56, 56]⟩
abbrev S2x256x56x56 : Shape := ⟨4, ![2, 256, 56, 56]⟩
abbrev S1x256x1x1 : Shape := ⟨4, ![1, 256, 1, 1]⟩
abbrev S2x256x58x58 : Shape := ⟨4, ![2, 256, 58, 58]⟩
abbrev S2x256x3136 : Shape := ⟨3, ![2, 256, 3136]⟩
abbrev S2x56x56x256 : Shape := ⟨4, ![2, 56, 56, 256]⟩
abbrev S2x3136x256 : Shape := ⟨3, ![2, 3136, 256]⟩
abbrev S1x1024x256 : Shape := ⟨3, ![1, 1024, 256]⟩
abbrev S1024x256 : Shape := ⟨2, ![1024, 256]⟩
abbrev S2x3136 : Shape := ⟨2, ![2, 3136]⟩
abbrev S2x3136x1 : Shape := ⟨3, ![2, 3136, 1]⟩
abbrev S256x1024 : Shape := ⟨2, ![256, 1024]⟩
abbrev S2x3136x1024 : Shape := ⟨3, ![2, 3136, 1024]⟩
abbrev S1024 : Shape := ⟨1, ![1024]⟩
abbrev S1x1x1024 : Shape := ⟨3, ![1, 1, 1024]⟩
abbrev S2x1x3136 : Shape := ⟨3, ![2, 1, 3136]⟩
abbrev S2x4x3136 : Shape := ⟨3, ![2, 4, 3136]⟩
abbrev S2x4x56x56 : Shape := ⟨4, ![2, 4, 56, 56]⟩
abbrev S1 : Shape := ⟨1, ![1]⟩
abbrev S4 : Shape := ⟨1, ![4]⟩
abbrev S2x128x115x115 : Shape := ⟨4, ![2, 128, 115, 115]⟩
abbrev S2x128x112x112 : Shape := ⟨4, ![2, 128, 112, 112]⟩
abbrev S2x128x12544 : Shape := ⟨3, ![2, 128, 12544]⟩
abbrev S2x64x227x227 : Shape := ⟨4, ![2, 64, 227, 227]⟩
abbrev S2x64x224x224 : Shape := ⟨4, ![2, 64, 224, 224]⟩
abbrev S2x64x50176 : Shape := ⟨3, ![2, 64, 50176]⟩
abbrev S3x2x50176 : Shape := ⟨3, ![3, 2, 50176]⟩
abbrev S3x2x224x224 : Shape := ⟨4, ![3, 2, 224, 224]⟩
abbrev S1x3x1x1 : Shape := ⟨4, ![1, 3, 1, 1]⟩

abbrev nBuf : Space → Nat
  | .hbm => 827
  | .vmem => 0
  | .smem => 0
  | _ => 0

abbrev hbmTy0_0 (i : Nat) : BufTy := match i % 128 with
  | 0 => ⟨S2x3x224x224, .f32⟩
  | 1 => ⟨S64x3x4x4, .f32⟩
  | 2 => ⟨S64, .f32⟩
  | 3 => ⟨S128x64x4x4, .f32⟩
  | 4 => ⟨S128, .f32⟩
  | 5 => ⟨S256x128x3x3, .f32⟩
  | 6 => ⟨S256, .f32⟩
  | 7 => ⟨S256x256x3x3, .f32⟩
  | 8 => ⟨S256, .f32⟩
  | 9 => ⟨S4x1024x256, .f32⟩
  | 10 => ⟨S128x256x3x3, .f32⟩
  | 11 => ⟨S128, .f32⟩
  | 12 => ⟨S128x64x4x4, .f32⟩
  | 13 => ⟨S64, .f32⟩
  | 14 => ⟨S64x3x4x4, .f32⟩
  | 15 => ⟨S3, .f32⟩
  | 16 => ⟨S4x4x64x3, .f32⟩
  | 17 => ⟨S16x64x3, .f32⟩
  | 18 => ⟨S1x64x3, .f32⟩
  | 19 => ⟨S64x3, .f32⟩
  | 20 => ⟨S1x64x3, .f32⟩
  | 21 => ⟨S64x3, .f32⟩
  | 22 => ⟨S1x64x3, .f32⟩
  | 23 => ⟨S64x3, .f32⟩
  | 24 => ⟨S1x64x3, .f32⟩
  | 25 => ⟨S64x3, .f32⟩
  | 26 => ⟨S1x64x3, .f32⟩
  | 27 => ⟨S64x3, .f32⟩
  | 28 => ⟨S1x64x3, .f32⟩
  | 29 => ⟨S64x3, .f32⟩
  | 30 => ⟨S1x64x3, .f32⟩
  | 31 => ⟨S64x3, .f32⟩
  | 32 => ⟨S1x64x3, .f32⟩
  | 33 => ⟨S64x3, .f32⟩
  | 34 => ⟨S1x64x3, .f32⟩
  | 35 => ⟨S64x3, .f32⟩
  | 36 => ⟨S1x64x3, .f32⟩
  | 37 => ⟨S64x3, .f32⟩
  | 38 => ⟨S1x64x3, .f32⟩
  | 39 => ⟨S64x3, .f32⟩
  | 40 => ⟨S1x64x3, .f32⟩
  | 41 => ⟨S64x3, .f32⟩
  | 42 => ⟨S1x64x3, .f32⟩
  | 43 => ⟨S64x3, .f32⟩
  | 44 => ⟨S1x64x3, .f32⟩
  | 45 => ⟨S64x3, .f32⟩
  | 46 => ⟨S1x64x3, .f32⟩
  | 47 => ⟨S64x3, .f32⟩
  | 48 => ⟨S1x64x3, .f32⟩
  | 49 => ⟨S64x3, .f32⟩
  | 50 => ⟨S4x4x128x64, .f32⟩
  | 51 => ⟨S16x128x64, .f32⟩
  | 52 => ⟨S1x128x64, .f32⟩
  | 53 => ⟨S128x64, .f32⟩
  | 54 => ⟨S1x128x64, .f32⟩
  | 55 => ⟨S128x64, .f32⟩
  | 56 => ⟨S1x128x64, .f32⟩
  | 57 => ⟨S128x64, .f32⟩
  | 58 => ⟨S1x128x64, .f32⟩
  | 59 => ⟨S128x64, .f32⟩
  | 60 => ⟨S1x128x64, .f32⟩
  | 61 => ⟨S128x64, .f32⟩
  | 62 => ⟨S1x128x64, .f32⟩
  | 63 => ⟨S128x64, .f32⟩
  | 64 => ⟨S1x128x64, .f32⟩
  | 65 => ⟨S128x64, .f32⟩
  | 66 => ⟨S1x128x64, .f32⟩
  | 67 => ⟨S128x64, .f32⟩
  | 68 => ⟨S1x128x64, .f32⟩
  | 69 => ⟨S128x64, .f32⟩
  | 70 => ⟨S1x128x64, .f32⟩
  | 71 => ⟨S128x64, .f32⟩
  | 72 => ⟨S1x128x64, .f32⟩
  | 73 => ⟨S128x64, .f32⟩
  | 74 => ⟨S1x128x64, .f32⟩
  | 75 => ⟨S128x64, .f32⟩
  | 76 => ⟨S1x128x64, .f32⟩
  | 77 => ⟨S128x64, .f32⟩
  | 78 => ⟨S1x128x64, .f32⟩
  | 79 => ⟨S128x64, .f32⟩
  | 80 => ⟨S1x128x64, .f32⟩
  | 81 => ⟨S128x64, .f32⟩
  | 82 => ⟨S1x128x64, .f32⟩
  | 83 => ⟨S128x64, .f32⟩
  | 84 => ⟨S3x3x256x128, .f32⟩
  | 85 => ⟨S9x256x128, .f32⟩
  | 86 => ⟨S1x256x128, .f32⟩
  | 87 => ⟨S256x128, .f32⟩
  | 88 => ⟨S1x256x128, .f32⟩
  | 89 => ⟨S256x128, .f32⟩
  | 90 => ⟨S1x256x128, .f32⟩
  | 91 => ⟨S256x128, .f32⟩
  | 92 => ⟨S1x256x128, .f32⟩
  | 93 => ⟨S256x128, .f32⟩
  | 94 => ⟨S1x256x128, .f32⟩
  | 95 => ⟨S256x128, .f32⟩
  | 96 => ⟨S1x256x128, .f32⟩
  | 97 => ⟨S256x128, .f32⟩
  | 98 => ⟨S1x256x128, .f32⟩
  | 99 => ⟨S256x128, .f32⟩
  | 100 => ⟨S1x256x128, .f32⟩
  | 101 => ⟨S256x128, .f32⟩
  | 102 => ⟨S1x256x128, .f32⟩
  | 103 => ⟨S256x128, .f32⟩
  | 104 => ⟨S3x3x256x256, .f32⟩
  | 105 => ⟨S9x256x256, .f32⟩
  | 106 => ⟨S1x256x256, .f32⟩
  | 107 => ⟨S256x256, .f32⟩
  | 108 => ⟨S1x256x256, .f32⟩
  | 109 => ⟨S256x256, .f32⟩
  | 110 => ⟨S1x256x256, .f32⟩
  | 111 => ⟨S256x256, .f32⟩
  | 112 => ⟨S1x256x256, .f32⟩
  | 113 => ⟨S256x256, .f32⟩
  | 114 => ⟨S1x256x256, .f32⟩
  | 115 => ⟨S256x256, .f32⟩
  | 116 => ⟨S1x256x256, .f32⟩
  | 117 => ⟨S256x256, .f32⟩
  | 118 => ⟨S1x256x256, .f32⟩
  | 119 => ⟨S256x256, .f32⟩
  | 120 => ⟨S1x256x256, .f32⟩
  | 121 => ⟨S256x256, .f32⟩
  | 122 => ⟨S1x256x256, .f32⟩
  | 123 => ⟨S256x256, .f32⟩
  | 124 => ⟨S3x3x128x256, .f32⟩
  | 125 => ⟨S9x128x256, .f32⟩
  | 126 => ⟨S1x128x256, .f32⟩
  | 127 => ⟨S128x256, .f32⟩
  | _ => ⟨S2x3x224x224, .f32⟩

abbrev hbmTy0_1 (i : Nat) : BufTy := match i % 128 with
  | 0 => ⟨S1x128x256, .f32⟩
  | 1 => ⟨S128x256, .f32⟩
  | 2 => ⟨S1x128x256, .f32⟩
  | 3 => ⟨S128x256, .f32⟩
  | 4 => ⟨S1x128x256, .f32⟩
  | 5 => ⟨S128x256, .f32⟩
  | 6 => ⟨S1x128x256, .f32⟩
  | 7 => ⟨S128x256, .f32⟩
  | 8 => ⟨S1x128x256, .f32⟩
  | 9 => ⟨S128x256, .f32⟩
  | 10 => ⟨S1x128x256, .f32⟩
  | 11 => ⟨S128x256, .f32⟩
  | 12 => ⟨S1x128x256, .f32⟩
  | 13 => ⟨S128x256, .f32⟩
  | 14 => ⟨S1x128x256, .f32⟩
  | 15 => ⟨S128x256, .f32⟩
  | 16 => ⟨S128x64x4x4, .f32⟩
  | 17 => ⟨S64x128x4x4, .f32⟩
  | 18 => ⟨S4x4x64x128, .f32⟩
  | 19 => ⟨S16x64x128, .f32⟩
  | 20 => ⟨S1x64x128, .f32⟩
  | 21 => ⟨S64x128, .f32⟩
  | 22 => ⟨S1x64x128, .f32⟩
  | 23 => ⟨S64x128, .f32⟩
  | 24 => ⟨S1x64x128, .f32⟩
  | 25 => ⟨S64x128, .f32⟩
  | 26 => ⟨S1x64x128, .f32⟩
  | 27 => ⟨S64x128, .f32⟩
  | 28 => ⟨S1x64x128, .f32⟩
  | 29 => ⟨S64x128, .f32⟩
  | 30 => ⟨S1x64x128, .f32⟩
  | 31 => ⟨S64x128, .f32⟩
  | 32 => ⟨S1x64x128, .f32⟩
  | 33 => ⟨S64x128, .f32⟩
  | 34 => ⟨S1x64x128, .f32⟩
  | 35 => ⟨S64x128, .f32⟩
  | 36 => ⟨S1x64x128, .f32⟩
  | 37 => ⟨S64x128, .f32⟩
  | 38 => ⟨S1x64x128, .f32⟩
  | 39 => ⟨S64x128, .f32⟩
  | 40 => ⟨S1x64x128, .f32⟩
  | 41 => ⟨S64x128, .f32⟩
  | 42 => ⟨S1x64x128, .f32⟩
  | 43 => ⟨S64x128, .f32⟩
  | 44 => ⟨S1x64x128, .f32⟩
  | 45 => ⟨S64x128, .f32⟩
  | 46 => ⟨S1x64x128, .f32⟩
  | 47 => ⟨S64x128, .f32⟩
  | 48 => ⟨S1x64x128, .f32⟩
  | 49 => ⟨S64x128, .f32⟩
  | 50 => ⟨S1x64x128, .f32⟩
  | 51 => ⟨S64x128, .f32⟩
  | 52 => ⟨S64x3x4x4, .f32⟩
  | 53 => ⟨S3x64x4x4, .f32⟩
  | 54 => ⟨S4x4x3x64, .f32⟩
  | 55 => ⟨S16x3x64, .f32⟩
  | 56 => ⟨S1x3x64, .f32⟩
  | 57 => ⟨S3x64, .f32⟩
  | 58 => ⟨S1x3x64, .f32⟩
  | 59 => ⟨S3x64, .f32⟩
  | 60 => ⟨S1x3x64, .f32⟩
  | 61 => ⟨S3x64, .f32⟩
  | 62 => ⟨S1x3x64, .f32⟩
  | 63 => ⟨S3x64, .f32⟩
  | 64 => ⟨S1x3x64, .f32⟩
  | 65 => ⟨S3x64, .f32⟩
  | 66 => ⟨S1x3x64, .f32⟩
  | 67 => ⟨S3x64, .f32⟩
  | 68 => ⟨S1x3x64, .f32⟩
  | 69 => ⟨S3x64, .f32⟩
  | 70 => ⟨S1x3x64, .f32⟩
  | 71 => ⟨S3x64, .f32⟩
  | 72 => ⟨S1x3x64, .f32⟩
  | 73 => ⟨S3x64, .f32⟩
  | 74 => ⟨S1x3x64, .f32⟩
  | 75 => ⟨S3x64, .f32⟩
  | 76 => ⟨S1x3x64, .f32⟩
  | 77 => ⟨S3x64, .f32⟩
  | 78 => ⟨S1x3x64, .f32⟩
  | 79 => ⟨S3x64, .f32⟩
  | 80 => ⟨S1x3x64, .f32⟩
  | 81 => ⟨S3x64, .f32⟩
  | 82 => ⟨S1x3x64, .f32⟩
  | 83 => ⟨S3x64, .f32⟩
  | 84 => ⟨S1x3x64, .f32⟩
  | 85 => ⟨S3x64, .f32⟩
  | 86 => ⟨S1x3x64, .f32⟩
  | 87 => ⟨S3x64, .f32⟩
  | 88 => ⟨S_, .f32⟩
  | 89 => ⟨S2x3x226x226, .f32⟩
  | 90 => ⟨S2x3x112x112, .f32⟩
  | 91 => ⟨S2x3x12544, .f32⟩
  | 92 => ⟨S64x2x12544, .f32⟩
  | 93 => ⟨S2x3x112x112, .f32⟩
  | 94 => ⟨S2x3x12544, .f32⟩
  | 95 => ⟨S64x2x12544, .f32⟩
  | 96 => ⟨S64x2x12544, .f32⟩
  | 97 => ⟨S2x3x112x112, .f32⟩
  | 98 => ⟨S2x3x12544, .f32⟩
  | 99 => ⟨S64x2x12544, .f32⟩
  | 100 => ⟨S64x2x12544, .f32⟩
  | 101 => ⟨S2x3x112x112, .f32⟩
  | 102 => ⟨S2x3x12544, .f32⟩
  | 103 => ⟨S64x2x12544, .f32⟩
  | 104 => ⟨S64x2x12544, .f32⟩
  | 105 => ⟨S2x3x112x112, .f32⟩
  | 106 => ⟨S2x3x12544, .f32⟩
  | 107 => ⟨S64x2x12544, .f32⟩
  | 108 => ⟨S64x2x12544, .f32⟩
  | 109 => ⟨S2x3x112x112, .f32⟩
  | 110 => ⟨S2x3x12544, .f32⟩
  | 111 => ⟨S64x2x12544, .f32⟩
  | 112 => ⟨S64x2x12544, .f32⟩
  | 113 => ⟨S2x3x112x112, .f32⟩
  | 114 => ⟨S2x3x12544, .f32⟩
  | 115 => ⟨S64x2x12544, .f32⟩
  | 116 => ⟨S64x2x12544, .f32⟩
  | 117 => ⟨S2x3x112x112, .f32⟩
  | 118 => ⟨S2x3x12544, .f32⟩
  | 119 => ⟨S64x2x12544, .f32⟩
  | 120 => ⟨S64x2x12544, .f32⟩
  | 121 => ⟨S2x3x112x112, .f32⟩
  | 122 => ⟨S2x3x12544, .f32⟩
  | 123 => ⟨S64x2x12544, .f32⟩
  | 124 => ⟨S64x2x12544, .f32⟩
  | 125 => ⟨S2x3x112x112, .f32⟩
  | 126 => ⟨S2x3x12544, .f32⟩
  | 127 => ⟨S64x2x12544, .f32⟩
  | _ => ⟨S2x3x224x224, .f32⟩

abbrev hbmTy0_2 (i : Nat) : BufTy := match i % 128 with
  | 0 => ⟨S64x2x12544, .f32⟩
  | 1 => ⟨S2x3x112x112, .f32⟩
  | 2 => ⟨S2x3x12544, .f32⟩
  | 3 => ⟨S64x2x12544, .f32⟩
  | 4 => ⟨S64x2x12544, .f32⟩
  | 5 => ⟨S2x3x112x112, .f32⟩
  | 6 => ⟨S2x3x12544, .f32⟩
  | 7 => ⟨S64x2x12544, .f32⟩
  | 8 => ⟨S64x2x12544, .f32⟩
  | 9 => ⟨S2x3x112x112, .f32⟩
  | 10 => ⟨S2x3x12544, .f32⟩
  | 11 => ⟨S64x2x12544, .f32⟩
  | 12 => ⟨S64x2x12544, .f32⟩
  | 13 => ⟨S2x3x112x112, .f32⟩
  | 14 => ⟨S2x3x12544, .f32⟩
  | 15 => ⟨S64x2x12544, .f32⟩
  | 16 => ⟨S64x2x12544, .f32⟩
  | 17 => ⟨S2x3x112x112, .f32⟩
  | 18 => ⟨S2x3x12544, .f32⟩
  | 19 => ⟨S64x2x12544, .f32⟩
  | 20 => ⟨S64x2x12544, .f32⟩
  | 21 => ⟨S2x3x112x112, .f32⟩
  | 22 => ⟨S2x3x12544, .f32⟩
  | 23 => ⟨S64x2x12544, .f32⟩
  | 24 => ⟨S64x2x12544, .f32⟩
  | 25 => ⟨S64x2x112x112, .f32⟩
  | 26 => ⟨S2x64x112x112, .f32⟩
  | 27 => ⟨S1x64x1x1, .f32⟩
  | 28 => ⟨S2x64x112x112, .f32⟩
  | 29 => ⟨S2x64x112x112, .f32⟩
  | 30 => ⟨S_, .f32⟩
  | 31 => ⟨S2x64x112x112, .f32⟩
  | 32 => ⟨S2x64x112x112, .f32⟩
  | 33 => ⟨S_, .f32⟩
  | 34 => ⟨S2x64x114x114, .f32⟩
  | 35 => ⟨S2x64x56x56, .f32⟩
  | 36 => ⟨S2x64x3136, .f32⟩
  | 37 => ⟨S128x2x3136, .f32⟩
  | 38 => ⟨S2x64x56x56, .f32⟩
  | 39 => ⟨S2x64x3136, .f32⟩
  | 40 => ⟨S128x2x3136, .f32⟩
  | 41 => ⟨S128x2x3136, .f32⟩
  | 42 => ⟨S2x64x56x56, .f32⟩
  | 43 => ⟨S2x64x3136, .f32⟩
  | 44 => ⟨S128x2x3136, .f32⟩
  | 45 => ⟨S128x2x3136, .f32⟩
  | 46 => ⟨S2x64x56x56, .f32⟩
  | 47 => ⟨S2x64x3136, .f32⟩
  | 48 => ⟨S128x2x3136, .f32⟩
  | 49 => ⟨S128x2x3136, .f32⟩
  | 50 => ⟨S2x64x56x56, .f32⟩
  | 51 => ⟨S2x64x3136, .f32⟩
  | 52 => ⟨S128x2x3136, .f32⟩
  | 53 => ⟨S128x2x3136, .f32⟩
  | 54 => ⟨S2x64x56x56, .f32⟩
  | 55 => ⟨S2x64x3136, .f32⟩
  | 56 => ⟨S128x2x3136, .f32⟩
  | 57 => ⟨S128x2x3136, .f32⟩
  | 58 => ⟨S2x64x56x56, .f32⟩
  | 59 => ⟨S2x64x3136, .f32⟩
  | 60 => ⟨S128x2x3136, .f32⟩
  | 61 => ⟨S128x2x3136, .f32⟩
  | 62 => ⟨S2x64x56x56, .f32⟩
  | 63 => ⟨S2x64x3136, .f32⟩
  | 64 => ⟨S128x2x3136, .f32⟩
  | 65 => ⟨S128x2x3136, .f32⟩
  | 66 => ⟨S2x64x56x56, .f32⟩
  | 67 => ⟨S2x64x3136, .f32⟩
  | 68 => ⟨S128x2x3136, .f32⟩
  | 69 => ⟨S128x2x3136, .f32⟩
  | 70 => ⟨S2x64x56x56, .f32⟩
  | 71 => ⟨S2x64x3136, .f32⟩
  | 72 => ⟨S128x2x3136, .f32⟩
  | 73 => ⟨S128x2x3136, .f32⟩
  | 74 => ⟨S2x64x56x56, .f32⟩
  | 75 => ⟨S2x64x3136, .f32⟩
  | 76 => ⟨S128x2x3136, .f32⟩
  | 77 => ⟨S128x2x3136, .f32⟩
  | 78 => ⟨S2x64x56x56, .f32⟩
  | 79 => ⟨S2x64x3136, .f32⟩
  | 80 => ⟨S128x2x3136, .f32⟩
  | 81 => ⟨S128x2x3136, .f32⟩
  | 82 => ⟨S2x64x56x56, .f32⟩
  | 83 => ⟨S2x64x3136, .f32⟩
  | 84 => ⟨S128x2x3136, .f32⟩
  | 85 => ⟨S128x2x3136, .f32⟩
  | 86 => ⟨S2x64x56x56, .f32⟩
  | 87 => ⟨S2x64x3136, .f32⟩
  | 88 => ⟨S128x2x3136, .f32⟩
  | 89 => ⟨S128x2x3136, .f32⟩
  | 90 => ⟨S2x64x56x56, .f32⟩
  | 91 => ⟨S2x64x3136, .f32⟩
  | 92 => ⟨S128x2x3136, .f32⟩
  | 93 => ⟨S128x2x3136, .f32⟩
  | 94 => ⟨S2x64x56x56, .f32⟩
  | 95 => ⟨S2x64x3136, .f32⟩
  | 96 => ⟨S128x2x3136, .f32⟩
  | 97 => ⟨S128x2x3136, .f32⟩
  | 98 => ⟨S128x2x56x56, .f32⟩
  | 99 => ⟨S2x128x56x56, .f32⟩
  | 100 => ⟨S1x128x1x1, .f32⟩
  | 101 => ⟨S2x128x56x56, .f32⟩
  | 102 => ⟨S2x128x56x56, .f32⟩
  | 103 => ⟨S_, .f32⟩
  | 104 => ⟨S2x128x56x56, .f32⟩
  | 105 => ⟨S2x128x56x56, .f32⟩
  | 106 => ⟨S_, .f32⟩
  | 107 => ⟨S2x128x58x58, .f32⟩
  | 108 => ⟨S2x128x56x56, .f32⟩
  | 109 => ⟨S2x128x3136, .f32⟩
  | 110 => ⟨S256x2x3136, .f32⟩
  | 111 => ⟨S2x128x56x56, .f32⟩
  | 112 => ⟨S2x128x3136, .f32⟩
  | 113 => ⟨S256x2x3136, .f32⟩
  | 114 => ⟨S256x2x3136, .f32⟩
  | 115 => ⟨S2x128x56x56, .f32⟩
  | 116 => ⟨S2x128x3136, .f32⟩
  | 117 => ⟨S256x2x3136, .f32⟩
  | 118 => ⟨S256x2x3136, .f32⟩
  | 119 => ⟨S2x128x56x56, .f32⟩
  | 120 => ⟨S2x128x3136, .f32⟩
  | 121 => ⟨S256x2x3136, .f32⟩
  | 122 => ⟨S256x2x3136, .f32⟩
  | 123 => ⟨S2x128x56x56, .f32⟩
  | 124 => ⟨S2x128x3136, .f32⟩
  | 125 => ⟨S256x2x3136, .f32⟩
  | 126 => ⟨S256x2x3136, .f32⟩
  | 127 => ⟨S2x128x56x56, .f32⟩
  | _ => ⟨S2x3x224x224, .f32⟩

abbrev hbmTy0_3 (i : Nat) : BufTy := match i % 128 with
  | 0 => ⟨S2x128x3136, .f32⟩
  | 1 => ⟨S256x2x3136, .f32⟩
  | 2 => ⟨S256x2x3136, .f32⟩
  | 3 => ⟨S2x128x56x56, .f32⟩
  | 4 => ⟨S2x128x3136, .f32⟩
  | 5 => ⟨S256x2x3136, .f32⟩
  | 6 => ⟨S256x2x3136, .f32⟩
  | 7 => ⟨S2x128x56x56, .f32⟩
  | 8 => ⟨S2x128x3136, .f32⟩
  | 9 => ⟨S256x2x3136, .f32⟩
  | 10 => ⟨S256x2x3136, .f32⟩
  | 11 => ⟨S2x128x56x56, .f32⟩
  | 12 => ⟨S2x128x3136, .f32⟩
  | 13 => ⟨S256x2x3136, .f32⟩
  | 14 => ⟨S256x2x3136, .f32⟩
  | 15 => ⟨S256x2x56x56, .f32⟩
  | 16 => ⟨S2x256x56x56, .f32⟩
  | 17 => ⟨S1x256x1x1, .f32⟩
  | 18 => ⟨S2x256x56x56, .f32⟩
  | 19 => ⟨S2x256x56x56, .f32⟩
  | 20 => ⟨S_, .f32⟩
  | 21 => ⟨S2x256x56x56, .f32⟩
  | 22 => ⟨S2x256x56x56, .f32⟩
  | 23 => ⟨S_, .f32⟩
  | 24 => ⟨S2x256x58x58, .f32⟩
  | 25 => ⟨S2x256x56x56, .f32⟩
  | 26 => ⟨S2x256x3136, .f32⟩
  | 27 => ⟨S256x2x3136, .f32⟩
  | 28 => ⟨S2x256x56x56, .f32⟩
  | 29 => ⟨S2x256x3136, .f32⟩
  | 30 => ⟨S256x2x3136, .f32⟩
  | 31 => ⟨S256x2x3136, .f32⟩
  | 32 => ⟨S2x256x56x56, .f32⟩
  | 33 => ⟨S2x256x3136, .f32⟩
  | 34 => ⟨S256x2x3136, .f32⟩
  | 35 => ⟨S256x2x3136, .f32⟩
  | 36 => ⟨S2x256x56x56, .f32⟩
  | 37 => ⟨S2x256x3136, .f32⟩
  | 38 => ⟨S256x2x3136, .f32⟩
  | 39 => ⟨S256x2x3136, .f32⟩
  | 40 => ⟨S2x256x56x56, .f32⟩
  | 41 => ⟨S2x256x3136, .f32⟩
  | 42 => ⟨S256x2x3136, .f32⟩
  | 43 => ⟨S256x2x3136, .f32⟩
  | 44 => ⟨S2x256x56x56, .f32⟩
  | 45 => ⟨S2x256x3136, .f32⟩
  | 46 => ⟨S256x2x3136, .f32⟩
  | 47 => ⟨S256x2x3136, .f32⟩
  | 48 => ⟨S2x256x56x56, .f32⟩
  | 49 => ⟨S2x256x3136, .f32⟩
  | 50 => ⟨S256x2x3136, .f32⟩
  | 51 => ⟨S256x2x3136, .f32⟩
  | 52 => ⟨S2x256x56x56, .f32⟩
  | 53 => ⟨S2x256x3136, .f32⟩
  | 54 => ⟨S256x2x3136, .f32⟩
  | 55 => ⟨S256x2x3136, .f32⟩
  | 56 => ⟨S2x256x56x56, .f32⟩
  | 57 => ⟨S2x256x3136, .f32⟩
  | 58 => ⟨S256x2x3136, .f32⟩
  | 59 => ⟨S256x2x3136, .f32⟩
  | 60 => ⟨S256x2x56x56, .f32⟩
  | 61 => ⟨S2x256x56x56, .f32⟩
  | 62 => ⟨S1x256x1x1, .f32⟩
  | 63 => ⟨S2x256x56x56, .f32⟩
  | 64 => ⟨S2x256x56x56, .f32⟩
  | 65 => ⟨S2x56x56x256, .f32⟩
  | 66 => ⟨S2x3136x256, .f32⟩
  | 67 => ⟨S_, .f32⟩
  | 68 => ⟨S2x3136x256, .f32⟩
  | 69 => ⟨S1x1024x256, .f32⟩
  | 70 => ⟨S1024x256, .f32⟩
  | 71 => ⟨S2x3136x256, .f32⟩
  | 72 => ⟨S_, .f32⟩
  | 73 => ⟨S2x3136, .f32⟩
  | 74 => ⟨S2x3136x1, .f32⟩
  | 75 => ⟨S256x1024, .f32⟩
  | 76 => ⟨S2x3136x1024, .f32⟩
  | 77 => ⟨S_, .f32⟩
  | 78 => ⟨S2x3136x1024, .f32⟩
  | 79 => ⟨S2x3136x1024, .f32⟩
  | 80 => ⟨S2x3136x1024, .f32⟩
  | 81 => ⟨S2x3136x1024, .f32⟩
  | 82 => ⟨S1024x256, .f32⟩
  | 83 => ⟨S_, .f32⟩
  | 84 => ⟨S1024, .f32⟩
  | 85 => ⟨S1x1x1024, .f32⟩
  | 86 => ⟨S2x3136x1024, .f32⟩
  | 87 => ⟨S2x3136x1024, .f32⟩
  | 88 => ⟨S2x3136x1024, .i32⟩
  | 89 => ⟨S_, .f32⟩
  | 90 => ⟨S2x3136, .f32⟩
  | 91 => ⟨S2x3136x1, .f32⟩
  | 92 => ⟨S2x3136x1024, .f32⟩
  | 93 => ⟨S2x3136x1024, .i1⟩
  | 94 => ⟨S_, .i32⟩
  | 95 => ⟨S_, .i32⟩
  | 96 => ⟨S2x3136x1024, .i32⟩
  | 97 => ⟨S2x3136x1024, .i32⟩
  | 98 => ⟨S_, .i32⟩
  | 99 => ⟨S2x3136, .i32⟩
  | 100 => ⟨S2x3136x1, .i32⟩
  | 101 => ⟨S2x3136x256, .f32⟩
  | 102 => ⟨S2x3136x256, .f32⟩
  | 103 => ⟨S2x3136x256, .f32⟩
  | 104 => ⟨S2x3136x256, .f32⟩
  | 105 => ⟨S2x3136x256, .f32⟩
  | 106 => ⟨S_, .f32⟩
  | 107 => ⟨S_, .f32⟩
  | 108 => ⟨S_, .f32⟩
  | 109 => ⟨S_, .f32⟩
  | 110 => ⟨S2x3136x256, .f32⟩
  | 111 => ⟨S2x3136x256, .f32⟩
  | 112 => ⟨S1x1024x256, .f32⟩
  | 113 => ⟨S1024x256, .f32⟩
  | 114 => ⟨S2x3136x256, .f32⟩
  | 115 => ⟨S_, .f32⟩
  | 116 => ⟨S2x3136, .f32⟩
  | 117 => ⟨S2x3136x1, .f32⟩
  | 118 => ⟨S256x1024, .f32⟩
  | 119 => ⟨S2x3136x1024, .f32⟩
  | 120 => ⟨S_, .f32⟩
  | 121 => ⟨S2x3136x1024, .f32⟩
  | 122 => ⟨S2x3136x1024, .f32⟩
  | 123 => ⟨S2x3136x1024, .f32⟩
  | 124 => ⟨S2x3136x1024, .f32⟩
  | 125 => ⟨S1024x256, .f32⟩
  | 126 => ⟨S_, .f32⟩
  | 127 => ⟨S1024, .f32⟩
  | _ => ⟨S2x3x224x224, .f32⟩

abbrev hbmTy0_4 (i : Nat) : BufTy := match i % 128 with
  | 0 => ⟨S1x1x1024, .f32⟩
  | 1 => ⟨S2x3136x1024, .f32⟩
  | 2 => ⟨S2x3136x1024, .f32⟩
  | 3 => ⟨S2x3136x1024, .i32⟩
  | 4 => ⟨S_, .f32⟩
  | 5 => ⟨S2x3136, .f32⟩
  | 6 => ⟨S2x3136x1, .f32⟩
  | 7 => ⟨S2x3136x1024, .f32⟩
  | 8 => ⟨S2x3136x1024, .i1⟩
  | 9 => ⟨S_, .i32⟩
  | 10 => ⟨S_, .i32⟩
  | 11 => ⟨S2x3136x1024, .i32⟩
  | 12 => ⟨S2x3136x1024, .i32⟩
  | 13 => ⟨S_, .i32⟩
  | 14 => ⟨S2x3136, .i32⟩
  | 15 => ⟨S2x3136x1, .i32⟩
  | 16 => ⟨S2x3136x256, .f32⟩
  | 17 => ⟨S2x3136x256, .f32⟩
  | 18 => ⟨S2x3136x256, .f32⟩
  | 19 => ⟨S2x3136x256, .f32⟩
  | 20 => ⟨S2x3136x256, .f32⟩
  | 21 => ⟨S_, .f32⟩
  | 22 => ⟨S_, .f32⟩
  | 23 => ⟨S_, .f32⟩
  | 24 => ⟨S_, .f32⟩
  | 25 => ⟨S2x3136x256, .f32⟩
  | 26 => ⟨S2x3136x256, .f32⟩
  | 27 => ⟨S1x1024x256, .f32⟩
  | 28 => ⟨S1024x256, .f32⟩
  | 29 => ⟨S2x3136x256, .f32⟩
  | 30 => ⟨S_, .f32⟩
  | 31 => ⟨S2x3136, .f32⟩
  | 32 => ⟨S2x3136x1, .f32⟩
  | 33 => ⟨S256x1024, .f32⟩
  | 34 => ⟨S2x3136x1024, .f32⟩
  | 35 => ⟨S_, .f32⟩
  | 36 => ⟨S2x3136x1024, .f32⟩
  | 37 => ⟨S2x3136x1024, .f32⟩
  | 38 => ⟨S2x3136x1024, .f32⟩
  | 39 => ⟨S2x3136x1024, .f32⟩
  | 40 => ⟨S1024x256, .f32⟩
  | 41 => ⟨S_, .f32⟩
  | 42 => ⟨S1024, .f32⟩
  | 43 => ⟨S1x1x1024, .f32⟩
  | 44 => ⟨S2x3136x1024, .f32⟩
  | 45 => ⟨S2x3136x1024, .f32⟩
  | 46 => ⟨S2x3136x1024, .i32⟩
  | 47 => ⟨S_, .f32⟩
  | 48 => ⟨S2x3136, .f32⟩
  | 49 => ⟨S2x3136x1, .f32⟩
  | 50 => ⟨S2x3136x1024, .f32⟩
  | 51 => ⟨S2x3136x1024, .i1⟩
  | 52 => ⟨S_, .i32⟩
  | 53 => ⟨S_, .i32⟩
  | 54 => ⟨S2x3136x1024, .i32⟩
  | 55 => ⟨S2x3136x1024, .i32⟩
  | 56 => ⟨S_, .i32⟩
  | 57 => ⟨S2x3136, .i32⟩
  | 58 => ⟨S2x3136x1, .i32⟩
  | 59 => ⟨S2x3136x256, .f32⟩
  | 60 => ⟨S2x3136x256, .f32⟩
  | 61 => ⟨S2x3136x256, .f32⟩
  | 62 => ⟨S2x3136x256, .f32⟩
  | 63 => ⟨S2x3136x256, .f32⟩
  | 64 => ⟨S_, .f32⟩
  | 65 => ⟨S_, .f32⟩
  | 66 => ⟨S_, .f32⟩
  | 67 => ⟨S_, .f32⟩
  | 68 => ⟨S2x3136x256, .f32⟩
  | 69 => ⟨S2x3136x256, .f32⟩
  | 70 => ⟨S1x1024x256, .f32⟩
  | 71 => ⟨S1024x256, .f32⟩
  | 72 => ⟨S2x3136x256, .f32⟩
  | 73 => ⟨S_, .f32⟩
  | 74 => ⟨S2x3136, .f32⟩
  | 75 => ⟨S2x3136x1, .f32⟩
  | 76 => ⟨S256x1024, .f32⟩
  | 77 => ⟨S2x3136x1024, .f32⟩
  | 78 => ⟨S_, .f32⟩
  | 79 => ⟨S2x3136x1024, .f32⟩
  | 80 => ⟨S2x3136x1024, .f32⟩
  | 81 => ⟨S2x3136x1024, .f32⟩
  | 82 => ⟨S2x3136x1024, .f32⟩
  | 83 => ⟨S1024x256, .f32⟩
  | 84 => ⟨S_, .f32⟩
  | 85 => ⟨S1024, .f32⟩
  | 86 => ⟨S1x1x1024, .f32⟩
  | 87 => ⟨S2x3136x1024, .f32⟩
  | 88 => ⟨S2x3136x1024, .f32⟩
  | 89 => ⟨S2x3136x1024, .i32⟩
  | 90 => ⟨S_, .f32⟩
  | 91 => ⟨S2x3136, .f32⟩
  | 92 => ⟨S2x3136x1, .f32⟩
  | 93 => ⟨S2x3136x1024, .f32⟩
  | 94 => ⟨S2x3136x1024, .i1⟩
  | 95 => ⟨S_, .i32⟩
  | 96 => ⟨S_, .i32⟩
  | 97 => ⟨S2x3136x1024, .i32⟩
  | 98 => ⟨S2x3136x1024, .i32⟩
  | 99 => ⟨S_, .i32⟩
  | 100 => ⟨S2x3136, .i32⟩
  | 101 => ⟨S2x3136x1, .i32⟩
  | 102 => ⟨S2x3136x256, .f32⟩
  | 103 => ⟨S2x3136x256, .f32⟩
  | 104 => ⟨S2x3136x256, .f32⟩
  | 105 => ⟨S2x3136x256, .f32⟩
  | 106 => ⟨S2x3136x256, .f32⟩
  | 107 => ⟨S_, .f32⟩
  | 108 => ⟨S_, .f32⟩
  | 109 => ⟨S_, .f32⟩
  | 110 => ⟨S_, .f32⟩
  | 111 => ⟨S2x3136x256, .f32⟩
  | 112 => ⟨S2x3136x256, .f32⟩
  | 113 => ⟨S2x1x3136, .i32⟩
  | 114 => ⟨S2x1x3136, .i32⟩
  | 115 => ⟨S2x1x3136, .i32⟩
  | 116 => ⟨S2x1x3136, .i32⟩
  | 117 => ⟨S2x4x3136, .i32⟩
  | 118 => ⟨S2x4x56x56, .i32⟩
  | 119 => ⟨S1, .f32⟩
  | 120 => ⟨S1, .f32⟩
  | 121 => ⟨S1, .f32⟩
  | 122 => ⟨S1, .f32⟩
  | 123 => ⟨S4, .f32⟩
  | 124 => ⟨S2x56x56x256, .f32⟩
  | 125 => ⟨S2x256x56x56, .f32⟩
  | 126 => ⟨S_, .f32⟩
  | 127 => ⟨S2x256x58x58, .f32⟩
  | _ => ⟨S2x3x224x224, .f32⟩

abbrev hbmTy0_5 (i : Nat) : BufTy := match i % 128 with
  | 0 => ⟨S2x256x56x56, .f32⟩
  | 1 => ⟨S2x256x3136, .f32⟩
  | 2 => ⟨S128x2x3136, .f32⟩
  | 3 => ⟨S2x256x56x56, .f32⟩
  | 4 => ⟨S2x256x3136, .f32⟩
  | 5 => ⟨S128x2x3136, .f32⟩
  | 6 => ⟨S128x2x3136, .f32⟩
  | 7 => ⟨S2x256x56x56, .f32⟩
  | 8 => ⟨S2x256x3136, .f32⟩
  | 9 => ⟨S128x2x3136, .f32⟩
  | 10 => ⟨S128x2x3136, .f32⟩
  | 11 => ⟨S2x256x56x56, .f32⟩
  | 12 => ⟨S2x256x3136, .f32⟩
  | 13 => ⟨S128x2x3136, .f32⟩
  | 14 => ⟨S128x2x3136, .f32⟩
  | 15 => ⟨S2x256x56x56, .f32⟩
  | 16 => ⟨S2x256x3136, .f32⟩
  | 17 => ⟨S128x2x3136, .f32⟩
  | 18 => ⟨S128x2x3136, .f32⟩
  | 19 => ⟨S2x256x56x56, .f32⟩
  | 20 => ⟨S2x256x3136, .f32⟩
  | 21 => ⟨S128x2x3136, .f32⟩
  | 22 => ⟨S128x2x3136, .f32⟩
  | 23 => ⟨S2x256x56x56, .f32⟩
  | 24 => ⟨S2x256x3136, .f32⟩
  | 25 => ⟨S128x2x3136, .f32⟩
  | 26 => ⟨S128x2x3136, .f32⟩
  | 27 => ⟨S2x256x56x56, .f32⟩
  | 28 => ⟨S2x256x3136, .f32⟩
  | 29 => ⟨S128x2x3136, .f32⟩
  | 30 => ⟨S128x2x3136, .f32⟩
  | 31 => ⟨S2x256x56x56, .f32⟩
  | 32 => ⟨S2x256x3136, .f32⟩
  | 33 => ⟨S128x2x3136, .f32⟩
  | 34 => ⟨S128x2x3136, .f32⟩
  | 35 => ⟨S128x2x56x56, .f32⟩
  | 36 => ⟨S2x128x56x56, .f32⟩
  | 37 => ⟨S1x128x1x1, .f32⟩
  | 38 => ⟨S2x128x56x56, .f32⟩
  | 39 => ⟨S2x128x56x56, .f32⟩
  | 40 => ⟨S_, .f32⟩
  | 41 => ⟨S2x128x56x56, .f32⟩
  | 42 => ⟨S2x128x56x56, .f32⟩
  | 43 => ⟨S_, .f32⟩
  | 44 => ⟨S2x128x115x115, .f32⟩
  | 45 => ⟨S2x128x112x112, .f32⟩
  | 46 => ⟨S2x128x12544, .f32⟩
  | 47 => ⟨S64x2x12544, .f32⟩
  | 48 => ⟨S2x128x112x112, .f32⟩
  | 49 => ⟨S2x128x12544, .f32⟩
  | 50 => ⟨S64x2x12544, .f32⟩
  | 51 => ⟨S64x2x12544, .f32⟩
  | 52 => ⟨S2x128x112x112, .f32⟩
  | 53 => ⟨S2x128x12544, .f32⟩
  | 54 => ⟨S64x2x12544, .f32⟩
  | 55 => ⟨S64x2x12544, .f32⟩
  | 56 => ⟨S2x128x112x112, .f32⟩
  | 57 => ⟨S2x128x12544, .f32⟩
  | 58 => ⟨S64x2x12544, .f32⟩
  | 59 => ⟨S64x2x12544, .f32⟩
  | 60 => ⟨S2x128x112x112, .f32⟩
  | 61 => ⟨S2x128x12544, .f32⟩
  | 62 => ⟨S64x2x12544, .f32⟩
  | 63 => ⟨S64x2x12544, .f32⟩
  | 64 => ⟨S2x128x112x112, .f32⟩
  | 65 => ⟨S2x128x12544, .f32⟩
  | 66 => ⟨S64x2x12544, .f32⟩
  | 67 => ⟨S64x2x12544, .f32⟩
  | 68 => ⟨S2x128x112x112, .f32⟩
  | 69 => ⟨S2x128x12544, .f32⟩
  | 70 => ⟨S64x2x12544, .f32⟩
  | 71 => ⟨S64x2x12544, .f32⟩
  | 72 => ⟨S2x128x112x112, .f32⟩
  | 73 => ⟨S2x128x12544, .f32⟩
  | 74 => ⟨S64x2x12544, .f32⟩
  | 75 => ⟨S64x2x12544, .f32⟩
  | 76 => ⟨S2x128x112x112, .f32⟩
  | 77 => ⟨S2x128x12544, .f32⟩
  | 78 => ⟨S64x2x12544, .f32⟩
  | 79 => ⟨S64x2x12544, .f32⟩
  | 80 => ⟨S2x128x112x112, .f32⟩
  | 81 => ⟨S2x128x12544, .f32⟩
  | 82 => ⟨S64x2x12544, .f32⟩
  | 83 => ⟨S64x2x12544, .f32⟩
  | 84 => ⟨S2x128x112x112, .f32⟩
  | 85 => ⟨S2x128x12544, .f32⟩
  | 86 => ⟨S64x2x12544, .f32⟩
  | 87 => ⟨S64x2x12544, .f32⟩
  | 88 => ⟨S2x128x112x112, .f32⟩
  | 89 => ⟨S2x128x12544, .f32⟩
  | 90 => ⟨S64x2x12544, .f32⟩
  | 91 => ⟨S64x2x12544, .f32⟩
  | 92 => ⟨S2x128x112x112, .f32⟩
  | 93 => ⟨S2x128x12544, .f32⟩
  | 94 => ⟨S64x2x12544, .f32⟩
  | 95 => ⟨S64x2x12544, .f32⟩
  | 96 => ⟨S2x128x112x112, .f32⟩
  | 97 => ⟨S2x128x12544, .f32⟩
  | 98 => ⟨S64x2x12544, .f32⟩
  | 99 => ⟨S64x2x12544, .f32⟩
  | 100 => ⟨S2x128x112x112, .f32⟩
  | 101 => ⟨S2x128x12544, .f32⟩
  | 102 => ⟨S64x2x12544, .f32⟩
  | 103 => ⟨S64x2x12544, .f32⟩
  | 104 => ⟨S2x128x112x112, .f32⟩
  | 105 => ⟨S2x128x12544, .f32⟩
  | 106 => ⟨S64x2x12544, .f32⟩
  | 107 => ⟨S64x2x12544, .f32⟩
  | 108 => ⟨S64x2x112x112, .f32⟩
  | 109 => ⟨S2x64x112x112, .f32⟩
  | 110 => ⟨S1x64x1x1, .f32⟩
  | 111 => ⟨S2x64x112x112, .f32⟩
  | 112 => ⟨S2x64x112x112, .f32⟩
  | 113 => ⟨S_, .f32⟩
  | 114 => ⟨S2x64x112x112, .f32⟩
  | 115 => ⟨S2x64x112x112, .f32⟩
  | 116 => ⟨S_, .f32⟩
  | 117 => ⟨S2x64x227x227, .f32⟩
  | 118 => ⟨S2x64x224x224, .f32⟩
  | 119 => ⟨S2x64x50176, .f32⟩
  | 120 => ⟨S3x2x50176, .f32⟩
  | 121 => ⟨S2x64x224x224, .f32⟩
  | 122 => ⟨S2x64x50176, .f32⟩
  | 123 => ⟨S3x2x50176, .f32⟩
  | 124 => ⟨S3x2x50176, .f32⟩
  | 125 => ⟨S2x64x224x224, .f32⟩
  | 126 => ⟨S2x64x50176, .f32⟩
  | 127 => ⟨S3x2x50176, .f32⟩
  | _ => ⟨S2x3x224x224, .f32⟩

abbrev hbmTy0_6 (i : Nat) : BufTy := match i % 128 with
  | 0 => ⟨S3x2x50176, .f32⟩
  | 1 => ⟨S2x64x224x224, .f32⟩
  | 2 => ⟨S2x64x50176, .f32⟩
  | 3 => ⟨S3x2x50176, .f32⟩
  | 4 => ⟨S3x2x50176, .f32⟩
  | 5 => ⟨S2x64x224x224, .f32⟩
  | 6 => ⟨S2x64x50176, .f32⟩
  | 7 => ⟨S3x2x50176, .f32⟩
  | 8 => ⟨S3x2x50176, .f32⟩
  | 9 => ⟨S2x64x224x224, .f32⟩
  | 10 => ⟨S2x64x50176, .f32⟩
  | 11 => ⟨S3x2x50176, .f32⟩
  | 12 => ⟨S3x2x50176, .f32⟩
  | 13 => ⟨S2x64x224x224, .f32⟩
  | 14 => ⟨S2x64x50176, .f32⟩
  | 15 => ⟨S3x2x50176, .f32⟩
  | 16 => ⟨S3x2x50176, .f32⟩
  | 17 => ⟨S2x64x224x224, .f32⟩
  | 18 => ⟨S2x64x50176, .f32⟩
  | 19 => ⟨S3x2x50176, .f32⟩
  | 20 => ⟨S3x2x50176, .f32⟩
  | 21 => ⟨S2x64x224x224, .f32⟩
  | 22 => ⟨S2x64x50176, .f32⟩
  | 23 => ⟨S3x2x50176, .f32⟩
  | 24 => ⟨S3x2x50176, .f32⟩
  | 25 => ⟨S2x64x224x224, .f32⟩
  | 26 => ⟨S2x64x50176, .f32⟩
  | 27 => ⟨S3x2x50176, .f32⟩
  | 28 => ⟨S3x2x50176, .f32⟩
  | 29 => ⟨S2x64x224x224, .f32⟩
  | 30 => ⟨S2x64x50176, .f32⟩
  | 31 => ⟨S3x2x50176, .f32⟩
  | 32 => ⟨S3x2x50176, .f32⟩
  | 33 => ⟨S2x64x224x224, .f32⟩
  | 34 => ⟨S2x64x50176, .f32⟩
  | 35 => ⟨S3x2x50176, .f32⟩
  | 36 => ⟨S3x2x50176, .f32⟩
  | 37 => ⟨S2x64x224x224, .f32⟩
  | 38 => ⟨S2x64x50176, .f32⟩
  | 39 => ⟨S3x2x50176, .f32⟩
  | 40 => ⟨S3x2x50176, .f32⟩
  | 41 => ⟨S2x64x224x224, .f32⟩
  | 42 => ⟨S2x64x50176, .f32⟩
  | 43 => ⟨S3x2x50176, .f32⟩
  | 44 => ⟨S3x2x50176, .f32⟩
  | 45 => ⟨S2x64x224x224, .f32⟩
  | 46 => ⟨S2x64x50176, .f32⟩
  | 47 => ⟨S3x2x50176, .f32⟩
  | 48 => ⟨S3x2x50176, .f32⟩
  | 49 => ⟨S2x64x224x224, .f32⟩
  | 50 => ⟨S2x64x50176, .f32⟩
  | 51 => ⟨S3x2x50176, .f32⟩
  | 52 => ⟨S3x2x50176, .f32⟩
  | 53 => ⟨S3x2x224x224, .f32⟩
  | 54 => ⟨S2x3x224x224, .f32⟩
  | 55 => ⟨S1x3x1x1, .f32⟩
  | 56 => ⟨S2x3x224x224, .f32⟩
  | 57 => ⟨S2x3x224x224, .f32⟩
  | 58 => ⟨S2x3x224x224, .f32⟩
  | _ => ⟨S2x3x224x224, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S2x3x224x224, .f32⟩

abbrev bufTy : (tb : Table) → Fin (tcTables nBuf tb) → BufTy
  | .hbm, ⟨i, _⟩ => hbmTy i
  | _, _ => ⟨S2x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_v193 : Ref sig .tc := ⟨.hbm, 209, rfl⟩
abbrev main_v194 : Ref sig .tc := ⟨.hbm, 210, rfl⟩
abbrev main_v195 : Ref sig .tc := ⟨.hbm, 211, rfl⟩
abbrev main_v196 : Ref sig .tc := ⟨.hbm, 212, rfl⟩
abbrev main_v197 : Ref sig .tc := ⟨.hbm, 213, rfl⟩
abbrev main_v198 : Ref sig .tc := ⟨.hbm, 214, rfl⟩
abbrev main_v199 : Ref sig .tc := ⟨.hbm, 215, rfl⟩
abbrev main_cst : Ref sig .tc := ⟨.hbm, 216, rfl⟩
abbrev main_v200 : Ref sig .tc := ⟨.hbm, 217, rfl⟩
abbrev main_v201 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_v212 : Ref sig .tc := ⟨.hbm, 229, rfl⟩
abbrev main_v213 : Ref sig .tc := ⟨.hbm, 230, rfl⟩
abbrev main_v214 : Ref sig .tc := ⟨.hbm, 231, rfl⟩
abbrev main_v215 : Ref sig .tc := ⟨.hbm, 232, rfl⟩
abbrev main_v216 : Ref sig .tc := ⟨.hbm, 233, rfl⟩
abbrev main_v217 : Ref sig .tc := ⟨.hbm, 234, rfl⟩
abbrev main_v218 : Ref sig .tc := ⟨.hbm, 235, rfl⟩
abbrev main_v219 : Ref sig .tc := ⟨.hbm, 236, rfl⟩
abbrev main_v220 : Ref sig .tc := ⟨.hbm, 237, rfl⟩
abbrev main_v221 : Ref sig .tc := ⟨.hbm, 238, rfl⟩
abbrev main_v222 : Ref sig .tc := ⟨.hbm, 239, rfl⟩
abbrev main_v223 : Ref sig .tc := ⟨.hbm, 240, rfl⟩
abbrev main_v224 : Ref sig .tc := ⟨.hbm, 241, rfl⟩
abbrev main_v225 : Ref sig .tc := ⟨.hbm, 242, rfl⟩
abbrev main_v226 : Ref sig .tc := ⟨.hbm, 243, rfl⟩
abbrev main_v227 : Ref sig .tc := ⟨.hbm, 244, rfl⟩
abbrev main_v228 : Ref sig .tc := ⟨.hbm, 245, rfl⟩
abbrev main_v229 : Ref sig .tc := ⟨.hbm, 246, rfl⟩
abbrev main_v230 : Ref sig .tc := ⟨.hbm, 247, rfl⟩
abbrev main_v231 : Ref sig .tc := ⟨.hbm, 248, rfl⟩
abbrev main_v232 : Ref sig .tc := ⟨.hbm, 249, rfl⟩
abbrev main_v233 : Ref sig .tc := ⟨.hbm, 250, rfl⟩
abbrev main_v234 : Ref sig .tc := ⟨.hbm, 251, rfl⟩
abbrev main_v235 : Ref sig .tc := ⟨.hbm, 252, rfl⟩
abbrev main_v236 : Ref sig .tc := ⟨.hbm, 253, rfl⟩
abbrev main_v237 : Ref sig .tc := ⟨.hbm, 254, rfl⟩
abbrev main_v238 : Ref sig .tc := ⟨.hbm, 255, rfl⟩
abbrev main_v239 : Ref sig .tc := ⟨.hbm, 256, rfl⟩
abbrev main_v240 : Ref sig .tc := ⟨.hbm, 257, rfl⟩
abbrev main_v241 : Ref sig .tc := ⟨.hbm, 258, rfl⟩
abbrev main_v242 : Ref sig .tc := ⟨.hbm, 259, rfl⟩
abbrev main_v243 : Ref sig .tc := ⟨.hbm, 260, rfl⟩
abbrev main_v244 : Ref sig .tc := ⟨.hbm, 261, rfl⟩
abbrev main_v245 : Ref sig .tc := ⟨.hbm, 262, rfl⟩
abbrev main_v246 : Ref sig .tc := ⟨.hbm, 263, rfl⟩
abbrev main_v247 : Ref sig .tc := ⟨.hbm, 264, rfl⟩
abbrev main_v248 : Ref sig .tc := ⟨.hbm, 265, rfl⟩
abbrev main_v249 : Ref sig .tc := ⟨.hbm, 266, rfl⟩
abbrev main_v250 : Ref sig .tc := ⟨.hbm, 267, rfl⟩
abbrev main_v251 : Ref sig .tc := ⟨.hbm, 268, rfl⟩
abbrev main_v252 : Ref sig .tc := ⟨.hbm, 269, rfl⟩
abbrev main_v253 : Ref sig .tc := ⟨.hbm, 270, rfl⟩
abbrev main_v254 : Ref sig .tc := ⟨.hbm, 271, rfl⟩
abbrev main_v255 : Ref sig .tc := ⟨.hbm, 272, rfl⟩
abbrev main_v256 : Ref sig .tc := ⟨.hbm, 273, rfl⟩
abbrev main_v257 : Ref sig .tc := ⟨.hbm, 274, rfl⟩
abbrev main_v258 : Ref sig .tc := ⟨.hbm, 275, rfl⟩
abbrev main_v259 : Ref sig .tc := ⟨.hbm, 276, rfl⟩
abbrev main_v260 : Ref sig .tc := ⟨.hbm, 277, rfl⟩
abbrev main_v261 : Ref sig .tc := ⟨.hbm, 278, rfl⟩
abbrev main_v262 : Ref sig .tc := ⟨.hbm, 279, rfl⟩
abbrev main_v263 : Ref sig .tc := ⟨.hbm, 280, rfl⟩
abbrev main_v264 : Ref sig .tc := ⟨.hbm, 281, rfl⟩
abbrev main_v265 : Ref sig .tc := ⟨.hbm, 282, rfl⟩
abbrev main_v266 : Ref sig .tc := ⟨.hbm, 283, rfl⟩
abbrev main_v267 : Ref sig .tc := ⟨.hbm, 284, rfl⟩
abbrev main_v268 : Ref sig .tc := ⟨.hbm, 285, rfl⟩
abbrev main_cst_0 : Ref sig .tc := ⟨.hbm, 286, rfl⟩
abbrev main_v269 : Ref sig .tc := ⟨.hbm, 287, rfl⟩
abbrev main_v270 : Ref sig .tc := ⟨.hbm, 288, rfl⟩
abbrev main_cst_1 : Ref sig .tc := ⟨.hbm, 289, rfl⟩
abbrev main_v271 : Ref sig .tc := ⟨.hbm, 290, rfl⟩
abbrev main_v272 : Ref sig .tc := ⟨.hbm, 291, rfl⟩
abbrev main_v273 : Ref sig .tc := ⟨.hbm, 292, rfl⟩
abbrev main_v274 : Ref sig .tc := ⟨.hbm, 293, rfl⟩
abbrev main_v275 : Ref sig .tc := ⟨.hbm, 294, rfl⟩
abbrev main_v276 : Ref sig .tc := ⟨.hbm, 295, rfl⟩
abbrev main_v277 : Ref sig .tc := ⟨.hbm, 296, rfl⟩
abbrev main_v278 : Ref sig .tc := ⟨.hbm, 297, rfl⟩
abbrev main_v279 : Ref sig .tc := ⟨.hbm, 298, rfl⟩
abbrev main_v280 : Ref sig .tc := ⟨.hbm, 299, rfl⟩
abbrev main_v281 : Ref sig .tc := ⟨.hbm, 300, rfl⟩
abbrev main_v282 : Ref sig .tc := ⟨.hbm, 301, rfl⟩
abbrev main_v283 : Ref sig .tc := ⟨.hbm, 302, rfl⟩
abbrev main_v284 : Ref sig .tc := ⟨.hbm, 303, rfl⟩
abbrev main_v285 : Ref sig .tc := ⟨.hbm, 304, rfl⟩
abbrev main_v286 : Ref sig .tc := ⟨.hbm, 305, rfl⟩
abbrev main_v287 : Ref sig .tc := ⟨.hbm, 306, rfl⟩
abbrev main_v288 : Ref sig .tc := ⟨.hbm, 307, rfl⟩
abbrev main_v289 : Ref sig .tc := ⟨.hbm, 308, rfl⟩
abbrev main_v290 : Ref sig .tc := ⟨.hbm, 309, rfl⟩
abbrev main_v291 : Ref sig .tc := ⟨.hbm, 310, rfl⟩
abbrev main_v292 : Ref sig .tc := ⟨.hbm, 311, rfl⟩
abbrev main_v293 : Ref sig .tc := ⟨.hbm, 312, rfl⟩
abbrev main_v294 : Ref sig .tc := ⟨.hbm, 313, rfl⟩
abbrev main_v295 : Ref sig .tc := ⟨.hbm, 314, rfl⟩
abbrev main_v296 : Ref sig .tc := ⟨.hbm, 315, rfl⟩
abbrev main_v297 : Ref sig .tc := ⟨.hbm, 316, rfl⟩
abbrev main_v298 : Ref sig .tc := ⟨.hbm, 317, rfl⟩
abbrev main_v299 : Ref sig .tc := ⟨.hbm, 318, rfl⟩
abbrev main_v300 : Ref sig .tc := ⟨.hbm, 319, rfl⟩
abbrev main_v301 : Ref sig .tc := ⟨.hbm, 320, rfl⟩
abbrev main_v302 : Ref sig .tc := ⟨.hbm, 321, rfl⟩
abbrev main_v303 : Ref sig .tc := ⟨.hbm, 322, rfl⟩
abbrev main_v304 : Ref sig .tc := ⟨.hbm, 323, rfl⟩
abbrev main_v305 : Ref sig .tc := ⟨.hbm, 324, rfl⟩
abbrev main_v306 : Ref sig .tc := ⟨.hbm, 325, rfl⟩
abbrev main_v307 : Ref sig .tc := ⟨.hbm, 326, rfl⟩
abbrev main_v308 : Ref sig .tc := ⟨.hbm, 327, rfl⟩
abbrev main_v309 : Ref sig .tc := ⟨.hbm, 328, rfl⟩
abbrev main_v310 : Ref sig .tc := ⟨.hbm, 329, rfl⟩
abbrev main_v311 : Ref sig .tc := ⟨.hbm, 330, rfl⟩
abbrev main_v312 : Ref sig .tc := ⟨.hbm, 331, rfl⟩
abbrev main_v313 : Ref sig .tc := ⟨.hbm, 332, rfl⟩
abbrev main_v314 : Ref sig .tc := ⟨.hbm, 333, rfl⟩
abbrev main_v315 : Ref sig .tc := ⟨.hbm, 334, rfl⟩
abbrev main_v316 : Ref sig .tc := ⟨.hbm, 335, rfl⟩
abbrev main_v317 : Ref sig .tc := ⟨.hbm, 336, rfl⟩
abbrev main_v318 : Ref sig .tc := ⟨.hbm, 337, rfl⟩
abbrev main_v319 : Ref sig .tc := ⟨.hbm, 338, rfl⟩
abbrev main_v320 : Ref sig .tc := ⟨.hbm, 339, rfl⟩
abbrev main_v321 : Ref sig .tc := ⟨.hbm, 340, rfl⟩
abbrev main_v322 : Ref sig .tc := ⟨.hbm, 341, rfl⟩
abbrev main_v323 : Ref sig .tc := ⟨.hbm, 342, rfl⟩
abbrev main_v324 : Ref sig .tc := ⟨.hbm, 343, rfl⟩
abbrev main_v325 : Ref sig .tc := ⟨.hbm, 344, rfl⟩
abbrev main_v326 : Ref sig .tc := ⟨.hbm, 345, rfl⟩
abbrev main_v327 : Ref sig .tc := ⟨.hbm, 346, rfl⟩
abbrev main_v328 : Ref sig .tc := ⟨.hbm, 347, rfl⟩
abbrev main_v329 : Ref sig .tc := ⟨.hbm, 348, rfl⟩
abbrev main_v330 : Ref sig .tc := ⟨.hbm, 349, rfl⟩
abbrev main_v331 : Ref sig .tc := ⟨.hbm, 350, rfl⟩
abbrev main_v332 : Ref sig .tc := ⟨.hbm, 351, rfl⟩
abbrev main_v333 : Ref sig .tc := ⟨.hbm, 352, rfl⟩
abbrev main_v334 : Ref sig .tc := ⟨.hbm, 353, rfl⟩
abbrev main_v335 : Ref sig .tc := ⟨.hbm, 354, rfl⟩
abbrev main_v336 : Ref sig .tc := ⟨.hbm, 355, rfl⟩
abbrev main_v337 : Ref sig .tc := ⟨.hbm, 356, rfl⟩
abbrev main_v338 : Ref sig .tc := ⟨.hbm, 357, rfl⟩
abbrev main_v339 : Ref sig .tc := ⟨.hbm, 358, rfl⟩
abbrev main_cst_2 : Ref sig .tc := ⟨.hbm, 359, rfl⟩
abbrev main_v340 : Ref sig .tc := ⟨.hbm, 360, rfl⟩
abbrev main_v341 : Ref sig .tc := ⟨.hbm, 361, rfl⟩
abbrev main_cst_3 : Ref sig .tc := ⟨.hbm, 362, rfl⟩
abbrev main_v342 : Ref sig .tc := ⟨.hbm, 363, rfl⟩
abbrev main_v343 : Ref sig .tc := ⟨.hbm, 364, rfl⟩
abbrev main_v344 : Ref sig .tc := ⟨.hbm, 365, rfl⟩
abbrev main_v345 : Ref sig .tc := ⟨.hbm, 366, rfl⟩
abbrev main_v346 : Ref sig .tc := ⟨.hbm, 367, rfl⟩
abbrev main_v347 : Ref sig .tc := ⟨.hbm, 368, rfl⟩
abbrev main_v348 : Ref sig .tc := ⟨.hbm, 369, rfl⟩
abbrev main_v349 : Ref sig .tc := ⟨.hbm, 370, rfl⟩
abbrev main_v350 : Ref sig .tc := ⟨.hbm, 371, rfl⟩
abbrev main_v351 : Ref sig .tc := ⟨.hbm, 372, rfl⟩
abbrev main_v352 : Ref sig .tc := ⟨.hbm, 373, rfl⟩
abbrev main_v353 : Ref sig .tc := ⟨.hbm, 374, rfl⟩
abbrev main_v354 : Ref sig .tc := ⟨.hbm, 375, rfl⟩
abbrev main_v355 : Ref sig .tc := ⟨.hbm, 376, rfl⟩
abbrev main_v356 : Ref sig .tc := ⟨.hbm, 377, rfl⟩
abbrev main_v357 : Ref sig .tc := ⟨.hbm, 378, rfl⟩
abbrev main_v358 : Ref sig .tc := ⟨.hbm, 379, rfl⟩
abbrev main_v359 : Ref sig .tc := ⟨.hbm, 380, rfl⟩
abbrev main_v360 : Ref sig .tc := ⟨.hbm, 381, rfl⟩
abbrev main_v361 : Ref sig .tc := ⟨.hbm, 382, rfl⟩
abbrev main_v362 : Ref sig .tc := ⟨.hbm, 383, rfl⟩
abbrev main_v363 : Ref sig .tc := ⟨.hbm, 384, rfl⟩
abbrev main_v364 : Ref sig .tc := ⟨.hbm, 385, rfl⟩
abbrev main_v365 : Ref sig .tc := ⟨.hbm, 386, rfl⟩
abbrev main_v366 : Ref sig .tc := ⟨.hbm, 387, rfl⟩
abbrev main_v367 : Ref sig .tc := ⟨.hbm, 388, rfl⟩
abbrev main_v368 : Ref sig .tc := ⟨.hbm, 389, rfl⟩
abbrev main_v369 : Ref sig .tc := ⟨.hbm, 390, rfl⟩
abbrev main_v370 : Ref sig .tc := ⟨.hbm, 391, rfl⟩
abbrev main_v371 : Ref sig .tc := ⟨.hbm, 392, rfl⟩
abbrev main_v372 : Ref sig .tc := ⟨.hbm, 393, rfl⟩
abbrev main_v373 : Ref sig .tc := ⟨.hbm, 394, rfl⟩
abbrev main_v374 : Ref sig .tc := ⟨.hbm, 395, rfl⟩
abbrev main_v375 : Ref sig .tc := ⟨.hbm, 396, rfl⟩
abbrev main_v376 : Ref sig .tc := ⟨.hbm, 397, rfl⟩
abbrev main_v377 : Ref sig .tc := ⟨.hbm, 398, rfl⟩
abbrev main_v378 : Ref sig .tc := ⟨.hbm, 399, rfl⟩
abbrev main_v379 : Ref sig .tc := ⟨.hbm, 400, rfl⟩
abbrev main_v380 : Ref sig .tc := ⟨.hbm, 401, rfl⟩
abbrev main_v381 : Ref sig .tc := ⟨.hbm, 402, rfl⟩
abbrev main_v382 : Ref sig .tc := ⟨.hbm, 403, rfl⟩
abbrev main_cst_4 : Ref sig .tc := ⟨.hbm, 404, rfl⟩
abbrev main_v383 : Ref sig .tc := ⟨.hbm, 405, rfl⟩
abbrev main_v384 : Ref sig .tc := ⟨.hbm, 406, rfl⟩
abbrev main_cst_5 : Ref sig .tc := ⟨.hbm, 407, rfl⟩
abbrev main_v385 : Ref sig .tc := ⟨.hbm, 408, rfl⟩
abbrev main_v386 : Ref sig .tc := ⟨.hbm, 409, rfl⟩
abbrev main_v387 : Ref sig .tc := ⟨.hbm, 410, rfl⟩
abbrev main_v388 : Ref sig .tc := ⟨.hbm, 411, rfl⟩
abbrev main_v389 : Ref sig .tc := ⟨.hbm, 412, rfl⟩
abbrev main_v390 : Ref sig .tc := ⟨.hbm, 413, rfl⟩
abbrev main_v391 : Ref sig .tc := ⟨.hbm, 414, rfl⟩
abbrev main_v392 : Ref sig .tc := ⟨.hbm, 415, rfl⟩
abbrev main_v393 : Ref sig .tc := ⟨.hbm, 416, rfl⟩
abbrev main_v394 : Ref sig .tc := ⟨.hbm, 417, rfl⟩
abbrev main_v395 : Ref sig .tc := ⟨.hbm, 418, rfl⟩
abbrev main_v396 : Ref sig .tc := ⟨.hbm, 419, rfl⟩
abbrev main_v397 : Ref sig .tc := ⟨.hbm, 420, rfl⟩
abbrev main_v398 : Ref sig .tc := ⟨.hbm, 421, rfl⟩
abbrev main_v399 : Ref sig .tc := ⟨.hbm, 422, rfl⟩
abbrev main_v400 : Ref sig .tc := ⟨.hbm, 423, rfl⟩
abbrev main_v401 : Ref sig .tc := ⟨.hbm, 424, rfl⟩
abbrev main_v402 : Ref sig .tc := ⟨.hbm, 425, rfl⟩
abbrev main_v403 : Ref sig .tc := ⟨.hbm, 426, rfl⟩
abbrev main_v404 : Ref sig .tc := ⟨.hbm, 427, rfl⟩
abbrev main_v405 : Ref sig .tc := ⟨.hbm, 428, rfl⟩
abbrev main_v406 : Ref sig .tc := ⟨.hbm, 429, rfl⟩
abbrev main_v407 : Ref sig .tc := ⟨.hbm, 430, rfl⟩
abbrev main_v408 : Ref sig .tc := ⟨.hbm, 431, rfl⟩
abbrev main_v409 : Ref sig .tc := ⟨.hbm, 432, rfl⟩
abbrev main_v410 : Ref sig .tc := ⟨.hbm, 433, rfl⟩
abbrev main_v411 : Ref sig .tc := ⟨.hbm, 434, rfl⟩
abbrev main_v412 : Ref sig .tc := ⟨.hbm, 435, rfl⟩
abbrev main_v413 : Ref sig .tc := ⟨.hbm, 436, rfl⟩
abbrev main_v414 : Ref sig .tc := ⟨.hbm, 437, rfl⟩
abbrev main_v415 : Ref sig .tc := ⟨.hbm, 438, rfl⟩
abbrev main_v416 : Ref sig .tc := ⟨.hbm, 439, rfl⟩
abbrev main_v417 : Ref sig .tc := ⟨.hbm, 440, rfl⟩
abbrev main_v418 : Ref sig .tc := ⟨.hbm, 441, rfl⟩
abbrev main_v419 : Ref sig .tc := ⟨.hbm, 442, rfl⟩
abbrev main_v420 : Ref sig .tc := ⟨.hbm, 443, rfl⟩
abbrev main_v421 : Ref sig .tc := ⟨.hbm, 444, rfl⟩
abbrev main_v422 : Ref sig .tc := ⟨.hbm, 445, rfl⟩
abbrev main_v423 : Ref sig .tc := ⟨.hbm, 446, rfl⟩
abbrev main_v424 : Ref sig .tc := ⟨.hbm, 447, rfl⟩
abbrev main_v425 : Ref sig .tc := ⟨.hbm, 448, rfl⟩
abbrev main_v426 : Ref sig .tc := ⟨.hbm, 449, rfl⟩
abbrev main_v427 : Ref sig .tc := ⟨.hbm, 450, rfl⟩
abbrev main_cst_6 : Ref sig .tc := ⟨.hbm, 451, rfl⟩
abbrev main_v428 : Ref sig .tc := ⟨.hbm, 452, rfl⟩
abbrev main_v429 : Ref sig .tc := ⟨.hbm, 453, rfl⟩
abbrev main_v430 : Ref sig .tc := ⟨.hbm, 454, rfl⟩
abbrev main_v431 : Ref sig .tc := ⟨.hbm, 455, rfl⟩
abbrev main_cst_7 : Ref sig .tc := ⟨.hbm, 456, rfl⟩
abbrev main_v432 : Ref sig .tc := ⟨.hbm, 457, rfl⟩
abbrev main_v433 : Ref sig .tc := ⟨.hbm, 458, rfl⟩
abbrev main_v434 : Ref sig .tc := ⟨.hbm, 459, rfl⟩
abbrev main_v435 : Ref sig .tc := ⟨.hbm, 460, rfl⟩
abbrev main_cst_8 : Ref sig .tc := ⟨.hbm, 461, rfl⟩
abbrev main_v436 : Ref sig .tc := ⟨.hbm, 462, rfl⟩
abbrev main_v437 : Ref sig .tc := ⟨.hbm, 463, rfl⟩
abbrev main_v438 : Ref sig .tc := ⟨.hbm, 464, rfl⟩
abbrev main_v439 : Ref sig .tc := ⟨.hbm, 465, rfl⟩
abbrev main_v440 : Ref sig .tc := ⟨.hbm, 466, rfl⟩
abbrev main_cst_9 : Ref sig .tc := ⟨.hbm, 467, rfl⟩
abbrev main_v441 : Ref sig .tc := ⟨.hbm, 468, rfl⟩
abbrev main_v442 : Ref sig .tc := ⟨.hbm, 469, rfl⟩
abbrev main_v443 : Ref sig .tc := ⟨.hbm, 470, rfl⟩
abbrev main_v444 : Ref sig .tc := ⟨.hbm, 471, rfl⟩
abbrev main_v445 : Ref sig .tc := ⟨.hbm, 472, rfl⟩
abbrev main_cst_10 : Ref sig .tc := ⟨.hbm, 473, rfl⟩
abbrev main_v446 : Ref sig .tc := ⟨.hbm, 474, rfl⟩
abbrev main_v447 : Ref sig .tc := ⟨.hbm, 475, rfl⟩
abbrev main_v448 : Ref sig .tc := ⟨.hbm, 476, rfl⟩
abbrev main_v449 : Ref sig .tc := ⟨.hbm, 477, rfl⟩
abbrev main_c : Ref sig .tc := ⟨.hbm, 478, rfl⟩
abbrev main_call2_v0 : Ref sig .tc := ⟨.hbm, 479, rfl⟩
abbrev main_call2_v1 : Ref sig .tc := ⟨.hbm, 480, rfl⟩
abbrev main_v450 : Ref sig .tc := ⟨.hbm, 481, rfl⟩
abbrev main_c_11 : Ref sig .tc := ⟨.hbm, 482, rfl⟩
abbrev main_v451 : Ref sig .tc := ⟨.hbm, 483, rfl⟩
abbrev main_v452 : Ref sig .tc := ⟨.hbm, 484, rfl⟩
abbrev main_v453 : Ref sig .tc := ⟨.hbm, 485, rfl⟩
abbrev main_v454 : Ref sig .tc := ⟨.hbm, 486, rfl⟩
abbrev main_v455 : Ref sig .tc := ⟨.hbm, 487, rfl⟩
abbrev main_v456 : Ref sig .tc := ⟨.hbm, 488, rfl⟩
abbrev main_v457 : Ref sig .tc := ⟨.hbm, 489, rfl⟩
abbrev main_cst_12 : Ref sig .tc := ⟨.hbm, 490, rfl⟩
abbrev main_v458 : Ref sig .tc := ⟨.hbm, 491, rfl⟩
abbrev main_cst_13 : Ref sig .tc := ⟨.hbm, 492, rfl⟩
abbrev main_v459 : Ref sig .tc := ⟨.hbm, 493, rfl⟩
abbrev main_v460 : Ref sig .tc := ⟨.hbm, 494, rfl⟩
abbrev main_v461 : Ref sig .tc := ⟨.hbm, 495, rfl⟩
abbrev main_v462 : Ref sig .tc := ⟨.hbm, 496, rfl⟩
abbrev main_v463 : Ref sig .tc := ⟨.hbm, 497, rfl⟩
abbrev main_v464 : Ref sig .tc := ⟨.hbm, 498, rfl⟩
abbrev main_cst_14 : Ref sig .tc := ⟨.hbm, 499, rfl⟩
abbrev main_v465 : Ref sig .tc := ⟨.hbm, 500, rfl⟩
abbrev main_v466 : Ref sig .tc := ⟨.hbm, 501, rfl⟩
abbrev main_v467 : Ref sig .tc := ⟨.hbm, 502, rfl⟩
abbrev main_v468 : Ref sig .tc := ⟨.hbm, 503, rfl⟩
abbrev main_cst_15 : Ref sig .tc := ⟨.hbm, 504, rfl⟩
abbrev main_v469 : Ref sig .tc := ⟨.hbm, 505, rfl⟩
abbrev main_v470 : Ref sig .tc := ⟨.hbm, 506, rfl⟩
abbrev main_v471 : Ref sig .tc := ⟨.hbm, 507, rfl⟩
abbrev main_v472 : Ref sig .tc := ⟨.hbm, 508, rfl⟩
abbrev main_v473 : Ref sig .tc := ⟨.hbm, 509, rfl⟩
abbrev main_cst_16 : Ref sig .tc := ⟨.hbm, 510, rfl⟩
abbrev main_v474 : Ref sig .tc := ⟨.hbm, 511, rfl⟩
abbrev main_v475 : Ref sig .tc := ⟨.hbm, 512, rfl⟩
abbrev main_v476 : Ref sig .tc := ⟨.hbm, 513, rfl⟩
abbrev main_v477 : Ref sig .tc := ⟨.hbm, 514, rfl⟩
abbrev main_v478 : Ref sig .tc := ⟨.hbm, 515, rfl⟩
abbrev main_cst_17 : Ref sig .tc := ⟨.hbm, 516, rfl⟩
abbrev main_v479 : Ref sig .tc := ⟨.hbm, 517, rfl⟩
abbrev main_v480 : Ref sig .tc := ⟨.hbm, 518, rfl⟩
abbrev main_v481 : Ref sig .tc := ⟨.hbm, 519, rfl⟩
abbrev main_v482 : Ref sig .tc := ⟨.hbm, 520, rfl⟩
abbrev main_c_18 : Ref sig .tc := ⟨.hbm, 521, rfl⟩
abbrev main_call3_v0 : Ref sig .tc := ⟨.hbm, 522, rfl⟩
abbrev main_call3_v1 : Ref sig .tc := ⟨.hbm, 523, rfl⟩
abbrev main_v483 : Ref sig .tc := ⟨.hbm, 524, rfl⟩
abbrev main_c_19 : Ref sig .tc := ⟨.hbm, 525, rfl⟩
abbrev main_v484 : Ref sig .tc := ⟨.hbm, 526, rfl⟩
abbrev main_v485 : Ref sig .tc := ⟨.hbm, 527, rfl⟩
abbrev main_v486 : Ref sig .tc := ⟨.hbm, 528, rfl⟩
abbrev main_v487 : Ref sig .tc := ⟨.hbm, 529, rfl⟩
abbrev main_v488 : Ref sig .tc := ⟨.hbm, 530, rfl⟩
abbrev main_v489 : Ref sig .tc := ⟨.hbm, 531, rfl⟩
abbrev main_v490 : Ref sig .tc := ⟨.hbm, 532, rfl⟩
abbrev main_cst_20 : Ref sig .tc := ⟨.hbm, 533, rfl⟩
abbrev main_v491 : Ref sig .tc := ⟨.hbm, 534, rfl⟩
abbrev main_cst_21 : Ref sig .tc := ⟨.hbm, 535, rfl⟩
abbrev main_v492 : Ref sig .tc := ⟨.hbm, 536, rfl⟩
abbrev main_v493 : Ref sig .tc := ⟨.hbm, 537, rfl⟩
abbrev main_v494 : Ref sig .tc := ⟨.hbm, 538, rfl⟩
abbrev main_v495 : Ref sig .tc := ⟨.hbm, 539, rfl⟩
abbrev main_v496 : Ref sig .tc := ⟨.hbm, 540, rfl⟩
abbrev main_v497 : Ref sig .tc := ⟨.hbm, 541, rfl⟩
abbrev main_cst_22 : Ref sig .tc := ⟨.hbm, 542, rfl⟩
abbrev main_v498 : Ref sig .tc := ⟨.hbm, 543, rfl⟩
abbrev main_v499 : Ref sig .tc := ⟨.hbm, 544, rfl⟩
abbrev main_v500 : Ref sig .tc := ⟨.hbm, 545, rfl⟩
abbrev main_v501 : Ref sig .tc := ⟨.hbm, 546, rfl⟩
abbrev main_cst_23 : Ref sig .tc := ⟨.hbm, 547, rfl⟩
abbrev main_v502 : Ref sig .tc := ⟨.hbm, 548, rfl⟩
abbrev main_v503 : Ref sig .tc := ⟨.hbm, 549, rfl⟩
abbrev main_v504 : Ref sig .tc := ⟨.hbm, 550, rfl⟩
abbrev main_v505 : Ref sig .tc := ⟨.hbm, 551, rfl⟩
abbrev main_v506 : Ref sig .tc := ⟨.hbm, 552, rfl⟩
abbrev main_cst_24 : Ref sig .tc := ⟨.hbm, 553, rfl⟩
abbrev main_v507 : Ref sig .tc := ⟨.hbm, 554, rfl⟩
abbrev main_v508 : Ref sig .tc := ⟨.hbm, 555, rfl⟩
abbrev main_v509 : Ref sig .tc := ⟨.hbm, 556, rfl⟩
abbrev main_v510 : Ref sig .tc := ⟨.hbm, 557, rfl⟩
abbrev main_v511 : Ref sig .tc := ⟨.hbm, 558, rfl⟩
abbrev main_cst_25 : Ref sig .tc := ⟨.hbm, 559, rfl⟩
abbrev main_v512 : Ref sig .tc := ⟨.hbm, 560, rfl⟩
abbrev main_v513 : Ref sig .tc := ⟨.hbm, 561, rfl⟩
abbrev main_v514 : Ref sig .tc := ⟨.hbm, 562, rfl⟩
abbrev main_v515 : Ref sig .tc := ⟨.hbm, 563, rfl⟩
abbrev main_c_26 : Ref sig .tc := ⟨.hbm, 564, rfl⟩
abbrev main_call4_v0 : Ref sig .tc := ⟨.hbm, 565, rfl⟩
abbrev main_call4_v1 : Ref sig .tc := ⟨.hbm, 566, rfl⟩
abbrev main_v516 : Ref sig .tc := ⟨.hbm, 567, rfl⟩
abbrev main_c_27 : Ref sig .tc := ⟨.hbm, 568, rfl⟩
abbrev main_v517 : Ref sig .tc := ⟨.hbm, 569, rfl⟩
abbrev main_v518 : Ref sig .tc := ⟨.hbm, 570, rfl⟩
abbrev main_v519 : Ref sig .tc := ⟨.hbm, 571, rfl⟩
abbrev main_v520 : Ref sig .tc := ⟨.hbm, 572, rfl⟩
abbrev main_v521 : Ref sig .tc := ⟨.hbm, 573, rfl⟩
abbrev main_v522 : Ref sig .tc := ⟨.hbm, 574, rfl⟩
abbrev main_v523 : Ref sig .tc := ⟨.hbm, 575, rfl⟩
abbrev main_cst_28 : Ref sig .tc := ⟨.hbm, 576, rfl⟩
abbrev main_v524 : Ref sig .tc := ⟨.hbm, 577, rfl⟩
abbrev main_cst_29 : Ref sig .tc := ⟨.hbm, 578, rfl⟩
abbrev main_v525 : Ref sig .tc := ⟨.hbm, 579, rfl⟩
abbrev main_v526 : Ref sig .tc := ⟨.hbm, 580, rfl⟩
abbrev main_v527 : Ref sig .tc := ⟨.hbm, 581, rfl⟩
abbrev main_v528 : Ref sig .tc := ⟨.hbm, 582, rfl⟩
abbrev main_v529 : Ref sig .tc := ⟨.hbm, 583, rfl⟩
abbrev main_v530 : Ref sig .tc := ⟨.hbm, 584, rfl⟩
abbrev main_cst_30 : Ref sig .tc := ⟨.hbm, 585, rfl⟩
abbrev main_v531 : Ref sig .tc := ⟨.hbm, 586, rfl⟩
abbrev main_v532 : Ref sig .tc := ⟨.hbm, 587, rfl⟩
abbrev main_v533 : Ref sig .tc := ⟨.hbm, 588, rfl⟩
abbrev main_v534 : Ref sig .tc := ⟨.hbm, 589, rfl⟩
abbrev main_cst_31 : Ref sig .tc := ⟨.hbm, 590, rfl⟩
abbrev main_v535 : Ref sig .tc := ⟨.hbm, 591, rfl⟩
abbrev main_v536 : Ref sig .tc := ⟨.hbm, 592, rfl⟩
abbrev main_v537 : Ref sig .tc := ⟨.hbm, 593, rfl⟩
abbrev main_v538 : Ref sig .tc := ⟨.hbm, 594, rfl⟩
abbrev main_v539 : Ref sig .tc := ⟨.hbm, 595, rfl⟩
abbrev main_cst_32 : Ref sig .tc := ⟨.hbm, 596, rfl⟩
abbrev main_v540 : Ref sig .tc := ⟨.hbm, 597, rfl⟩
abbrev main_v541 : Ref sig .tc := ⟨.hbm, 598, rfl⟩
abbrev main_v542 : Ref sig .tc := ⟨.hbm, 599, rfl⟩
abbrev main_v543 : Ref sig .tc := ⟨.hbm, 600, rfl⟩
abbrev main_v544 : Ref sig .tc := ⟨.hbm, 601, rfl⟩
abbrev main_cst_33 : Ref sig .tc := ⟨.hbm, 602, rfl⟩
abbrev main_v545 : Ref sig .tc := ⟨.hbm, 603, rfl⟩
abbrev main_v546 : Ref sig .tc := ⟨.hbm, 604, rfl⟩
abbrev main_v547 : Ref sig .tc := ⟨.hbm, 605, rfl⟩
abbrev main_v548 : Ref sig .tc := ⟨.hbm, 606, rfl⟩
abbrev main_c_34 : Ref sig .tc := ⟨.hbm, 607, rfl⟩
abbrev main_call5_v0 : Ref sig .tc := ⟨.hbm, 608, rfl⟩
abbrev main_call5_v1 : Ref sig .tc := ⟨.hbm, 609, rfl⟩
abbrev main_v549 : Ref sig .tc := ⟨.hbm, 610, rfl⟩
abbrev main_c_35 : Ref sig .tc := ⟨.hbm, 611, rfl⟩
abbrev main_v550 : Ref sig .tc := ⟨.hbm, 612, rfl⟩
abbrev main_v551 : Ref sig .tc := ⟨.hbm, 613, rfl⟩
abbrev main_v552 : Ref sig .tc := ⟨.hbm, 614, rfl⟩
abbrev main_v553 : Ref sig .tc := ⟨.hbm, 615, rfl⟩
abbrev main_v554 : Ref sig .tc := ⟨.hbm, 616, rfl⟩
abbrev main_v555 : Ref sig .tc := ⟨.hbm, 617, rfl⟩
abbrev main_v556 : Ref sig .tc := ⟨.hbm, 618, rfl⟩
abbrev main_cst_36 : Ref sig .tc := ⟨.hbm, 619, rfl⟩
abbrev main_v557 : Ref sig .tc := ⟨.hbm, 620, rfl⟩
abbrev main_cst_37 : Ref sig .tc := ⟨.hbm, 621, rfl⟩
abbrev main_v558 : Ref sig .tc := ⟨.hbm, 622, rfl⟩
abbrev main_v559 : Ref sig .tc := ⟨.hbm, 623, rfl⟩
abbrev main_v560 : Ref sig .tc := ⟨.hbm, 624, rfl⟩
abbrev main_v561 : Ref sig .tc := ⟨.hbm, 625, rfl⟩
abbrev main_v562 : Ref sig .tc := ⟨.hbm, 626, rfl⟩
abbrev main_v563 : Ref sig .tc := ⟨.hbm, 627, rfl⟩
abbrev main_v564 : Ref sig .tc := ⟨.hbm, 628, rfl⟩
abbrev main_v565 : Ref sig .tc := ⟨.hbm, 629, rfl⟩
abbrev main_v566 : Ref sig .tc := ⟨.hbm, 630, rfl⟩
abbrev main_v567 : Ref sig .tc := ⟨.hbm, 631, rfl⟩
abbrev main_v568 : Ref sig .tc := ⟨.hbm, 632, rfl⟩
abbrev main_v569 : Ref sig .tc := ⟨.hbm, 633, rfl⟩
abbrev main_v570 : Ref sig .tc := ⟨.hbm, 634, rfl⟩
abbrev main_v571 : Ref sig .tc := ⟨.hbm, 635, rfl⟩
abbrev main_v572 : Ref sig .tc := ⟨.hbm, 636, rfl⟩
abbrev main_v573 : Ref sig .tc := ⟨.hbm, 637, rfl⟩
abbrev main_cst_38 : Ref sig .tc := ⟨.hbm, 638, rfl⟩
abbrev main_v574 : Ref sig .tc := ⟨.hbm, 639, rfl⟩
abbrev main_v575 : Ref sig .tc := ⟨.hbm, 640, rfl⟩
abbrev main_v576 : Ref sig .tc := ⟨.hbm, 641, rfl⟩
abbrev main_v577 : Ref sig .tc := ⟨.hbm, 642, rfl⟩
abbrev main_v578 : Ref sig .tc := ⟨.hbm, 643, rfl⟩
abbrev main_v579 : Ref sig .tc := ⟨.hbm, 644, rfl⟩
abbrev main_v580 : Ref sig .tc := ⟨.hbm, 645, rfl⟩
abbrev main_v581 : Ref sig .tc := ⟨.hbm, 646, rfl⟩
abbrev main_v582 : Ref sig .tc := ⟨.hbm, 647, rfl⟩
abbrev main_v583 : Ref sig .tc := ⟨.hbm, 648, rfl⟩
abbrev main_v584 : Ref sig .tc := ⟨.hbm, 649, rfl⟩
abbrev main_v585 : Ref sig .tc := ⟨.hbm, 650, rfl⟩
abbrev main_v586 : Ref sig .tc := ⟨.hbm, 651, rfl⟩
abbrev main_v587 : Ref sig .tc := ⟨.hbm, 652, rfl⟩
abbrev main_v588 : Ref sig .tc := ⟨.hbm, 653, rfl⟩
abbrev main_v589 : Ref sig .tc := ⟨.hbm, 654, rfl⟩
abbrev main_v590 : Ref sig .tc := ⟨.hbm, 655, rfl⟩
abbrev main_v591 : Ref sig .tc := ⟨.hbm, 656, rfl⟩
abbrev main_v592 : Ref sig .tc := ⟨.hbm, 657, rfl⟩
abbrev main_v593 : Ref sig .tc := ⟨.hbm, 658, rfl⟩
abbrev main_v594 : Ref sig .tc := ⟨.hbm, 659, rfl⟩
abbrev main_v595 : Ref sig .tc := ⟨.hbm, 660, rfl⟩
abbrev main_v596 : Ref sig .tc := ⟨.hbm, 661, rfl⟩
abbrev main_v597 : Ref sig .tc := ⟨.hbm, 662, rfl⟩
abbrev main_v598 : Ref sig .tc := ⟨.hbm, 663, rfl⟩
abbrev main_v599 : Ref sig .tc := ⟨.hbm, 664, rfl⟩
abbrev main_v600 : Ref sig .tc := ⟨.hbm, 665, rfl⟩
abbrev main_v601 : Ref sig .tc := ⟨.hbm, 666, rfl⟩
abbrev main_v602 : Ref sig .tc := ⟨.hbm, 667, rfl⟩
abbrev main_v603 : Ref sig .tc := ⟨.hbm, 668, rfl⟩
abbrev main_v604 : Ref sig .tc := ⟨.hbm, 669, rfl⟩
abbrev main_v605 : Ref sig .tc := ⟨.hbm, 670, rfl⟩
abbrev main_v606 : Ref sig .tc := ⟨.hbm, 671, rfl⟩
abbrev main_v607 : Ref sig .tc := ⟨.hbm, 672, rfl⟩
abbrev main_v608 : Ref sig .tc := ⟨.hbm, 673, rfl⟩
abbrev main_v609 : Ref sig .tc := ⟨.hbm, 674, rfl⟩
abbrev main_v610 : Ref sig .tc := ⟨.hbm, 675, rfl⟩
abbrev main_v611 : Ref sig .tc := ⟨.hbm, 676, rfl⟩
abbrev main_v612 : Ref sig .tc := ⟨.hbm, 677, rfl⟩
abbrev main_v613 : Ref sig .tc := ⟨.hbm, 678, rfl⟩
abbrev main_v614 : Ref sig .tc := ⟨.hbm, 679, rfl⟩
abbrev main_cst_39 : Ref sig .tc := ⟨.hbm, 680, rfl⟩
abbrev main_v615 : Ref sig .tc := ⟨.hbm, 681, rfl⟩
abbrev main_v616 : Ref sig .tc := ⟨.hbm, 682, rfl⟩
abbrev main_cst_40 : Ref sig .tc := ⟨.hbm, 683, rfl⟩
abbrev main_v617 : Ref sig .tc := ⟨.hbm, 684, rfl⟩
abbrev main_v618 : Ref sig .tc := ⟨.hbm, 685, rfl⟩
abbrev main_v619 : Ref sig .tc := ⟨.hbm, 686, rfl⟩
abbrev main_v620 : Ref sig .tc := ⟨.hbm, 687, rfl⟩
abbrev main_v621 : Ref sig .tc := ⟨.hbm, 688, rfl⟩
abbrev main_v622 : Ref sig .tc := ⟨.hbm, 689, rfl⟩
abbrev main_v623 : Ref sig .tc := ⟨.hbm, 690, rfl⟩
abbrev main_v624 : Ref sig .tc := ⟨.hbm, 691, rfl⟩
abbrev main_v625 : Ref sig .tc := ⟨.hbm, 692, rfl⟩
abbrev main_v626 : Ref sig .tc := ⟨.hbm, 693, rfl⟩
abbrev main_v627 : Ref sig .tc := ⟨.hbm, 694, rfl⟩
abbrev main_v628 : Ref sig .tc := ⟨.hbm, 695, rfl⟩
abbrev main_v629 : Ref sig .tc := ⟨.hbm, 696, rfl⟩
abbrev main_v630 : Ref sig .tc := ⟨.hbm, 697, rfl⟩
abbrev main_v631 : Ref sig .tc := ⟨.hbm, 698, rfl⟩
abbrev main_v632 : Ref sig .tc := ⟨.hbm, 699, rfl⟩
abbrev main_v633 : Ref sig .tc := ⟨.hbm, 700, rfl⟩
abbrev main_v634 : Ref sig .tc := ⟨.hbm, 701, rfl⟩
abbrev main_v635 : Ref sig .tc := ⟨.hbm, 702, rfl⟩
abbrev main_v636 : Ref sig .tc := ⟨.hbm, 703, rfl⟩
abbrev main_v637 : Ref sig .tc := ⟨.hbm, 704, rfl⟩
abbrev main_v638 : Ref sig .tc := ⟨.hbm, 705, rfl⟩
abbrev main_v639 : Ref sig .tc := ⟨.hbm, 706, rfl⟩
abbrev main_v640 : Ref sig .tc := ⟨.hbm, 707, rfl⟩
abbrev main_v641 : Ref sig .tc := ⟨.hbm, 708, rfl⟩
abbrev main_v642 : Ref sig .tc := ⟨.hbm, 709, rfl⟩
abbrev main_v643 : Ref sig .tc := ⟨.hbm, 710, rfl⟩
abbrev main_v644 : Ref sig .tc := ⟨.hbm, 711, rfl⟩
abbrev main_v645 : Ref sig .tc := ⟨.hbm, 712, rfl⟩
abbrev main_v646 : Ref sig .tc := ⟨.hbm, 713, rfl⟩
abbrev main_v647 : Ref sig .tc := ⟨.hbm, 714, rfl⟩
abbrev main_v648 : Ref sig .tc := ⟨.hbm, 715, rfl⟩
abbrev main_v649 : Ref sig .tc := ⟨.hbm, 716, rfl⟩
abbrev main_v650 : Ref sig .tc := ⟨.hbm, 717, rfl⟩
abbrev main_v651 : Ref sig .tc := ⟨.hbm, 718, rfl⟩
abbrev main_v652 : Ref sig .tc := ⟨.hbm, 719, rfl⟩
abbrev main_v653 : Ref sig .tc := ⟨.hbm, 720, rfl⟩
abbrev main_v654 : Ref sig .tc := ⟨.hbm, 721, rfl⟩
abbrev main_v655 : Ref sig .tc := ⟨.hbm, 722, rfl⟩
abbrev main_v656 : Ref sig .tc := ⟨.hbm, 723, rfl⟩
abbrev main_v657 : Ref sig .tc := ⟨.hbm, 724, rfl⟩
abbrev main_v658 : Ref sig .tc := ⟨.hbm, 725, rfl⟩
abbrev main_v659 : Ref sig .tc := ⟨.hbm, 726, rfl⟩
abbrev main_v660 : Ref sig .tc := ⟨.hbm, 727, rfl⟩
abbrev main_v661 : Ref sig .tc := ⟨.hbm, 728, rfl⟩
abbrev main_v662 : Ref sig .tc := ⟨.hbm, 729, rfl⟩
abbrev main_v663 : Ref sig .tc := ⟨.hbm, 730, rfl⟩
abbrev main_v664 : Ref sig .tc := ⟨.hbm, 731, rfl⟩
abbrev main_v665 : Ref sig .tc := ⟨.hbm, 732, rfl⟩
abbrev main_v666 : Ref sig .tc := ⟨.hbm, 733, rfl⟩
abbrev main_v667 : Ref sig .tc := ⟨.hbm, 734, rfl⟩
abbrev main_v668 : Ref sig .tc := ⟨.hbm, 735, rfl⟩
abbrev main_v669 : Ref sig .tc := ⟨.hbm, 736, rfl⟩
abbrev main_v670 : Ref sig .tc := ⟨.hbm, 737, rfl⟩
abbrev main_v671 : Ref sig .tc := ⟨.hbm, 738, rfl⟩
abbrev main_v672 : Ref sig .tc := ⟨.hbm, 739, rfl⟩
abbrev main_v673 : Ref sig .tc := ⟨.hbm, 740, rfl⟩
abbrev main_v674 : Ref sig .tc := ⟨.hbm, 741, rfl⟩
abbrev main_v675 : Ref sig .tc := ⟨.hbm, 742, rfl⟩
abbrev main_v676 : Ref sig .tc := ⟨.hbm, 743, rfl⟩
abbrev main_v677 : Ref sig .tc := ⟨.hbm, 744, rfl⟩
abbrev main_v678 : Ref sig .tc := ⟨.hbm, 745, rfl⟩
abbrev main_v679 : Ref sig .tc := ⟨.hbm, 746, rfl⟩
abbrev main_v680 : Ref sig .tc := ⟨.hbm, 747, rfl⟩
abbrev main_v681 : Ref sig .tc := ⟨.hbm, 748, rfl⟩
abbrev main_v682 : Ref sig .tc := ⟨.hbm, 749, rfl⟩
abbrev main_v683 : Ref sig .tc := ⟨.hbm, 750, rfl⟩
abbrev main_v684 : Ref sig .tc := ⟨.hbm, 751, rfl⟩
abbrev main_v685 : Ref sig .tc := ⟨.hbm, 752, rfl⟩
abbrev main_cst_41 : Ref sig .tc := ⟨.hbm, 753, rfl⟩
abbrev main_v686 : Ref sig .tc := ⟨.hbm, 754, rfl⟩
abbrev main_v687 : Ref sig .tc := ⟨.hbm, 755, rfl⟩
abbrev main_cst_42 : Ref sig .tc := ⟨.hbm, 756, rfl⟩
abbrev main_v688 : Ref sig .tc := ⟨.hbm, 757, rfl⟩
abbrev main_v689 : Ref sig .tc := ⟨.hbm, 758, rfl⟩
abbrev main_v690 : Ref sig .tc := ⟨.hbm, 759, rfl⟩
abbrev main_v691 : Ref sig .tc := ⟨.hbm, 760, rfl⟩
abbrev main_v692 : Ref sig .tc := ⟨.hbm, 761, rfl⟩
abbrev main_v693 : Ref sig .tc := ⟨.hbm, 762, rfl⟩
abbrev main_v694 : Ref sig .tc := ⟨.hbm, 763, rfl⟩
abbrev main_v695 : Ref sig .tc := ⟨.hbm, 764, rfl⟩
abbrev main_v696 : Ref sig .tc := ⟨.hbm, 765, rfl⟩
abbrev main_v697 : Ref sig .tc := ⟨.hbm, 766, rfl⟩
abbrev main_v698 : Ref sig .tc := ⟨.hbm, 767, rfl⟩
abbrev main_v699 : Ref sig .tc := ⟨.hbm, 768, rfl⟩
abbrev main_v700 : Ref sig .tc := ⟨.hbm, 769, rfl⟩
abbrev main_v701 : Ref sig .tc := ⟨.hbm, 770, rfl⟩
abbrev main_v702 : Ref sig .tc := ⟨.hbm, 771, rfl⟩
abbrev main_v703 : Ref sig .tc := ⟨.hbm, 772, rfl⟩
abbrev main_v704 : Ref sig .tc := ⟨.hbm, 773, rfl⟩
abbrev main_v705 : Ref sig .tc := ⟨.hbm, 774, rfl⟩
abbrev main_v706 : Ref sig .tc := ⟨.hbm, 775, rfl⟩
abbrev main_v707 : Ref sig .tc := ⟨.hbm, 776, rfl⟩
abbrev main_v708 : Ref sig .tc := ⟨.hbm, 777, rfl⟩
abbrev main_v709 : Ref sig .tc := ⟨.hbm, 778, rfl⟩
abbrev main_v710 : Ref sig .tc := ⟨.hbm, 779, rfl⟩
abbrev main_v711 : Ref sig .tc := ⟨.hbm, 780, rfl⟩
abbrev main_v712 : Ref sig .tc := ⟨.hbm, 781, rfl⟩
abbrev main_v713 : Ref sig .tc := ⟨.hbm, 782, rfl⟩
abbrev main_v714 : Ref sig .tc := ⟨.hbm, 783, rfl⟩
abbrev main_v715 : Ref sig .tc := ⟨.hbm, 784, rfl⟩
abbrev main_v716 : Ref sig .tc := ⟨.hbm, 785, rfl⟩
abbrev main_v717 : Ref sig .tc := ⟨.hbm, 786, rfl⟩
abbrev main_v718 : Ref sig .tc := ⟨.hbm, 787, rfl⟩
abbrev main_v719 : Ref sig .tc := ⟨.hbm, 788, rfl⟩
abbrev main_v720 : Ref sig .tc := ⟨.hbm, 789, rfl⟩
abbrev main_v721 : Ref sig .tc := ⟨.hbm, 790, rfl⟩
abbrev main_v722 : Ref sig .tc := ⟨.hbm, 791, rfl⟩
abbrev main_v723 : Ref sig .tc := ⟨.hbm, 792, rfl⟩
abbrev main_v724 : Ref sig .tc := ⟨.hbm, 793, rfl⟩
abbrev main_v725 : Ref sig .tc := ⟨.hbm, 794, rfl⟩
abbrev main_v726 : Ref sig .tc := ⟨.hbm, 795, rfl⟩
abbrev main_v727 : Ref sig .tc := ⟨.hbm, 796, rfl⟩
abbrev main_v728 : Ref sig .tc := ⟨.hbm, 797, rfl⟩
abbrev main_v729 : Ref sig .tc := ⟨.hbm, 798, rfl⟩
abbrev main_v730 : Ref sig .tc := ⟨.hbm, 799, rfl⟩
abbrev main_v731 : Ref sig .tc := ⟨.hbm, 800, rfl⟩
abbrev main_v732 : Ref sig .tc := ⟨.hbm, 801, rfl⟩
abbrev main_v733 : Ref sig .tc := ⟨.hbm, 802, rfl⟩
abbrev main_v734 : Ref sig .tc := ⟨.hbm, 803, rfl⟩
abbrev main_v735 : Ref sig .tc := ⟨.hbm, 804, rfl⟩
abbrev main_v736 : Ref sig .tc := ⟨.hbm, 805, rfl⟩
abbrev main_v737 : Ref sig .tc := ⟨.hbm, 806, rfl⟩
abbrev main_v738 : Ref sig .tc := ⟨.hbm, 807, rfl⟩
abbrev main_v739 : Ref sig .tc := ⟨.hbm, 808, rfl⟩
abbrev main_v740 : Ref sig .tc := ⟨.hbm, 809, rfl⟩
abbrev main_v741 : Ref sig .tc := ⟨.hbm, 810, rfl⟩
abbrev main_v742 : Ref sig .tc := ⟨.hbm, 811, rfl⟩
abbrev main_v743 : Ref sig .tc := ⟨.hbm, 812, rfl⟩
abbrev main_v744 : Ref sig .tc := ⟨.hbm, 813, rfl⟩
abbrev main_v745 : Ref sig .tc := ⟨.hbm, 814, rfl⟩
abbrev main_v746 : Ref sig .tc := ⟨.hbm, 815, rfl⟩
abbrev main_v747 : Ref sig .tc := ⟨.hbm, 816, rfl⟩
abbrev main_v748 : Ref sig .tc := ⟨.hbm, 817, rfl⟩
abbrev main_v749 : Ref sig .tc := ⟨.hbm, 818, rfl⟩
abbrev main_v750 : Ref sig .tc := ⟨.hbm, 819, rfl⟩
abbrev main_v751 : Ref sig .tc := ⟨.hbm, 820, rfl⟩
abbrev main_v752 : Ref sig .tc := ⟨.hbm, 821, rfl⟩
abbrev main_v753 : Ref sig .tc := ⟨.hbm, 822, rfl⟩
abbrev main_v754 : Ref sig .tc := ⟨.hbm, 823, rfl⟩
abbrev main_v755 : Ref sig .tc := ⟨.hbm, 824, rfl⟩
abbrev main_v756 : Ref sig .tc := ⟨.hbm, 825, rfl⟩
abbrev main_v757 : Ref sig .tc := ⟨.hbm, 826, rfl⟩

abbrev nD : Nat := 1
abbrev τ : Topo := Topo.v7x

variable {F : FTy → Type} [FloatOps F]
-- ==== Proof.RefFrame.lean ====
/- The reference's frame: its run, read at the arguments, and that it declares no semaphore. -/
module

public import proofs.«01_k».proof.Defs
public import proofs.«01_k».proof.Proof.Gen.ReferenceIdeal.Run
public import Idealize.ShloMosaic.Lib.Quiescent

@[expose] public section

namespace Cert.Proof

open Idealize.ShloMosaic Idealize.SL.Sem

/-- The idealized reference terminates from any memory, leaves its arguments as they were, and ends with every
    semaphore counter at zero. -/
theorem reference_frame : Cert.quiescent_ReferenceIdeal (hReferenceIdeal := Cert.ReferenceIdeal.Gen.facts) := fun m ρ _ =>
  (θ_run Cert.ReferenceIdeal.defs _ _).mono
    (fun r h => ⟨fun c => (h c).2.2.2.2, sem_eq_zero_of_no_sems (by decide) r.2⟩)
    (Cert.ReferenceIdeal.Value.run (F := Ideal) m ρ)

end Cert.Proof

end
-- ==== Proof.Reads.lean ====
/- Arrays read at natural numbers: zero outside the array. An equation between two layouts is then an equation between
   reads at natural numbers, with no bounds to carry. -/
module

public import Idealize.ShloMosaic.PureOps.Ideal
public import Idealize.ShloMosaic.Lib.ValueIdxCore
public import Idealize.ShloMosaic.Lib.ValueIdx
public import Idealize.ShloMosaic.Lib.ValueIdxRank6
public import Idealize.ShloMosaic.Lib.Pipeline.Value
public import Idealize.ShloMosaic.Lib.ValueLayout
public import Idealize.ShloMosaic.Lib.MatmulPlain

@[expose] public section

noncomputable section

open scoped BigOperators

namespace Cert.Proof

open Idealize.ShloMosaic Idealize.ShloMosaic.ValueIdx

variable {n0 n1 n2 n3 : ℕ}

/-- A vector at a natural number, zero outside it. -/
def rd1 (x : (⟨1, ![n0]⟩ : Shape).Idx → EReal) (a : ℕ) : EReal :=
  if h : a < n0 then x (ix1 ⟨a, h⟩) else 0

/-- A matrix at a pair of natural numbers, zero outside it. -/
def rd2 (x : (⟨2, ![n0, n1]⟩ : Shape).Idx → EReal) (a b : ℕ) : EReal :=
  if h : a < n0 ∧ b < n1 then x (ix2 ⟨a, h.1⟩ ⟨b, h.2⟩) else 0

/-- An array of rank 3 at three natural numbers, zero outside it. -/
def rd3 (x : (⟨3, ![n0, n1, n2]⟩ : Shape).Idx → EReal) (a b c : ℕ) : EReal :=
  if h : a < n0 ∧ b < n1 ∧ c < n2 then x (ix3 ⟨a, h.1⟩ ⟨b, h.2.1⟩ ⟨c, h.2.2⟩) else 0

/-- An array of rank 4 at four natural numbers, zero outside it. -/
def rd4 (x : (⟨4, ![n0, n1, n2, n3]⟩ : Shape).Idx → EReal) (a b c d : ℕ) : EReal :=
  if h : a < n0 ∧ b < n1 ∧ c < n2 ∧ d < n3 then x (ix4 ⟨a, h.1⟩ ⟨b, h.2.1⟩ ⟨c, h.2.2.1⟩ ⟨d, h.2.2.2⟩) else 0

/-- A vector read inside its range. -/
theorem rd1_of (x : (⟨1, ![n0]⟩ : Shape).Idx → EReal) {a : ℕ} (ha : a < n0) : rd1 x a = x (ix1 ⟨a, ha⟩) := dif_pos ha

/-- A matrix read inside its range. -/
theorem rd2_of (x : (⟨2, ![n0, n1]⟩ : Shape).Idx → EReal) {a b : ℕ} (ha : a < n0) (hb : b < n1) :
    rd2 x a b = x (ix2 ⟨a, ha⟩ ⟨b, hb⟩) := dif_pos ⟨ha, hb⟩

/-- The same with three axes. -/
theorem rd3_of (x : (⟨3, ![n0, n1, n2]⟩ : Shape).Idx → EReal) {a b c : ℕ} (ha : a < n0) (hb : b < n1) (hc : c < n2) :
    rd3 x a b c = x (ix3 ⟨a, ha⟩ ⟨b, hb⟩ ⟨c, hc⟩) := dif_pos ⟨ha, hb, hc⟩

/-- The same with four. -/
theorem rd4_of (x : (⟨4, ![n0, n1, n2, n3]⟩ : Shape).Idx → EReal) {a b c d : ℕ} (ha : a < n0) (hb : b < n1) (hc : c < n2)
    (hd : d < n3) : rd4 x a b c d = x (ix4 ⟨a, ha⟩ ⟨b, hb⟩ ⟨c, hc⟩ ⟨d, hd⟩) := dif_pos ⟨ha, hb, hc, hd⟩

/-- An entry is the read at its coordinates. -/
theorem rd1_val (x : (⟨1, ![n0]⟩ : Shape).Idx → EReal) (j) : x j = rd1 x (j 0).val := by
  rw [rd1_of x (j 0).isLt]; exact congrArg x (eq_ix1 j)

/-- An entry is the read at its coordinates. -/
theorem rd2_val (x : (⟨2, ![n0, n1]⟩ : Shape).Idx → EReal) (j) : x j = rd2 x (j 0).val (j 1).val := by
  rw [rd2_of x (j 0).isLt (j 1).isLt]; exact congrArg x (eq_ix2 j)

/-- An entry is the read at its coordinates. -/
theorem rd3_val (x : (⟨3, ![n0, n1, n2]⟩ : Shape).Idx → EReal) (j) : x j = rd3 x (j 0).val (j 1).val (j 2).val := by
  rw [rd3_of x (j 0).isLt (j 1).isLt (j 2).isLt]; exact congrArg x (eq_ix3 j)

/-- An entry is the read at its coordinates. -/
theorem rd4_val (x : (⟨4, ![n0, n1, n2, n3]⟩ : Shape).Idx → EReal) (j) :
    x j = rd4 x (j 0).val (j 1).val (j 2).val (j 3).val := by
  rw [rd4_of x (j 0).isLt (j 1).isLt (j 2).isLt (j 3).isLt]; exact congrArg x (eq_ix4 j)

/-- An entry at an index whose coordinates are known is the read there. -/
theorem rd4_at (x : (⟨4, ![n0, n1, n2, n3]⟩ : Shape).Idx → EReal) (j) {a b c d : ℕ} (ha : (j 0).val = a) (hb : (j 1).val = b)
    (hc : (j 2).val = c) (hd : (j 3).val = d) : x j = rd4 x a b c d := by
  rw [rd4_val x j, ha, hb, hc, hd]

/-- An entry at an index whose coordinates are known is the read there. -/
theorem rd2_at (x : (⟨2, ![n0, n1]⟩ : Shape).Idx → EReal) (j) {a b : ℕ} (ha : (j 0).val = a) (hb : (j 1).val = b) :
    x j = rd2 x a b := by
  rw [rd2_val x j, ha, hb]

/-- A sum over the first `k * C` naturals, by blocks of `C`. -/
theorem sum_range_blocks (f : ℕ → EReal) (k C : ℕ) :
    ∑ i ∈ Finset.range (k * C), f i = ∑ t ∈ Finset.range k, ∑ c ∈ Finset.range C, f (t * C + c) := by
  induction k with
  | zero => simp
  | succ k ih => rw [Nat.succ_mul, Finset.sum_range_add, ih, Finset.sum_range_succ]

/-! ## Zero padding -/

/-- Zero padding of `p` in front of the last two coordinates. -/
def padS (p : ℕ) (X : ℕ → ℕ → ℕ → ℕ → EReal) (b c h w : ℕ) : EReal :=
  if p ≤ h ∧ p ≤ w then X b c (h - p) (w - p) else 0

/-- Zeros between the last two coordinates' entries, and two in front. -/
def padD (X : ℕ → ℕ → ℕ → ℕ → EReal) (b c h w : ℕ) : EReal :=
  if (2 ≤ h ∧ (h - 2) % 2 = 0) ∧ (2 ≤ w ∧ (w - 2) % 2 = 0) then X b c ((h - 2) / 2) ((w - 2) / 2) else 0

variable {m0 m1 m2 m3 : ℕ}

/-- Padding the last two of four axes by `p` in front (and by whatever is left behind), read at naturals. -/
theorem rd4_pad_nchw {p q : ℕ} (x : (⟨4, ![n0, n1, n2, n3]⟩ : Shape).Idx → EReal) (v : (⟨0, ![]⟩ : Shape).Idx → EReal)
    (hp : Shape.Pads ⟨4, ![n0, n1, n2, n3]⟩ ![0, 0, p, p] ![0, 0, q, q] ![0, 0, 0, 0] ⟨4, ![n0, n1, m2, m3]⟩)
    (hv : 0 < (⟨0, ![]⟩ : Shape).numel) (h0 : ∀ i, v i = 0) (h2 : n2 + p ≤ m2) (h3 : n3 + p ≤ m3) (b c h w : ℕ) :
    rd4 (pad ⟨4, ![n0, n1, m2, m3]⟩ ![0, 0, p, p] ![0, 0, q, q] ![0, 0, 0, 0] x v hp hv) b c h w = padS p (rd4 x) b c h w := by
  unfold padS
  by_cases hr : b < n0 ∧ c < n1 ∧ h < m2 ∧ w < m3
  · obtain ⟨hb, hc, hh, hw⟩ := hr
    rw [rd4_of _ hb hc hh hw]
    unfold pad
    by_cases hin : (p ≤ h ∧ h - p < n2) ∧ p ≤ w ∧ w - p < n3
    · rw [dif_pos (fun a => by
        match a with
        | ⟨0, _⟩ => exact ⟨Nat.zero_le _, Nat.mod_one _, (Nat.div_one _).trans_lt hb⟩
        | ⟨1, _⟩ => exact ⟨Nat.zero_le _, Nat.mod_one _, (Nat.div_one _).trans_lt hc⟩
        | ⟨2, _⟩ => exact ⟨hin.1.1, Nat.mod_one _, (Nat.div_one _).trans_lt hin.1.2⟩
        | ⟨3, _⟩ => exact ⟨hin.2.1, Nat.mod_one _, (Nat.div_one _).trans_lt hin.2.2⟩), if_pos ⟨hin.1.1, hin.2.1⟩]
      exact rd4_at x _ (Nat.div_one _) (Nat.div_one _) (Nat.div_one _) (Nat.div_one _)
    · rw [dif_neg (fun hh' => hin ⟨⟨(hh' 2).1, (Nat.div_one _).symm.trans_lt (hh' 2).2.2⟩, (hh' 3).1, (Nat.div_one _).symm.trans_lt (hh' 3).2.2⟩), h0]
      split
      · rw [rd4, dif_neg (fun hx => hin ⟨⟨by omega, hx.2.2.1⟩, by omega, hx.2.2.2⟩)]
      · rfl
  · rw [rd4, dif_neg hr]
    split
    · rw [rd4, dif_neg (fun hx => hr ⟨hx.1, hx.2.1, by omega, by omega⟩)]
    · rfl

/-- Padding the two middle axes of four by `p` in front (and by whatever is left behind), read at naturals. -/
theorem rd4_pad_nhwc {p q : ℕ} (x : (⟨4, ![n0, n1, n2, n3]⟩ : Shape).Idx → EReal) (v : (⟨0, ![]⟩ : Shape).Idx → EReal)
    (hp : Shape.Pads ⟨4, ![n0, n1, n2, n3]⟩ ![0, p, p, 0] ![0, q, q, 0] ![0, 0, 0, 0] ⟨4, ![n0, m1, m2, n3]⟩)
    (hv : 0 < (⟨0, ![]⟩ : Shape).numel) (h0 : ∀ i, v i = 0) (h1 : n1 + p ≤ m1) (h2 : n2 + p ≤ m2) (b c h w : ℕ) :
    rd4 (pad ⟨4, ![n0, m1, m2, n3]⟩ ![0, p, p, 0] ![0, q, q, 0] ![0, 0, 0, 0] x v hp hv) b h w c
      = padS p (fun b c h w => rd4 x b h w c) b c h w := by
  unfold padS
  by_cases hr : b < n0 ∧ h < m1 ∧ w < m2 ∧ c < n3
  · obtain ⟨hb, hh, hw, hc⟩ := hr
    rw [rd4_of _ hb hh hw hc]
    unfold pad
    by_cases hin : (p ≤ h ∧ h - p < n1) ∧ p ≤ w ∧ w - p < n2
    · rw [dif_pos (fun a => by
        match a with
        | ⟨0, _⟩ => exact ⟨Nat.zero_le _, Nat.mod_one _, (Nat.div_one _).trans_lt hb⟩
        | ⟨1, _⟩ => exact ⟨hin.1.1, Nat.mod_one _, (Nat.div_one _).trans_lt hin.1.2⟩
        | ⟨2, _⟩ => exact ⟨hin.2.1, Nat.mod_one _, (Nat.div_one _).trans_lt hin.2.2⟩
        | ⟨3, _⟩ => exact ⟨Nat.zero_le _, Nat.mod_one _, (Nat.div_one _).trans_lt hc⟩), if_pos ⟨hin.1.1, hin.2.1⟩]
      exact rd4_at x _ (Nat.div_one _) (Nat.div_one _) (Nat.div_one _) (Nat.div_one _)
    · rw [dif_neg (fun hh' => hin ⟨⟨(hh' 1).1, (Nat.div_one _).symm.trans_lt (hh' 1).2.2⟩, (hh' 2).1, (Nat.div_one _).symm.trans_lt (hh' 2).2.2⟩), h0]
      split
      · exact (dif_neg (fun hx => hin ⟨⟨by omega, hx.2.1⟩, by omega, hx.2.2.1⟩) : rd4 x b (h - p) (w - p) c = 0).symm
      · rfl
  · rw [rd4, dif_neg hr]
    split
    · exact (dif_neg (fun hx => hr ⟨hx.1, by omega, by omega, hx.2.2.2⟩) : rd4 x b (h - p) (w - p) c = 0).symm
    · rfl

/-- Padding the last two of four axes by two and spreading their entries by one zero, read at naturals. -/
theorem rd4_padD (x : (⟨4, ![n0, n1, n2, n3]⟩ : Shape).Idx → EReal) (v : (⟨0, ![]⟩ : Shape).Idx → EReal)
    (hp : Shape.Pads ⟨4, ![n0, n1, n2, n3]⟩ ![0, 0, 2, 2] ![0, 0, 2, 2] ![0, 0, 1, 1] ⟨4, ![n0, n1, m2, m3]⟩)
    (hv : 0 < (⟨0, ![]⟩ : Shape).numel) (h0 : ∀ i, v i = 0) (h2 : 2 * n2 + 3 = m2) (h3 : 2 * n3 + 3 = m3) (b c h w : ℕ) :
    rd4 (pad ⟨4, ![n0, n1, m2, m3]⟩ ![0, 0, 2, 2] ![0, 0, 2, 2] ![0, 0, 1, 1] x v hp hv) b c h w = padD (rd4 x) b c h w := by
  unfold padD
  by_cases hr : b < n0 ∧ c < n1 ∧ h < m2 ∧ w < m3
  · obtain ⟨hb, hc, hh, hw⟩ := hr
    rw [rd4_of _ hb hc hh hw]
    unfold pad
    by_cases hin : (2 ≤ h ∧ (h - 2) % 2 = 0 ∧ (h - 2) / 2 < n2) ∧ 2 ≤ w ∧ (w - 2) % 2 = 0 ∧ (w - 2) / 2 < n3
    · rw [dif_pos (fun a => by
        match a with
        | ⟨0, _⟩ => exact ⟨Nat.zero_le _, Nat.mod_one _, (Nat.div_one _).trans_lt hb⟩
        | ⟨1, _⟩ => exact ⟨Nat.zero_le _, Nat.mod_one _, (Nat.div_one _).trans_lt hc⟩
        | ⟨2, _⟩ => exact hin.1
        | ⟨3, _⟩ => exact hin.2), if_pos ⟨⟨hin.1.1, hin.1.2.1⟩, hin.2.1, hin.2.2.1⟩]
      exact rd4_at x _ (Nat.div_one _) (Nat.div_one _) rfl rfl
    · rw [dif_neg (fun hh' => hin ⟨hh' 2, hh' 3⟩), h0]
      split
      · rename_i hc'
        rw [rd4, dif_neg (fun hx => hin ⟨⟨hc'.1.1, hc'.1.2, hx.2.2.1⟩, hc'.2.1, hc'.2.2, hx.2.2.2⟩)]
      · rfl
  · rw [rd4, dif_neg hr]
    split
    · rw [rd4, dif_neg (fun hx => hr ⟨hx.1, hx.2.1, by omega, by omega⟩)]
    · rfl

end Cert.Proof

end
-- ==== Proof.Taps.lean ====
/- A convolution written tap by tap: the sum over the taps, in order, of the tap's weight matrix times the shifted
   (strided) image. Read at naturals it is one sum over taps and channels. -/
module

public import proofs.«01_k».proof.Proof.Reads
public import Idealize.ShloMosaic.Lib.ValueIdx

@[expose] public section

noncomputable section

open scoped BigOperators

namespace Cert.Proof

open Idealize.ShloMosaic Idealize.ShloMosaic.ValueIdx

variable {n0 n1 n2 n3 : ℕ}

/-- The convolution's value: over the `k * k` taps and the `C` channels, the (padded) image at the shifted, strided
    position times the weight. -/
def convS (k s C : ℕ) (X W : ℕ → ℕ → ℕ → ℕ → EReal) (b o h w : ℕ) : EReal :=
  ∑ t ∈ Finset.range (k * k), ∑ c ∈ Finset.range C, X b c (s * h + t / k) (s * w + t % k) * W o c (t / k) (t % k)

/-- Vectors `f 0`, …, `f n`, added one after another. -/
def addUpTo {s : Shape} (N : ℕ) (f : ∀ t, t < N → FVec Ideal s .f32) : ∀ n, n < N → FVec Ideal s .f32
  | 0, h => f 0 h
  | n + 1, h => addf (addUpTo N f n (Nat.lt_of_succ_lt h)) (f (n + 1) h)

/-- Added one after another, entry by entry, they are the sum. -/
theorem addUpTo_apply {s : Shape} (N : ℕ) (f : ∀ t, t < N → FVec Ideal s .f32) (g : ℕ → EReal) (j : s.Idx)
    (hg : ∀ t h, f t h j = g t) : ∀ n h, addUpTo N f n h j = ∑ t ∈ Finset.range (n + 1), g t
  | 0, h => by simp [addUpTo, hg]
  | n + 1, h => by
    rw [addUpTo, addf_apply, addUpTo_apply N f g j hg n, hg, Finset.sum_range_succ _ (n + 1)]

/-- A matrix times an image along the channels, at an entry; the image's two axes are made one. -/
theorem dot_channels {B C O P : ℕ}
    (wf : DotDims.WF ⟨2, ![O, C]⟩ ⟨3, ![B, C, P]⟩ ⟨3, ![O, B, P]⟩ [1] [1] [0] [0, 2] [] [])
    (a : FVec Ideal ⟨2, ![O, C]⟩ .f32) (y : FVec Ideal ⟨3, ![B, C, P]⟩ .f32) (o : Fin O) (b : Fin B) (p : Fin P) :
    Host.dotGeneral (⟨[1], [1], [0], [0, 2], [], [], wf⟩ : DotDims ⟨2, ![O, C]⟩ ⟨3, ![B, C, P]⟩ ⟨3, ![O, B, P]⟩)
        none a y (ix3 o b p) = ∑ c ∈ Finset.range C, rd2 a o c * rd3 y b c p := by
  generalize hD : (⟨[1], [1], [0], [0, 2], [], [], wf⟩ : DotDims ⟨2, ![O, C]⟩ ⟨3, ![B, C, P]⟩ ⟨3, ![O, B, P]⟩) = D
  have hr : D.contr.rank = 1 := by subst hD; rfl
  have hs : D.contr.size ⟨0, by omega⟩ = C := by subst hD; rfl
  show FloatOps.dotGeneral D none _ a y (ix3 o b p) = _
  rw [Ideal.dotGeneral_apply, ← Equiv.sum_comp (contrEquiv1 D C hr hs).symm, ← Fin.sum_univ_eq_sum_range]
  refine Finset.sum_congr rfl fun c _ => ?_
  have hc := contrEquiv1_symm_val D C hr hs c
  rw [rd2_val a, rd3_val y]
  subst hD
  congr 1 <;> congr 1
  all_goals first | exact hc | (simp [DotDims.lhsIdx, DotDims.rhsIdx]; done) | skip

/-- An image whose two axes are made one. -/
theorem rd3_flat {B C H W P : ℕ} (y : (⟨4, ![B, C, H, W]⟩ : Shape).Idx → EReal)
    (h : Shape.ShapeCasts ⟨4, ![B, C, H, W]⟩ ⟨3, ![B, C, P]⟩) (hP : P = H * W) {b c : ℕ} (hb : b < B) (hc : c < C) (i : Fin H)
    (j : Fin W) : rd3 (shapeCast ⟨3, ![B, C, P]⟩ y h) b c (i * W + j) = rd4 y b c i j := by
  have hp : (i : ℕ) * W + j < P := by
    have h1 := Nat.mul_le_mul_right W i.isLt
    have h2 := j.isLt
    rw [Nat.succ_mul] at h1
    omega
  rw [rd3_of _ hb hc hp, shapeCast_apply _ h _ (ix4 ⟨b, hb⟩ ⟨c, hc⟩ i j) (by
      rw [Shape.rowMajor_val_four, Shape.rowMajor_val_three]
      show ((b * C + c) * H + i.val) * W + j.val = (b * C + c) * P + (i.val * W + j.val)
      rw [hP]; ring)]
  exact rd4_at y _ rfl rfl rfl rfl

/-- … and made two again. -/
theorem unflat_apply {B C H W P : ℕ} (y : (⟨3, ![B, C, P]⟩ : Shape).Idx → EReal)
    (h : Shape.ShapeCasts ⟨3, ![B, C, P]⟩ ⟨4, ![B, C, H, W]⟩) (hP : P = H * W) (b : Fin B) (c : Fin C) (i : Fin H)
    (j : Fin W) (hp : (i : ℕ) * W + j < P) :
    shapeCast ⟨4, ![B, C, H, W]⟩ y h (ix4 b c i j) = y (ix3 b c ⟨i * W + j, hp⟩) :=
  shapeCast_apply _ h _ _ (by
    rw [Shape.rowMajor_val_four, Shape.rowMajor_val_three]
    show (b.val * C + c.val) * P + (i.val * W + j.val) = ((b.val * C + c.val) * H + i.val) * W + j.val
    rw [hP]; ring)

/-- A pixel's number lies below the number of pixels. -/
theorem flat_lt {H W P : ℕ} (hP : P = H * W) (i : Fin H) (j : Fin W) : (i : ℕ) * W + j < P := by
  have h1 := Nat.mul_le_mul_right W i.isLt
  have h2 := j.isLt
  rw [Nat.succ_mul] at h1
  omega

/-- The matrices of a kernel's taps: the kernel with its window's axes first, and these made one. -/
def tapStack {O C K N : ℕ} (w : FVec Ideal ⟨4, ![O, C, K, K]⟩ .f32)
    (ht : Shape.Transposes ⟨4, ![O, C, K, K]⟩ [2, 3, 0, 1] ⟨4, ![K, K, O, C]⟩)
    (hr : Shape.ShapeCasts ⟨4, ![K, K, O, C]⟩ ⟨3, ![N, O, C]⟩) : FVec Ideal ⟨3, ![N, O, C]⟩ .f32 :=
  shapeCast ⟨3, ![N, O, C]⟩ (transpose ⟨4, ![K, K, O, C]⟩ [2, 3, 0, 1] w ht) hr

/-- One tap's matrix, cut out of the stack of them. -/
theorem rd2_tap_weights {O C K N t : ℕ} (w : FVec Ideal ⟨4, ![O, C, K, K]⟩ .f32)
    (ht : Shape.Transposes ⟨4, ![O, C, K, K]⟩ [2, 3, 0, 1] ⟨4, ![K, K, O, C]⟩)
    (hr : Shape.ShapeCasts ⟨4, ![K, K, O, C]⟩ ⟨3, ![N, O, C]⟩)
    (hs : Shape.Slices ⟨3, ![N, O, C]⟩ ![t, 0, 0] ⟨3, ![1, O, C]⟩)
    (hc : Shape.ShapeCasts ⟨3, ![1, O, C]⟩ ⟨2, ![O, C]⟩) (hN : N = K * K) {o c : ℕ} (ho : o < O) (hC : c < C) :
    rd2 (shapeCast ⟨2, ![O, C]⟩ (extractStridedSlice ⟨3, ![1, O, C]⟩ ![t, 0, 0] (tapStack w ht hr) hs) hc) o c
      = rd4 w o c (t / K) (t % K) := by
  have hN' : t < N := (hs.2 0 : t + 1 ≤ N)
  have hK : 0 < K := by
    rcases Nat.eq_zero_or_pos K with h | h
    · subst h; omega
    · exact h
  have h1 : t / K < K := Nat.div_lt_of_lt_mul (hN ▸ hN')
  have h2 : t % K < K := Nat.mod_lt _ hK
  rw [rd2_of _ ho hC, shapeCast_apply _ hc _ (ix3 0 ⟨o, ho⟩ ⟨c, hC⟩) (by
      rw [Shape.rowMajor_val_three, Shape.rowMajor_val_two]
      show (0 * O + o) * C + c = o * C + c
      rw [Nat.zero_mul, Nat.zero_add]),
    extractStridedSlice_apply _ _ hs _ (ix3 ⟨t, hN'⟩ ⟨o, ho⟩ ⟨c, hC⟩) (fun a => by
      match a with
      | ⟨0, _⟩ => rfl
      | ⟨1, _⟩ => exact (Nat.zero_add o).symm
      | ⟨2, _⟩ => exact (Nat.zero_add c).symm)]
  unfold tapStack
  rw [shapeCast_apply _ hr _ (ix4 ⟨t / K, h1⟩ ⟨t % K, h2⟩ ⟨o, ho⟩ ⟨c, hC⟩) (by
      rw [Shape.rowMajor_val_four, Shape.rowMajor_val_three]
      show ((t / K * K + t % K) * O + o) * C + c = (t * O + o) * C + c
      rw [Nat.div_add_mod' t K]),
    transpose_apply _ w ht _ (ix4 ⟨o, ho⟩ ⟨c, hC⟩ ⟨t / K, h1⟩ ⟨t % K, h2⟩) (fun a => by
      match a with
      | ⟨0, _⟩ => rfl
      | ⟨1, _⟩ => rfl
      | ⟨2, _⟩ => rfl
      | ⟨3, _⟩ => rfl)]
  exact rd4_at w _ rfl rfl rfl rfl

/-- A shifted window of an image. -/
theorem rd4_window {B C H W HP WP dy dx : ℕ} (y : (⟨4, ![B, C, HP, WP]⟩ : Shape).Idx → EReal)
    (hs : Shape.Slices ⟨4, ![B, C, HP, WP]⟩ ![0, 0, dy, dx] ⟨4, ![B, C, H, W]⟩) {b c h w : ℕ}
    (hb : b < B) (hc : c < C) (hh : h < H) (hw : w < W) :
    rd4 (extractStridedSlice ⟨4, ![B, C, H, W]⟩ ![0, 0, dy, dx] y hs) b c h w = rd4 y b c (h + dy) (w + dx) := by
  rw [rd4_of _ hb hc hh hw]
  unfold extractStridedSlice
  exact rd4_at y _ (Nat.zero_add _) (Nat.zero_add _) (Nat.add_comm _ _) (Nat.add_comm _ _)

/-- A shifted window of an image, every second entry of it. -/
theorem rd4_window_two {B C H W HP WP dy dx : ℕ} (y : (⟨4, ![B, C, HP, WP]⟩ : Shape).Idx → EReal)
    (hs : Shape.SlicesBy ⟨4, ![B, C, HP, WP]⟩ ![0, 0, dy, dx] ![1, 1, 2, 2] ⟨4, ![B, C, H, W]⟩) {b c h w : ℕ}
    (hb : b < B) (hc : c < C) (hh : h < H) (hw : w < W) :
    rd4 (Host.slice ⟨4, ![B, C, H, W]⟩ ![0, 0, dy, dx] ![1, 1, 2, 2] y hs) b c h w
      = rd4 y b c (2 * h + dy) (2 * w + dx) := by
  rw [rd4_of _ hb hc hh hw]
  unfold Host.slice
  refine rd4_at y _ ?_ ?_ (Nat.add_comm _ _) (Nat.add_comm _ _)
  · exact (Nat.zero_add _).trans (Nat.one_mul _)
  · exact (Nat.zero_add _).trans (Nat.one_mul _)

/-- The `K * K` taps of stride 1, added one after another, are the convolution. -/
theorem taps_one {B C H W HP WP O K N P n : ℕ} (y : FVec Ideal ⟨4, ![B, C, HP, WP]⟩ .f32) (w : FVec Ideal ⟨4, ![O, C, K, K]⟩ .f32)
    (wf : DotDims.WF ⟨2, ![O, C]⟩ ⟨3, ![B, C, P]⟩ ⟨3, ![O, B, P]⟩ [1] [1] [0] [0, 2] [] [])
    (ht : Shape.Transposes ⟨4, ![O, C, K, K]⟩ [2, 3, 0, 1] ⟨4, ![K, K, O, C]⟩)
    (hr : Shape.ShapeCasts ⟨4, ![K, K, O, C]⟩ ⟨3, ![N, O, C]⟩)
    (hc : Shape.ShapeCasts ⟨3, ![1, O, C]⟩ ⟨2, ![O, C]⟩)
    (hw : ∀ t < N, Shape.Slices ⟨3, ![N, O, C]⟩ ![t, 0, 0] ⟨3, ![1, O, C]⟩)
    (hy : ∀ t < N, Shape.Slices ⟨4, ![B, C, HP, WP]⟩ ![0, 0, t / K, t % K] ⟨4, ![B, C, H, W]⟩)
    (hf : Shape.ShapeCasts ⟨4, ![B, C, H, W]⟩ ⟨3, ![B, C, P]⟩) (hu : Shape.ShapeCasts ⟨3, ![O, B, P]⟩ ⟨4, ![O, B, H, W]⟩)
    (hn : n < N) (hP : P = H * W) (hN : n + 1 = N) (hK : N = K * K) (o : Fin O) (b : Fin B) (i : Fin H) (j : Fin W) :
    shapeCast ⟨4, ![O, B, H, W]⟩ (addUpTo N (fun t h => Host.dotGeneral
        (⟨[1], [1], [0], [0, 2], [], [], wf⟩ : DotDims ⟨2, ![O, C]⟩ ⟨3, ![B, C, P]⟩ ⟨3, ![O, B, P]⟩) none
        (shapeCast ⟨2, ![O, C]⟩ (extractStridedSlice ⟨3, ![1, O, C]⟩ ![t, 0, 0] (tapStack w ht hr) (hw t h)) hc)
        (shapeCast ⟨3, ![B, C, P]⟩ (extractStridedSlice ⟨4, ![B, C, H, W]⟩ ![0, 0, t / K, t % K] y (hy t h)) hf)) n hn) hu
        (ix4 o b i j)
      = convS K 1 C (rd4 y) (rd4 w) b o i j := by
  rw [unflat_apply _ hu hP o b i j (flat_lt hP i j), addUpTo_apply N _ (fun t => ∑ c ∈ Finset.range C, rd4 y b c (1 * i + t / K) (1 * j + t % K) * rd4 w o c (t / K) (t % K)), hN, hK]
  · rfl
  · intro t h
    rw [dot_channels]
    refine Finset.sum_congr rfl fun c hcc => ?_
    have hC := Finset.mem_range.1 hcc
    rw [rd2_tap_weights w _ _ _ _ hK o.isLt hC, rd3_flat _ hf hP b.isLt hC i j, rd4_window y _ b.isLt hC i.isLt j.isLt, Nat.one_mul, Nat.one_mul, mul_comm]

/-- The `K * K` taps of stride 2, added one after another, are the convolution. -/
theorem taps_two {B C H W HP WP O K N P n : ℕ} (y : FVec Ideal ⟨4, ![B, C, HP, WP]⟩ .f32) (w : FVec Ideal ⟨4, ![O, C, K, K]⟩ .f32)
    (wf : DotDims.WF ⟨2, ![O, C]⟩ ⟨3, ![B, C, P]⟩ ⟨3, ![O, B, P]⟩ [1] [1] [0] [0, 2] [] [])
    (ht : Shape.Transposes ⟨4, ![O, C, K, K]⟩ [2, 3, 0, 1] ⟨4, ![K, K, O, C]⟩)
    (hr : Shape.ShapeCasts ⟨4, ![K, K, O, C]⟩ ⟨3, ![N, O, C]⟩)
    (hc : Shape.ShapeCasts ⟨3, ![1, O, C]⟩ ⟨2, ![O, C]⟩)
    (hw : ∀ t < N, Shape.Slices ⟨3, ![N, O, C]⟩ ![t, 0, 0] ⟨3, ![1, O, C]⟩)
    (hy : ∀ t < N, Shape.SlicesBy ⟨4, ![B, C, HP, WP]⟩ ![0, 0, t / K, t % K] ![1, 1, 2, 2] ⟨4, ![B, C, H, W]⟩)
    (hf : Shape.ShapeCasts ⟨4, ![B, C, H, W]⟩ ⟨3, ![B, C, P]⟩) (hu : Shape.ShapeCasts ⟨3, ![O, B, P]⟩ ⟨4, ![O, B, H, W]⟩)
    (hn : n < N) (hP : P = H * W) (hN : n + 1 = N) (hK : N = K * K) (o : Fin O) (b : Fin B) (i : Fin H) (j : Fin W) :
    shapeCast ⟨4, ![O, B, H, W]⟩ (addUpTo N (fun t h => Host.dotGeneral
        (⟨[1], [1], [0], [0, 2], [], [], wf⟩ : DotDims ⟨2, ![O, C]⟩ ⟨3, ![B, C, P]⟩ ⟨3, ![O, B, P]⟩) none
        (shapeCast ⟨2, ![O, C]⟩ (extractStridedSlice ⟨3, ![1, O, C]⟩ ![t, 0, 0] (tapStack w ht hr) (hw t h)) hc)
        (shapeCast ⟨3, ![B, C, P]⟩ (Host.slice ⟨4, ![B, C, H, W]⟩ ![0, 0, t / K, t % K] ![1, 1, 2, 2] y (hy t h)) hf)) n hn) hu
        (ix4 o b i j)
      = convS K 2 C (rd4 y) (rd4 w) b o i j := by
  rw [unflat_apply _ hu hP o b i j (flat_lt hP i j), addUpTo_apply N _ (fun t => ∑ c ∈ Finset.range C, rd4 y b c (2 * i + t / K) (2 * j + t % K) * rd4 w o c (t / K) (t % K)), hN, hK]
  · rfl
  · intro t h
    rw [dot_channels]
    refine Finset.sum_congr rfl fun c hcc => ?_
    have hC := Finset.mem_range.1 hcc
    rw [rd2_tap_weights w _ _ _ _ hK o.isLt hC, rd3_flat _ hf hP b.isLt hC i j, rd4_window_two y _ b.isLt hC i.isLt j.isLt, mul_comm]

end Cert.Proof

end
-- ==== Proof.Layer.lean ====
/- One layer of the kernel: an image's patches, laid as the rows of a matrix, times the weights, plus a bias. -/
module

public import proofs.«01_k».proof.Proof.Reads
public import Idealize.ShloMosaic.Lib.ValueIdx
public import Idealize.ShloMosaic.Lib.MatmulPlain

@[expose] public section

noncomputable section

open scoped BigOperators

namespace Cert.Proof

open Idealize.ShloMosaic Idealize.ShloMosaic.ValueIdx

/-- A matrix product with a row added, at an entry. -/
def affine {M K N : ℕ} {φ₁ φ₂ : FTy} (A : FVec Ideal ⟨2, ![M, K]⟩ φ₁) (W : FVec Ideal ⟨2, ![K, N]⟩ φ₂)
    (b : FVec Ideal ⟨2, ![1, N]⟩ .f32) (i j : ℕ) : EReal :=
  ∑ k ∈ Finset.range K, rd2 A i k * rd2 W k j + rd2 b 0 j

/-- Two such entries are equal when what they read is. -/
theorem affine_congr {M M' K N N' : ℕ} {φ₁ φ₂ φ₃ φ₄ : FTy} {A : FVec Ideal ⟨2, ![M, K]⟩ φ₁} {W : FVec Ideal ⟨2, ![K, N]⟩ φ₂}
    {b : FVec Ideal ⟨2, ![1, N]⟩ .f32} {A' : FVec Ideal ⟨2, ![M', K]⟩ φ₃} {W' : FVec Ideal ⟨2, ![K, N']⟩ φ₄}
    {b' : FVec Ideal ⟨2, ![1, N']⟩ .f32} {i j i' j' : ℕ} (hA : ∀ k < K, rd2 A i k = rd2 A' i' k)
    (hW : ∀ k < K, rd2 W k j = rd2 W' k j') (hb : rd2 b 0 j = rd2 b' 0 j') : affine A W b i j = affine A' W' b' i' j' := by
  unfold affine
  rw [hb]
  exact congrArg (· + _) (Finset.sum_congr rfl fun k hk => by
    rw [hA k (Finset.mem_range.1 hk), hW k (Finset.mem_range.1 hk)])

/-- Of a block of rows of the matrix, the whole weights and the whole bias, such an entry is the whole matrix's at the
    block's row. `z` is where the blocks begin in the axes they fill. -/
theorem affine_blocks {M m K N : ℕ} {φ₁ φ₂ : FTy} (A : FVec Ideal ⟨2, ![M, K]⟩ φ₁) (W : FVec Ideal ⟨2, ![K, N]⟩ φ₂)
    (b : FVec Ideal ⟨2, ![1, N]⟩ .f32) (e0 : (⟨2, ![m, K]⟩ : Shape).Idx → (⟨2, ![M, K]⟩ : Shape).Idx)
    (e1 : (⟨2, ![K, N]⟩ : Shape).Idx → (⟨2, ![K, N]⟩ : Shape).Idx) (e2 : (⟨2, ![1, N]⟩ : Shape).Idx → (⟨2, ![1, N]⟩ : Shape).Idx)
    (r : ℕ) (h0 : ∀ y, (e0 y 0).val = r + (y 0).val) (h0' : ∀ y, (e0 y 1).val = 0 + (y 1).val)
    (h1 : ∀ y, (e1 y 0).val = 0 + (y 0).val) (h1' : ∀ y, (e1 y 1).val = 0 + (y 1).val)
    (h2 : ∀ y, (e2 y 0).val = 0 + (y 0).val) (h2' : ∀ y, (e2 y 1).val = 0 + (y 1).val) (i : Fin m) (j : Fin N) :
    affine (φ₁ := φ₁) (φ₂ := φ₂) (fun y => A (e0 y)) (fun y => W (e1 y)) (fun y => b (e2 y)) i j = affine A W b (r + i) (0 + j) := by
  refine affine_congr (fun k hk => ?_) (fun k hk => ?_) ?_
  · rw [rd2_of _ i.isLt hk]
    exact rd2_at A _ (h0 _) ((h0' _).trans (Nat.zero_add k))
  · rw [rd2_of _ hk j.isLt]
    exact rd2_at W _ ((h1 _).trans (Nat.zero_add k)) (h1' _)
  · rw [rd2_of _ Nat.one_pos j.isLt]
    exact rd2_at b _ (h2 _) (h2' _)

/-- The body of a layer without an activation, at an entry. -/
theorem body_apply {M K N : ℕ} {φ₁ φ₂ : FTy} (A : FVec Ideal ⟨2, ![M, K]⟩ φ₁) (W : FVec Ideal ⟨2, ![K, N]⟩ φ₂)
    (b : FVec Ideal ⟨2, ![1, N]⟩ .f32) (h1 : Shape.ShapeCasts ⟨2, ![M, K]⟩ ⟨2, ![M, K]⟩)
    (h2 : Shape.ShapeCasts ⟨2, ![K, N]⟩ ⟨2, ![K, N]⟩) (h3 : Shape.ShapeCasts ⟨2, ![1, N]⟩ ⟨2, ![1, N]⟩)
    (hb : Shape.Broadcasts ⟨2, ![1, N]⟩ ⟨2, ![M, N]⟩) (i : Fin M) (j : Fin N) :
    addf (matmul (DotDims.plain M K N) none (shapeCast ⟨2, ![M, K]⟩ A h1) (shapeCast ⟨2, ![K, N]⟩ W h2)
        (constant (F := Ideal) ⟨2, ![M, N]⟩ .f32 0x00000000#32))
      (broadcastTo ⟨2, ![M, N]⟩ (shapeCast ⟨2, ![1, N]⟩ b h3) hb) (ix2 i j) = affine A W b i j := by
  rw [shapeCast_self, shapeCast_self, shapeCast_self, addf_apply]
  unfold affine
  congr 1
  · refine (Ideal.matmul_plain_apply none A W _ i j).trans ?_
    rw [constant_apply, Ideal.ofBits_zero_f32, zero_add, ← Fin.sum_univ_eq_sum_range]
    exact Finset.sum_congr rfl fun k _ => by rw [rd2_of A i.isLt k.isLt, rd2_of W k.isLt j.isLt]
  · rw [broadcastTo_apply b hb _ (ix2 0 j) (fun a => by
      match a with
      | ⟨0, _⟩ => rfl
      | ⟨1, _⟩ =>
        by_cases hN : N = 1
        · subst hN; have := j.isLt; simp
        · simp [hN]), rd2_of b Nat.one_pos j.isLt]
    rfl

end Cert.Proof

end
-- ==== Proof.Patches.lean ====
/- The kernel's patches: windows of an image laid side by side as the rows of a matrix; and the weights laid to match. -/
module

public import proofs.«01_k».proof.Proof.Reads
public import Idealize.ShloMosaic.Lib.ValueIdx
public import Idealize.ShloMosaic.Lib.ValueIdxRank6

@[expose] public section

noncomputable section

open scoped BigOperators

namespace Cert.Proof

open Idealize.ShloMosaic Idealize.ShloMosaic.ValueIdx

/-- A shifted window of an image with its channels last. -/
theorem rd4_window_nhwc {B C H W HP WP dy dx : ℕ} (y : (⟨4, ![B, HP, WP, C]⟩ : Shape).Idx → EReal)
    (hs : Shape.Slices ⟨4, ![B, HP, WP, C]⟩ ![0, dy, dx, 0] ⟨4, ![B, H, W, C]⟩) {b c h w : ℕ}
    (hb : b < B) (hc : c < C) (hh : h < H) (hw : w < W) :
    rd4 (extractStridedSlice ⟨4, ![B, H, W, C]⟩ ![0, dy, dx, 0] y hs) b h w c = rd4 y b (h + dy) (w + dx) c := by
  rw [rd4_of _ hb hh hw hc]
  unfold extractStridedSlice
  exact rd4_at y _ (Nat.zero_add _) (Nat.add_comm _ _) (Nat.add_comm _ _) (Nat.zero_add _)

/-- … every second entry of it. -/
theorem rd4_window_two_nhwc {B C H W HP WP dy dx : ℕ} (y : (⟨4, ![B, HP, WP, C]⟩ : Shape).Idx → EReal)
    (hs : Shape.SlicesBy ⟨4, ![B, HP, WP, C]⟩ ![0, dy, dx, 0] ![1, 2, 2, 1] ⟨4, ![B, H, W, C]⟩) {b c h w : ℕ}
    (hb : b < B) (hc : c < C) (hh : h < H) (hw : w < W) :
    rd4 (Host.slice ⟨4, ![B, H, W, C]⟩ ![0, dy, dx, 0] ![1, 2, 2, 1] y hs) b h w c = rd4 y b (2 * h + dy) (2 * w + dx) c := by
  rw [rd4_of _ hb hh hw hc]
  unfold Host.slice
  refine rd4_at y _ ?_ (Nat.add_comm _ _) (Nat.add_comm _ _) ?_
  · exact (Nat.zero_add _).trans (Nat.one_mul _)
  · exact (Nat.zero_add _).trans (Nat.one_mul _)

/-- An image's even and odd rows and columns brought apart, and of one of the four planes a shifted window: it is every second
    entry of the image's window. -/
theorem rd4_plane_window {B C H W P Q dy dx : ℕ} (y : (⟨4, ![B, 2 * P, 2 * Q, C]⟩ : Shape).Idx → EReal)
    (h1 : Shape.ShapeCasts ⟨4, ![B, 2 * P, 2 * Q, C]⟩ ⟨6, ![B, P, 2, Q, 2, C]⟩)
    (h2 : Shape.Transposes ⟨6, ![B, P, 2, Q, 2, C]⟩ [0, 2, 4, 1, 3, 5] ⟨6, ![B, 2, 2, P, Q, C]⟩)
    (h3 : Shape.Slices ⟨6, ![B, 2, 2, P, Q, C]⟩ ![0, dy % 2, dx % 2, dy / 2, dx / 2, 0] ⟨6, ![B, 1, 1, H, W, C]⟩)
    (h4 : Shape.ShapeCasts ⟨6, ![B, 1, 1, H, W, C]⟩ ⟨4, ![B, H, W, C]⟩) {b c h w : ℕ}
    (hb : b < B) (hc : c < C) (hh : h < H) (hw : w < W) :
    rd4 (shapeCast ⟨4, ![B, H, W, C]⟩ (extractStridedSlice ⟨6, ![B, 1, 1, H, W, C]⟩ ![0, dy % 2, dx % 2, dy / 2, dx / 2, 0]
        (transpose ⟨6, ![B, 2, 2, P, Q, C]⟩ [0, 2, 4, 1, 3, 5] (shapeCast ⟨6, ![B, P, 2, Q, 2, C]⟩ y h1) h2) h3) h4) b h w c
      = rd4 y b (2 * h + dy) (2 * w + dx) c := by
  have e3 : h + dy / 2 < P := by
    have := h3.2 3
    have : dy / 2 + H ≤ P := this
    omega
  have e4 : w + dx / 2 < Q := by
    have := h3.2 4
    have : dx / 2 + W ≤ Q := this
    omega
  have m1 : dy % 2 < 2 := Nat.mod_lt _ (by decide)
  have m2 : dx % 2 < 2 := Nat.mod_lt _ (by decide)
  have g1 : 2 * h + dy < 2 * P := by omega
  have g2 : 2 * w + dx < 2 * Q := by omega
  rw [rd4_of _ hb hh hw hc, shapeCast_apply _ h4 _ (ix6 ⟨b, hb⟩ 0 0 ⟨h, hh⟩ ⟨w, hw⟩ ⟨c, hc⟩) (by
      rw [Shape.rowMajor_val_six, Shape.rowMajor_val_four]
      show ((((b * 1 + 0) * 1 + 0) * H + h) * W + w) * C + c = ((b * H + h) * W + w) * C + c
      simp only [Nat.mul_one, Nat.add_zero]),
    extractStridedSlice_apply _ _ h3 _ (ix6 ⟨b, hb⟩ ⟨dy % 2, m1⟩ ⟨dx % 2, m2⟩ ⟨h + dy / 2, e3⟩ ⟨w + dx / 2, e4⟩ ⟨c, hc⟩) (fun a => by
      match a with
      | ⟨0, _⟩ => exact (Nat.zero_add b).symm
      | ⟨1, _⟩ => rfl
      | ⟨2, _⟩ => rfl
      | ⟨3, _⟩ => exact Nat.add_comm _ _
      | ⟨4, _⟩ => exact Nat.add_comm _ _
      | ⟨5, _⟩ => exact (Nat.zero_add c).symm),
    transpose_apply _ _ h2 _ (ix6 ⟨b, hb⟩ ⟨h + dy / 2, e3⟩ ⟨dy % 2, m1⟩ ⟨w + dx / 2, e4⟩ ⟨dx % 2, m2⟩ ⟨c, hc⟩) (fun a => by
      match a with
      | ⟨0, _⟩ => rfl
      | ⟨1, _⟩ => rfl
      | ⟨2, _⟩ => rfl
      | ⟨3, _⟩ => rfl
      | ⟨4, _⟩ => rfl
      | ⟨5, _⟩ => rfl),
    shapeCast_apply _ h1 _ (ix4 ⟨b, hb⟩ ⟨2 * h + dy, g1⟩ ⟨2 * w + dx, g2⟩ ⟨c, hc⟩) (by
      rw [Shape.rowMajor_val_four, Shape.rowMajor_val_six]
      show ((b * (2 * P) + (2 * h + dy)) * (2 * Q) + (2 * w + dx)) * C + c
        = ((((b * P + (h + dy / 2)) * 2 + dy % 2) * Q + (w + dx / 2)) * 2 + dx % 2) * C + c
      have d1 : 2 * h + dy = (h + dy / 2) * 2 + dy % 2 := by omega
      have d2 : 2 * w + dx = (w + dx / 2) * 2 + dx % 2 := by omega
      rw [d1, d2]
      ring)]
  exact rd4_at y _ rfl rfl rfl rfl

/-- `N` images of `C` channels laid side by side, their pixels as rows: row `(b, h, w)` at channel `c` of image `t`. -/
theorem rd2_patches {B C H W M N D E : ℕ} (f : Fin N → (⟨4, ![B, H, W, C]⟩ : Shape).Idx → EReal)
    (hc : Shape.Concatenates ((List.ofFn fun n : Fin N => (⟨⟨4, ![B, H, W, C]⟩, f n⟩ : (s : Shape) × (s.Idx → EReal))).map (·.1))
      ⟨4, ![B, H, W, D]⟩ 3)
    (hr : Shape.ShapeCasts ⟨4, ![B, H, W, D]⟩ ⟨2, ![M, E]⟩) (hM : M = B * H * W) (hD : D = N * C) (hE : E = D)
    {b c h w : ℕ} (t : Fin N) (hb : b < B) (hcc : c < C) (hh : h < H) (hw : w < W) :
    rd2 (shapeCast ⟨2, ![M, E]⟩ (concatenate ⟨4, ![B, H, W, D]⟩ 3 (List.ofFn fun n : Fin N => (⟨⟨4, ![B, H, W, C]⟩, f n⟩ :
        (s : Shape) × (s.Idx → EReal))) hc) hr) ((b * H + h) * W + w) (t * C + c) = rd4 (f t) b h w c := by
  subst hE
  have a1 := Nat.mul_le_mul_right C (Nat.succ_le_of_lt t.isLt)
  have hcol : (t : ℕ) * C + c < E := by rw [Nat.succ_mul] at a1; omega
  have a2 := Nat.mul_le_mul_right H (Nat.succ_le_of_lt hb)
  have a3 : b * H + h + 1 ≤ B * H := by rw [Nat.succ_mul] at a2; omega
  have a4 := Nat.mul_le_mul_right W a3
  have hrow : (b * H + h) * W + w < M := by rw [hM]; rw [Nat.succ_mul] at a4; omega
  rw [rd2_of _ hrow hcol, shapeCast_apply _ hr _ (ix4 ⟨b, hb⟩ ⟨h, hh⟩ ⟨w, hw⟩ ⟨t * C + c, hcol⟩) (by
      rw [Shape.rowMajor_val_four, Shape.rowMajor_val_two]
      rfl),
    concatenate_ofFn_apply 3 f hc rfl C rfl _ t (by
      show (t * C + c) / C = t.val
      rw [Nat.mul_comm, Nat.mul_add_div (by omega), Nat.div_eq_of_lt hcc, Nat.add_zero])
      (ix4 ⟨b, hb⟩ ⟨h, hh⟩ ⟨w, hw⟩ ⟨c, hcc⟩) (by
      show c = (t * C + c) % C
      rw [Nat.mul_comm, Nat.mul_add_mod, Nat.mod_eq_of_lt hcc]) (fun a ha => by
      match a with
      | ⟨0, _⟩ => rfl
      | ⟨1, _⟩ => rfl
      | ⟨2, _⟩ => rfl
      | ⟨3, _⟩ => exact absurd rfl ha)]
  exact rd4_at (f t) _ rfl rfl rfl rfl

/-- A kernel laid as a matrix, tap by tap and of a tap channel by channel. -/
theorem rd2_weights {O C K E : ℕ} (x : (⟨4, ![O, C, K, K]⟩ : Shape).Idx → EReal)
    (h1 : Shape.Transposes ⟨4, ![O, C, K, K]⟩ [2, 3, 1, 0] ⟨4, ![K, K, C, O]⟩)
    (h2 : Shape.ShapeCasts ⟨4, ![K, K, C, O]⟩ ⟨2, ![E, O]⟩) (hE : E = K * K * C) {t c o : ℕ} (ht : t < K * K) (hc : c < C)
    (ho : o < O) :
    rd2 (shapeCast ⟨2, ![E, O]⟩ (transpose ⟨4, ![K, K, C, O]⟩ [2, 3, 1, 0] x h1) h2) (t * C + c) o
      = rd4 x o c (t / K) (t % K) := by
  have hK : 0 < K := by
    rcases Nat.eq_zero_or_pos K with h | h
    · subst h; omega
    · exact h
  have d1 : t / K < K := Nat.div_lt_of_lt_mul ht
  have d2 : t % K < K := Nat.mod_lt _ hK
  have a1 := Nat.mul_le_mul_right C (Nat.succ_le_of_lt ht)
  have hrow : t * C + c < E := by rw [hE]; rw [Nat.succ_mul] at a1; omega
  rw [rd2_of _ hrow ho, shapeCast_apply _ h2 _ (ix4 ⟨t / K, d1⟩ ⟨t % K, d2⟩ ⟨c, hc⟩ ⟨o, ho⟩) (by
      rw [Shape.rowMajor_val_four, Shape.rowMajor_val_two]
      show ((t / K * K + t % K) * C + c) * O + o = (t * C + c) * O + o
      rw [Nat.div_add_mod' t K]),
    transpose_apply _ x h1 _ (ix4 ⟨o, ho⟩ ⟨c, hc⟩ ⟨t / K, d1⟩ ⟨t % K, d2⟩) (fun a => by
      match a with
      | ⟨0, _⟩ => rfl
      | ⟨1, _⟩ => rfl
      | ⟨2, _⟩ => rfl
      | ⟨3, _⟩ => rfl)]
  exact rd4_at x _ rfl rfl rfl rfl

/-- A bias laid as a row. -/
theorem rd2_row {N : ℕ} (x : (⟨1, ![N]⟩ : Shape).Idx → EReal) (h : Shape.ShapeCasts ⟨1, ![N]⟩ ⟨2, ![1, N]⟩) {j : ℕ} (hj : j < N) :
    rd2 (shapeCast ⟨2, ![1, N]⟩ x h) 0 j = rd1 x j := by
  rw [rd2_of _ Nat.one_pos hj, shapeCast_apply _ h _ (ix1 ⟨j, hj⟩) (by
    rw [Shape.rowMajor_val_one, Shape.rowMajor_val_two]
    show j = 0 * N + j
    rw [Nat.zero_mul, Nat.zero_add]), rd1_of x hj]

/-- A matrix whose rows are an image's pixels, as the image. -/
theorem rd4_image {B H W M C : ℕ} (y : (⟨2, ![M, C]⟩ : Shape).Idx → EReal) (hr : Shape.ShapeCasts ⟨2, ![M, C]⟩ ⟨4, ![B, H, W, C]⟩)
    (hM : M = B * H * W) {b h w c : ℕ} (hb : b < B) (hh : h < H) (hw : w < W) (hc : c < C) :
    rd4 (shapeCast ⟨4, ![B, H, W, C]⟩ y hr) b h w c = rd2 y ((b * H + h) * W + w) c := by
  have a2 := Nat.mul_le_mul_right H (Nat.succ_le_of_lt hb)
  have a3 : b * H + h + 1 ≤ B * H := by rw [Nat.succ_mul] at a2; omega
  have a4 := Nat.mul_le_mul_right W a3
  have hrow : (b * H + h) * W + w < M := by rw [hM]; rw [Nat.succ_mul] at a4; omega
  rw [rd4_of _ hb hh hw hc, shapeCast_apply _ hr _ (ix2 ⟨(b * H + h) * W + w, hrow⟩ ⟨c, hc⟩) (by
      rw [Shape.rowMajor_val_four, Shape.rowMajor_val_two]
      rfl), rd2_of _ hrow hc]

end Cert.Proof

end
-- ==== Proof.Conv.lean ====
/- A layer of the kernel whose rows are an image's patches is a convolution. -/
module

public import proofs.«01_k».proof.Proof.Taps
public import proofs.«01_k».proof.Proof.Layer
public import proofs.«01_k».proof.Proof.Patches

@[expose] public section

noncomputable section

open scoped BigOperators

namespace Cert.Proof

open Idealize.ShloMosaic Idealize.ShloMosaic.ValueIdx

/-- If a matrix's row holds an image's patch, tap by tap and channel by channel, and the weights are a kernel laid the same way,
    the layer's entry is the convolution's, plus the bias. -/
theorem affine_conv {M N E k s C i o b h w : ℕ} {φ₁ φ₂ : FTy} (A : FVec Ideal ⟨2, ![M, E]⟩ φ₁) (W : FVec Ideal ⟨2, ![E, N]⟩ φ₂)
    (r : FVec Ideal ⟨2, ![1, N]⟩ .f32) (X Y : ℕ → ℕ → ℕ → ℕ → EReal) (hE : E = k * k * C)
    (hA : ∀ t < k * k, ∀ c < C, rd2 A i (t * C + c) = X b c (s * h + t / k) (s * w + t % k))
    (hW : ∀ t < k * k, ∀ c < C, rd2 W (t * C + c) o = Y o c (t / k) (t % k)) :
    affine A W r i o = convS k s C X Y b o h w + rd2 r 0 o := by
  subst hE
  unfold affine convS
  rw [sum_range_blocks]
  refine congrArg (· + _) (Finset.sum_congr rfl fun t ht => Finset.sum_congr rfl fun c hc => ?_)
  rw [hA t (Finset.mem_range.1 ht) c (Finset.mem_range.1 hc), hW t (Finset.mem_range.1 ht) c (Finset.mem_range.1 hc)]

end Cert.Proof

end
-- ==== Proof.Phases.lean ====
/- A convolution of an image spread out by a zero between its entries is, at the entries of one parity, a convolution of the
   image itself: the taps that fall on the zeros drop out. -/
module

public import proofs.«01_k».proof.Proof.Taps

@[expose] public section

noncomputable section

open scoped BigOperators

namespace Cert.Proof

/-- The kernel's weights of the parity `(p, q)`: a 3 × 3 window of which a 2 × 2 part carries every second tap of the 4 × 4
    kernel `Y`, and the rest zeros. -/
def phaseW (p q : ℕ) (Y : ℕ → ℕ → ℕ → ℕ → EReal) (o c dy dx : ℕ) : EReal :=
  if (p ≤ dy ∧ dy ≤ p + 1) ∧ q ≤ dx ∧ dx ≤ q + 1 then Y o c (2 * dy - p) (2 * dx - q) else 0

/-- The spread-out image, read under a tap from an entry of parity `(p, q)`. -/
theorem padD_phase (X : ℕ → ℕ → ℕ → ℕ → EReal) (b c h w : ℕ) {p q a d : ℕ} (hp : p < 2) (hq : q < 2) :
    padD X b c (2 * h + p + a) (2 * w + q + d)
      = if a % 2 = p ∧ d % 2 = q then padS 1 X b c (h + (p + a) / 2) (w + (q + d) / 2) else 0 := by
  unfold padD padS
  by_cases h1 : a % 2 = p ∧ d % 2 = q
  · rw [if_pos h1]
    by_cases h2 : 1 ≤ h + (p + a) / 2 ∧ 1 ≤ w + (q + d) / 2
    · rw [if_pos h2, if_pos (by omega)]
      congr 1 <;> omega
    · rw [if_neg h2, if_neg (by omega)]
  · rw [if_neg h1, if_neg (by omega)]

/-- The transposed convolution at the entries of parity `(p, q)`. -/
theorem conv_phase (C : ℕ) (X Y : ℕ → ℕ → ℕ → ℕ → EReal) (b o h w : ℕ) {p q : ℕ} (hp : p < 2) (hq : q < 2) :
    convS 4 1 C (padD X) Y b o (2 * h + p) (2 * w + q) = convS 3 1 C (padS 1 X) (phaseW p q Y) b o h w := by
  unfold convS
  simp only [Nat.one_mul, padD_phase X _ _ h w hp hq]
  interval_cases p <;> interval_cases q <;> simp [Finset.sum_range_succ, phaseW]

end Cert.Proof

end
-- ==== Proof.Packed.lean ====
/- The kernel's transposed convolutions: the weights of the four parities laid side by side, and the four results woven into
   one image. -/
module

public import proofs.«01_k».proof.Proof.Phases
public import proofs.«01_k».proof.Proof.Patches

@[expose] public section

noncomputable section

open scoped BigOperators

namespace Cert.Proof

open Idealize.ShloMosaic Idealize.ShloMosaic.ValueIdx

/-- Of the window's tap `t` and the parity `g`: whether a tap of the kernel falls there. -/
abbrev Falls (t g : ℕ) : Prop := (g / 2 ≤ t / 3 ∧ t / 3 ≤ g / 2 + 1) ∧ g % 2 ≤ t % 3 ∧ t % 3 ≤ g % 2 + 1

/-- The matrix of the window's tap `t` and the parity `g`: one tap of the kernel, or zeros. -/
def piece {C O : ℕ} (x : FVec Ideal ⟨4, ![C, O, 4, 4]⟩ .f32)
    (hs : ∀ (t : Fin 9) (g : Fin 4), Falls t g → Shape.Slices ⟨4, ![C, O, 4, 4]⟩
      ![0, 0, 3 + g.val / 2 - 2 * (t.val / 3), 3 + g.val % 2 - 2 * (t.val % 3)] ⟨4, ![C, O, 1, 1]⟩)
    (hc : Shape.ShapeCasts ⟨4, ![C, O, 1, 1]⟩ ⟨2, ![C, O]⟩) (hz : Shape.BroadcastsInDim ⟨0, ![]⟩ ⟨2, ![C, O]⟩ ![])
    (t : Fin 9) (g : Fin 4) : FVec Ideal ⟨2, ![C, O]⟩ .f32 :=
  if h : Falls t g then shapeCast ⟨2, ![C, O]⟩ (extractStridedSlice ⟨4, ![C, O, 1, 1]⟩
      ![0, 0, 3 + g.val / 2 - 2 * (t.val / 3), 3 + g.val % 2 - 2 * (t.val % 3)] x (hs t g h)) hc
  else broadcastInDim ⟨2, ![C, O]⟩ ![] hz (constant (F := Ideal) ⟨0, ![]⟩ .f32 0x00000000#32)

/-- A piece at an entry: the turned kernel's tap of the parity. -/
theorem rd2_piece {C O : ℕ} (x : FVec Ideal ⟨4, ![C, O, 4, 4]⟩ .f32)
    (hs : ∀ (t : Fin 9) (g : Fin 4), Falls t g → Shape.Slices ⟨4, ![C, O, 4, 4]⟩
      ![0, 0, 3 + g.val / 2 - 2 * (t.val / 3), 3 + g.val % 2 - 2 * (t.val % 3)] ⟨4, ![C, O, 1, 1]⟩)
    (hc : Shape.ShapeCasts ⟨4, ![C, O, 1, 1]⟩ ⟨2, ![C, O]⟩) (hz : Shape.BroadcastsInDim ⟨0, ![]⟩ ⟨2, ![C, O]⟩ ![])
    (Y : ℕ → ℕ → ℕ → ℕ → EReal) (hY : ∀ o < O, ∀ c < C, ∀ a < 4, ∀ b < 4, Y o c a b = rd4 x c o (3 - a) (3 - b))
    (t : Fin 9) (g : Fin 4) {c o : ℕ} (hcc : c < C) (ho : o < O) :
    rd2 (piece x hs hc hz t g) c o = phaseW (g.val / 2) (g.val % 2) Y o c (t.val / 3) (t.val % 3) := by
  unfold piece phaseW
  have ht := t.isLt
  have hg := g.isLt
  by_cases hf : Falls t g
  · rw [dif_pos hf, if_pos hf, hY o ho c hcc _ (by omega) _ (by omega), rd2_of _ hcc ho,
      shapeCast_apply _ hc _ (ix4 ⟨c, hcc⟩ ⟨o, ho⟩ 0 0) (by
        rw [Shape.rowMajor_val_four, Shape.rowMajor_val_two]
        show ((c * O + o) * 1 + 0) * 1 + 0 = c * O + o
        omega)]
    unfold extractStridedSlice
    refine rd4_at x _ (Nat.zero_add _) (Nat.zero_add _) ?_ ?_
    · show 3 + g.val / 2 - 2 * (t.val / 3) + 0 = _
      omega
    · show 3 + g.val % 2 - 2 * (t.val % 3) + 0 = _
      omega
  · rw [dif_neg hf, if_neg hf, rd2_of _ hcc ho]
    exact Ideal.ofBits_zero_f32

/-- The pieces of the four parities side by side, and these of the nine taps one below the other. -/
def packed {C O D E : ℕ} (x : FVec Ideal ⟨4, ![C, O, 4, 4]⟩ .f32)
    (hs : ∀ (t : Fin 9) (g : Fin 4), Falls t g → Shape.Slices ⟨4, ![C, O, 4, 4]⟩
      ![0, 0, 3 + g.val / 2 - 2 * (t.val / 3), 3 + g.val % 2 - 2 * (t.val % 3)] ⟨4, ![C, O, 1, 1]⟩)
    (hc : Shape.ShapeCasts ⟨4, ![C, O, 1, 1]⟩ ⟨2, ![C, O]⟩) (hz : Shape.BroadcastsInDim ⟨0, ![]⟩ ⟨2, ![C, O]⟩ ![])
    (h1 : Shape.Concatenates (List.replicate 4 ⟨2, ![C, O]⟩) ⟨2, ![C, D]⟩ 1)
    (h2 : Shape.Concatenates (List.replicate 9 ⟨2, ![C, D]⟩) ⟨2, ![E, D]⟩ 0) : FVec Ideal ⟨2, ![E, D]⟩ .f32 :=
  concatenate ⟨2, ![E, D]⟩ 0 (List.ofFn fun t : Fin 9 => (⟨⟨2, ![C, D]⟩,
    concatenate ⟨2, ![C, D]⟩ 1 (List.ofFn fun g : Fin 4 => (⟨⟨2, ![C, O]⟩, piece x hs hc hz t g⟩ :
      (s : Shape) × (s.Idx → EReal))) h1⟩ : (s : Shape) × (s.Idx → EReal))) h2

/-- The packed weights at an entry. -/
theorem rd2_packed {C O D E : ℕ} (x : FVec Ideal ⟨4, ![C, O, 4, 4]⟩ .f32)
    (hs : ∀ (t : Fin 9) (g : Fin 4), Falls t g → Shape.Slices ⟨4, ![C, O, 4, 4]⟩
      ![0, 0, 3 + g.val / 2 - 2 * (t.val / 3), 3 + g.val % 2 - 2 * (t.val % 3)] ⟨4, ![C, O, 1, 1]⟩)
    (hc : Shape.ShapeCasts ⟨4, ![C, O, 1, 1]⟩ ⟨2, ![C, O]⟩) (hz : Shape.BroadcastsInDim ⟨0, ![]⟩ ⟨2, ![C, O]⟩ ![])
    (h1 : Shape.Concatenates (List.replicate 4 ⟨2, ![C, O]⟩) ⟨2, ![C, D]⟩ 1)
    (h2 : Shape.Concatenates (List.replicate 9 ⟨2, ![C, D]⟩) ⟨2, ![E, D]⟩ 0) (hD : D = 4 * O) (hE : E = 9 * C)
    (Y : ℕ → ℕ → ℕ → ℕ → EReal) (hY : ∀ o < O, ∀ c < C, ∀ a < 4, ∀ b < 4, Y o c a b = rd4 x c o (3 - a) (3 - b))
    (t : Fin 9) (g : Fin 4) {c o : ℕ} (hcc : c < C) (ho : o < O) :
    rd2 (packed x hs hc hz h1 h2) (t * C + c) (g * O + o)
      = phaseW (g.val / 2) (g.val % 2) Y o c (t.val / 3) (t.val % 3) := by
  have a1 := Nat.mul_le_mul_right C (Nat.succ_le_of_lt t.isLt)
  have a2 := Nat.mul_le_mul_right O (Nat.succ_le_of_lt g.isLt)
  have hr : (t : ℕ) * C + c < E := by rw [Nat.succ_mul] at a1; omega
  have hl : (g : ℕ) * O + o < D := by rw [Nat.succ_mul] at a2; omega
  rw [← rd2_piece x hs hc hz Y hY t g hcc ho, rd2_of _ hr hl]
  unfold packed
  rw [concatenate_ofFn_apply 0 (fun t : Fin 9 => concatenate ⟨2, ![C, D]⟩ 1 (List.ofFn fun g : Fin 4 => (⟨⟨2, ![C, O]⟩,
      piece x hs hc hz t g⟩ : (s : Shape) × (s.Idx → EReal))) h1) h2 rfl C rfl _ t (by
      show (t * C + c) / C = t.val
      rw [Nat.mul_comm, Nat.mul_add_div (by omega), Nat.div_eq_of_lt hcc, Nat.add_zero])
      (ix2 ⟨c, hcc⟩ ⟨g * O + o, hl⟩) (by
      show c = (t * C + c) % C
      rw [Nat.mul_comm, Nat.mul_add_mod, Nat.mod_eq_of_lt hcc]) (fun a ha => by
      match a with
      | ⟨0, _⟩ => exact absurd rfl ha
      | ⟨1, _⟩ => rfl),
    concatenate_ofFn_apply 1 (fun g : Fin 4 => piece x hs hc hz t g) h1 rfl O rfl _ g (by
      show (g * O + o) / O = g.val
      rw [Nat.mul_comm, Nat.mul_add_div (by omega), Nat.div_eq_of_lt ho, Nat.add_zero])
      (ix2 ⟨c, hcc⟩ ⟨o, ho⟩) (by
      show o = (g * O + o) % O
      rw [Nat.mul_comm, Nat.mul_add_mod, Nat.mod_eq_of_lt ho]) (fun a ha => by
      match a with
      | ⟨0, _⟩ => rfl
      | ⟨1, _⟩ => exact absurd rfl ha)]
  exact rd2_at _ _ rfl rfl

/-- The bias of a transposed convolution, once for each parity, filled up with `q` further entries, at an entry. -/
theorem rd2_biases {O D M q : ℕ} (x : (⟨1, ![O]⟩ : Shape).Idx → EReal) (v : (⟨0, ![]⟩ : Shape).Idx → EReal)
    (h1 : Shape.ShapeCasts ⟨1, ![O]⟩ ⟨2, ![1, O]⟩) (h2 : Shape.BroadcastsInDim ⟨2, ![1, O]⟩ ⟨2, ![4, O]⟩ ![0, 1])
    (h3 : Shape.ShapeCasts ⟨2, ![4, O]⟩ ⟨1, ![D]⟩) (h4 : Shape.Pads ⟨1, ![D]⟩ ![0] ![q] ![0] ⟨1, ![M]⟩)
    (hv : 0 < (⟨0, ![]⟩ : Shape).numel) (h5 : Shape.ShapeCasts ⟨1, ![M]⟩ ⟨2, ![1, M]⟩) (hD : D = 4 * O) (hM : D ≤ M) (hO : O ≠ 1)
    (g : Fin 4) {o : ℕ} (ho : o < O) :
    rd2 (shapeCast ⟨2, ![1, M]⟩ (pad ⟨1, ![M]⟩ ![0] ![q] ![0] (shapeCast ⟨1, ![D]⟩ (broadcastInDim ⟨2, ![4, O]⟩ ![0, 1] h2
      (shapeCast ⟨2, ![1, O]⟩ x h1)) h3) v h4 hv) h5) 0 (g * O + o) = rd1 x o := by
  have a2 := Nat.mul_le_mul_right O (Nat.succ_le_of_lt g.isLt)
  have hl : (g : ℕ) * O + o < D := by rw [Nat.succ_mul] at a2; omega
  rw [rd2_row _ h5 (hl.trans_le hM), rd1_of _ (hl.trans_le hM)]
  unfold pad
  rw [dif_pos (fun a => by
    match a with
    | ⟨0, _⟩ => exact ⟨Nat.zero_le _, Nat.mod_one _, (Nat.div_one _).trans_lt hl⟩)]
  rw [shapeCast_apply _ h3 _ (ix2 g ⟨o, ho⟩) (by
      rw [Shape.rowMajor_val_one, Shape.rowMajor_val_two]
      exact (Nat.div_one _).symm),
    broadcastInDim_apply _ h2 _ _ (ix2 0 ⟨o, ho⟩) (fun a => by
      match a with
      | ⟨0, _⟩ => rfl
      | ⟨1, _⟩ => exact (if_neg hO).symm), ← rd2_row x h1 ho, rd2_of _ Nat.one_pos ho]
  rfl

/-- The four parities' results woven together: a row's pixel is the parity's block of the matrix's row of the halved place. -/
theorem rd4_woven {B H W O D M : ℕ} (y : (⟨2, ![M, D]⟩ : Shape).Idx → EReal)
    (h1 : Shape.ShapeCasts ⟨2, ![M, D]⟩ ⟨6, ![B, H, W, 2, 2, O]⟩)
    (h2 : Shape.Transposes ⟨6, ![B, H, W, 2, 2, O]⟩ [0, 1, 3, 2, 4, 5] ⟨6, ![B, H, 2, W, 2, O]⟩)
    (h3 : Shape.ShapeCasts ⟨6, ![B, H, 2, W, 2, O]⟩ ⟨4, ![B, 2 * H, 2 * W, O]⟩) (hM : M = B * H * W) (hD : D = 4 * O)
    {b h w o p q : ℕ} (hb : b < B) (hh : h < H) (hw : w < W) (hp : p < 2) (hq : q < 2) (ho : o < O) :
    rd4 (shapeCast ⟨4, ![B, 2 * H, 2 * W, O]⟩ (transpose ⟨6, ![B, H, 2, W, 2, O]⟩ [0, 1, 3, 2, 4, 5]
        (shapeCast ⟨6, ![B, H, W, 2, 2, O]⟩ y h1) h2) h3) b (2 * h + p) (2 * w + q) o
      = rd2 y ((b * H + h) * W + w) ((2 * p + q) * O + o) := by
  have a2 := Nat.mul_le_mul_right H (Nat.succ_le_of_lt hb)
  have a3 : b * H + h + 1 ≤ B * H := by rw [Nat.succ_mul] at a2; omega
  have a4 := Nat.mul_le_mul_right W a3
  have hrow : (b * H + h) * W + w < M := by rw [hM]; rw [Nat.succ_mul] at a4; omega
  have a5 := Nat.mul_le_mul_right O (show 2 * p + q + 1 ≤ 4 by omega)
  have hcol : (2 * p + q) * O + o < D := by rw [Nat.succ_mul] at a5; omega
  rw [rd4_of _ hb (show 2 * h + p < 2 * H by omega) (show 2 * w + q < 2 * W by omega) ho,
    shapeCast_apply _ h3 _ (ix6 ⟨b, hb⟩ ⟨h, hh⟩ ⟨p, hp⟩ ⟨w, hw⟩ ⟨q, hq⟩ ⟨o, ho⟩) (by
      rw [Shape.rowMajor_val_four, Shape.rowMajor_val_six]
      show ((((b * H + h) * 2 + p) * W + w) * 2 + q) * O + o
        = ((b * (2 * H) + (2 * h + p)) * (2 * W) + (2 * w + q)) * O + o
      ring),
    transpose_apply _ _ h2 _ (ix6 ⟨b, hb⟩ ⟨h, hh⟩ ⟨w, hw⟩ ⟨p, hp⟩ ⟨q, hq⟩ ⟨o, ho⟩) (fun a => by
      match a with
      | ⟨0, _⟩ => rfl
      | ⟨1, _⟩ => rfl
      | ⟨2, _⟩ => rfl
      | ⟨3, _⟩ => rfl
      | ⟨4, _⟩ => rfl
      | ⟨5, _⟩ => rfl),
    shapeCast_apply _ h1 _ (ix2 ⟨(b * H + h) * W + w, hrow⟩ ⟨(2 * p + q) * O + o, hcol⟩) (by
      rw [Shape.rowMajor_val_two, Shape.rowMajor_val_six]
      show ((b * H + h) * W + w) * D + ((2 * p + q) * O + o)
        = ((((b * H + h) * W + w) * 2 + p) * 2 + q) * O + o
      rw [hD]; ring)]
  exact rd2_at y _ rfl rfl

end Cert.Proof

end
-- ==== Proof.Inputs.lean ====
/- What the kernel lays out in front of its layer calls: the windows of a padded image as a matrix's rows. And a layer as a
   whole: the call's result, read as an image, is the reference's image. -/
module

public import proofs.«01_k».proof.Proof.Conv
public import proofs.«01_k».proof.Proof.Packed

@[expose] public section

noncomputable section

open scoped BigOperators

namespace Cert.Proof

open Idealize.ShloMosaic Idealize.ShloMosaic.ValueIdx

/-- The number the kernel fills up with. -/
abbrev filler : FVec Ideal ⟨0, ![]⟩ .f32 := sitofp (F := Ideal) .f32 (constantI ⟨0, ![]⟩ 32 0#32)

/-- It is zero. -/
theorem filler_apply (i : (⟨0, ![]⟩ : Shape).Idx) : filler i = 0 := by
  show (((0#32 : BitVec 32).toInt : ℝ) : EReal) = 0
  simp

/-- An image with a border of zeros, its format changed. -/
def padded {H P C : ℕ} (x : FVec Ideal ⟨4, ![2, H, H, C]⟩ .f32)
    (hp : Shape.Pads ⟨4, ![2, H, H, C]⟩ ![0, 1, 1, 0] ![0, 1, 1, 0] ![0, 0, 0, 0] ⟨4, ![2, P, P, C]⟩)
    (hv : 0 < (⟨0, ![]⟩ : Shape).numel) : FVec Ideal ⟨4, ![2, P, P, C]⟩ .bf16 :=
  truncf .bf16 (pad ⟨4, ![2, P, P, C]⟩ ![0, 1, 1, 0] ![0, 1, 1, 0] ![0, 0, 0, 0] x filler hp hv) (by decide)

/-- The bordered image at a place. -/
theorem rd4_padded {H P C : ℕ} (x : FVec Ideal ⟨4, ![2, H, H, C]⟩ .f32)
    (hp : Shape.Pads ⟨4, ![2, H, H, C]⟩ ![0, 1, 1, 0] ![0, 1, 1, 0] ![0, 0, 0, 0] ⟨4, ![2, P, P, C]⟩)
    (hv : 0 < (⟨0, ![]⟩ : Shape).numel) (hP : P = H + 2) (X : ℕ → ℕ → ℕ → ℕ → EReal)
    (hX : ∀ b c h w, rd4 x b h w c = X b c h w) (b c h w : ℕ) : rd4 (padded x hp hv) b h w c = padS 1 X b c h w := by
  have e := rd4_pad_nhwc x filler hp hv filler_apply (by omega) (by omega) b c h w
  have hX' : (fun b c h w => rd4 x b h w c) = X := by
    funext b c h w
    exact hX b c h w
  rw [hX'] at e
  exact e

/-- The nine windows of three by three of the bordered image, side by side, a row for each pixel. -/
def patches9 {H P C D M : ℕ} (x : FVec Ideal ⟨4, ![2, H, H, C]⟩ .f32)
    (hp : Shape.Pads ⟨4, ![2, H, H, C]⟩ ![0, 1, 1, 0] ![0, 1, 1, 0] ![0, 0, 0, 0] ⟨4, ![2, P, P, C]⟩)
    (hv : 0 < (⟨0, ![]⟩ : Shape).numel)
    (hs : ∀ t : Fin 9, Shape.Slices ⟨4, ![2, P, P, C]⟩ ![0, t.val / 3, t.val % 3, 0] ⟨4, ![2, H, H, C]⟩)
    (hc : Shape.Concatenates (List.replicate 9 ⟨4, ![2, H, H, C]⟩) ⟨4, ![2, H, H, D]⟩ 3)
    (hr : Shape.ShapeCasts ⟨4, ![2, H, H, D]⟩ ⟨2, ![M, D]⟩) : FVec Ideal ⟨2, ![M, D]⟩ .bf16 :=
  shapeCast ⟨2, ![M, D]⟩ (concatenate ⟨4, ![2, H, H, D]⟩ 3 (List.ofFn fun t : Fin 9 => (⟨⟨4, ![2, H, H, C]⟩,
    extractStridedSlice ⟨4, ![2, H, H, C]⟩ ![0, t.val / 3, t.val % 3, 0] (padded x hp hv) (hs t)⟩ :
    (s : Shape) × (s.Idx → EReal))) hc) hr

/-- They are the windows. -/
theorem rd2_patches9 {H P C D M : ℕ} (x : FVec Ideal ⟨4, ![2, H, H, C]⟩ .f32)
    (hp : Shape.Pads ⟨4, ![2, H, H, C]⟩ ![0, 1, 1, 0] ![0, 1, 1, 0] ![0, 0, 0, 0] ⟨4, ![2, P, P, C]⟩)
    (hv : 0 < (⟨0, ![]⟩ : Shape).numel)
    (hs : ∀ t : Fin 9, Shape.Slices ⟨4, ![2, P, P, C]⟩ ![0, t.val / 3, t.val % 3, 0] ⟨4, ![2, H, H, C]⟩)
    (hc : Shape.Concatenates (List.replicate 9 ⟨4, ![2, H, H, C]⟩) ⟨4, ![2, H, H, D]⟩ 3)
    (hr : Shape.ShapeCasts ⟨4, ![2, H, H, D]⟩ ⟨2, ![M, D]⟩) (hP : P = H + 2) (hD : D = 9 * C) (hM : M = 2 * H * H)
    (X : ℕ → ℕ → ℕ → ℕ → EReal) (hX : ∀ b c h w, rd4 x b h w c = X b c h w)
    (b h w : ℕ) (hb : b < 2) (hh : h < H) (hw : w < H) (t : ℕ) (ht : t < 3 * 3) (c : ℕ) (hcc : c < C) :
    rd2 (patches9 x hp hv hs hc hr) ((b * H + h) * H + w) (t * C + c) = padS 1 X b c (1 * h + t / 3) (1 * w + t % 3) := by
  rw [Nat.one_mul, Nat.one_mul, ← rd4_padded x hp hv hP X hX, ← rd4_window_nhwc _ (hs ⟨t, ht⟩) hb hcc hh hw]
  unfold patches9
  have e := rd2_patches (b := b) (h := h) (w := w) (c := c) (fun t : Fin 9 => extractStridedSlice ⟨4, ![2, H, H, C]⟩ ![0, t.val / 3, t.val % 3, 0] (padded x hp hv) (hs t))
    hc hr hM hD rfl ⟨t, ht⟩ hb hcc hh hw
  exact e

/-- The sixteen windows of four by four, every second pixel's, side by side. -/
def patches16 {I H P C D M : ℕ} (x : FVec Ideal ⟨4, ![2, I, I, C]⟩ .f32)
    (hp : Shape.Pads ⟨4, ![2, I, I, C]⟩ ![0, 1, 1, 0] ![0, 1, 1, 0] ![0, 0, 0, 0] ⟨4, ![2, P, P, C]⟩)
    (hv : 0 < (⟨0, ![]⟩ : Shape).numel)
    (hs : ∀ t : Fin 16, Shape.SlicesBy ⟨4, ![2, P, P, C]⟩ ![0, t.val / 4, t.val % 4, 0] ![1, 2, 2, 1] ⟨4, ![2, H, H, C]⟩)
    (hc : Shape.Concatenates (List.replicate 16 ⟨4, ![2, H, H, C]⟩) ⟨4, ![2, H, H, D]⟩ 3)
    (hr : Shape.ShapeCasts ⟨4, ![2, H, H, D]⟩ ⟨2, ![M, D]⟩) : FVec Ideal ⟨2, ![M, D]⟩ .bf16 :=
  shapeCast ⟨2, ![M, D]⟩ (concatenate ⟨4, ![2, H, H, D]⟩ 3 (List.ofFn fun t : Fin 16 => (⟨⟨4, ![2, H, H, C]⟩,
    Host.slice ⟨4, ![2, H, H, C]⟩ ![0, t.val / 4, t.val % 4, 0] ![1, 2, 2, 1] (padded x hp hv) (hs t)⟩ :
    (s : Shape) × (s.Idx → EReal))) hc) hr

/-- They are the windows. -/
theorem rd2_patches16 {I H P C D M : ℕ} (x : FVec Ideal ⟨4, ![2, I, I, C]⟩ .f32)
    (hp : Shape.Pads ⟨4, ![2, I, I, C]⟩ ![0, 1, 1, 0] ![0, 1, 1, 0] ![0, 0, 0, 0] ⟨4, ![2, P, P, C]⟩)
    (hv : 0 < (⟨0, ![]⟩ : Shape).numel)
    (hs : ∀ t : Fin 16, Shape.SlicesBy ⟨4, ![2, P, P, C]⟩ ![0, t.val / 4, t.val % 4, 0] ![1, 2, 2, 1] ⟨4, ![2, H, H, C]⟩)
    (hc : Shape.Concatenates (List.replicate 16 ⟨4, ![2, H, H, C]⟩) ⟨4, ![2, H, H, D]⟩ 3)
    (hr : Shape.ShapeCasts ⟨4, ![2, H, H, D]⟩ ⟨2, ![M, D]⟩) (hP : P = I + 2) (hD : D = 16 * C) (hM : M = 2 * H * H)
    (X : ℕ → ℕ → ℕ → ℕ → EReal) (hX : ∀ b c h w, rd4 x b h w c = X b c h w)
    (b h w : ℕ) (hb : b < 2) (hh : h < H) (hw : w < H) (t : ℕ) (ht : t < 4 * 4) (c : ℕ) (hcc : c < C) :
    rd2 (patches16 x hp hv hs hc hr) ((b * H + h) * H + w) (t * C + c) = padS 1 X b c (2 * h + t / 4) (2 * w + t % 4) := by
  rw [← rd4_padded x hp hv hP X hX, ← rd4_window_two_nhwc _ (hs ⟨t, ht⟩) hb hcc hh hw]
  unfold patches16
  have e := rd2_patches (b := b) (h := h) (w := w) (c := c) (fun t : Fin 16 => Host.slice ⟨4, ![2, H, H, C]⟩ ![0, t.val / 4, t.val % 4, 0] ![1, 2, 2, 1]
    (padded x hp hv) (hs t)) hc hr hM hD rfl ⟨t, ht⟩ hb hcc hh hw
  exact e

/-- The same windows of an image that has its border, cut from the four planes of its even and odd rows and columns. -/
def patchesBy {H P Q C D M : ℕ} (z : FVec Ideal ⟨4, ![2, Q, Q, C]⟩ .bf16)
    (h1 : Shape.ShapeCasts ⟨4, ![2, Q, Q, C]⟩ ⟨6, ![2, P, 2, P, 2, C]⟩)
    (h2 : Shape.Transposes ⟨6, ![2, P, 2, P, 2, C]⟩ [0, 2, 4, 1, 3, 5] ⟨6, ![2, 2, 2, P, P, C]⟩)
    (hs : ∀ t : Fin 16, Shape.Slices ⟨6, ![2, 2, 2, P, P, C]⟩
      ![0, t.val / 4 % 2, t.val % 4 % 2, t.val / 4 / 2, t.val % 4 / 2, 0] ⟨6, ![2, 1, 1, H, H, C]⟩)
    (h4 : Shape.ShapeCasts ⟨6, ![2, 1, 1, H, H, C]⟩ ⟨4, ![2, H, H, C]⟩)
    (hc : Shape.Concatenates (List.replicate 16 ⟨4, ![2, H, H, C]⟩) ⟨4, ![2, H, H, D]⟩ 3)
    (hr : Shape.ShapeCasts ⟨4, ![2, H, H, D]⟩ ⟨2, ![M, D]⟩) : FVec Ideal ⟨2, ![M, D]⟩ .bf16 :=
  shapeCast ⟨2, ![M, D]⟩ (concatenate ⟨4, ![2, H, H, D]⟩ 3 (List.ofFn fun t : Fin 16 => (⟨⟨4, ![2, H, H, C]⟩,
    shapeCast ⟨4, ![2, H, H, C]⟩ (extractStridedSlice ⟨6, ![2, 1, 1, H, H, C]⟩
      ![0, t.val / 4 % 2, t.val % 4 % 2, t.val / 4 / 2, t.val % 4 / 2, 0]
      (transpose ⟨6, ![2, 2, 2, P, P, C]⟩ [0, 2, 4, 1, 3, 5] (shapeCast ⟨6, ![2, P, 2, P, 2, C]⟩ z h1) h2) (hs t)) h4⟩ :
    (s : Shape) × (s.Idx → EReal))) hc) hr

/-- They are the windows. -/
theorem rd2_patchesBy {I H P Q C D M : ℕ} (x : FVec Ideal ⟨4, ![2, I, I, C]⟩ .f32)
    (hp : Shape.Pads ⟨4, ![2, I, I, C]⟩ ![0, 1, 1, 0] ![0, 1, 1, 0] ![0, 0, 0, 0] ⟨4, ![2, Q, Q, C]⟩)
    (hv : 0 < (⟨0, ![]⟩ : Shape).numel)
    (h1 : Shape.ShapeCasts ⟨4, ![2, Q, Q, C]⟩ ⟨6, ![2, P, 2, P, 2, C]⟩)
    (h2 : Shape.Transposes ⟨6, ![2, P, 2, P, 2, C]⟩ [0, 2, 4, 1, 3, 5] ⟨6, ![2, 2, 2, P, P, C]⟩)
    (hs : ∀ t : Fin 16, Shape.Slices ⟨6, ![2, 2, 2, P, P, C]⟩
      ![0, t.val / 4 % 2, t.val % 4 % 2, t.val / 4 / 2, t.val % 4 / 2, 0] ⟨6, ![2, 1, 1, H, H, C]⟩)
    (h4 : Shape.ShapeCasts ⟨6, ![2, 1, 1, H, H, C]⟩ ⟨4, ![2, H, H, C]⟩)
    (hc : Shape.Concatenates (List.replicate 16 ⟨4, ![2, H, H, C]⟩) ⟨4, ![2, H, H, D]⟩ 3)
    (hr : Shape.ShapeCasts ⟨4, ![2, H, H, D]⟩ ⟨2, ![M, D]⟩) (hQ : Q = 2 * P) (hP : 2 * P = I + 2) (hD : D = 16 * C) (hM : M = 2 * H * H)
    (X : ℕ → ℕ → ℕ → ℕ → EReal) (hX : ∀ b c h w, rd4 x b h w c = X b c h w)
    (b h w : ℕ) (hb : b < 2) (hh : h < H) (hw : w < H) (t : ℕ) (ht : t < 4 * 4) (c : ℕ) (hcc : c < C) :
    rd2 (patchesBy (padded x hp hv) h1 h2 hs h4 hc hr) ((b * H + h) * H + w) (t * C + c)
      = padS 1 X b c (2 * h + t / 4) (2 * w + t % 4) := by
  subst hQ
  rw [← rd4_padded x hp hv hP X hX, ← rd4_plane_window _ h1 h2 (hs ⟨t, ht⟩) h4 hb hcc hh hw]
  unfold patchesBy
  have e := rd2_patches (b := b) (h := h) (w := w) (c := c) (fun t : Fin 16 => shapeCast ⟨4, ![2, H, H, C]⟩ (extractStridedSlice ⟨6, ![2, 1, 1, H, H, C]⟩
      ![0, t.val / 4 % 2, t.val % 4 % 2, t.val / 4 / 2, t.val % 4 / 2, 0]
      (transpose ⟨6, ![2, 2, 2, P, P, C]⟩ [0, 2, 4, 1, 3, 5] (shapeCast ⟨6, ![2, P, 2, P, 2, C]⟩ (padded x hp hv) h1) h2) (hs t)) h4)
    hc hr hM hD rfl ⟨t, ht⟩ hb hcc hh hw
  exact e

/-- The last coordinates of a row's number. -/
theorem row_lt {H M b h w : ℕ} (hM : M = 2 * H * H) (hb : b < 2) (hh : h < H) (hw : w < H) : (b * H + h) * H + w < M := by
  have a2 := Nat.mul_le_mul_right H (Nat.succ_le_of_lt hb)
  have a3 : b * H + h + 1 ≤ 2 * H := by rw [Nat.succ_mul] at a2; omega
  have a4 := Nat.mul_le_mul_right H a3
  rw [hM]; rw [Nat.succ_mul] at a4; omega

/-- A convolution's layer call leaves the reference's convolution, a row for each pixel. -/
theorem layer {H M N E k s C : ℕ} {φ₁ φ₂ : FTy} (act : EReal → EReal) (y : FVec Ideal ⟨2, ![M, N]⟩ .f32)
    (A : FVec Ideal ⟨2, ![M, E]⟩ φ₁) (W : FVec Ideal ⟨2, ![E, N]⟩ φ₂) (r : FVec Ideal ⟨2, ![1, N]⟩ .f32)
    (R : FVec Ideal ⟨4, ![2, N, H, H]⟩ .f32) (X Y : ℕ → ℕ → ℕ → ℕ → EReal) (bias : ℕ → EReal)
    (hy : y = fun i => act (affine A W r (i 0) (i 1))) (hM : M = 2 * H * H) (hE : E = k * k * C)
    (hA : ∀ b h w, b < 2 → h < H → w < H → ∀ t, t < k * k → ∀ c, c < C →
      rd2 A ((b * H + h) * H + w) (t * C + c) = X b c (s * h + t / k) (s * w + t % k))
    (hW : ∀ t, t < k * k → ∀ c, c < C → ∀ o, o < N → rd2 W (t * C + c) o = Y o c (t / k) (t % k))
    (hr : ∀ o, o < N → rd2 r 0 o = bias o)
    (hR : ∀ (b : Fin 2) (o : Fin N) (h w : Fin H), R (ix4 b o h w) = act (convS k s C X Y b o h w + bias o))
    (b o h w : ℕ) (hb : b < 2) (ho : o < N) (hh : h < H) (hw : w < H) :
    rd2 y ((b * H + h) * H + w) o = rd4 R b o h w := by
  rw [rd4_of R hb ho hh hw, hR, rd2_of y (row_lt hM hb hh hw) ho, hy]
  show act (affine A W r ((b * H + h) * H + w) o) = _
  rw [affine_conv A W r X Y hE (hA b h w hb hh hw) (fun t ht c hc => hW t ht c hc o ho), hr o ho]

/-- Rows that are an image's pixels, read as the image, also outside it. -/
theorem image_eq {H M N : ℕ} (y : FVec Ideal ⟨2, ![M, N]⟩ .f32) (R : FVec Ideal ⟨4, ![2, N, H, H]⟩ .f32)
    (hc : Shape.ShapeCasts ⟨2, ![M, N]⟩ ⟨4, ![2, H, H, N]⟩) (hM : M = 2 * H * H)
    (hy : ∀ b o h w, b < 2 → o < N → h < H → w < H → rd2 y ((b * H + h) * H + w) o = rd4 R b o h w)
    (b o h w : ℕ) : rd4 (shapeCast ⟨4, ![2, H, H, N]⟩ y hc) b h w o = rd4 R b o h w := by
  by_cases hr : b < 2 ∧ o < N ∧ h < H ∧ w < H
  · obtain ⟨hb, ho, hh, hw⟩ := hr
    rw [← hy b o h w hb ho hh hw]
    exact rd4_image y hc hM hb hh hw ho
  · unfold rd4
    rw [dif_neg (by tauto), dif_neg (by tauto)]

/-- A transposed convolution's layer call leaves, woven, the reference's transposed convolution. -/
theorem layer_t {H M N D E C O : ℕ} {φ₁ φ₂ : FTy} (act : EReal → EReal) (z : FVec Ideal ⟨2, ![M, D]⟩ .f32)
    (A : FVec Ideal ⟨2, ![M, E]⟩ φ₁) (W : FVec Ideal ⟨2, ![E, N]⟩ φ₂) (r : FVec Ideal ⟨2, ![1, N]⟩ .f32)
    (R : FVec Ideal ⟨4, ![2, O, 2 * H, 2 * H]⟩ .f32) (X Y : ℕ → ℕ → ℕ → ℕ → EReal) (bias : ℕ → EReal)
    (h1 : Shape.ShapeCasts ⟨2, ![M, D]⟩ ⟨6, ![2, H, H, 2, 2, O]⟩)
    (h2 : Shape.Transposes ⟨6, ![2, H, H, 2, 2, O]⟩ [0, 1, 3, 2, 4, 5] ⟨6, ![2, H, 2, H, 2, O]⟩)
    (h3 : Shape.ShapeCasts ⟨6, ![2, H, 2, H, 2, O]⟩ ⟨4, ![2, 2 * H, 2 * H, O]⟩)
    (hM : M = 2 * H * H) (hD : D = 4 * O) (hE : E = 3 * 3 * C)
    (hz : ∀ i j, i < M → j < D → rd2 z i j = act (affine A W r i j))
    (hA : ∀ b h w, b < 2 → h < H → w < H → ∀ t, t < 3 * 3 → ∀ c, c < C →
      rd2 A ((b * H + h) * H + w) (t * C + c) = padS 1 X b c (1 * h + t / 3) (1 * w + t % 3))
    (hW : ∀ (t : Fin 9) (g : Fin 4), ∀ c, c < C → ∀ o, o < O →
      rd2 W (t * C + c) (g * O + o) = phaseW (g.val / 2) (g.val % 2) Y o c (t.val / 3) (t.val % 3))
    (hr : ∀ (g : Fin 4), ∀ o, o < O → rd2 r 0 (g * O + o) = bias o)
    (hR : ∀ (b : Fin 2) (o : Fin O) (h w : Fin (2 * H)), R (ix4 b o h w) = act (convS 4 1 C (padD X) Y b o h w + bias o))
    (b o h w : ℕ) :
    rd4 (shapeCast ⟨4, ![2, 2 * H, 2 * H, O]⟩ (transpose ⟨6, ![2, H, 2, H, 2, O]⟩ [0, 1, 3, 2, 4, 5]
        (shapeCast ⟨6, ![2, H, H, 2, 2, O]⟩ z h1) h2) h3) b h w o = rd4 R b o h w := by
  by_cases hr' : b < 2 ∧ o < O ∧ h < 2 * H ∧ w < 2 * H
  · obtain ⟨hb, ho, hh, hw⟩ := hr'
    rw [rd4_of R hb ho hh hw, hR]
    show _ = act (convS 4 1 C (padD X) Y b o h w + bias o)
    obtain ⟨h', p, hp, rfl⟩ : ∃ h' p, p < 2 ∧ h = 2 * h' + p := ⟨h / 2, h % 2, by omega, by omega⟩
    obtain ⟨w', q, hq, rfl⟩ : ∃ w' q, q < 2 ∧ w = 2 * w' + q := ⟨w / 2, w % 2, by omega, by omega⟩
    have hh' : h' < H := by omega
    have hw' : w' < H := by omega
    have hg : 2 * p + q < 4 := by omega
    have g1 : (2 * p + q) / 2 = p := by omega
    have g2 : (2 * p + q) % 2 = q := by omega
    have a5 := Nat.mul_le_mul_right O (show 2 * p + q + 1 ≤ 4 by omega)
    have hcol : (2 * p + q) * O + o < D := by rw [Nat.succ_mul] at a5; omega
    rw [rd4_woven z h1 h2 h3 hM hD hb hh' hw' hp hq ho, hz _ _ (row_lt hM hb hh' hw') hcol, conv_phase C X Y b o h' w' hp hq,
      affine_conv (k := 3) (s := 1) A W r (padS 1 X) (fun _ => phaseW p q Y o) hE (hA b h' w' hb hh' hw') (fun t ht c hc => by
        have e := hW ⟨t, ht⟩ ⟨2 * p + q, hg⟩ c hc o ho
        rw [show (⟨2 * p + q, hg⟩ : Fin 4).val / 2 = p from g1, show (⟨2 * p + q, hg⟩ : Fin 4).val % 2 = q from g2] at e
        exact e)]
    rw [show rd2 r 0 ((2 * p + q) * O + o) = bias o from hr ⟨2 * p + q, hg⟩ o ho]
    rfl
  · unfold rd4
    rw [dif_neg (by tauto), dif_neg (by tauto)]

end Cert.Proof

end
-- ==== Proof.Stretch.lean ====
/- What the kernel's host operations leave in the arrays its layer calls read, from any contents of the arrays before. -/
module

public import proofs.«01_k».proof.Proof.Inputs
public import proofs.«01_k».proof.Proof.Gen.KernelIdeal.Launch
public import Idealize.ShloMosaic.Lib.StableHlo.Run

@[expose] public section

noncomputable section

namespace Cert.Proof

open Idealize.ShloMosaic Idealize.ShloMosaic.TcCoe
open Cert.KernelIdeal Cert.KernelIdeal.Gen

variable (V : Valuation τ sig (Elt Ideal))

/-- The arrays once the host operations before the first convolution's call have run. -/
abbrev pre0 := StableHlo.after hostOps0_2 (StableHlo.after hostOps0_1 (StableHlo.after hostOps0 V))
/-- … the second's. -/
abbrev pre1 := StableHlo.after hostOps1_2 (StableHlo.after hostOps1_1 (StableHlo.after hostOps1 V))
/-- … the third's. -/
abbrev pre2 := StableHlo.after hostOps2_2 (StableHlo.after hostOps2_1 (StableHlo.after hostOps2 V))
/-- … the fourth's. -/
abbrev pre3 := StableHlo.after hostOps3_2 (StableHlo.after hostOps3_1 (StableHlo.after hostOps3 V))
/-- … the decoder's convolution's. -/
abbrev pre5 := StableHlo.after hostOps5_2 (StableHlo.after hostOps5_1 (StableHlo.after hostOps5 V))
/-- … the first transposed convolution's. -/
abbrev pre6 := StableHlo.after hostOps6_4 (StableHlo.after hostOps6_3 (StableHlo.after hostOps6_2 (StableHlo.after hostOps6_1
  (StableHlo.after hostOps6 V))))
/-- … the second's. -/
abbrev pre7 := StableHlo.after hostOps7_6 (StableHlo.after hostOps7_5 (StableHlo.after hostOps7_4 (StableHlo.after hostOps7_3
  (StableHlo.after hostOps7_2 (StableHlo.after hostOps7_1 (StableHlo.after hostOps7 V))))))

/-- The first convolution's windows. -/
theorem pre0_A : pre0 V main_v20 = patches16 (I := 224) (H := 112) (P := 226) (C := 3) (D := 48) (M := 25088)
    (transpose S2x224x224x3 [0, 2, 3, 1] (V main_arg0 : FVec Ideal S2x3x224x224 .f32) transposes_S2x3x224x224_S2x224x224x3_0_2_3_1)
    (by decide) (by decide) (by decide) (by decide) (by decide) := by
  after_results
  rfl

/-- Its weights. -/
theorem pre0_W : pre0 V main_v23 = shapeCast S48x64 (transpose S4x4x3x64 [2, 3, 1, 0] (V main_arg1 : FVec Ideal S64x3x4x4 .f32)
    transposes_S64x3x4x4_S4x4x3x64_2_3_1_0) shapeCasts_S4x4x3x64_S48x64 := by
  after_results
  rfl

/-- Its bias. -/
theorem pre0_b : pre0 V main_v24 = shapeCast S1x64 (V main_arg2 : FVec Ideal S64 .f32) shapeCasts_S64_S1x64 := by
  after_results
  rfl

/-- The second convolution's image, with its border. -/
theorem pre1_image : (truncf .bf16 (StableHlo.after hostOps1_1 (StableHlo.after hostOps1 V) main_v27 : FVec Ideal S2x114x114x64 .f32)
    bitsLt_bf16_f32 : FVec Ideal S2x114x114x64 .bf16) = padded (H := 112) (P := 114) (C := 64)
    (shapeCast S2x112x112x64 (V main_v25 : FVec Ideal S25088x64 .f32) shapeCasts_S25088x64_S2x112x112x64)
    (by decide) (by decide) := by
  after_results
  rfl

/-- The second convolution's windows, from that image. -/
theorem pre1_windows : StableHlo.after hostOps1_2 V main_v64 = patchesBy (P := 57) (Q := 114) (H := 56) (C := 64) (D := 1024) (M := 6272)
    (truncf .bf16 (V main_v27 : FVec Ideal S2x114x114x64 .f32) bitsLt_bf16_f32)
    (by decide) (by decide) (by decide) (by decide) (by decide) (by decide) := by
  after_results
  rfl

/-- The second convolution's windows. -/
theorem pre1_A : pre1 V main_v64 = patchesBy (P := 57) (Q := 114) (H := 56) (C := 64) (D := 1024) (M := 6272)
    (padded (H := 112) (P := 114) (C := 64)
      (shapeCast S2x112x112x64 (V main_v25 : FVec Ideal S25088x64 .f32) shapeCasts_S25088x64_S2x112x112x64)
      (by decide) (by decide)) (by decide) (by decide) (by decide) (by decide) (by decide) (by decide) :=
  (pre1_windows _).trans (congrArg (fun z => patchesBy (P := 57) (Q := 114) (H := 56) (C := 64) (D := 1024) (M := 6272) z
    (by decide) (by decide) (by decide) (by decide) (by decide) (by decide)) (pre1_image V))

/-- Its weights. -/
theorem pre1_W : pre1 V main_v67 = shapeCast S1024x128 (transpose S4x4x64x128 [2, 3, 1, 0] (V main_arg3 : FVec Ideal S128x64x4x4 .f32)
    transposes_S128x64x4x4_S4x4x64x128_2_3_1_0) shapeCasts_S4x4x64x128_S1024x128 := by
  after_results
  rfl

/-- Its bias. -/
theorem pre1_b : pre1 V main_v68 = shapeCast S1x128 (V main_arg4 : FVec Ideal S128 .f32) shapeCasts_S128_S1x128 := by
  after_results
  rfl

/-- The third convolution's windows. -/
theorem pre2_A : pre2 V main_v83 = patches9 (H := 56) (P := 58) (C := 128) (D := 1152) (M := 6272)
    (shapeCast S2x56x56x128 (V main_v69 : FVec Ideal S6272x128 .f32) shapeCasts_S6272x128_S2x56x56x128)
    (by decide) (by decide) (by decide) (by decide) (by decide) := by
  after_results
  rfl

/-- Its weights. -/
theorem pre2_W : pre2 V main_v86 = shapeCast S1152x256 (transpose S3x3x128x256 [2, 3, 1, 0] (V main_arg5 : FVec Ideal S256x128x3x3 .f32)
    transposes_S256x128x3x3_S3x3x128x256_2_3_1_0) shapeCasts_S3x3x128x256_S1152x256 := by
  after_results
  rfl

/-- Its bias. -/
theorem pre2_b : pre2 V main_v87 = shapeCast S1x256 (V main_arg6 : FVec Ideal S256 .f32) shapeCasts_S256_S1x256 := by
  after_results
  rfl

/-- The fourth convolution's windows. -/
theorem pre3_A : pre3 V main_v102 = patches9 (H := 56) (P := 58) (C := 256) (D := 2304) (M := 6272)
    (shapeCast S2x56x56x256 (V main_v88 : FVec Ideal S6272x256 .f32) shapeCasts_S6272x256_S2x56x56x256)
    (by decide) (by decide) (by decide) (by decide) (by decide) := by
  after_results
  rfl

/-- Its weights. -/
theorem pre3_W : pre3 V main_v105 = shapeCast S2304x256 (transpose S3x3x256x256 [2, 3, 1, 0] (V main_arg7 : FVec Ideal S256x256x3x3 .f32)
    transposes_S256x256x3x3_S3x3x256x256_2_3_1_0) shapeCasts_S3x3x256x256_S2304x256 := by
  after_results
  rfl

/-- Its bias. -/
theorem pre3_b : pre3 V main_v106 = shapeCast S1x256 (V main_arg8 : FVec Ideal S256 .f32) shapeCasts_S256_S1x256 := by
  after_results
  rfl

/-- The decoder's convolution's windows. -/
theorem pre5_A : pre5 V main_v142 = patches9 (H := 56) (P := 58) (C := 256) (D := 2304) (M := 6272)
    (shapeCast S2x56x56x256 (V main_v121_0 : FVec Ideal S6272x256 .f32) shapeCasts_S6272x256_S2x56x56x256)
    (by decide) (by decide) (by decide) (by decide) (by decide) := by
  after_results
  rfl

/-- Its weights. -/
theorem pre5_W : pre5 V main_v145 = shapeCast S2304x128 (transpose S3x3x256x128 [2, 3, 1, 0] (V main_arg10 : FVec Ideal S128x256x3x3 .f32)
    transposes_S128x256x3x3_S3x3x256x128_2_3_1_0) shapeCasts_S3x3x256x128_S2304x128 := by
  after_results
  rfl

/-- Its bias. -/
theorem pre5_b : pre5 V main_v146 = shapeCast S1x128 (V main_arg11 : FVec Ideal S128 .f32) shapeCasts_S128_S1x128 := by
  after_results
  rfl

/-- The first transposed convolution's windows. -/
theorem pre6_A : pre6 V main_v165 = patches9 (H := 56) (P := 58) (C := 128) (D := 1152) (M := 6272)
    (shapeCast S2x56x56x128 (V main_v147 : FVec Ideal S6272x128 .f32) shapeCasts_S6272x128_S2x56x56x128)
    (by decide) (by decide) (by decide) (by decide) (by decide) := by
  after_results
  rfl

set_option maxHeartbeats 4000000 in -- a long list of operations
/-- Its weights, from the last stretch. -/
theorem pre6_packed : StableHlo.after hostOps6_4 V main_v228 = packed (C := 128) (O := 64) (D := 256) (E := 1152)
    (V main_arg12 : FVec Ideal S128x64x4x4 .f32) (by decide) (by decide) (by decide) (by decide) (by decide) := by
  after_results
  rfl

/-- The stretches before leave the kernel's array. -/
theorem pre6_arg12 : StableHlo.after hostOps6_3 (StableHlo.after hostOps6_2 (StableHlo.after hostOps6_1
    (StableHlo.after hostOps6 V))) main_arg12 = V main_arg12 := by
  after_results

/-- Its weights. -/
theorem pre6_W : pre6 V main_v228 = packed (C := 128) (O := 64) (D := 256) (E := 1152) (V main_arg12 : FVec Ideal S128x64x4x4 .f32)
    (by decide) (by decide) (by decide) (by decide) (by decide) :=
  (pre6_packed _).trans (congrArg (fun x : FVec Ideal S128x64x4x4 .f32 => packed (C := 128) (O := 64) (D := 256) (E := 1152) x
    (by decide) (by decide) (by decide) (by decide) (by decide)) (pre6_arg12 V))

/-- Its bias. -/
theorem pre6_b : pre6 V main_v229 = shapeCast S1x256 (pad S256 ![0] ![0] ![0] (shapeCast S256 (broadcastInDim S4x64 ![0, 1]
    bcast_S1x64_S4x64_0_1 (shapeCast S1x64 (V main_arg13 : FVec Ideal S64 .f32) shapeCasts_S64_S1x64)) shapeCasts_S4x64_S256) filler
    pads_S256_S256_000 h_S_) shapeCasts_S256_S1x256 := by
  after_results
  rfl

/-- The second transposed convolution's windows. -/
theorem pre7_A : pre7 V main_v250 = patches9 (H := 112) (P := 114) (C := 64) (D := 576) (M := 25088)
    (shapeCast S2x112x112x64 (transpose S2x56x2x56x2x64 [0, 1, 3, 2, 4, 5] (shapeCast S2x56x56x2x2x64
      (V main_v230 : FVec Ideal S6272x256 .f32) shapeCasts_S6272x256_S2x56x56x2x2x64)
      transposes_S2x56x56x2x2x64_S2x56x2x56x2x64_0_1_3_2_4_5) shapeCasts_S2x56x2x56x2x64_S2x112x112x64)
    (by decide) (by decide) (by decide) (by decide) (by decide) := by
  after_results
  rfl

set_option maxHeartbeats 4000000 in -- a long list of operations
/-- Its weights before they are widened, from their stretch. -/
theorem pre7_packed : StableHlo.after hostOps7_4 V main_v312 = packed (C := 64) (O := 3) (D := 12) (E := 576)
    (V main_arg14 : FVec Ideal S64x3x4x4 .f32) (by decide) (by decide) (by decide) (by decide) (by decide) := by
  after_results
  rfl

/-- The stretches before leave the kernel's array. -/
theorem pre7_arg14 : StableHlo.after hostOps7_3 (StableHlo.after hostOps7_2 (StableHlo.after hostOps7_1
    (StableHlo.after hostOps7 V))) main_arg14 = V main_arg14 := by
  after_results

/-- The filling number of the widened weights. -/
theorem pre7_filler : StableHlo.after hostOps7_4 V main_c_49 = constantI S_ 32 0#32 := by
  after_results

/-- Widening the weights. -/
theorem pre7_widened : StableHlo.after hostOps7_6 (StableHlo.after hostOps7_5 V) main_v314 = pad S576x128 ![0, 0] ![0, 116] ![0, 0]
    (V main_v312 : FVec Ideal S576x12 .f32) (sitofp (F := Ideal) .f32 (V main_c_49 : IVec S_ 32)) (by decide) h_S_ := by
  after_results
  rfl

/-- Its weights. -/
theorem pre7_W : pre7 V main_v314 = pad S576x128 ![0, 0] ![0, 116] ![0, 0]
    (packed (C := 64) (O := 3) (D := 12) (E := 576) (V main_arg14 : FVec Ideal S64x3x4x4 .f32)
      (by decide) (by decide) (by decide) (by decide) (by decide)) filler (by decide) h_S_ := by
  refine (pre7_widened _).trans ?_
  rw [pre7_packed, pre7_filler, pre7_arg14]

/-- Its bias. -/
theorem pre7_b : pre7 V main_v315 = shapeCast S1x128 (pad S128 ![0] ![116] ![0] (shapeCast S12 (broadcastInDim S4x3 ![0, 1]
    bcast_S1x3_S4x3_0_1 (shapeCast S1x3 (V main_arg15 : FVec Ideal S3 .f32) shapeCasts_S3_S1x3)) shapeCasts_S4x3_S12) filler
    pads_S12_S128_01160 h_S_) shapeCasts_S128_S1x128 := by
  after_results
  rfl

/-- The first result, from the last call's array. -/
theorem post_recon : StableHlo.after hostOps8 V main_v321 = transpose S2x3x224x224 [0, 3, 1, 2] (shapeCast S2x224x224x3
    (transpose S2x112x2x112x2x3 [0, 1, 3, 2, 4, 5] (shapeCast S2x112x112x2x2x3 (extractStridedSlice S25088x12 ![0, 0]
      (V main_v316 : FVec Ideal S25088x128 .f32) slices_S25088x128_S25088x12_0_0) shapeCasts_S25088x12_S2x112x112x2x2x3)
      transposes_S2x112x112x2x2x3_S2x112x2x112x2x3_0_1_3_2_4_5) shapeCasts_S2x112x2x112x2x3_S2x224x224x3)
      transposes_S2x224x224x3_S2x3x224x224_0_3_1_2 := by
  after_results
  rfl

/-- The second result, from the indices the quantizer's call leaves. -/
theorem post_indices : StableHlo.after hostOps5 V main_v126 = transpose S2x4x56x56 [1, 0, 2, 3] (shapeCast S4x2x56x56
    (V main_v121_2 : IVec S4x6272 32) shapeCasts_S4x6272_S4x2x56x56) transposes_S4x2x56x56_S2x4x56x56_1_0_2_3 := by
  after_results
  rfl

/-- The third result, from the sums of squares. -/
theorem post_loss : StableHlo.after hostOps5 V main_v124 = Host.divf (Host.reduceAdd (V main_v121_3 : FVec Ideal S4x128 .f32)
    (constant (F := Ideal) S_ .f32 0x00000000#32) reducesTo_S4x128_S4_d1 h_S_)
    (broadcastInDim S4 ![] bcast_S_S4 (constant (F := Ideal) S_ .f32 0x49C40000#32)) := by
  after_results

/-- The fourth result, from the transposed rows. -/
theorem post_qmap : StableHlo.after hostOps5 V main_v129 = transpose S2x256x56x56 [1, 0, 2, 3] (shapeCast S256x2x56x56
    (V main_v121_1 : FVec Ideal S256x6272 .f32) shapeCasts_S256x6272_S256x2x56x56) transposes_S256x2x56x56_S2x256x56x56_1_0_2_3 := by
  after_results
  rfl

/-- One codebook array's three parts: itself, what is left of it, what is left of that. -/
def part (x : FVec Ideal S4x1024x256 .f32) (p : Fin 3) : FVec Ideal S1x4x1024x256 .bf16 :=
  broadcastInDim S1x4x1024x256 ![1, 2, 3] bcast_S4x1024x256_S1x4x1024x256_1_2_3
    ((![x, subf x x, subf (subf x x) (subf x x)] : Fin 3 → FVec Ideal S4x1024x256 .f32) p)

/-- The three parts, one behind the other. -/
def parts (x : FVec Ideal S4x1024x256 .f32) : FVec Ideal S3x4x1024x256 .bf16 :=
  concatenate S3x4x1024x256 0 (List.ofFn fun p : Fin 3 => (⟨S1x4x1024x256, part x p⟩ : (s : Shape) × (s.Idx → EReal)))
    (by decide : Shape.Concatenates (List.replicate 3 S1x4x1024x256) S3x4x1024x256 0)

/-- The quantizer's call reads them. -/
theorem pre4_parts : StableHlo.after hostOps4 V main_v120 = parts (V main_arg9 : FVec Ideal S4x1024x256 .f32) := by
  after_results
  rfl

end Cert.Proof

end
-- ==== Proof.Regions.lean ====
/- What each of the kernel's layer calls leaves in its result array. -/
module

public import proofs.«01_k».proof.Proof.Layer
public import proofs.«01_k».proof.Proof.Gen.KernelIdeal.Frame
public import Idealize.ShloMosaic.Lib.Pipeline.ValueKit

@[expose] public section

noncomputable section

open scoped BigOperators

namespace Cert.Proof

open Idealize.ShloMosaic Idealize.ShloMosaic.TcCoe
open Idealize.ShloMosaic.Pipeline (Dat Window)
open Cert.KernelIdeal Cert.KernelIdeal.Gen

variable (V : (c : Dev nD) → (b : Ref sig .tc) → Buf (Elt Ideal) ((c : Thread nD τ).loc b))

/-- The offsets of a whole block. -/
theorem zeros2 : (![0, 0] : Fin 2 → ℕ) = fun _ => 0 := by
  funext a
  match a with
  | ⟨0, _⟩ => rfl
  | ⟨1, _⟩ => rfl

/-- The block the call of the first convolution computes, at an entry. -/
theorem pay0 (A : FVec Ideal S1792x48 .bf16) (W : FVec Ideal S48x64 .bf16) (b : FVec Ideal S1x64 .f32)
    (i : Fin 1792) (j : Fin 64) : k0_pay1 (F := Ideal) A W b (ValueIdx.ix2 i j) = max (affine A W b i j) 0 := by
  unfold k0_pay1
  refine (ValueIdx.maximumf_apply _ _ _).trans ?_
  exact congrArg₂ max (body_apply A W b _ _ _ _ i j) Ideal.ofBits_zero_f32

/-- The result array of the first convolution's call. -/
theorem region0 (c : Dev nD) : (dat0 V c).arrAt 3 cfg0.N = fun i : S25088x64.Idx =>
    max (affine (M := 25088) (K := 48) (N := 64) (φ₁ := .bf16) (φ₂ := .bf16) (V c main_v20) (V c main_v23) (V c main_v24) (i 0) (i 1)) 0 := by
  refine (dat0 V c).arrAt_eq_of_covers 3 _ (by decide +kernel) fun t hf y => ?_
  blk_simp
  rw [after0_3]
  unfold out0_3
  rw [View.canon_unit_zero zeros2, View.ld_unit_zero zeros2, View.ld_unit_zero zeros2, View.ld_unit_zero zeros2]
  refine (congrArg _ (ValueIdx.eq_ix2 y)).trans ((pay0 _ _ _ (y 0) (y 1)).trans (congrArg (fun z => max z 0) ?_))
  exact affine_blocks (M := 25088) (K := 48) (N := 64) (φ₁ := .bf16) (φ₂ := .bf16) (V c main_v20) (V c main_v23) (V c main_v24) _ _ _ _
    (fun y => Window.rect_emb_val win0_0 t y 0) (fun y => Window.rect_emb_val win0_0 t y 1)
    (fun y => Window.rect_emb_val win0_1 t y 0) (fun y => Window.rect_emb_val win0_1 t y 1)
    (fun y => Window.rect_emb_val win0_2 t y 0)
    (fun y => Window.rect_emb_val win0_2 t y 1) (y 0) (y 1)

/-- The block the call of the second convolution computes, at an entry. -/
theorem pay1 (A : FVec Ideal S896x1024 .bf16) (W : FVec Ideal S1024x128 .bf16) (b : FVec Ideal S1x128 .f32)
    (i : Fin 896) (j : Fin 128) : k1_pay1 (F := Ideal) A W b (ValueIdx.ix2 i j) = max (affine A W b i j) 0 := by
  unfold k1_pay1
  refine (ValueIdx.maximumf_apply _ _ _).trans ?_
  exact congrArg₂ max (body_apply A W b _ _ _ _ i j) Ideal.ofBits_zero_f32

/-- The result array of the second convolution's call. -/
theorem region1 (c : Dev nD) : (dat1 V c).arrAt 3 cfg1.N = fun i : S6272x128.Idx =>
    max (affine (M := 6272) (K := 1024) (N := 128) (φ₁ := .bf16) (φ₂ := .bf16) (V c main_v64) (V c main_v67) (V c main_v68) (i 0) (i 1)) 0 := by
  refine (dat1 V c).arrAt_eq_of_covers 3 _ (by decide +kernel) fun t hf y => ?_
  blk_simp
  rw [after1_3]
  unfold out1_3
  rw [View.canon_unit_zero zeros2, View.ld_unit_zero zeros2, View.ld_unit_zero zeros2, View.ld_unit_zero zeros2]
  refine (congrArg _ (ValueIdx.eq_ix2 y)).trans ((pay1 _ _ _ (y 0) (y 1)).trans (congrArg (fun z => max z 0) ?_))
  exact affine_blocks (M := 6272) (K := 1024) (N := 128) (φ₁ := .bf16) (φ₂ := .bf16) (V c main_v64) (V c main_v67) (V c main_v68) _ _ _ _
    (fun y => Window.rect_emb_val win1_0 t y 0) (fun y => Window.rect_emb_val win1_0 t y 1)
    (fun y => Window.rect_emb_val win1_1 t y 0) (fun y => Window.rect_emb_val win1_1 t y 1)
    (fun y => Window.rect_emb_val win1_2 t y 0)
    (fun y => Window.rect_emb_val win1_2 t y 1) (y 0) (y 1)

/-- The block the call of the third convolution computes, at an entry. -/
theorem pay2 (A : FVec Ideal S896x1152 .bf16) (W : FVec Ideal S1152x256 .bf16) (b : FVec Ideal S1x256 .f32)
    (i : Fin 896) (j : Fin 256) : k2_pay1 (F := Ideal) A W b (ValueIdx.ix2 i j) = max (affine A W b i j) 0 := by
  unfold k2_pay1
  refine (ValueIdx.maximumf_apply _ _ _).trans ?_
  exact congrArg₂ max (body_apply A W b _ _ _ _ i j) Ideal.ofBits_zero_f32

/-- The result array of the third convolution's call. -/
theorem region2 (c : Dev nD) : (dat2 V c).arrAt 3 cfg2.N = fun i : S6272x256.Idx =>
    max (affine (M := 6272) (K := 1152) (N := 256) (φ₁ := .bf16) (φ₂ := .bf16) (V c main_v83) (V c main_v86) (V c main_v87) (i 0) (i 1)) 0 := by
  refine (dat2 V c).arrAt_eq_of_covers 3 _ (by decide +kernel) fun t hf y => ?_
  blk_simp
  rw [after2_3]
  unfold out2_3
  rw [View.canon_unit_zero zeros2, View.ld_unit_zero zeros2, View.ld_unit_zero zeros2, View.ld_unit_zero zeros2]
  refine (congrArg _ (ValueIdx.eq_ix2 y)).trans ((pay2 _ _ _ (y 0) (y 1)).trans (congrArg (fun z => max z 0) ?_))
  exact affine_blocks (M := 6272) (K := 1152) (N := 256) (φ₁ := .bf16) (φ₂ := .bf16) (V c main_v83) (V c main_v86) (V c main_v87) _ _ _ _
    (fun y => Window.rect_emb_val win2_0 t y 0) (fun y => Window.rect_emb_val win2_0 t y 1)
    (fun y => Window.rect_emb_val win2_1 t y 0) (fun y => Window.rect_emb_val win2_1 t y 1)
    (fun y => Window.rect_emb_val win2_2 t y 0)
    (fun y => Window.rect_emb_val win2_2 t y 1) (y 0) (y 1)

/-- The block the call of the fourth convolution computes, at an entry. -/
theorem pay3 (A : FVec Ideal S896x2304 .bf16) (W : FVec Ideal S2304x256 .bf16) (b : FVec Ideal S1x256 .f32)
    (i : Fin 896) (j : Fin 256) : k3_pay1 (F := Ideal) A W b (ValueIdx.ix2 i j) = affine A W b i j := by
  unfold k3_pay1
  exact body_apply A W b _ _ _ _ i j

/-- The result array of the fourth convolution's call. -/
theorem region3 (c : Dev nD) : (dat3 V c).arrAt 3 cfg3.N = fun i : S6272x256.Idx =>
    affine (M := 6272) (K := 2304) (N := 256) (φ₁ := .bf16) (φ₂ := .bf16) (V c main_v102) (V c main_v105) (V c main_v106) (i 0) (i 1) := by
  refine (dat3 V c).arrAt_eq_of_covers 3 _ (by decide +kernel) fun t hf y => ?_
  blk_simp
  rw [after3_3]
  unfold out3_3
  rw [View.canon_unit_zero zeros2, View.ld_unit_zero zeros2, View.ld_unit_zero zeros2, View.ld_unit_zero zeros2]
  refine (congrArg _ (ValueIdx.eq_ix2 y)).trans ((pay3 _ _ _ (y 0) (y 1)).trans (congrArg (fun z => z) ?_))
  exact affine_blocks (M := 6272) (K := 2304) (N := 256) (φ₁ := .bf16) (φ₂ := .bf16) (V c main_v102) (V c main_v105) (V c main_v106) _ _ _ _
    (fun y => Window.rect_emb_val win3_0 t y 0) (fun y => Window.rect_emb_val win3_0 t y 1)
    (fun y => Window.rect_emb_val win3_1 t y 0) (fun y => Window.rect_emb_val win3_1 t y 1)
    (fun y => Window.rect_emb_val win3_2 t y 0)
    (fun y => Window.rect_emb_val win3_2 t y 1) (y 0) (y 1)

/-- The block the call of the decoder's convolution computes, at an entry. -/
theorem pay5 (A : FVec Ideal S896x2304 .bf16) (W : FVec Ideal S2304x128 .bf16) (b : FVec Ideal S1x128 .f32)
    (i : Fin 896) (j : Fin 128) : k5_pay1 (F := Ideal) A W b (ValueIdx.ix2 i j) = max (affine A W b i j) 0 := by
  unfold k5_pay1
  refine (ValueIdx.maximumf_apply _ _ _).trans ?_
  exact congrArg₂ max (body_apply A W b _ _ _ _ i j) Ideal.ofBits_zero_f32

/-- The result array of the decoder's convolution's call. -/
theorem region5 (c : Dev nD) : (dat5 V c).arrAt 3 cfg5.N = fun i : S6272x128.Idx =>
    max (affine (M := 6272) (K := 2304) (N := 128) (φ₁ := .bf16) (φ₂ := .bf16) (V c main_v142) (V c main_v145) (V c main_v146) (i 0) (i 1)) 0 := by
  refine (dat5 V c).arrAt_eq_of_covers 3 _ (by decide +kernel) fun t hf y => ?_
  blk_simp
  rw [after5_3]
  unfold out5_3
  rw [View.canon_unit_zero zeros2, View.ld_unit_zero zeros2, View.ld_unit_zero zeros2, View.ld_unit_zero zeros2]
  refine (congrArg _ (ValueIdx.eq_ix2 y)).trans ((pay5 _ _ _ (y 0) (y 1)).trans (congrArg (fun z => max z 0) ?_))
  exact affine_blocks (M := 6272) (K := 2304) (N := 128) (φ₁ := .bf16) (φ₂ := .bf16) (V c main_v142) (V c main_v145) (V c main_v146) _ _ _ _
    (fun y => Window.rect_emb_val win5_0 t y 0) (fun y => Window.rect_emb_val win5_0 t y 1)
    (fun y => Window.rect_emb_val win5_1 t y 0) (fun y => Window.rect_emb_val win5_1 t y 1)
    (fun y => Window.rect_emb_val win5_2 t y 0)
    (fun y => Window.rect_emb_val win5_2 t y 1) (y 0) (y 1)

/-- The block the call of the first transposed convolution computes, at an entry. -/
theorem pay6 (A : FVec Ideal S896x1152 .bf16) (W : FVec Ideal S1152x256 .bf16) (b : FVec Ideal S1x256 .f32)
    (i : Fin 896) (j : Fin 256) : k6_pay1 (F := Ideal) A W b (ValueIdx.ix2 i j) = max (affine A W b i j) 0 := by
  unfold k6_pay1
  refine (ValueIdx.maximumf_apply _ _ _).trans ?_
  exact congrArg₂ max (body_apply A W b _ _ _ _ i j) Ideal.ofBits_zero_f32

/-- The result array of the first transposed convolution's call. -/
theorem region6 (c : Dev nD) : (dat6 V c).arrAt 3 cfg6.N = fun i : S6272x256.Idx =>
    max (affine (M := 6272) (K := 1152) (N := 256) (φ₁ := .bf16) (φ₂ := .bf16) (V c main_v165) (V c main_v228) (V c main_v229) (i 0) (i 1)) 0 := by
  refine (dat6 V c).arrAt_eq_of_covers 3 _ (by decide +kernel) fun t hf y => ?_
  blk_simp
  rw [after6_3]
  unfold out6_3
  rw [View.canon_unit_zero zeros2, View.ld_unit_zero zeros2, View.ld_unit_zero zeros2, View.ld_unit_zero zeros2]
  refine (congrArg _ (ValueIdx.eq_ix2 y)).trans ((pay6 _ _ _ (y 0) (y 1)).trans (congrArg (fun z => max z 0) ?_))
  exact affine_blocks (M := 6272) (K := 1152) (N := 256) (φ₁ := .bf16) (φ₂ := .bf16) (V c main_v165) (V c main_v228) (V c main_v229) _ _ _ _
    (fun y => Window.rect_emb_val win6_0 t y 0) (fun y => Window.rect_emb_val win6_0 t y 1)
    (fun y => Window.rect_emb_val win6_1 t y 0) (fun y => Window.rect_emb_val win6_1 t y 1)
    (fun y => Window.rect_emb_val win6_2 t y 0)
    (fun y => Window.rect_emb_val win6_2 t y 1) (y 0) (y 1)

/-- The block the call of the second transposed convolution computes, at an entry. -/
theorem pay7 (A : FVec Ideal S1792x576 .bf16) (W : FVec Ideal S576x128 .bf16) (b : FVec Ideal S1x128 .f32)
    (i : Fin 1792) (j : Fin 128) : k7_pay1 (F := Ideal) A W b (ValueIdx.ix2 i j) = Ideal.tanh (affine A W b i j) := by
  unfold k7_pay1
  exact congrArg Ideal.tanh (body_apply A W b _ _ _ _ i j)

/-- The result array of the second transposed convolution's call. -/
theorem region7 (c : Dev nD) : (dat7 V c).arrAt 3 cfg7.N = fun i : S25088x128.Idx =>
    Ideal.tanh (affine (M := 25088) (K := 576) (N := 128) (φ₁ := .bf16) (φ₂ := .bf16) (V c main_v250) (V c main_v314) (V c main_v315) (i 0) (i 1)) := by
  refine (dat7 V c).arrAt_eq_of_covers 3 _ (by decide +kernel) fun t hf y => ?_
  blk_simp
  rw [after7_3]
  unfold out7_3
  rw [View.canon_unit_zero zeros2, View.ld_unit_zero zeros2, View.ld_unit_zero zeros2, View.ld_unit_zero zeros2]
  refine (congrArg _ (ValueIdx.eq_ix2 y)).trans ((pay7 _ _ _ (y 0) (y 1)).trans (congrArg (fun z => Ideal.tanh z) ?_))
  exact affine_blocks (M := 25088) (K := 576) (N := 128) (φ₁ := .bf16) (φ₂ := .bf16) (V c main_v250) (V c main_v314) (V c main_v315) _ _ _ _
    (fun y => Window.rect_emb_val win7_0 t y 0) (fun y => Window.rect_emb_val win7_0 t y 1)
    (fun y => Window.rect_emb_val win7_1 t y 0) (fun y => Window.rect_emb_val win7_1 t y 1)
    (fun y => Window.rect_emb_val win7_2 t y 0)
    (fun y => Window.rect_emb_val win7_2 t y 1) (y 0) (y 1)

end Cert.Proof

end
-- ==== Proof.RefConv.lean ====
/- The reference's convolutions, each as one sum over taps and channels of the layer below. -/
module

public import proofs.«01_k».proof.Proof.Taps
public import proofs.«01_k».proof.Proof.Gen.ReferenceIdeal.Read

@[expose] public section

noncomputable section

open scoped BigOperators

namespace Cert.Proof

open Idealize.ShloMosaic Idealize.ShloMosaic.ValueIdx Cert.ReferenceIdeal Cert.ReferenceIdeal.Gen Cert.ReferenceIdeal.Read

/-- The batch brought to the front and a bias added to every channel. -/
theorem biased_apply {O B H W : ℕ} (S : FVec Ideal ⟨4, ![O, B, H, W]⟩ .f32) (x : FVec Ideal ⟨1, ![O]⟩ .f32)
    (ht : Shape.Transposes ⟨4, ![O, B, H, W]⟩ [1, 0, 2, 3] ⟨4, ![B, O, H, W]⟩)
    (h1 : Shape.BroadcastsInDim ⟨1, ![O]⟩ ⟨4, ![1, O, 1, 1]⟩ ![1])
    (h2 : Shape.BroadcastsInDim ⟨4, ![1, O, 1, 1]⟩ ⟨4, ![B, O, H, W]⟩ ![0, 1, 2, 3]) (hO : O ≠ 1)
    (b : Fin B) (o : Fin O) (h : Fin H) (w : Fin W) :
    addf (transpose ⟨4, ![B, O, H, W]⟩ [1, 0, 2, 3] S ht)
        (broadcastInDim ⟨4, ![B, O, H, W]⟩ ![0, 1, 2, 3] h2 (broadcastInDim ⟨4, ![1, O, 1, 1]⟩ ![1] h1 x)) (ix4 b o h w)
      = S (ix4 o b h w) + rd1 x o := by
  rw [addf_apply, transpose_apply _ S ht _ (ix4 o b h w) (fun a => by
      match a with
      | ⟨0, _⟩ => rfl
      | ⟨1, _⟩ => rfl
      | ⟨2, _⟩ => rfl
      | ⟨3, _⟩ => rfl),
    broadcastInDim_apply _ h2 _ _ (ix4 0 o 0 0) (fun a => by
      match a with
      | ⟨0, _⟩ => rfl
      | ⟨1, _⟩ => exact (if_neg hO).symm
      | ⟨2, _⟩ => rfl
      | ⟨3, _⟩ => rfl),
    broadcastInDim_apply _ h1 _ _ (ix1 o) (fun a => by
      match a with
      | ⟨0, _⟩ => exact (if_neg hO).symm), rd1_of x o.isLt]

/-- The zero the reference pads with and compares with. -/
theorem zero_apply (i : (⟨0, ![]⟩ : Shape).Idx) : constant (F := Ideal) ⟨0, ![]⟩ .f32 0x00000000#32 i = 0 :=
  Ideal.ofBits_zero_f32

/-- … and then the rectifier. -/
theorem rectified_apply {O B H W : ℕ} (S : FVec Ideal ⟨4, ![O, B, H, W]⟩ .f32) (x : FVec Ideal ⟨1, ![O]⟩ .f32)
    (ht : Shape.Transposes ⟨4, ![O, B, H, W]⟩ [1, 0, 2, 3] ⟨4, ![B, O, H, W]⟩)
    (h1 : Shape.BroadcastsInDim ⟨1, ![O]⟩ ⟨4, ![1, O, 1, 1]⟩ ![1])
    (h2 : Shape.BroadcastsInDim ⟨4, ![1, O, 1, 1]⟩ ⟨4, ![B, O, H, W]⟩ ![0, 1, 2, 3])
    (h3 : Shape.BroadcastsInDim ⟨0, ![]⟩ ⟨4, ![B, O, H, W]⟩ ![]) (hO : O ≠ 1)
    (b : Fin B) (o : Fin O) (h : Fin H) (w : Fin W) :
    maximumf (addf (transpose ⟨4, ![B, O, H, W]⟩ [1, 0, 2, 3] S ht)
        (broadcastInDim ⟨4, ![B, O, H, W]⟩ ![0, 1, 2, 3] h2 (broadcastInDim ⟨4, ![1, O, 1, 1]⟩ ![1] h1 x)))
        (broadcastInDim ⟨4, ![B, O, H, W]⟩ ![] h3 (constant (F := Ideal) ⟨0, ![]⟩ .f32 0x00000000#32)) (ix4 b o h w)
      = max (S (ix4 o b h w) + rd1 x o) 0 := by
  rw [maximumf_apply, biased_apply S x ht h1 h2 hO b o h w]
  exact congrArg (max _) (zero_apply _)

variable (x0 : FVec Ideal S2x3x224x224 .f32)
  (x1 : FVec Ideal S64x3x4x4 .f32)
  (x2 : FVec Ideal S64 .f32)
  (x3 : FVec Ideal S128x64x4x4 .f32)
  (x4 : FVec Ideal S128 .f32)
  (x5 : FVec Ideal S256x128x3x3 .f32)
  (x6 : FVec Ideal S256 .f32)
  (x7 : FVec Ideal S256x256x3x3 .f32)
  (x8 : FVec Ideal S256 .f32)
  (x9 : FVec Ideal S4x1024x256 .f32)
  (x10 : FVec Ideal S128x256x3x3 .f32)
  (x11 : FVec Ideal S128 .f32)
  (x12 : FVec Ideal S128x64x4x4 .f32)
  (x13 : FVec Ideal S64 .f32)
  (x14 : FVec Ideal S64x3x4x4 .f32)
  (x15 : FVec Ideal S3 .f32)

/-- The first convolution, its bias and its rectifier. -/
theorem ref_conv1 (b : Fin 2) (o : Fin 64) (h w : Fin 112) :
    val_main_v270 (F := Ideal) x0 x1 x2 (ix4 b o h w)
      = max (convS 4 2 3 (padS 1 (rd4 (x0))) (rd4 x1) b o h w + rd1 x2 o) 0 := by
  have e : val_main_v264 (F := Ideal) x0 x1 = shapeCast S64x2x112x112 (addUpTo 16 (fun t ht => Host.dotGeneral
      dot_S64x3_S2x3x12544_S64x2x12544_1_1_0_02_n_n none
      (shapeCast S64x3 (extractStridedSlice S1x64x3 ![t, 0, 0] (tapStack x1 (by decide) (by decide))
        ((by decide : ∀ t < 16, Shape.Slices S16x64x3 ![t, 0, 0] S1x64x3) t ht)) (by decide))
      (shapeCast S2x3x12544 (Host.slice S2x3x112x112 ![0, 0, t / 4, t % 4] ![1, 1, 2, 2] (val_main_v200 (F := Ideal) x0)
        ((by decide : ∀ t < 16, Shape.SlicesBy S2x3x226x226 ![0, 0, t / 4, t % 4] ![1, 1, 2, 2] S2x3x112x112) t ht)) (by decide)))
      15 (by decide)) (by decide) := rfl
  refine (rectified_apply (val_main_v264 (F := Ideal) x0 x1) x2 _ _ _ _ (by decide) b o h w).trans ?_
  rw [e]
  refine congrArg (fun z : EReal => max (z + rd1 x2 o) 0) ((taps_two (val_main_v200 (F := Ideal) x0) (x1) _ _ _ _ _ _ _ _ _ (by decide) (by decide) (by decide) o b h w).trans ?_)
  exact congrArg (fun X => convS 4 2 3 X (rd4 x1) b o h w) (by
    funext b c h w
    exact rd4_pad_nchw (x0) _ _ _ zero_apply (by decide) (by decide) b c h w)

/-- The second convolution. -/
theorem ref_conv2 (b : Fin 2) (o : Fin 128) (h w : Fin 56) :
    val_main_v341 (F := Ideal) x0 x1 x2 x3 x4 (ix4 b o h w)
      = max (convS 4 2 64 (padS 1 (rd4 (val_main_v270 (F := Ideal) x0 x1 x2))) (rd4 x3) b o h w + rd1 x4 o) 0 := by
  have e : val_main_v335 (F := Ideal) x0 x1 x2 x3 = shapeCast S128x2x56x56 (addUpTo 16 (fun t ht => Host.dotGeneral
      dot_S128x64_S2x64x3136_S128x2x3136_1_1_0_02_n_n none
      (shapeCast S128x64 (extractStridedSlice S1x128x64 ![t, 0, 0] (tapStack x3 (by decide) (by decide))
        ((by decide : ∀ t < 16, Shape.Slices S16x128x64 ![t, 0, 0] S1x128x64) t ht)) (by decide))
      (shapeCast S2x64x3136 (Host.slice S2x64x56x56 ![0, 0, t / 4, t % 4] ![1, 1, 2, 2] (val_main_v271 (F := Ideal) x0 x1 x2)
        ((by decide : ∀ t < 16, Shape.SlicesBy S2x64x114x114 ![0, 0, t / 4, t % 4] ![1, 1, 2, 2] S2x64x56x56) t ht)) (by decide)))
      15 (by decide)) (by decide) := rfl
  refine (rectified_apply (val_main_v335 (F := Ideal) x0 x1 x2 x3) x4 _ _ _ _ (by decide) b o h w).trans ?_
  rw [e]
  refine congrArg (fun z : EReal => max (z + rd1 x4 o) 0) ((taps_two (val_main_v271 (F := Ideal) x0 x1 x2) (x3) _ _ _ _ _ _ _ _ _ (by decide) (by decide) (by decide) o b h w).trans ?_)
  exact congrArg (fun X => convS 4 2 64 X (rd4 x3) b o h w) (by
    funext b c h w
    exact rd4_pad_nchw (val_main_v270 (F := Ideal) x0 x1 x2) _ _ _ zero_apply (by decide) (by decide) b c h w)

/-- The third convolution. -/
theorem ref_conv3 (b : Fin 2) (o : Fin 256) (h w : Fin 56) :
    val_main_v384 (F := Ideal) x0 x1 x2 x3 x4 x5 x6 (ix4 b o h w)
      = max (convS 3 1 128 (padS 1 (rd4 (val_main_v341 (F := Ideal) x0 x1 x2 x3 x4))) (rd4 x5) b o h w + rd1 x6 o) 0 := by
  have e : val_main_v378 (F := Ideal) x0 x1 x2 x3 x4 x5 = shapeCast S256x2x56x56 (addUpTo 9 (fun t ht => Host.dotGeneral
      dot_S256x128_S2x128x3136_S256x2x3136_1_1_0_02_n_n none
      (shapeCast S256x128 (extractStridedSlice S1x256x128 ![t, 0, 0] (tapStack x5 (by decide) (by decide))
        ((by decide : ∀ t < 9, Shape.Slices S9x256x128 ![t, 0, 0] S1x256x128) t ht)) (by decide))
      (shapeCast S2x128x3136 (extractStridedSlice S2x128x56x56 ![0, 0, t / 3, t % 3] (val_main_v342 (F := Ideal) x0 x1 x2 x3 x4)
        ((by decide : ∀ t < 9, Shape.Slices S2x128x58x58 ![0, 0, t / 3, t % 3] S2x128x56x56) t ht)) (by decide)))
      8 (by decide)) (by decide) := rfl
  refine (rectified_apply (val_main_v378 (F := Ideal) x0 x1 x2 x3 x4 x5) x6 _ _ _ _ (by decide) b o h w).trans ?_
  rw [e]
  refine congrArg (fun z : EReal => max (z + rd1 x6 o) 0) ((taps_one (val_main_v342 (F := Ideal) x0 x1 x2 x3 x4) (x5) _ _ _ _ _ _ _ _ _ (by decide) (by decide) (by decide) o b h w).trans ?_)
  exact congrArg (fun X => convS 3 1 128 X (rd4 x5) b o h w) (by
    funext b c h w
    exact rd4_pad_nchw (val_main_v341 (F := Ideal) x0 x1 x2 x3 x4) _ _ _ zero_apply (by decide) (by decide) b c h w)

/-- The fourth convolution, which has no rectifier. -/
theorem ref_conv4 (b : Fin 2) (o : Fin 256) (h w : Fin 56) :
    val_main_v425 (F := Ideal) x0 x1 x2 x3 x4 x5 x6 x7 x8 (ix4 b o h w)
      = convS 3 1 256 (padS 1 (rd4 (val_main_v384 (F := Ideal) x0 x1 x2 x3 x4 x5 x6))) (rd4 x7) b o h w + rd1 x8 o := by
  have e : val_main_v421 (F := Ideal) x0 x1 x2 x3 x4 x5 x6 x7 = shapeCast S256x2x56x56 (addUpTo 9 (fun t ht => Host.dotGeneral
      dot_S256x256_S2x256x3136_S256x2x3136_1_1_0_02_n_n none
      (shapeCast S256x256 (extractStridedSlice S1x256x256 ![t, 0, 0] (tapStack x7 (by decide) (by decide))
        ((by decide : ∀ t < 9, Shape.Slices S9x256x256 ![t, 0, 0] S1x256x256) t ht)) (by decide))
      (shapeCast S2x256x3136 (extractStridedSlice S2x256x56x56 ![0, 0, t / 3, t % 3] (val_main_v385 (F := Ideal) x0 x1 x2 x3 x4 x5 x6)
        ((by decide : ∀ t < 9, Shape.Slices S2x256x58x58 ![0, 0, t / 3, t % 3] S2x256x56x56) t ht)) (by decide)))
      8 (by decide)) (by decide) := rfl
  refine (biased_apply (val_main_v421 (F := Ideal) x0 x1 x2 x3 x4 x5 x6 x7) x8 _ _ _ (by decide) b o h w).trans ?_
  rw [e]
  refine congrArg (fun z : EReal => z + rd1 x8 o) ((taps_one (val_main_v385 (F := Ideal) x0 x1 x2 x3 x4 x5 x6) (x7) _ _ _ _ _ _ _ _ _ (by decide) (by decide) (by decide) o b h w).trans ?_)
  exact congrArg (fun X => convS 3 1 256 X (rd4 x7) b o h w) (by
    funext b c h w
    exact rd4_pad_nchw (val_main_v384 (F := Ideal) x0 x1 x2 x3 x4 x5 x6) _ _ _ zero_apply (by decide) (by decide) b c h w)

/-- The decoder's convolution. -/
theorem ref_dw0 (b : Fin 2) (o : Fin 128) (h w : Fin 56) :
    val_main_v616 (F := Ideal) x0 x1 x2 x3 x4 x5 x6 x7 x8 x9 x10 x11 (ix4 b o h w)
      = max (convS 3 1 256 (padS 1 (rd4 (val_main_v573 (F := Ideal) x0 x1 x2 x3 x4 x5 x6 x7 x8 x9))) (rd4 x10) b o h w + rd1 x11 o) 0 := by
  have e : val_main_v610 (F := Ideal) x0 x1 x2 x3 x4 x5 x6 x7 x8 x9 x10 = shapeCast S128x2x56x56 (addUpTo 9 (fun t ht => Host.dotGeneral
      dot_S128x256_S2x256x3136_S128x2x3136_1_1_0_02_n_n none
      (shapeCast S128x256 (extractStridedSlice S1x128x256 ![t, 0, 0] (tapStack x10 (by decide) (by decide))
        ((by decide : ∀ t < 9, Shape.Slices S9x128x256 ![t, 0, 0] S1x128x256) t ht)) (by decide))
      (shapeCast S2x256x3136 (extractStridedSlice S2x256x56x56 ![0, 0, t / 3, t % 3] (val_main_v574 (F := Ideal) x0 x1 x2 x3 x4 x5 x6 x7 x8 x9)
        ((by decide : ∀ t < 9, Shape.Slices S2x256x58x58 ![0, 0, t / 3, t % 3] S2x256x56x56) t ht)) (by decide)))
      8 (by decide)) (by decide) := rfl
  refine (rectified_apply (val_main_v610 (F := Ideal) x0 x1 x2 x3 x4 x5 x6 x7 x8 x9 x10) x11 _ _ _ _ (by decide) b o h w).trans ?_
  rw [e]
  refine congrArg (fun z : EReal => max (z + rd1 x11 o) 0) ((taps_one (val_main_v574 (F := Ideal) x0 x1 x2 x3 x4 x5 x6 x7 x8 x9) (x10) _ _ _ _ _ _ _ _ _ (by decide) (by decide) (by decide) o b h w).trans ?_)
  exact congrArg (fun X => convS 3 1 256 X (rd4 x10) b o h w) (by
    funext b c h w
    exact rd4_pad_nchw (val_main_v573 (F := Ideal) x0 x1 x2 x3 x4 x5 x6 x7 x8 x9) _ _ _ zero_apply (by decide) (by decide) b c h w)

/-- The first transposed convolution, as a convolution of the spread image with the turned kernel. -/
theorem ref_dtw1 (b : Fin 2) (o : Fin 64) (h w : Fin 112) :
    val_main_v687 (F := Ideal) x0 x1 x2 x3 x4 x5 x6 x7 x8 x9 x10 x11 x12 x13 (ix4 b o h w)
      = max (convS 4 1 128 (padD (rd4 (val_main_v616 (F := Ideal) x0 x1 x2 x3 x4 x5 x6 x7 x8 x9 x10 x11))) (rd4 (val_main_v129 (F := Ideal) x12)) b o h w + rd1 x13 o) 0 := by
  have e : val_main_v681 (F := Ideal) x0 x1 x2 x3 x4 x5 x6 x7 x8 x9 x10 x11 x12 = shapeCast S64x2x112x112 (addUpTo 16 (fun t ht => Host.dotGeneral
      dot_S64x128_S2x128x12544_S64x2x12544_1_1_0_02_n_n none
      (shapeCast S64x128 (extractStridedSlice S1x64x128 ![t, 0, 0] (tapStack (val_main_v129 (F := Ideal) x12) (by decide) (by decide))
        ((by decide : ∀ t < 16, Shape.Slices S16x64x128 ![t, 0, 0] S1x64x128) t ht)) (by decide))
      (shapeCast S2x128x12544 (extractStridedSlice S2x128x112x112 ![0, 0, t / 4, t % 4] (val_main_v617 (F := Ideal) x0 x1 x2 x3 x4 x5 x6 x7 x8 x9 x10 x11)
        ((by decide : ∀ t < 16, Shape.Slices S2x128x115x115 ![0, 0, t / 4, t % 4] S2x128x112x112) t ht)) (by decide)))
      15 (by decide)) (by decide) := rfl
  refine (rectified_apply (val_main_v681 (F := Ideal) x0 x1 x2 x3 x4 x5 x6 x7 x8 x9 x10 x11 x12) x13 _ _ _ _ (by decide) b o h w).trans ?_
  rw [e]
  refine congrArg (fun z : EReal => max (z + rd1 x13 o) 0) ((taps_one (val_main_v617 (F := Ideal) x0 x1 x2 x3 x4 x5 x6 x7 x8 x9 x10 x11) (val_main_v129 (F := Ideal) x12) _ _ _ _ _ _ _ _ _ (by decide) (by decide) (by decide) o b h w).trans ?_)
  exact congrArg (fun X => convS 4 1 128 X (rd4 (val_main_v129 (F := Ideal) x12)) b o h w) (by
    funext b c h w
    exact rd4_padD (val_main_v616 (F := Ideal) x0 x1 x2 x3 x4 x5 x6 x7 x8 x9 x10 x11) _ _ _ zero_apply (by decide) (by decide) b c h w)

/-- The second transposed convolution, before its hyperbolic tangent. -/
theorem ref_dtw2 (b : Fin 2) (o : Fin 3) (h w : Fin 224) :
    val_main_v756 (F := Ideal) x0 x1 x2 x3 x4 x5 x6 x7 x8 x9 x10 x11 x12 x13 x14 x15 (ix4 b o h w)
      = convS 4 1 64 (padD (rd4 (val_main_v687 (F := Ideal) x0 x1 x2 x3 x4 x5 x6 x7 x8 x9 x10 x11 x12 x13))) (rd4 (val_main_v165 (F := Ideal) x14)) b o h w + rd1 x15 o := by
  have e : val_main_v752 (F := Ideal) x0 x1 x2 x3 x4 x5 x6 x7 x8 x9 x10 x11 x12 x13 x14 = shapeCast S3x2x224x224 (addUpTo 16 (fun t ht => Host.dotGeneral
      dot_S3x64_S2x64x50176_S3x2x50176_1_1_0_02_n_n none
      (shapeCast S3x64 (extractStridedSlice S1x3x64 ![t, 0, 0] (tapStack (val_main_v165 (F := Ideal) x14) (by decide) (by decide))
        ((by decide : ∀ t < 16, Shape.Slices S16x3x64 ![t, 0, 0] S1x3x64) t ht)) (by decide))
      (shapeCast S2x64x50176 (extractStridedSlice S2x64x224x224 ![0, 0, t / 4, t % 4] (val_main_v688 (F := Ideal) x0 x1 x2 x3 x4 x5 x6 x7 x8 x9 x10 x11 x12 x13)
        ((by decide : ∀ t < 16, Shape.Slices S2x64x227x227 ![0, 0, t / 4, t % 4] S2x64x224x224) t ht)) (by decide)))
      15 (by decide)) (by decide) := rfl
  refine (biased_apply (val_main_v752 (F := Ideal) x0 x1 x2 x3 x4 x5 x6 x7 x8 x9 x10 x11 x12 x13 x14) x15 _ _ _ (by decide) b o h w).trans ?_
  rw [e]
  refine congrArg (fun z : EReal => z + rd1 x15 o) ((taps_one (val_main_v688 (F := Ideal) x0 x1 x2 x3 x4 x5 x6 x7 x8 x9 x10 x11 x12 x13) (val_main_v165 (F := Ideal) x14) _ _ _ _ _ _ _ _ _ (by decide) (by decide) (by decide) o b h w).trans ?_)
  exact congrArg (fun X => convS 4 1 64 X (rd4 (val_main_v165 (F := Ideal) x14)) b o h w) (by
    funext b c h w
    exact rd4_padD (val_main_v687 (F := Ideal) x0 x1 x2 x3 x4 x5 x6 x7 x8 x9 x10 x11 x12 x13) _ _ _ zero_apply (by decide) (by decide) b c h w)

/-- A kernel turned about both its axes and with its channels exchanged, at a tap. -/
theorem rd4_turned {C O K : ℕ} (x : FVec Ideal ⟨4, ![C, O, K, K]⟩ .f32)
    (ht : Shape.Transposes ⟨4, ![C, O, K, K]⟩ [1, 0, 2, 3] ⟨4, ![O, C, K, K]⟩) {o c a b : ℕ} (ho : o < O) (hc : c < C)
    (ha : a < K) (hb : b < K) :
    rd4 (transpose ⟨4, ![O, C, K, K]⟩ [1, 0, 2, 3] (Host.reverse [2, 3] x) ht) o c a b
      = rd4 x c o (K - 1 - a) (K - 1 - b) := by
  rw [rd4_of _ ho hc ha hb, transpose_apply _ _ ht _ (ix4 ⟨c, hc⟩ ⟨o, ho⟩ ⟨a, ha⟩ ⟨b, hb⟩) (fun a => by
      match a with
      | ⟨0, _⟩ => rfl
      | ⟨1, _⟩ => rfl
      | ⟨2, _⟩ => rfl
      | ⟨3, _⟩ => rfl)]
  unfold Host.reverse
  refine rd4_at x _ rfl rfl ?_ ?_
  · show K - (a + 1) = K - 1 - a
    omega
  · show K - (b + 1) = K - 1 - b
    omega

end Cert.Proof

end
-- ==== Proof.Encoder.lean ====
/- The kernel's four convolutions, one after another, are the reference's. -/
module

public import proofs.«01_k».proof.Proof.Stretch
public import proofs.«01_k».proof.Proof.Regions
public import proofs.«01_k».proof.Proof.RefConv

@[expose] public section

noncomputable section

namespace Cert.Proof

open Idealize.ShloMosaic Idealize.ShloMosaic.TcCoe
open Cert.KernelIdeal Cert.KernelIdeal.Gen
open Cert.ReferenceIdeal.Read (val_main_v129 val_main_v165 val_main_v270 val_main_v341 val_main_v384 val_main_v425 val_main_v573
  val_main_v616 val_main_v687 val_main_v756)

/-- Weights laid out as a matrix are the kernel array's entries. -/
theorem weights_of {O C K E : ℕ} {W : FVec Ideal ⟨2, ![E, O]⟩ .bf16} {v w : FVec Ideal ⟨4, ![O, C, K, K]⟩ .f32}
    {h1 : Shape.Transposes ⟨4, ![O, C, K, K]⟩ [2, 3, 1, 0] ⟨4, ![K, K, C, O]⟩}
    {h2 : Shape.ShapeCasts ⟨4, ![K, K, C, O]⟩ ⟨2, ![E, O]⟩}
    (h : W = shapeCast ⟨2, ![E, O]⟩ (transpose ⟨4, ![K, K, C, O]⟩ [2, 3, 1, 0] v h1) h2) (hv : v = w) (hE : E = K * K * C)
    (t : ℕ) (ht : t < K * K) (c : ℕ) (hc : c < C) (o : ℕ) (ho : o < O) :
    rd2 W (t * C + c) o = rd4 w o c (t / K) (t % K) := by
  subst hv
  rw [h]
  exact rd2_weights v h1 h2 hE ht hc ho

/-- A bias laid out as a row. -/
theorem bias_of {N : ℕ} {r : FVec Ideal ⟨2, ![1, N]⟩ .f32} {v w : FVec Ideal ⟨1, ![N]⟩ .f32}
    {h1 : Shape.ShapeCasts ⟨1, ![N]⟩ ⟨2, ![1, N]⟩} (h : r = shapeCast ⟨2, ![1, N]⟩ v h1) (hv : v = w) (o : ℕ) (ho : o < N) :
    rd2 r 0 o = rd1 w o := by
  subst hv
  rw [h]
  exact rd2_row v h1 ho

/-- Windows of three by three. -/
theorem windows9_of {H P C D M : ℕ} {A : FVec Ideal ⟨2, ![M, D]⟩ .bf16} {x : FVec Ideal ⟨4, ![2, H, H, C]⟩ .f32}
    {hp : Shape.Pads ⟨4, ![2, H, H, C]⟩ ![0, 1, 1, 0] ![0, 1, 1, 0] ![0, 0, 0, 0] ⟨4, ![2, P, P, C]⟩}
    {hv : 0 < (⟨0, ![]⟩ : Shape).numel}
    {hs : ∀ t : Fin 9, Shape.Slices ⟨4, ![2, P, P, C]⟩ ![0, t.val / 3, t.val % 3, 0] ⟨4, ![2, H, H, C]⟩}
    {hc : Shape.Concatenates (List.replicate 9 ⟨4, ![2, H, H, C]⟩) ⟨4, ![2, H, H, D]⟩ 3}
    {hr : Shape.ShapeCasts ⟨4, ![2, H, H, D]⟩ ⟨2, ![M, D]⟩} (h : A = patches9 x hp hv hs hc hr)
    (hP : P = H + 2) (hD : D = 9 * C) (hM : M = 2 * H * H) {X : ℕ → ℕ → ℕ → ℕ → EReal} (hX : ∀ b c h w, rd4 x b h w c = X b c h w)
    (b y z : ℕ) (hb : b < 2) (hy : y < H) (hz : z < H) (t : ℕ) (ht : t < 3 * 3) (c : ℕ) (hcc : c < C) :
    rd2 A ((b * H + y) * H + z) (t * C + c) = padS 1 X b c (1 * y + t / 3) (1 * z + t % 3) := by
  rw [h]
  exact rd2_patches9 x hp hv hs hc hr hP hD hM X hX b y z hb hy hz t ht c hcc

variable (m : (ℓ : Loc nD τ sig) → Buf (Elt Ideal) ℓ) (ρ : Dev nD → PrngReg) (c : Dev nD)

/-- The launch's arguments. -/
abbrev a0 : FVec Ideal S2x3x224x224 .f32 := m ((c : Thread nD τ).loc main_arg0)
abbrev a1 : FVec Ideal S64x3x4x4 .f32 := m ((c : Thread nD τ).loc main_arg1)
abbrev a2 : FVec Ideal S64 .f32 := m ((c : Thread nD τ).loc main_arg2)
abbrev a3 : FVec Ideal S128x64x4x4 .f32 := m ((c : Thread nD τ).loc main_arg3)
abbrev a4 : FVec Ideal S128 .f32 := m ((c : Thread nD τ).loc main_arg4)
abbrev a5 : FVec Ideal S256x128x3x3 .f32 := m ((c : Thread nD τ).loc main_arg5)
abbrev a6 : FVec Ideal S256 .f32 := m ((c : Thread nD τ).loc main_arg6)
abbrev a7 : FVec Ideal S256x256x3x3 .f32 := m ((c : Thread nD τ).loc main_arg7)
abbrev a8 : FVec Ideal S256 .f32 := m ((c : Thread nD τ).loc main_arg8)
abbrev a9 : FVec Ideal S4x1024x256 .f32 := m ((c : Thread nD τ).loc main_arg9)
abbrev a10 : FVec Ideal S128x256x3x3 .f32 := m ((c : Thread nD τ).loc main_arg10)
abbrev a11 : FVec Ideal S128 .f32 := m ((c : Thread nD τ).loc main_arg11)
abbrev a12 : FVec Ideal S128x64x4x4 .f32 := m ((c : Thread nD τ).loc main_arg12)
abbrev a13 : FVec Ideal S64 .f32 := m ((c : Thread nD τ).loc main_arg13)
abbrev a14 : FVec Ideal S64x3x4x4 .f32 := m ((c : Thread nD τ).loc main_arg14)
abbrev a15 : FVec Ideal S3 .f32 := m ((c : Thread nD τ).loc main_arg15)

/-- The reference's image after the first convolution. -/
abbrev r1 := val_main_v270 (F := Ideal) (a0 m c) (a1 m c) (a2 m c)
/-- … after the second. -/
abbrev r2 := val_main_v341 (F := Ideal) (a0 m c) (a1 m c) (a2 m c) (a3 m c) (a4 m c)
/-- … after the third. -/
abbrev r3 := val_main_v384 (F := Ideal) (a0 m c) (a1 m c) (a2 m c) (a3 m c) (a4 m c) (a5 m c) (a6 m c)
/-- … after the fourth. -/
abbrev r4 := val_main_v425 (F := Ideal) (a0 m c) (a1 m c) (a2 m c) (a3 m c) (a4 m c) (a5 m c) (a6 m c) (a7 m c) (a8 m c)

/-- The first convolution's input is the reference's with the channels last. -/
theorem image0 (b k h w : ℕ) : rd4 (transpose S2x224x224x3 [0, 2, 3, 1] (W0 m ρ c main_arg0 : FVec Ideal S2x3x224x224 .f32)
    transposes_S2x3x224x224_S2x224x224x3_0_2_3_1) b h w k = rd4 (a0 m c) b k h w := by
  by_cases hr : b < 2 ∧ k < 3 ∧ h < 224 ∧ w < 224
  · obtain ⟨hb, hk, hh, hw⟩ := hr
    rw [rd4_of _ hb hh hw hk, rd4_of _ hb hk hh hw]
    exact transpose_apply _ _ transposes_S2x3x224x224_S2x224x224x3_0_2_3_1 _ (ValueIdx.ix4 ⟨b, hb⟩ ⟨k, hk⟩ ⟨h, hh⟩ ⟨w, hw⟩) (fun a => by
      match a with
      | ⟨0, _⟩ => rfl
      | ⟨1, _⟩ => rfl
      | ⟨2, _⟩ => rfl
      | ⟨3, _⟩ => rfl)
  · unfold rd4
    rw [dif_neg (by tauto), dif_neg (by tauto)]

/-- The first convolution's image is the reference's. -/
theorem image1 : ∀ b o h w, rd4 (shapeCast S2x112x112x64 (W4 m ρ c main_v25 : FVec Ideal S25088x64 .f32)
    shapeCasts_S25088x64_S2x112x112x64) b h w o = rd4 (r1 m c) b o h w :=
  image_eq (H := 112) (M := 25088) (N := 64) _ _ _ rfl (layer (k := 4) (s := 2) (C := 3) (E := 48) (φ₁ := .bf16) (φ₂ := .bf16)
    (fun z => max z 0) _ _ _ _ _ (padS 1 (rd4 (a0 m c))) (rd4 (a1 m c)) (rd1 (a2 m c))
    ((W4_arr m ρ c 3).trans (region0 (V3 m ρ) c)) rfl rfl
    (fun b h w hb hh hw t ht k hk => (congrArg (fun A : FVec Ideal S25088x48 .bf16 => rd2 A _ _) (pre0_A (W0 m ρ c))).trans
      (rd2_patches16 (H := 112) (I := 224) _ _ _ _ _ _ rfl rfl rfl _ (image0 m ρ c) b h w hb hh hw t ht k hk))
    (weights_of (pre0_W (W0 m ρ c)) rfl rfl) (bias_of (pre0_b (W0 m ρ c)) rfl) (ref_conv1 _ _ _))

/-- The second convolution's image is the reference's. -/
theorem image2 : ∀ b o h w, rd4 (shapeCast S2x56x56x128 (W8 m ρ c main_v69 : FVec Ideal S6272x128 .f32)
    shapeCasts_S6272x128_S2x56x56x128) b h w o = rd4 (r2 m c) b o h w :=
  image_eq (H := 56) (M := 6272) (N := 128) _ _ _ rfl (layer (k := 4) (s := 2) (C := 64) (E := 1024) (φ₁ := .bf16) (φ₂ := .bf16)
    (fun z => max z 0) _ _ _ _ _ (padS 1 (rd4 (r1 m c))) (rd4 (a3 m c)) (rd1 (a4 m c))
    ((W8_arr m ρ c 3).trans (region1 (V7 m ρ) c)) rfl rfl
    (fun b h w hb hh hw t ht k hk => (congrArg (fun A : FVec Ideal S6272x1024 .bf16 => rd2 A _ _) (pre1_A (W4 m ρ c))).trans
      (rd2_patchesBy (H := 56) (I := 112) (P := 57) (Q := 114) (C := 64) _ _ _ _ _ _ _ _ _ rfl rfl rfl rfl _ (image1 m ρ c) b h w hb hh hw t ht k hk))
    (weights_of (pre1_W (W4 m ρ c)) (W4_args m ρ c main_arg3 (by decide)) rfl)
    (bias_of (pre1_b (W4 m ρ c)) (W4_args m ρ c main_arg4 (by decide))) (ref_conv2 _ _ _ _ _))

/-- The third convolution's image is the reference's. -/
theorem image3 : ∀ b o h w, rd4 (shapeCast S2x56x56x256 (W12 m ρ c main_v88 : FVec Ideal S6272x256 .f32)
    shapeCasts_S6272x256_S2x56x56x256) b h w o = rd4 (r3 m c) b o h w :=
  image_eq (H := 56) (M := 6272) (N := 256) _ _ _ rfl (layer (k := 3) (s := 1) (C := 128) (E := 1152) (φ₁ := .bf16) (φ₂ := .bf16)
    (fun z => max z 0) _ _ _ _ _ (padS 1 (rd4 (r2 m c))) (rd4 (a5 m c)) (rd1 (a6 m c))
    ((W12_arr m ρ c 3).trans (region2 (V11 m ρ) c)) rfl rfl
    (windows9_of (pre2_A (W8 m ρ c)) rfl rfl rfl (image2 m ρ c))
    (weights_of (pre2_W (W8 m ρ c)) (W8_args m ρ c main_arg5 (by decide)) rfl)
    (bias_of (pre2_b (W8 m ρ c)) (W8_args m ρ c main_arg6 (by decide))) (ref_conv3 _ _ _ _ _ _ _))

/-- The rows the quantizer's call reads are the reference's pixels after the fourth convolution. -/
theorem rows4 : ∀ b o h w, b < 2 → o < 256 → h < 56 → w < 56 →
    rd2 (W16 m ρ c main_v107 : FVec Ideal S6272x256 .f32) ((b * 56 + h) * 56 + w) o = rd4 (r4 m c) b o h w :=
  layer (H := 56) (M := 6272) (N := 256) (k := 3) (s := 1) (C := 256) (E := 2304) (φ₁ := .bf16) (φ₂ := .bf16)
    (fun z => z) _ _ _ _ _ (padS 1 (rd4 (r3 m c))) (rd4 (a7 m c)) (rd1 (a8 m c))
    ((W16_arr m ρ c 3).trans (region3 (V15 m ρ) c)) rfl rfl
    (windows9_of (pre3_A (W12 m ρ c)) rfl rfl rfl (image3 m ρ c))
    (weights_of (pre3_W (W12 m ρ c)) (W12_args m ρ c main_arg7 (by decide)) rfl)
    (bias_of (pre3_b (W12 m ρ c)) (W12_args m ρ c main_arg8 (by decide))) (ref_conv4 _ _ _ _ _ _ _ _ _)

end Cert.Proof

end
-- ==== Proof.Decoder.lean ====
/- The kernel's decoder, from the quantizer's rows, is the reference's. -/
module

public import proofs.«01_k».proof.Proof.Encoder

@[expose] public section

noncomputable section

namespace Cert.Proof

open Idealize.ShloMosaic Idealize.ShloMosaic.TcCoe
open Cert.KernelIdeal Cert.KernelIdeal.Gen
open Cert.ReferenceIdeal.Read (val_main_v129 val_main_v165 val_main_v573 val_main_v616 val_main_v687 val_main_v756 val_main_v757)

/-- A matrix widened by columns keeps its own. -/
theorem rd2_widened {E D M q : ℕ} (x : (⟨2, ![E, D]⟩ : Shape).Idx → EReal) (v : (⟨0, ![]⟩ : Shape).Idx → EReal)
    (hp : Shape.Pads ⟨2, ![E, D]⟩ ![0, 0] ![0, q] ![0, 0] ⟨2, ![E, M]⟩) (hv : 0 < (⟨0, ![]⟩ : Shape).numel) (hM : D ≤ M) {i j : ℕ}
    (hi : i < E) (hj : j < D) : rd2 (pad ⟨2, ![E, M]⟩ ![0, 0] ![0, q] ![0, 0] x v hp hv) i j = rd2 x i j := by
  rw [rd2_of _ hi (hj.trans_le hM)]
  unfold pad
  rw [dif_pos (fun a => by
    match a with
    | ⟨0, _⟩ => exact ⟨Nat.zero_le _, Nat.mod_one _, (Nat.div_one _).trans_lt hi⟩
    | ⟨1, _⟩ => exact ⟨Nat.zero_le _, Nat.mod_one _, (Nat.div_one _).trans_lt hj⟩)]
  exact rd2_at x _ (Nat.div_one _) (Nat.div_one _)

variable (m : (ℓ : Loc nD τ sig) → Buf (Elt Ideal) ℓ) (ρ : Dev nD → PrngReg) (c : Dev nD)

/-- The reference's quantized image. -/
abbrev r5 := val_main_v573 (F := Ideal) (a0 m c) (a1 m c) (a2 m c) (a3 m c) (a4 m c) (a5 m c) (a6 m c) (a7 m c) (a8 m c) (a9 m c)
/-- … after the decoder's convolution. -/
abbrev r6 := val_main_v616 (F := Ideal) (a0 m c) (a1 m c) (a2 m c) (a3 m c) (a4 m c) (a5 m c) (a6 m c) (a7 m c) (a8 m c) (a9 m c)
  (a10 m c) (a11 m c)
/-- … after the first transposed convolution. -/
abbrev r7 := val_main_v687 (F := Ideal) (a0 m c) (a1 m c) (a2 m c) (a3 m c) (a4 m c) (a5 m c) (a6 m c) (a7 m c) (a8 m c) (a9 m c)
  (a10 m c) (a11 m c) (a12 m c) (a13 m c)
/-- The reference's reconstruction. -/
abbrev r8 := val_main_v757 (F := Ideal) (a0 m c) (a1 m c) (a2 m c) (a3 m c) (a4 m c) (a5 m c) (a6 m c) (a7 m c) (a8 m c) (a9 m c)
  (a10 m c) (a11 m c) (a12 m c) (a13 m c) (a14 m c) (a15 m c)

/-- The first transposed convolution's weights, turned. -/
theorem turned1 : ∀ o < 64, ∀ k < 128, ∀ i < 4, ∀ j < 4,
    rd4 (val_main_v129 (F := Ideal) (a12 m c)) o k i j = rd4 (W22 m ρ c main_arg12 : FVec Ideal S128x64x4x4 .f32) k o (3 - i) (3 - j) :=
  fun o ho k hk i hi j hj => (rd4_turned (K := 4) (a12 m c) _ ho hk hi hj).trans
    (congrArg (fun x : FVec Ideal S128x64x4x4 .f32 => rd4 x k o (3 - i) (3 - j)) (W22_args m ρ c main_arg12 (by decide)).symm)

/-- The second's. -/
theorem turned2 : ∀ o < 3, ∀ k < 64, ∀ i < 4, ∀ j < 4,
    rd4 (val_main_v165 (F := Ideal) (a14 m c)) o k i j = rd4 (W28 m ρ c main_arg14 : FVec Ideal S64x3x4x4 .f32) k o (3 - i) (3 - j) :=
  fun o ho k hk i hi j hj => (rd4_turned (K := 4) (a14 m c) _ ho hk hi hj).trans
    (congrArg (fun x : FVec Ideal S64x3x4x4 .f32 => rd4 x k o (3 - i) (3 - j)) (W28_args m ρ c main_arg14 (by decide)).symm)

variable (hq : ∀ b o h w, b < 2 → o < 256 → h < 56 → w < 56 →
    rd2 (W18 m ρ c main_v121_0 : FVec Ideal S6272x256 .f32) ((b * 56 + h) * 56 + w) o = rd4 (r5 m c) b o h w)

include hq

/-- The decoder's convolution's image is the reference's. -/
theorem image6 : ∀ b o h w, rd4 (shapeCast S2x56x56x128 (W22 m ρ c main_v147 : FVec Ideal S6272x128 .f32)
    shapeCasts_S6272x128_S2x56x56x128) b h w o = rd4 (r6 m c) b o h w :=
  image_eq (H := 56) (M := 6272) (N := 128) _ _ _ rfl (layer (k := 3) (s := 1) (C := 256) (E := 2304) (φ₁ := .bf16) (φ₂ := .bf16)
    (fun z => max z 0) _ _ _ _ _ (padS 1 (rd4 (r5 m c))) (rd4 (a10 m c)) (rd1 (a11 m c))
    ((W22_arr m ρ c 3).trans (region5 (V21 m ρ) c)) rfl rfl
    (windows9_of (pre5_A (W18 m ρ c)) rfl rfl rfl (image_eq (H := 56) (M := 6272) (N := 256) _ _ _ rfl hq))
    (weights_of (pre5_W (W18 m ρ c)) (W18_args m ρ c main_arg10 (by decide)) rfl)
    (bias_of (pre5_b (W18 m ρ c)) (W18_args m ρ c main_arg11 (by decide))) (ref_dw0 _ _ _ _ _ _ _ _ _ _ _ _))

/-- The first transposed convolution's image is the reference's. -/
theorem image7 : ∀ b o h w, rd4 (shapeCast S2x112x112x64 (transpose S2x56x2x56x2x64 [0, 1, 3, 2, 4, 5] (shapeCast S2x56x56x2x2x64
      (W28 m ρ c main_v230 : FVec Ideal S6272x256 .f32) shapeCasts_S6272x256_S2x56x56x2x2x64)
      transposes_S2x56x56x2x2x64_S2x56x2x56x2x64_0_1_3_2_4_5) shapeCasts_S2x56x2x56x2x64_S2x112x112x64) b h w o
    = rd4 (r7 m c) b o h w :=
  layer_t (H := 56) (M := 6272) (N := 256) (D := 256) (O := 64) (C := 128) (E := 1152) (φ₁ := .bf16) (φ₂ := .bf16)
    (fun z => max z 0) _ (V27 m ρ c main_v165) (V27 m ρ c main_v228) (V27 m ρ c main_v229) (r7 m c) (rd4 (r6 m c))
    (rd4 (val_main_v129 (F := Ideal) (a12 m c))) (rd1 (a13 m c)) _ _ _ rfl rfl rfl
    (fun i j hi hj => (congrArg (fun y : FVec Ideal S6272x256 .f32 => rd2 y i j)
      ((W28_arr m ρ c 3).trans (region6 (V27 m ρ) c))).trans (rd2_of _ hi hj))
    (windows9_of (pre6_A (W22 m ρ c)) rfl rfl rfl (image6 m ρ c hq))
    (fun t g k hk o ho => (congrArg (fun W : FVec Ideal S1152x256 .bf16 => rd2 W _ _) (pre6_W (W22 m ρ c))).trans
      (rd2_packed _ _ _ _ _ _ rfl rfl _ (turned1 m ρ c) t g hk ho))
    (fun g o ho => (congrArg (fun r : FVec Ideal S1x256 .f32 => rd2 r _ _) (pre6_b (W22 m ρ c))).trans
      ((rd2_biases (O := 64) (D := 256) (M := 256) _ _ _ _ _ _ _ _ rfl (Nat.le_refl _) (by decide) g ho).trans
        (congrArg (fun x : FVec Ideal S64 .f32 => rd1 x o) (W22_args m ρ c main_arg13 (by decide)))))
    (ref_dtw1 _ _ _ _ _ _ _ _ _ _ _ _ _ _)

/-- The kernel's reconstruction, channels last, is the reference's. -/
theorem image8 : ∀ b o h w, rd4 (shapeCast S2x224x224x3
    (transpose S2x112x2x112x2x3 [0, 1, 3, 2, 4, 5] (shapeCast S2x112x112x2x2x3 (extractStridedSlice S25088x12 ![0, 0]
      (W36 m ρ c main_v316 : FVec Ideal S25088x128 .f32) slices_S25088x128_S25088x12_0_0) shapeCasts_S25088x12_S2x112x112x2x2x3)
      transposes_S2x112x112x2x2x3_S2x112x2x112x2x3_0_1_3_2_4_5) shapeCasts_S2x112x2x112x2x3_S2x224x224x3) b h w o
    = rd4 (r8 m c) b o h w :=
  layer_t (H := 112) (M := 25088) (N := 128) (D := 12) (O := 3) (C := 64) (E := 576) (φ₁ := .bf16) (φ₂ := .bf16)
    Ideal.tanh _ (V35 m ρ c main_v250) (V35 m ρ c main_v314) (V35 m ρ c main_v315) (r8 m c) (rd4 (r7 m c))
    (rd4 (val_main_v165 (F := Ideal) (a14 m c))) (rd1 (a15 m c)) _ _ _ rfl rfl rfl
    (fun i j hi hj => by
      rw [rd2_of _ hi hj]
      refine (congrFun ((W36_arr m ρ c 3).trans (region7 (V35 m ρ) c)) _).trans ?_
      refine congrArg₂ (fun i j => Ideal.tanh (affine (M := 25088) (K := 576) (N := 128) (φ₁ := .bf16) (φ₂ := .bf16)
        (V35 m ρ c main_v250) (V35 m ρ c main_v314) (V35 m ρ c main_v315) i j)) (Nat.zero_add i) (Nat.zero_add j))
    (windows9_of (pre7_A (W28 m ρ c)) rfl rfl rfl (image7 m ρ c hq))
    (fun t g k hk o ho => (congrArg (fun W : FVec Ideal S576x128 .bf16 => rd2 W _ _) (pre7_W (W28 m ρ c))).trans
      ((rd2_widened _ _ _ _ (by decide) (by omega) (by omega)).trans
        (rd2_packed _ _ _ _ _ _ rfl rfl _ (turned2 m ρ c) t g hk ho)))
    (fun g o ho => (congrArg (fun r : FVec Ideal S1x128 .f32 => rd2 r _ _) (pre7_b (W28 m ρ c))).trans
      ((rd2_biases (O := 3) (D := 12) (M := 128) _ _ _ _ _ _ _ _ rfl (by decide) (by decide) g ho).trans
        (congrArg (fun x : FVec Ideal S3 .f32 => rd1 x o) (W28_args m ρ c main_arg15 (by decide)))))
    (fun b o h w => congrArg Ideal.tanh (ref_dtw2 _ _ _ _ _ _ _ _ _ _ _ _ _ _ _ _ b o h w))

/-- The kernel's first result is the reference's. -/
theorem recon_eq : (W37 m ρ c main_v321 : FVec Ideal S2x3x224x224 .f32) = r8 m c := by
  refine (post_recon (W36 m ρ c)).trans ?_
  funext i
  obtain ⟨b, o, h, w, rfl⟩ : ∃ b o h w, i = ValueIdx.ix4 b o h w := ⟨i 0, i 1, i 2, i 3, ValueIdx.eq_ix4 i⟩
  refine (transpose_apply _ _ transposes_S2x224x224x3_S2x3x224x224_0_3_1_2 _ (ValueIdx.ix4 b h w o) (fun a => by
    match a with
    | ⟨0, _⟩ => rfl
    | ⟨1, _⟩ => rfl
    | ⟨2, _⟩ => rfl
    | ⟨3, _⟩ => rfl)).trans ?_
  have e := image8 m ρ c hq b o h w
  rw [rd4_of _ b.isLt h.isLt w.isLt o.isLt, rd4_of _ b.isLt o.isLt h.isLt w.isLt] at e
  exact e

end Cert.Proof

end
-- ==== Proof.Quant.lean ====
/- The residual quantizer as mathematics of one row: a row of numbers, a book of entries of the same length, the entry
nearest to the row, the row with that entry taken away, and so on through several books. -/
module

public import Mathlib.Data.EReal.Operations
public import Mathlib.Algebra.BigOperators.Fin

@[expose] public section

noncomputable section

open scoped BigOperators

namespace Cert.Proof

/-! ## The first least place of a list -/

/-- The places at which `d` is least. -/
def leasts {n : ℕ} (d : Fin n → EReal) : Finset (Fin n) := by
  classical exact Finset.univ.filter fun k => ∀ k', d k ≤ d k'

/-- A position is among the least ones exactly when no distance is smaller than its own. -/
theorem mem_leasts {n : ℕ} (d : Fin n → EReal) (k : Fin n) : k ∈ leasts d ↔ ∀ k', d k ≤ d k' := by
  classical
  unfold leasts
  simp

/-- Some place of a list that is not empty is least. -/
theorem leasts_nonempty {n : ℕ} (hn : 0 < n) (d : Fin n → EReal) : (leasts d).Nonempty := by
  obtain ⟨k, _, hk⟩ := Finset.exists_min_image Finset.univ d ⟨⟨0, hn⟩, Finset.mem_univ _⟩
  exact ⟨k, (mem_leasts d k).mpr fun k' => hk k' (Finset.mem_univ _)⟩

/-- The first place at which `d` is least. -/
def first {n : ℕ} (hn : 0 < n) (d : Fin n → EReal) : Fin n := (leasts d).min' (leasts_nonempty hn d)

/-- No distance is smaller than the one at the first least position. -/
theorem first_le {n : ℕ} (hn : 0 < n) (d : Fin n → EReal) (k : Fin n) : d (first hn d) ≤ d k :=
  (mem_leasts d _).mp ((leasts d).min'_mem (leasts_nonempty hn d)) k

/-- Every other least place comes after the first one. -/
theorem first_first {n : ℕ} (hn : 0 < n) (d : Fin n → EReal) (k : Fin n) (hk : ∀ k', d k ≤ d k') : first hn d ≤ k :=
  (leasts d).min'_le k ((mem_leasts d k).mpr hk)

/-- A least place before which there is no other is the first one. -/
theorem first_eq {n : ℕ} (hn : 0 < n) (d : Fin n → EReal) (k : Fin n) (hk : ∀ k', d k ≤ d k')
    (h : ∀ k', (∀ k'', d k' ≤ d k'') → k ≤ k') : first hn d = k :=
  le_antisymm (first_first hn d k hk) (h _ (first_le hn d))

/-! ## One row through the books -/

/-- A row. -/
abbrev Row : Type := Fin 256 → EReal

/-- A book of entries. -/
abbrev Book : Type := Fin 1024 → Row

/-- The squared distance of a row to an entry, as both programs write it out; `two` is their factor. -/
def gap (two : EReal) (x : Row) (B : Book) (k : Fin 1024) : EReal :=
  ((∑ j, x j * x j) - two * ∑ j, x j * B k j) + ∑ j, B k j * B k j

/-- The entry nearest to a row (the first of them). -/
def nearest (two : EReal) (x : Row) (B : Book) : Fin 1024 := first (by decide) (gap two x B)

/-- What is left of a row after the first `q` books. -/
def rest (two : EReal) (x : Row) (C : ℕ → Book) : ℕ → Row
  | 0 => x
  | q + 1 => fun j => rest two x C q j - C q (nearest two (rest two x C q) (C q)) j

/-- The entry of book `q` a row is given. -/
def code (two : EReal) (x : Row) (C : ℕ → Book) (q : ℕ) : Fin 1024 := nearest two (rest two x C q) (C q)

/-- The entries of the first `q` books a row is given, added up. -/
def total (two : EReal) (x : Row) (C : ℕ → Book) : ℕ → Row
  | 0 => fun _ => 0
  | q + 1 => fun j => total two x C q j + C q (code two x C q) j

/-! ## Numbers that are neither infinity -/

/-- Neither infinity. -/
def Fin' (a : EReal) : Prop := a ≠ ⊤ ∧ a ≠ ⊥

/-- A finite value is a real number. -/
theorem fin_iff (a : EReal) : Fin' a ↔ ∃ r : ℝ, a = (r : EReal) :=
  ⟨fun h => ⟨a.toReal, (EReal.coe_toReal h.1 h.2).symm⟩, by rintro ⟨r, rfl⟩; exact ⟨EReal.coe_ne_top r, EReal.coe_ne_bot r⟩⟩

/-- A real number is finite. -/
theorem fin_coe (r : ℝ) : Fin' (r : EReal) := (fin_iff _).mpr ⟨r, rfl⟩

/-- Nought is finite. -/
theorem fin_zero : Fin' 0 := (fin_iff _).mpr ⟨0, rfl⟩

/-- Sums of finite values are finite. -/
theorem fin_add {a b : EReal} (ha : Fin' a) (hb : Fin' b) : Fin' (a + b) := by
  obtain ⟨x, rfl⟩ := (fin_iff a).mp ha
  obtain ⟨y, rfl⟩ := (fin_iff b).mp hb
  exact (fin_iff _).mpr ⟨x + y, (EReal.coe_add x y).symm⟩

/-- So are differences. -/
theorem fin_sub {a b : EReal} (ha : Fin' a) (hb : Fin' b) : Fin' (a - b) := by
  obtain ⟨x, rfl⟩ := (fin_iff a).mp ha
  obtain ⟨y, rfl⟩ := (fin_iff b).mp hb
  exact (fin_iff _).mpr ⟨x - y, (EReal.coe_sub x y).symm⟩

/-- So are products. -/
theorem fin_mul {a b : EReal} (ha : Fin' a) (hb : Fin' b) : Fin' (a * b) := by
  obtain ⟨x, rfl⟩ := (fin_iff a).mp ha
  obtain ⟨y, rfl⟩ := (fin_iff b).mp hb
  exact (fin_iff _).mpr ⟨x * y, (EReal.coe_mul x y).symm⟩

/-- So is the larger of two. -/
theorem fin_max {a b : EReal} (ha : Fin' a) (hb : Fin' b) : Fin' (max a b) := by
  rcases max_choice a b with h | h <;> rw [h] <;> assumption

/-- So are sums over a finite range. -/
theorem fin_sum {ι : Type} (s : Finset ι) (f : ι → EReal) (h : ∀ i ∈ s, Fin' (f i)) : Fin' (∑ i ∈ s, f i) :=
  Finset.sum_induction f Fin' (fun _ _ => fin_add) fin_zero h

/-- A finite value less itself is nought. -/
theorem sub_self_of_fin {a : EReal} (h : Fin' a) : a - a = 0 := by
  obtain ⟨x, rfl⟩ := (fin_iff a).mp h
  rw [← EReal.coe_sub, sub_self, EReal.coe_zero]

/-- Adding back what was taken away. -/
theorem add_sub_of_fin {a b : EReal} (ha : Fin' a) (hb : Fin' b) : a + (b - a) = b := by
  obtain ⟨x, rfl⟩ := (fin_iff a).mp ha
  obtain ⟨y, rfl⟩ := (fin_iff b).mp hb
  rw [← EReal.coe_sub, ← EReal.coe_add, add_sub_cancel]

/-- The square of a difference does not depend on its sign. -/
theorem sq_sub_comm {a b : EReal} (ha : Fin' a) (hb : Fin' b) : (b - a) * (b - a) = (a - b) * (a - b) := by
  obtain ⟨x, rfl⟩ := (fin_iff a).mp ha
  obtain ⟨y, rfl⟩ := (fin_iff b).mp hb
  rw [← EReal.coe_sub, ← EReal.coe_sub, ← EReal.coe_mul, ← EReal.coe_mul]
  congr 1
  ring

/-- What is left of a finite row stays finite when the books are finite. -/
theorem fin_rest (two : EReal) (x : Row) (C : ℕ → Book) (hx : ∀ j, Fin' (x j)) (hC : ∀ q k j, Fin' (C q k j)) :
    ∀ (q : ℕ) (j : Fin 256), Fin' (rest two x C q j)
  | 0, j => hx j
  | q + 1, j => fin_sub (fin_rest two x C hx hC q j) (hC _ _ _)

end Cert.Proof
-- ==== Proof.QuantBlock.lean ====
/- One stage of the quantizer on a block of 896 rows, as the kernel's body computes it: the distances, the index of the
nearest entry, the entry read off by products with the 0/1 matrix, and the lane sums of squares. -/
module

public import proofs.«01_k».proof.Proof.Quant
public import proofs.«01_k».proof.Proof.Gen.KernelIdeal.Frame
public import Idealize.ShloMosaic.Lib.Pipeline.ValueKit
public import Idealize.ShloMosaic.Lib.MatmulPlain

@[expose] public section

noncomputable section

open scoped BigOperators

namespace Cert.Proof

open Idealize.ShloMosaic Idealize.ShloMosaic.TcCoe
open Cert.KernelIdeal Cert.KernelIdeal.Gen

/-- The factor two of the distances, as the programs' literal. -/
def two : EReal := Ideal.ofBits .f32 0x40000000#32

/-- Row `i` of a matrix with rows of 256. -/
abbrev rowAt {M : ℕ} (r : FVec Ideal ⟨2, ![M, 256]⟩ .f32) (i : Fin M) : Row := fun j => r (ValueIdx.ix2 i j)

/-- A slab of one book as a book. -/
abbrev bookAt (b : FVec Ideal S1x1024x256 .f32) : Book := fun k j => b (ValueIdx.ix3 0 k j)

/-- A slab of one part of one book as a book. -/
abbrev partAt (p : FVec Ideal S1x1x1024x256 .bf16) : Book := fun k j => p (ValueIdx.ix4 0 0 k j)

/-- The sum over the second coordinate, at a row. -/
theorem sum_row {M N : ℕ} (x : FVec Ideal ⟨2, ![M, N]⟩ .f32) (h : (⟨2, ![M, N]⟩ : Shape).Reduces [1] ⟨1, ![M]⟩)
    (hφ : FKind.Formats .f32) (ha : (0x00000000#32 : BitVec 32) = FKind.add.neutral .f32 hφ) (i : Fin M) :
    multiReduction .add [1] ⟨1, ![M]⟩ x 0x00000000#32 h hφ ha (ValueIdx.ix1 i) = ∑ j : Fin N, x (ValueIdx.ix2 i j) := by
  refine (Ideal.multiReduction_add_single x _ h hφ ha _).trans (Finset.sum_congr rfl fun k _ => congrArg x ?_)
  funext a
  match a with
  | ⟨0, _⟩ => rfl
  | ⟨1, _⟩ => rfl

/-- The sum over the first coordinate, at a column. -/
theorem sum_col {M N : ℕ} (x : FVec Ideal ⟨2, ![M, N]⟩ .f32) (h : (⟨2, ![M, N]⟩ : Shape).Reduces [0] ⟨1, ![N]⟩)
    (hφ : FKind.Formats .f32) (ha : (0x00000000#32 : BitVec 32) = FKind.add.neutral .f32 hφ) (j : Fin N) :
    multiReduction .add [0] ⟨1, ![N]⟩ x 0x00000000#32 h hφ ha (ValueIdx.ix1 j) = ∑ i : Fin M, x (ValueIdx.ix2 i j) := by
  refine (Ideal.multiReduction_add_single x _ h hφ ha _).trans (Finset.sum_congr rfl fun k _ => congrArg x ?_)
  funext a
  match a with
  | ⟨0, _⟩ => rfl
  | ⟨1, _⟩ => rfl

/-! ## The distances and the index -/

/-- The distances of a block's rows to a book's entries, operation by operation. -/
def gaps (r : FVec Ideal S896x256 .f32) (b : FVec Ideal S1x1024x256 .f32) : FVec Ideal S896x1024 .f32 :=
  addf
    (subf
      (broadcastTo S896x1024 (shapeCast S896x1
        (multiReduction .add [1] S896 (mulf r r) 0x00000000#32 reduces_S896x256_S896 (.inl rfl) rfl)
        shapeCasts_S896_S896x1) broadcasts_S896x1_S896x1024)
      (mulf (broadcast S896x1024 (Scalar.ofBits .f32 0x40000000#32 : Ideal .f32))
        (matmul dot_S896x256_S1024x256_S896x1024_1_1_0_0_n_n none (truncf .bf16 r bitsLt_bf16_f32)
          (truncf .bf16 (shapeCast S1024x256 b shapeCasts_S1x1024x256_S1024x256) bitsLt_bf16_f32)
          (constant S896x1024 .f32 0x00000000#32))))
    (broadcastTo S896x1024 (shapeCast S1x1024
      (multiReduction .add [1] S1024
        (mulf (shapeCast S1024x256 b shapeCasts_S1x1024x256_S1024x256)
          (shapeCast S1024x256 b shapeCasts_S1x1024x256_S1024x256))
        0x00000000#32 reduces_S1024x256_S1024 (.inl rfl) rfl)
      shapeCasts_S1024_S1x1024) broadcasts_S1x1024_S896x1024)

/-- A slab read as a matrix. -/
theorem slab_apply (b : FVec Ideal S1x1024x256 .f32) (h : S1x1024x256.ShapeCasts S1024x256) (k : Fin 1024) (j : Fin 256) :
    shapeCast S1024x256 b h (ValueIdx.ix2 k j) = bookAt b k j :=
  shapeCast_apply b h _ _ (by
    rw [Shape.rowMajor_val_two, Shape.rowMajor_val_three]
    show (0 * 1024 + k.val) * 256 + j.val = k.val * 256 + j.val
    omega)

/-- The kernel's distance of a row to an entry is `gap`. -/
theorem gaps_apply (r : FVec Ideal S896x256 .f32) (b : FVec Ideal S1x1024x256 .f32) (i : Fin 896) (k : Fin 1024) :
    gaps r b (ValueIdx.ix2 i k) = gap two (rowAt r i) (bookAt b) k := by
  unfold gaps gap
  refine (ValueIdx.addf_apply _ _ _).trans (congrArg₂ (· + ·) ((ValueIdx.subf_apply _ _ _).trans
    (congrArg₂ (· - ·) ?_ ((ValueIdx.mulf_apply _ _ _).trans (congrArg (two * ·) ?_)))) ?_)
  · rw [broadcastTo_apply _ broadcasts_S896x1_S896x1024 _ (ValueIdx.ix2 i 0) (fun a => by
        match a with
        | ⟨0, _⟩ => rfl
        | ⟨1, _⟩ => rfl),
      shapeCast_apply _ shapeCasts_S896_S896x1 _ (ValueIdx.ix1 i) (by
        rw [Shape.rowMajor_val_one, Shape.rowMajor_val_two]
        show i.val = i.val * 1 + 0
        omega)]
    exact sum_row _ _ _ _ i
  · refine (Ideal.matmul_transposedRhs_apply none _ _ _ i k).trans ?_
    rw [ValueIdx.constant_apply, Ideal.ofBits_zero_f32, zero_add]
    exact Finset.sum_congr rfl fun j _ => congrArg (r (ValueIdx.ix2 i j) * ·) (slab_apply b _ k j)
  · rw [broadcastTo_apply _ broadcasts_S1x1024_S896x1024 _ (ValueIdx.ix2 0 k) (fun a => by
        match a with
        | ⟨0, _⟩ => rfl
        | ⟨1, _⟩ => rfl),
      shapeCast_apply _ shapeCasts_S1024_S1x1024 _ (ValueIdx.ix1 k) (by
        rw [Shape.rowMajor_val_one, Shape.rowMajor_val_two]
        show k.val = 0 * 1024 + k.val
        omega)]
    refine (sum_row _ _ _ _ k).trans (Finset.sum_congr rfl fun j _ => ?_)
    exact congrArg₂ (· * ·) (slab_apply b _ k j) (slab_apply b _ k j)

/-- The index of the entry nearest to each of a block's rows. -/
def picks (r : FVec Ideal S896x256 .f32) (b : FVec Ideal S1x1024x256 .f32) : IVec S896 32 :=
  reduceIndex .argMin 1 S896 (gaps r b) reduces_S896x1024_S896

/-- The kernel's index of a row is the nearest entry's. -/
theorem picks_apply (r : FVec Ideal S896x256 .f32) (b : FVec Ideal S1x1024x256 .f32) (i : Fin 896) :
    picks r b (ValueIdx.ix1 i) = BitVec.ofNat 32 (nearest two (rowAt r i) (bookAt b)).val := by
  classical
  have hl : ∀ k : Fin 1024, reduces_S896x1024_S896.lift (ValueIdx.ix1 i) k = ValueIdx.ix2 i k := fun k => by
    funext a
    match a with
    | ⟨0, _⟩ => rfl
    | ⟨1, _⟩ => rfl
  have hd : ∀ k : Fin 1024, gaps r b (ValueIdx.ix2 i k) = gap two (rowAt r i) (bookAt b) k := gaps_apply r b i
  have hm : ∀ e : S896x1024.Idx, e ∈ Finset.univ.filter (fun e : S896x1024.Idx =>
      reduces_S896x1024_S896.drop e = ValueIdx.ix1 i) ↔ ∃ k : Fin 1024, ValueIdx.ix2 i k = e := fun e => by
    rw [Finset.mem_filter]
    constructor
    · rintro ⟨_, h⟩
      refine ⟨e 1, (hl (e 1)).symm.trans ?_⟩
      rw [← h]
      exact Shape.Reduces.lift_drop reduces_S896x1024_S896 e
    · rintro ⟨k, rfl⟩
      refine ⟨Finset.mem_univ _, ?_⟩
      rw [← hl]
      exact Shape.Reduces.drop_lift reduces_S896x1024_S896 (ValueIdx.ix1 i) k
  show BitVec.ofNat 32 _ = _
  congr 1
  set d := gap two (rowAt r i) (bookAt b) with hdd
  have key : ∀ s : Finset ℕ, (∀ n, n ∈ s ↔ ∃ k : Fin 1024, k.val = n ∧ ∀ k', d k ≤ d k') →
      s.min.getD 0 = (nearest two (rowAt r i) (bookAt b)).val := fun s hs => by
    have h1 : (nearest two (rowAt r i) (bookAt b)).val ∈ s := (hs _).mpr ⟨_, rfl, first_le _ _⟩
    have h2 : s.min = ((nearest two (rowAt r i) (bookAt b)).val : WithTop ℕ) := by
      refine le_antisymm (Finset.min_le h1) (Finset.le_min fun n hn => ?_)
      obtain ⟨k, rfl, hk⟩ := (hs n).mp hn
      exact WithTop.coe_le_coe.mpr (first_first _ _ k hk)
    rw [h2]
    rfl
  refine key _ fun n => ?_
  rw [Finset.mem_image]
  constructor
  · rintro ⟨e, he, rfl⟩
    obtain ⟨he1, he2⟩ := (@Finset.mem_filter _ _ (_) _ _).mp he
    obtain ⟨k, rfl⟩ := (hm e).mp he1
    refine ⟨k, rfl, fun k' => ?_⟩
    have := he2 _ ((hm _).mpr ⟨k', rfl⟩)
    simp only [reduceCtorEq, if_false, not_lt, hd] at this
    exact this
  · rintro ⟨k, rfl, hk⟩
    refine ⟨ValueIdx.ix2 i k, (@Finset.mem_filter _ _ (_) _ _).mpr ⟨(hm _).mpr ⟨k, rfl⟩, fun e he => ?_⟩, rfl⟩
    obtain ⟨k', rfl⟩ := (hm e).mp he
    simp only [reduceCtorEq, if_false, not_lt, hd]
    exact hk k'

/-! ## The entry -/

/-- The 0/1 matrix with a one in each row at the row's index. -/
def hot (ix : IVec S896 32) : FVec Ideal S896x1024 .bf16 :=
  truncf .bf16 (sitofp .f32 (extui 32 (cmpi .eq (iota .tc S896x1024 32 [1] iota_S896x1024_d1_w32)
    (broadcastTo S896x1024 (shapeCast S896x1 ix shapeCasts_S896_S896x1) broadcasts_S896x1_S896x1024)) natLt_1_32)
    : FVec Ideal S896x1024 .f32) bitsLt_bf16_f32

/-- A row's one-hot mask is one at its index and nought elsewhere. -/
theorem hot_apply (ix : IVec S896 32) (i : Fin 896) (n k : Fin 1024) (h : ix (ValueIdx.ix1 i) = BitVec.ofNat 32 n.val) :
    hot ix (ValueIdx.ix2 i k) = if k = n then 1 else 0 := by
  have hb : broadcastTo S896x1024 (shapeCast S896x1 ix shapeCasts_S896_S896x1) broadcasts_S896x1_S896x1024
      (ValueIdx.ix2 i k) = BitVec.ofNat 32 n.val := by
    rw [broadcastTo_apply _ broadcasts_S896x1_S896x1024 _ (ValueIdx.ix2 i 0) (fun a => by
        match a with
        | ⟨0, _⟩ => rfl
        | ⟨1, _⟩ => rfl),
      shapeCast_apply _ shapeCasts_S896_S896x1 _ (ValueIdx.ix1 i) (by
        rw [Shape.rowMajor_val_one, Shape.rowMajor_val_two]
        show i.val = i.val * 1 + 0
        omega), h]
  have hi : iota .tc S896x1024 32 [1] iota_S896x1024_d1_w32 (ValueIdx.ix2 i k) = BitVec.ofNat 32 k.val := by
    rw [iota_apply]
    show BitVec.ofNat 32 (0 * 1024 + k.val) = _
    rw [Nat.zero_mul, Nat.zero_add]
  show (((BitVec.setWidth 32 (Scalar.cmpi .eq (iota .tc S896x1024 32 [1] iota_S896x1024_d1_w32 (ValueIdx.ix2 i k))
    (broadcastTo S896x1024 (shapeCast S896x1 ix shapeCasts_S896_S896x1) broadcasts_S896x1_S896x1024
      (ValueIdx.ix2 i k)))).toInt : ℝ) : EReal) = _
  rw [hb, hi]
  have he : (BitVec.ofNat 32 k.val = BitVec.ofNat 32 n.val) ↔ k = n := by
    constructor
    · intro e
      have := congrArg BitVec.toNat e
      rw [BitVec.toNat_ofNat, BitVec.toNat_ofNat, Nat.mod_eq_of_lt (by omega), Nat.mod_eq_of_lt (by omega)] at this
      exact Fin.ext this
    · rintro rfl
      rfl
  by_cases e : k = n
  · subst e
    rw [if_pos rfl]
    simp [Scalar.cmpi, IntOp.cmpi]
  · rw [if_neg e]
    have : ¬ BitVec.ofNat 32 k.val = BitVec.ofNat 32 n.val := fun h' => e (he.mp h')
    have hf := beq_eq_false_iff_ne.mpr this
    simp [Scalar.cmpi, IntOp.cmpi, hf]

/-- A slab of a part read as a matrix. -/
theorem part_slab_apply (p : FVec Ideal S1x1x1024x256 .bf16) (h : S1x1x1024x256.ShapeCasts S1024x256) (k : Fin 1024)
    (j : Fin 256) : shapeCast S1024x256 p h (ValueIdx.ix2 k j) = partAt p k j :=
  shapeCast_apply p h _ _ (by
    rw [Shape.rowMajor_val_two, Shape.rowMajor_val_four]
    show ((0 * 1 + 0) * 1024 + k.val) * 256 + j.val = k.val * 256 + j.val
    omega)

/-- The 0/1 matrix times one part. -/
def pick1 (ix : IVec S896 32) (p : FVec Ideal S1x1x1024x256 .bf16) : FVec Ideal S896x256 .f32 :=
  matmul dot_S896x1024_S1024x256_S896x256_1_0_0_1_n_n none (hot ix)
    (shapeCast S1024x256 p shapeCasts_S1x1x1024x256_S1024x256) (constant S896x256 .f32 0x00000000#32)

/-- It reads the part's row at the index. -/
theorem pick1_apply (ix : IVec S896 32) (p : FVec Ideal S1x1x1024x256 .bf16) (i : Fin 896) (n : Fin 1024) (j : Fin 256)
    (h : ix (ValueIdx.ix1 i) = BitVec.ofNat 32 n.val) : pick1 ix p (ValueIdx.ix2 i j) = partAt p n j := by
  refine (Ideal.matmul_plain_apply none _ _ _ i j).trans ?_
  rw [ValueIdx.constant_apply, Ideal.ofBits_zero_f32, zero_add,
    Finset.sum_eq_single n (fun k _ hk => by rw [hot_apply ix i n k h, if_neg hk, zero_mul])
      (fun hn => absurd (Finset.mem_univ n) hn),
    hot_apply ix i n n h, if_pos rfl, one_mul]
  exact part_slab_apply p _ n j

/-- The entries at the indices: the three parts' rows added up. -/
def entry (ix : IVec S896 32) (p0 p1 p2 : FVec Ideal S1x1x1024x256 .bf16) : FVec Ideal S896x256 .f32 :=
  addf (addf (pick1 ix p0) (pick1 ix p1)) (pick1 ix p2)

/-- When the first part is the book and the others are nothing, it is the book's row at the index. -/
theorem entry_apply (ix : IVec S896 32) (p0 p1 p2 : FVec Ideal S1x1x1024x256 .bf16) (i : Fin 896) (n : Fin 1024)
    (j : Fin 256) (h : ix (ValueIdx.ix1 i) = BitVec.ofNat 32 n.val) (h1 : partAt p1 n j = 0) (h2 : partAt p2 n j = 0) :
    entry ix p0 p1 p2 (ValueIdx.ix2 i j) = partAt p0 n j := by
  refine (ValueIdx.addf_apply _ _ _).trans ((congrArg₂ (· + ·) ((ValueIdx.addf_apply _ _ _).trans
    (congrArg₂ (· + ·) (pick1_apply ix p0 i n j h) (pick1_apply ix p1 i n j h))) (pick1_apply ix p2 i n j h)).trans ?_)
  rw [h1, h2, add_zero, add_zero]

/-! ## The lane sums -/

/-- The running lane sums with a block's squares added: column `a * 128 + l` goes to lane `l`. -/
def lanes (r : FVec Ideal S896x256 .f32) (old : FVec Ideal S1x128 .f32) : FVec Ideal S1x128 .f32 :=
  addf (shapeCast S1x128 old shapeCasts_S1x128_S1x128)
    (shapeCast S1x128 (multiReduction .add [0] S128 (shapeCast S2x128
      (multiReduction .add [0] S256 (mulf r r) 0x00000000#32 reduces_S896x256_S256 (.inl rfl) rfl)
      shapeCasts_S256_S2x128) 0x00000000#32 reduces_S2x128_S128 (.inl rfl) rfl) shapeCasts_S128_S1x128)

/-- A lane of the losses: what was there, and the squares of the two columns that fall on it. -/
theorem lanes_apply (r : FVec Ideal S896x256 .f32) (old : FVec Ideal S1x128 .f32) (l : Fin 128) :
    lanes r old (ValueIdx.ix2 0 l) = old (ValueIdx.ix2 0 l)
      + ∑ a : Fin 2, ∑ i : Fin 896, rowAt r i ⟨a.val * 128 + l.val, by omega⟩ * rowAt r i ⟨a.val * 128 + l.val, by omega⟩ := by
  refine (ValueIdx.addf_apply _ _ _).trans (congrArg₂ (· + ·) (by rw [shapeCast_self]) ?_)
  rw [shapeCast_apply _ shapeCasts_S128_S1x128 _ (ValueIdx.ix1 l) (by
    rw [Shape.rowMajor_val_one, Shape.rowMajor_val_two]
    show l.val = 0 * 128 + l.val
    omega)]
  refine (sum_col _ _ _ _ l).trans (Finset.sum_congr rfl fun a _ => ?_)
  rw [shapeCast_apply _ shapeCasts_S256_S2x128 _ (ValueIdx.ix1 ⟨a.val * 128 + l.val, by omega⟩) (by
    rw [Shape.rowMajor_val_one, Shape.rowMajor_val_two]
    rfl)]
  exact sum_col _ _ _ _ _

end Cert.Proof
-- ==== Proof.RefQuant.lean ====
/- One stage of the reference's quantizer, read a token at a time. -/
module

public import proofs.«01_k».proof.Proof.QuantBlock
public import proofs.«01_k».proof.Proof.Gen.ReferenceIdeal.Read
public import Idealize.ShloMosaic.Lib.PlanTiles.Rows

@[expose] public section

noncomputable section

open scoped BigOperators

namespace Cert.Proof

open Idealize.ShloMosaic Cert.ReferenceIdeal Cert.ReferenceIdeal.Gen Cert.ReferenceIdeal.Read

/-! ## The least of finitely many, and where it is -/

/-- The least of a row of distances, by folding, is the distance at its first least place. -/
theorem fold_least {n : ℕ} (hn : 0 < n) (d : Fin n → EReal) : Finset.univ.fold min ⊤ d = d (first hn d) :=
  le_antisymm (Finset.fold_min_le _ |>.mpr (.inr ⟨_, Finset.mem_univ _, le_refl _⟩))
    ((Finset.le_fold_min _).mpr ⟨le_top, fun k _ => first_le hn d k⟩)

/-- The least word of finitely many small words is the word of the least number. -/
theorem fold_words {n : ℕ} (s : Finset (Fin n)) (f : Fin n → ℕ) (b : ℕ) (hb : b < 2 ^ 31) (hf : ∀ k, f k < 2 ^ 31) :
    s.fold IntOp.minsi (BitVec.ofNat 32 b) (fun k => BitVec.ofNat 32 (f k)) = BitVec.ofNat 32 (s.fold min b f)
      ∧ s.fold min b f < 2 ^ 31 := by
  induction s using Finset.induction_on with
  | empty => exact ⟨rfl, hb⟩
  | insert a s ha ih =>
    rw [Finset.fold_insert ha, Finset.fold_insert ha, ih.1, PlanTiles.minsi_word (hf a) ih.2, min_comm]
    exact ⟨rfl, lt_of_le_of_lt (min_le_left _ _) (hf a)⟩

/-- The least number among the places where the distance is least is the first of them. -/
theorem fold_first {n : ℕ} (hn : 0 < n) (hb : n ≤ 2147483647) (d : Fin n → EReal) :
    Finset.univ.fold min 2147483647 (fun k : Fin n => if d k = d (first hn d) then k.val else n) = (first hn d).val := by
  refine le_antisymm ((Finset.fold_min_le _).mpr (.inr ⟨first hn d, Finset.mem_univ _, by rw [if_pos rfl]⟩))
    ((Finset.le_fold_min _).mpr ⟨by have := (first hn d).isLt; omega, fun k _ => ?_⟩)
  by_cases h : d k = d (first hn d)
  · rw [if_pos h]
    exact first_first hn d k fun k' => h ▸ first_le hn d k'
  · rw [if_neg h]
    have := (first hn d).isLt
    omega

/-! ## The distances -/

/-- Token `(b, s)` of an array of tokens. -/
abbrev tokAt (r : FVec Ideal S2x3136x256 .f32) (b : Fin 2) (s : Fin 3136) : Row := fun j => r (ValueIdx.ix3 b s j)

/-- A matrix of entries as a book. -/
abbrev bookIn (e : FVec Ideal S1024x256 .f32) : Book := fun k j => e (ValueIdx.ix2 k j)

/-- The tokens' sum over coordinates drops the last axis. -/
theorem two_reduces : S2x3136x256.Reduces [2] S2x3136 := by decide
/-- So does the entries'. -/
theorem row_reduces : S1024x256.Reduces [1] S1024 := by decide
/-- So does the least distance over entries. -/
theorem gap_reduces : S2x3136x1024.Reduces [2] S2x3136 := by decide

/-- The distances of every token to every entry. -/
def refGaps (r : FVec Ideal S2x3136x256 .f32) (e : FVec Ideal S1024x256 .f32) : FVec Ideal S2x3136x1024 .f32 :=
  addf
    (subf
      (broadcastInDim S2x3136x1024 ![0, 1, 2] bcast_S2x3136x1_S2x3136x1024_0_1_2
        (broadcastInDim S2x3136x1 ![0, 1] bcast_S2x3136_S2x3136x1_0_1
          (Host.reduceAdd (mulf r r) (constant S_ .f32 0x00000000#32) reducesTo_S2x3136x256_S2x3136_d2 h_S_)))
      (mulf (broadcastInDim S2x3136x1024 ![] bcast_S_S2x3136x1024 (constant S_ .f32 0x40000000#32))
        (Host.dotGeneral dot_S2x3136x256_S256x1024_S2x3136x1024_2_0_01_1_n_n none r
          (transpose S256x1024 [1, 0] e transposes_S1024x256_S256x1024_1_0))))
    (broadcastInDim S2x3136x1024 ![0, 1, 2] bcast_S1x1x1024_S2x3136x1024_0_1_2
      (broadcastInDim S1x1x1024 ![2] bcast_S1024_S1x1x1024_2
        (Host.reduceAdd (mulf e e) (constant S_ .f32 0x00000000#32) reducesTo_S1024x256_S1024_d1 h_S_)))

/-- One value a token spread over the entries. -/
theorem spread_apply {α : Type} (x : S2x3136.Idx → α) (b : Fin 2) (s : Fin 3136) (k : Fin 1024) :
    broadcastInDim S2x3136x1024 ![0, 1, 2] bcast_S2x3136x1_S2x3136x1024_0_1_2
      (broadcastInDim S2x3136x1 ![0, 1] bcast_S2x3136_S2x3136x1_0_1 x) (ValueIdx.ix3 b s k) = x (ValueIdx.ix2 b s) := by
  refine (broadcastInDim_apply _ _ _ _ (ValueIdx.ix3 b s 0) (fun a => by
    match a with
    | ⟨0, _⟩ => rfl
    | ⟨1, _⟩ => rfl
    | ⟨2, _⟩ => rfl)).trans ?_
  exact broadcastInDim_apply _ _ _ _ (ValueIdx.ix2 b s) (fun a => by
    match a with
    | ⟨0, _⟩ => rfl
    | ⟨1, _⟩ => rfl)

/-- The product of the tokens with the entries. -/
theorem dot_apply (r : FVec Ideal S2x3136x256 .f32) (y : FVec Ideal S256x1024 .f32) (b : Fin 2) (s : Fin 3136) (k : Fin 1024) :
    Host.dotGeneral dot_S2x3136x256_S256x1024_S2x3136x1024_2_0_01_1_n_n none r y (ValueIdx.ix3 b s k)
      = ∑ j : Fin 256, r (ValueIdx.ix3 b s j) * y (ValueIdx.ix2 j k) := by
  set D := dot_S2x3136x256_S256x1024_S2x3136x1024_2_0_01_1_n_n
  show FloatOps.dotGeneral D none _ r y (ValueIdx.ix3 b s k) = _
  rw [Ideal.dotGeneral_apply, ← Equiv.sum_comp (ValueIdx.contrEquiv1 D 256 rfl rfl).symm]
  refine Finset.sum_congr rfl fun j _ => congrArg₂ (· * ·) (congrArg r (funext fun a => Fin.ext ?_))
    (congrArg y (funext fun a => Fin.ext ?_))
  · match a with
    | ⟨0, _⟩ => exact lhs_main_v435_0 _ _
    | ⟨1, _⟩ => exact lhs_main_v435_1 _ _
    | ⟨2, _⟩ => exact (lhs_main_v435_2 _ _).trans (ValueIdx.contrEquiv1_symm_val D 256 rfl rfl j)
  · match a with
    | ⟨0, _⟩ => exact (rhs_main_v435_0 _ _).trans (ValueIdx.contrEquiv1_symm_val D 256 rfl rfl j)
    | ⟨1, _⟩ => exact rhs_main_v435_1 _ _

/-- The reference's distance of a token to an entry is `gap`. -/
theorem refGaps_apply (r : FVec Ideal S2x3136x256 .f32) (e : FVec Ideal S1024x256 .f32) (b : Fin 2) (s : Fin 3136) (k : Fin 1024) :
    refGaps r e (ValueIdx.ix3 b s k) = gap two (tokAt r b s) (bookIn e) k := by
  unfold refGaps gap
  refine (ValueIdx.addf_apply _ _ _).trans (congrArg₂ (· + ·) ((ValueIdx.subf_apply _ _ _).trans
    (congrArg₂ (· - ·) ?_ ((ValueIdx.mulf_apply _ _ _).trans (congrArg₂ (· * ·) ?_ ?_)))) ?_)
  · refine (spread_apply _ b s k).trans ?_
    refine (Ideal.hostReduceAdd_single reducesTo_S2x3136x256_S2x3136_d2 two_reduces _ _ _).trans ?_
    refine (congrArg (· + _) Ideal.ofBits_zero_f32).trans ((zero_add _).trans (Finset.sum_congr rfl fun j _ => ?_))
    have e : two_reduces.lift (ValueIdx.ix2 b s) j = ValueIdx.ix3 b s j := by
      funext a
      match a with
      | ⟨0, _⟩ => rfl
      | ⟨1, _⟩ => rfl
      | ⟨2, _⟩ => rfl
    exact congrArg₂ (· * ·) (congrArg r e) (congrArg r e)
  · exact broadcastInDim_apply _ _ _ _ (fun a => a.elim0) (fun a => a.elim0)
  · refine (dot_apply r _ b s k).trans (Finset.sum_congr rfl fun j _ => congrArg (_ * ·) ?_)
    exact transpose_apply _ _ _ _ (ValueIdx.ix2 k j) (fun a => by
      match a with
      | ⟨0, _⟩ => rfl
      | ⟨1, _⟩ => rfl)
  · refine (broadcastInDim_apply _ _ _ _ (ValueIdx.ix3 0 0 k) (fun a => by
      match a with
      | ⟨0, _⟩ => rfl
      | ⟨1, _⟩ => rfl
      | ⟨2, _⟩ => rfl)).trans ?_
    refine (broadcastInDim_apply _ _ _ _ (ValueIdx.ix1 k) (fun a => by
      match a with
      | ⟨0, _⟩ => rfl)).trans ?_
    refine (Ideal.hostReduceAdd_single reducesTo_S1024x256_S1024_d1 row_reduces _ _ _).trans ?_
    refine (congrArg (· + _) Ideal.ofBits_zero_f32).trans ((zero_add _).trans (Finset.sum_congr rfl fun j _ => ?_))
    have h : row_reduces.lift (ValueIdx.ix1 k) j = ValueIdx.ix2 k j := by
      funext a
      match a with
      | ⟨0, _⟩ => rfl
      | ⟨1, _⟩ => rfl
    exact congrArg₂ (· * ·) (congrArg e h) (congrArg e h)

/-! ## The index -/

/-- The index of the entry nearest to every token: the least number at which the distance is the least one. -/
def refPicks (r : FVec Ideal S2x3136x256 .f32) (e : FVec Ideal S1024x256 .f32) : IVec S2x3136 32 :=
  Host.reduce IntOp.minsi
    (select
      (cmpf .oeq (refGaps r e)
        (broadcastInDim S2x3136x1024 ![0, 1, 2] bcast_S2x3136x1_S2x3136x1024_0_1_2
          (broadcastInDim S2x3136x1 ![0, 1] bcast_S2x3136_S2x3136x1_0_1
            (Host.reduce FloatOps.minimumf (refGaps r e) (constant S_ .f32 0x7F800000#32) reducesTo_S2x3136x1024_S2x3136_d2 h_S_))))
      (iotaInDim S2x3136x1024 32 2)
      (broadcastInDim S2x3136x1024 ![] bcast_S_S2x3136x1024 (constantI S_ 32 1024#32)))
    (constantI S_ 32 2147483647#32) reducesTo_S2x3136x1024_S2x3136_d2 h_S_

/-- The point over `(b, s)` at entry `k`. -/
theorem lift_gap (b : Fin 2) (s : Fin 3136) (k : Fin 1024) : gap_reduces.lift (ValueIdx.ix2 b s) k = ValueIdx.ix3 b s k := by
  funext a
  match a with
  | ⟨0, _⟩ => rfl
  | ⟨1, _⟩ => rfl
  | ⟨2, _⟩ => rfl

/-- The reference's least distance of a token. -/
theorem refLeast_apply (r : FVec Ideal S2x3136x256 .f32) (e : FVec Ideal S1024x256 .f32) (b : Fin 2) (s : Fin 3136) :
    Host.reduce FloatOps.minimumf (refGaps r e) (constant S_ .f32 0x7F800000#32) reducesTo_S2x3136x1024_S2x3136_d2 h_S_ (ValueIdx.ix2 b s)
      = gap two (tokAt r b s) (bookIn e) (nearest two (tokAt r b s) (bookIn e)) := by
  refine (Host.reduce_eq_fold_single FloatOps.minimumf _ _ _ gap_reduces _ _).trans ?_
  have ht : Ideal.ofBits .f32 0x7F800000#32 = ⊤ := by simp [Ideal.ofBits, Ideal.ieee]
  have hg : refGaps r e ∘ gap_reduces.lift (ValueIdx.ix2 b s) = gap two (tokAt r b s) (bookIn e) :=
    funext fun k => (congrArg (refGaps r e) (lift_gap b s k)).trans (refGaps_apply r e b s k)
  rw [hg]
  refine Eq.trans ?_ (fold_least (by decide) _)
  exact congrArg (fun t => Finset.univ.fold min t _) ht

/-- The reference's index of a token is the nearest entry's. -/
theorem refPicks_apply (r : FVec Ideal S2x3136x256 .f32) (e : FVec Ideal S1024x256 .f32) (b : Fin 2) (s : Fin 3136) :
    refPicks r e (ValueIdx.ix2 b s) = BitVec.ofNat 32 (nearest two (tokAt r b s) (bookIn e)).val := by
  refine (Host.reduce_eq_fold_single IntOp.minsi _ _ _ gap_reduces _ _).trans ?_
  refine Eq.trans ?_ (congrArg (BitVec.ofNat 32) (fold_first (by decide) (by decide) (gap two (tokAt r b s) (bookIn e))))
  refine Eq.trans ?_ (fold_words Finset.univ _ 2147483647 (by decide) (fun k => by
    show (if _ then k.val else 1024) < 2 ^ 31
    have := k.isLt
    split <;> omega)).1
  refine congrArg (fun f => Finset.univ.fold IntOp.minsi (BitVec.ofNat 32 2147483647) f) (funext fun k => ?_)
  refine (congrArg (select _ _ _) (lift_gap b s k)).trans ?_
  have hg := refGaps_apply r e b s k
  have hm := (spread_apply _ b s k).trans (refLeast_apply r e b s)
  have hb : broadcastInDim S2x3136x1024 ![] bcast_S_S2x3136x1024 (constantI S_ 32 1024#32) (ValueIdx.ix3 b s k)
      = BitVec.ofNat 32 1024 := broadcastInDim_apply _ _ _ _ (fun a => a.elim0) (fun a => a.elim0)
  show (if FloatOps.cmpf .oeq (refGaps r e (ValueIdx.ix3 b s k)) _ = 1#1 then BitVec.ofNat 32 k.val else _) = _
  rw [hg, hm, hb]
  have hc : ∀ x y : EReal, (FloatOps.cmpf (F := Ideal) (φ := .f32) .oeq x y = 1#1) ↔ x = y := fun x y => by
    by_cases h : x = y <;> simp [Ideal.cmpf_def, Ideal.cmp, h]
  rw [apply_ite (BitVec.ofNat 32)]
  exact if_congr (hc _ _) rfl rfl

/-! ## The entry -/

/-- The entries at the given indices. -/
def refEntry (ix : IVec S2x3136 32) (e : FVec Ideal S1024x256 .f32) : FVec Ideal S2x3136x256 .f32 :=
  Host.gather gather_S1024x256_S2x3136x1_S2x3136x256_2_0_n_n_0_2_1256 e
    (broadcastInDim S2x3136x1 ![0, 1] bcast_S2x3136_S2x3136x1_0_1 ix)

/-- The reference's entry of a token is the one its index names. -/
theorem refEntry_apply (ix : IVec S2x3136 32) (e : FVec Ideal S1024x256 .f32) (b : Fin 2) (s : Fin 3136) (j : Fin 256)
    (n : Fin 1024) (h : ix (ValueIdx.ix2 b s) = BitVec.ofNat 32 n.val) :
    refEntry ix e (ValueIdx.ix3 b s j) = e (ValueIdx.ix2 n j) := by
  unfold refEntry Host.gather
  set D := gather_S1024x256_S2x3136x1_S2x3136x256_2_0_n_n_0_2_1256 with hD
  set i := broadcastInDim S2x3136x1 ![0, 1] bcast_S2x3136_S2x3136x1_0_1 ix with hi
  have hs : i (ValueIdx.ix3 b s 0) = BitVec.ofNat 32 n.val := (broadcastInDim_apply _ _ _ _ (ValueIdx.ix2 b s) (fun a => by
    match a with
    | ⟨0, _⟩ => rfl
    | ⟨1, _⟩ => rfl)).trans h
  have hn := n.isLt
  have h0 : D.start (ValueIdx.ix3 b s j) i 0 = n.val := by
    unfold GatherDims.start
    rw [dif_pos (show (0 : Fin S1024x256.rank) ∈ D.startIndexMap from List.mem_singleton.mpr rfl)]
    have hx : D.siIdx (ValueIdx.ix3 b s j) ⟨List.idxOf (0 : Fin S1024x256.rank) D.startIndexMap,
        List.idxOf_lt_length_iff.2 (List.mem_singleton.mpr rfl)⟩ = ValueIdx.ix3 b s 0 := by
      funext a
      refine Fin.ext ?_
      match a with
      | ⟨0, _⟩ => rfl
      | ⟨1, _⟩ => rfl
      | ⟨2, _⟩ => rfl
    have hm : (BitVec.ofNat 32 n.val).toNat = n.val := by rw [BitVec.toNat_ofNat, Nat.mod_eq_of_lt (by omega)]
    have ht : (BitVec.ofNat 32 n.val).toInt = n.val := by rw [BitVec.toInt_eq_toNat_of_lt (by omega), hm]
    rw [hx, hs, ht]
    show min n.val 1023 = n.val
    omega
  have h1 : D.start (ValueIdx.ix3 b s j) i 1 = 0 := by
    unfold GatherDims.start
    rw [dif_neg (show ¬(1 : Fin S1024x256.rank) ∈ D.startIndexMap by decide)]
  have hb : ∀ a, D.batchCoord (ValueIdx.ix3 b s j) a = 0 := fun a => GatherDims.batchCoord_eq_zero _ _ _ List.not_mem_nil
  have ho : D.offCoord (ValueIdx.ix3 b s j) 0 = 0 :=
    GatherDims.offCoord_eq_zero _ _ _ (fun h => ((GatherDims.mem_sKept _ _).mp h).1 (List.mem_singleton.mpr rfl))
  refine congrArg e (funext fun a => Fin.ext ?_)
  match a with
  | ⟨0, _⟩ =>
    show D.start (ValueIdx.ix3 b s j) i 0 + D.batchCoord (ValueIdx.ix3 b s j) 0 + D.offCoord (ValueIdx.ix3 b s j) 0 = n.val
    rw [h0, hb, ho]
    rfl
  | ⟨1, _⟩ =>
    show D.start (ValueIdx.ix3 b s j) i 1 + D.batchCoord (ValueIdx.ix3 b s j) 1 + D.offCoord (ValueIdx.ix3 b s j) 1 = j.val
    rw [h1, hb]
    show 0 + 0 + j.val = j.val
    omega

/-! ## One stage -/

/-- The entries handed on, straight through: what is left, and to it the entry less what is left. -/
def refStraight (r : FVec Ideal S2x3136x256 .f32) (e : FVec Ideal S1024x256 .f32) : FVec Ideal S2x3136x256 .f32 :=
  addf r (subf (refEntry (refPicks r e) e) r)

/-- The stage's loss. -/
def refLoss (r : FVec Ideal S2x3136x256 .f32) (e : FVec Ideal S1024x256 .f32) : FVec Ideal S_ .f32 :=
  Host.divf (Host.reduceAdd (mulf (subf (refEntry (refPicks r e) e) r) (subf (refEntry (refPicks r e) e) r))
    (constant S_ .f32 0x00000000#32) reducesTo_S2x3136x256_S_d0_1_2 h_S_) (constant S_ .f32 0x49C40000#32)

variable (r : FVec Ideal S2x3136x256 .f32) (e : FVec Ideal S1024x256 .f32)
  (hr : ∀ b s j, Fin' (tokAt r b s j)) (he : ∀ k j, Fin' (bookIn e k j))

include hr he in
/-- The straight-through entry is the entry. -/
theorem refStraight_apply (b : Fin 2) (s : Fin 3136) (j : Fin 256) :
    refStraight r e (ValueIdx.ix3 b s j) = bookIn e (nearest two (tokAt r b s) (bookIn e)) j := by
  have h := refEntry_apply (refPicks r e) e b s j _ (refPicks_apply r e b s)
  refine (ValueIdx.addf_apply _ _ _).trans ?_
  rw [ValueIdx.subf_apply, h]
  exact add_sub_of_fin (hr b s j) (he _ j)

include hr he in
/-- The loss is the sum of the squares of what is left after the stage, over the number of entries of the array. -/
theorem refLoss_apply (i : S_.Idx) : refLoss r e i = Ideal.div
    (∑ y : S2x3136x256.Idx, (r y - bookIn e (nearest two (tokAt r (y 0) (y 1)) (bookIn e)) (y 2))
      * (r y - bookIn e (nearest two (tokAt r (y 0) (y 1)) (bookIn e)) (y 2)))
    (Ideal.ofBits .f32 0x49C40000#32) := by
  refine congrArg (fun x => Ideal.div x (Ideal.ofBits .f32 0x49C40000#32)) ?_
  refine (Ideal.hostReduceAdd_total reducesTo_S2x3136x256_S_d0_1_2 (fun b => b.elim0) _ _ i).trans ?_
  refine (congrArg (· + _) Ideal.ofBits_zero_f32).trans ((zero_add _).trans (Finset.sum_congr rfl fun y _ => ?_))
  obtain ⟨b, s, j, rfl⟩ : ∃ (b : Fin 2) (s : Fin 3136) (j : Fin 256), ValueIdx.ix3 b s j = y := ⟨y 0, y 1, y 2, (ValueIdx.eq_ix3 y).symm⟩
  have h := refEntry_apply (refPicks r e) e b s j _ (refPicks_apply r e b s)
  rw [ValueIdx.mulf_apply, ValueIdx.subf_apply, h]
  exact sq_sub_comm (hr b s j) (he _ j)

end Cert.Proof
-- ==== Proof.QuantRegion.lean ====
/- What the quantizer's call computes at a grid point: the four stages on the point's block of rows. -/
module

public import proofs.«01_k».proof.Proof.QuantBlock
public import Idealize.ShloMosaic.Lib.WritesUnit

@[expose] public section

noncomputable section

open scoped BigOperators

namespace Cert.Proof

open Idealize.ShloMosaic Idealize.ShloMosaic.TcCoe
open Cert.KernelIdeal Cert.KernelIdeal.Gen

/-! ## Blocks through the stages -/

/-- Book `q` of the books' array. -/
def slab (x : FVec Ideal S4x1024x256 .f32) (q : ℕ) : FVec Ideal S1x1024x256 .f32 :=
  fun i => x (ValueIdx.ix3 ⟨q % 4, Nat.mod_lt _ (by decide)⟩ (i 1) (i 2))

/-- Part `p` of book `q` of the parts' array. -/
def partSlab (x : FVec Ideal S3x4x1024x256 .bf16) (p q : ℕ) : FVec Ideal S1x1x1024x256 .bf16 :=
  fun i => x (ValueIdx.ix4 ⟨p % 3, Nat.mod_lt _ (by decide)⟩ ⟨q % 4, Nat.mod_lt _ (by decide)⟩ (i 2) (i 3))

/-- Book `q` is read as its slab. -/
theorem ld_slab (x : Vec Ideal S4x1024x256 .f32) (q : ℕ) (h : ∀ a, (![q, 0, 0] : Fin 3 → ℕ) a + (![1, 1024, 256] : Fin 3 → ℕ) a ≤ S4x1024x256.size a) :
    View.ld x (Rect.unit (s := S4x1024x256) ![q, 0, 0] ![1, 1024, 256] h) = slab x q := by
  have hq : q + 1 ≤ 4 := h 0
  funext i
  refine congrArg x (funext fun a => Fin.ext ?_)
  match a with
  | ⟨0, _⟩ =>
    have h0 : (i 0).val < 1 := (i 0).isLt
    show q + 1 * (i 0).val = q % 4
    omega
  | ⟨1, _⟩ =>
    show 0 + 1 * (i 1).val = (i 1).val
    omega
  | ⟨2, _⟩ =>
    show 0 + 1 * (i 2).val = (i 2).val
    omega

/-- Part `p` of book `q` is read as its slab. -/
theorem ld_part (x : Vec Ideal S3x4x1024x256 .bf16) (p q : ℕ) (h : ∀ a, (![p, q, 0, 0] : Fin 4 → ℕ) a + (![1, 1, 1024, 256] : Fin 4 → ℕ) a ≤ S3x4x1024x256.size a) :
    View.ld x (Rect.unit (s := S3x4x1024x256) ![p, q, 0, 0] ![1, 1, 1024, 256] h) = partSlab x p q := by
  have hp : p + 1 ≤ 3 := h 0
  have hq : q + 1 ≤ 4 := h 1
  funext i
  refine congrArg x (funext fun a => Fin.ext ?_)
  match a with
  | ⟨0, _⟩ =>
    have h0 : (i 0).val < 1 := (i 0).isLt
    show p + 1 * (i 0).val = p % 3
    omega
  | ⟨1, _⟩ =>
    have h0 : (i 1).val < 1 := (i 1).isLt
    show q + 1 * (i 1).val = q % 4
    omega
  | ⟨2, _⟩ =>
    show 0 + 1 * (i 2).val = (i 2).val
    omega
  | ⟨3, _⟩ =>
    show 0 + 1 * (i 3).val = (i 3).val
    omega

/-! ## The body's words as stages

The body computes the four stages word by word; each theorem below says which stage's rows, indices, masks or lanes one word is. -/

section Words

variable (x r s : FVec Ideal S896x256 .f32) (b b' : FVec Ideal S1x1024x256 .f32) (p0 p1 p2 q0 q1 q2 : FVec Ideal S1x1x1024x256 .bf16)
  (ix : IVec S896 32) (old : FVec Ideal S1x128 .f32)

theorem word7 : k4_pay7 (F := Ideal) x = x := shapeCast_self _ _

theorem word10 : k4_pay10 (F := Ideal) x b = hot (picks x b) := by
  unfold k4_pay10 k4_pay9
  rw [word7]
  rfl

theorem word11 : k4_pay11 (F := Ideal) x b p0 = pick1 (picks x b) p0 := by
  unfold k4_pay11
  rw [word10]
  rfl

theorem word9 : k4_pay9 (F := Ideal) x b = picks x b := by
  unfold k4_pay9
  rw [word7]
  rfl

theorem word14 : k4_pay14 (F := Ideal) r (hot ix) (pick1 ix p0) (k4_pay12 p1) (constant S896x256 .f32 0x00000000#32) p2
    = subf r (entry ix p0 p1 p2) := rfl

theorem word15 : k4_pay15 (F := Ideal) s (hot ix) (pick1 ix p0) (k4_pay12 p1) (constant S896x256 .f32 0x00000000#32) p2
    = addf s (entry ix p0 p1 p2) := rfl

theorem word17 : k4_pay17 (F := Ideal) r (hot ix) (pick1 ix p0) (k4_pay12 p1) (constant S896x256 .f32 0x00000000#32) p2 old
    = lanes (subf r (entry ix p0 p1 p2)) old := rfl

theorem word18 : k4_pay18 (F := Ideal) r (hot ix) (pick1 ix p0) (k4_pay12 p1) (constant S896x256 .f32 0x00000000#32) p2 b
    = picks (subf r (entry ix p0 p1 p2)) b := rfl

theorem word19 : k4_pay19 (F := Ideal) r (hot ix) (pick1 ix p0) (k4_pay12 p1) (constant S896x256 .f32 0x00000000#32) p2 b
    = shapeCast S896x1 (picks (subf r (entry ix p0 p1 p2)) b) shapeCasts_S896_S896x1 := rfl

theorem word21 : k4_pay21 (F := Ideal) (iota .tc S896x1024 32 [1] iota_S896x1024_d1_w32) r (shapeCast S896x1 ix shapeCasts_S896_S896x1)
    p0 p1 p2 = subf r (entry ix p0 p1 p2) := rfl

theorem word22 : k4_pay22 (F := Ideal) (iota .tc S896x1024 32 [1] iota_S896x1024_d1_w32) s (shapeCast S896x1 ix shapeCasts_S896_S896x1)
    p0 p1 p2 = addf s (entry ix p0 p1 p2) := rfl

theorem word24 : k4_pay24 (F := Ideal) (iota .tc S896x1024 32 [1] iota_S896x1024_d1_w32) r (shapeCast S896x1 ix shapeCasts_S896_S896x1)
    p0 p1 p2 old = lanes (subf r (entry ix p0 p1 p2)) old := rfl

theorem word26 : k4_pay26 (F := Ideal) (iota .tc S896x1024 32 [1] iota_S896x1024_d1_w32) r (shapeCast S896x1 ix shapeCasts_S896_S896x1)
    p0 p1 p2 = mulf (subf r (entry ix p0 p1 p2)) (subf r (entry ix p0 p1 p2)) := rfl

theorem word27 : k4_pay27 (F := Ideal) r (k4_pay25 b) (mulf r r) = picks r b := rfl

theorem word29 : k4_pay29 (F := Ideal) (iota .tc S896x1024 32 [1] iota_S896x1024_d1_w32) r (k4_pay25 b) (mulf r r) p0 p1 p2
    = subf r (entry (picks r b) p0 p1 p2) := rfl

theorem word30 : k4_pay30 (F := Ideal) (iota .tc S896x1024 32 [1] iota_S896x1024_d1_w32) r s (k4_pay25 b) (mulf r r) p0 p1 p2
    = addf s (entry (picks r b) p0 p1 p2) := rfl

theorem word31 : k4_pay31 (F := Ideal) r (k4_pay25 b) (mulf r r) = shapeCast S1x896 (picks r b) shapeCasts_S896_S1x896 := rfl

theorem word32 : k4_pay32 (F := Ideal) (iota .tc S896x1024 32 [1] iota_S896x1024_d1_w32) r (k4_pay25 b) (mulf r r) p0 p1 p2
    = mulf (subf r (entry (picks r b) p0 p1 p2)) (subf r (entry (picks r b) p0 p1 p2)) := rfl

theorem word33 : k4_pay33 (F := Ideal) (mulf r r) old = lanes r old := rfl

theorem word34 : k4_pay34 (F := Ideal) r b = picks r b := rfl

theorem word35 : k4_pay35 (F := Ideal) (iota .tc S896x1024 32 [1] iota_S896x1024_d1_w32) r b = hot (picks r b) := rfl

theorem word36 : k4_pay36 (F := Ideal) (iota .tc S896x1024 32 [1] iota_S896x1024_d1_w32) r b p0 = pick1 (picks r b) p0 := rfl

theorem word2 : k4_pay2 (F := Ideal) s (hot ix) (pick1 ix p0) (k4_pay37 p1) (constant S896x256 .f32 0x00000000#32) p2
    = addf s (entry ix p0 p1 p2) := rfl

theorem word3 : k4_pay3 ix = shapeCast S1x896 ix shapeCasts_S896_S1x896 := rfl

theorem word16 : k4_pay16 ix = shapeCast S1x896 ix shapeCasts_S896_S1x896 := rfl

theorem word23 : k4_pay23 ix = shapeCast S1x896 ix shapeCasts_S896_S1x896 := rfl

theorem word4 : k4_pay4 (F := Ideal) r (hot ix) (pick1 ix p0) (k4_pay37 p1) (constant S896x256 .f32 0x00000000#32) p2 old
    = lanes (subf r (entry ix p0 p1 p2)) old := rfl

theorem word5 : k4_pay5 (F := Ideal) s (hot ix) (pick1 ix p0) (k4_pay37 p1) (constant S896x256 .f32 0x00000000#32) p2
    = transpose S256x896 [1, 0] (addf s (entry ix p0 p1 p2)) transposes_S896x256_p1_0_S256x896 := rfl

end Words

/-! ## All four stages -/

section Stages

variable (x0 : FVec Ideal S896x256 .f32) (x1 : FVec Ideal S4x1024x256 .f32) (x2 : FVec Ideal S3x4x1024x256 .bf16)

/-- The entries of book `q` for rows `r`. -/
def entryOf (r : FVec Ideal S896x256 .f32) (q : ℕ) : FVec Ideal S896x256 .f32 :=
  entry (picks r (slab x1 q)) (partSlab x2 0 q) (partSlab x2 1 q) (partSlab x2 2 q)

/-- The rows left after `q` stages. -/
def left : ℕ → FVec Ideal S896x256 .f32
  | 0 => x0
  | q + 1 => subf (left q) (entryOf x1 x2 (left q) q)

/-- The entries of the first `q` stages added up. -/
def gathered : ℕ → FVec Ideal S896x256 .f32
  | 0 => k4_pay8 (F := Ideal)
  | q + 1 => addf (gathered q) (entryOf x1 x2 (left x0 x1 x2 q) q)

end Stages

/-! ## Four rows stored one by one -/

section Rows

variable {e : EltTy} {N : ℕ}

/-- A row stored last is read back on its own row. -/
theorem canon_row_hit (o : ℕ) (ho : o < 4) (h : ∀ a, (![o, 0] : Fin 2 → ℕ) a + (![1, N] : Fin 2 → ℕ) a ≤ (⟨2, ![4, N]⟩ : Shape).size a)
    (w : Vec Ideal ⟨2, ![1, N]⟩ e) (L : List (View.Piece (Elt Ideal) ⟨2, ![4, N]⟩ e)) (l : Fin N) :
    View.canon ((⟨Rect.unit (s := ⟨2, ![4, N]⟩) ![o, 0] ![1, N] h, w⟩ : View.Piece (Elt Ideal) ⟨2, ![4, N]⟩ e) :: L)
      (ValueIdx.ix2 ⟨o, ho⟩ l) = w (ValueIdx.ix2 0 l) := by
  have he : (Rect.unit (s := ⟨2, ![4, N]⟩) ![o, 0] ![1, N] h).emb (ValueIdx.ix2 0 l : (⟨2, ![1, N]⟩ : Shape).Idx)
      = ValueIdx.ix2 ⟨o, ho⟩ l := funext fun a => Fin.ext (by
    match a with
    | ⟨0, _⟩ => show o + 1 * 0 = o; omega
    | ⟨1, _⟩ => show 0 + 1 * l.val = l.val; omega)
  rw [← he]
  exact View.canon_cons_emb (Rect.unit (s := ⟨2, ![4, N]⟩) ![o, 0] ![1, N] h) w L _

/-- It leaves the other rows alone. -/
theorem canon_row_miss (o q : ℕ) (hq : q < 4) (h : ∀ a, (![o, 0] : Fin 2 → ℕ) a + (![1, N] : Fin 2 → ℕ) a ≤ (⟨2, ![4, N]⟩ : Shape).size a)
    (w : Vec Ideal ⟨2, ![1, N]⟩ e) (L : List (View.Piece (Elt Ideal) ⟨2, ![4, N]⟩ e)) (l : Fin N) (hne : q ≠ o) :
    View.canon ((⟨Rect.unit (s := ⟨2, ![4, N]⟩) ![o, 0] ![1, N] h, w⟩ : View.Piece (Elt Ideal) ⟨2, ![4, N]⟩ e) :: L)
      (ValueIdx.ix2 ⟨q, hq⟩ l) = View.canon L (ValueIdx.ix2 ⟨q, hq⟩ l) := by
  refine View.canon_cons_of_not_mem _ L fun hm => ?_
  have := ((Rect.mem_set_unit (inb := h)).mp hm) 0
  have h1 : o ≤ q := this.1
  have h2 : q < o + 1 := this.2
  omega

/-- Four rows stored one by one over `L`. -/
def fourRows (g : ℕ → Vec Ideal ⟨2, ![1, N]⟩ e) (L : List (View.Piece (Elt Ideal) ⟨2, ![4, N]⟩ e))
    (h : ∀ o : Fin 4, ∀ a, (![o.val, 0] : Fin 2 → ℕ) a + (![1, N] : Fin 2 → ℕ) a ≤ (⟨2, ![4, N]⟩ : Shape).size a) :
    Vec Ideal ⟨2, ![4, N]⟩ e :=
  View.canon (⟨Rect.unit (s := ⟨2, ![4, N]⟩) ![3, 0] ![1, N] (h 3), g 3⟩ :: ⟨Rect.unit (s := ⟨2, ![4, N]⟩) ![2, 0] ![1, N] (h 2), g 2⟩
    :: ⟨Rect.unit (s := ⟨2, ![4, N]⟩) ![1, 0] ![1, N] (h 1), g 1⟩ :: ⟨Rect.unit (s := ⟨2, ![4, N]⟩) ![0, 0] ![1, N] (h 0), g 0⟩ :: L)

/-- Four rows stored one by one, read at a row and a column. -/
theorem fourRows_apply (g : ℕ → Vec Ideal ⟨2, ![1, N]⟩ e) (L : List (View.Piece (Elt Ideal) ⟨2, ![4, N]⟩ e))
    (h : ∀ o : Fin 4, ∀ a, (![o.val, 0] : Fin 2 → ℕ) a + (![1, N] : Fin 2 → ℕ) a ≤ (⟨2, ![4, N]⟩ : Shape).size a)
    (q : ℕ) (hq : q < 4) (l : Fin N) : fourRows g L h (ValueIdx.ix2 ⟨q, hq⟩ l) = g q (ValueIdx.ix2 0 l) := by
  unfold fourRows
  by_cases h3 : q = 3
  · subst h3; exact canon_row_hit 3 hq _ _ _ l
  rw [canon_row_miss 3 q hq _ _ _ l h3]
  by_cases h2 : q = 2
  · subst h2; exact canon_row_hit 2 hq _ _ _ l
  rw [canon_row_miss 2 q hq _ _ _ l h2]
  by_cases h1 : q = 1
  · subst h1; exact canon_row_hit 1 hq _ _ _ l
  rw [canon_row_miss 1 q hq _ _ _ l h1]
  obtain rfl : q = 0 := by omega
  exact canon_row_hit 0 hq _ _ _ l

/-- Row `q` as a matrix of one row. -/
def oneRow (x : Vec Ideal ⟨2, ![4, N]⟩ e) (q : ℕ) : Vec Ideal ⟨2, ![1, N]⟩ e :=
  fun i => x (ValueIdx.ix2 ⟨q % 4, Nat.mod_lt _ (by decide)⟩ (i 1))

/-- A row is read as it stands. -/
theorem ld_row (x : Vec Ideal ⟨2, ![4, N]⟩ e) (q : ℕ)
    (h : ∀ a, (![q, 0] : Fin 2 → ℕ) a + (![1, N] : Fin 2 → ℕ) a ≤ (⟨2, ![4, N]⟩ : Shape).size a) :
    View.ld x (Rect.unit (s := ⟨2, ![4, N]⟩) ![q, 0] ![1, N] h) = oneRow x q := by
  have hq : q + 1 ≤ 4 := h 0
  funext i
  refine congrArg x (funext fun a => Fin.ext ?_)
  match a with
  | ⟨0, _⟩ =>
    have h0 : (i 0).val < 1 := (i 0).isLt
    show q + 1 * (i 0).val = q % 4
    omega
  | ⟨1, _⟩ =>
    show 0 + 1 * (i 1).val = (i 1).val
    omega

end Rows

/-! ## Reading the sums that were just cleared -/

/-- Every place is stored to. -/
def Covered (L : List (View.Piece (Elt Ideal) S4x128 .f32)) : Prop := ∀ y, ∃ p ∈ L, y ∈ p.1.set

/-- The store of zeros everywhere. -/
abbrev cleared : View.Piece (Elt Ideal) S4x128 .f32 := ⟨Rect.unit (s := S4x128) ![0, 0] ![4, 128] inb_S4x128_S4x128_0_0, k4_pay6 (F := Ideal)⟩

/-- Storing noughts everywhere covers everything. -/
theorem covered_cleared : Covered [cleared] := fun y => ⟨_, List.mem_singleton.mpr rfl, (Rect.mem_set_unit (inb := inb_S4x128_S4x128_0_0)).mpr fun a => by
  match a with
  | ⟨0, _⟩ => exact ⟨Nat.zero_le _, (y 0).isLt⟩
  | ⟨1, _⟩ => exact ⟨Nat.zero_le _, (y 1).isLt⟩⟩

/-- A further store keeps everything covered. -/
theorem covered_cons (p : View.Piece (Elt Ideal) S4x128 .f32) (L) (h : Covered L) : Covered (p :: L) := fun y => by
  obtain ⟨p', hm, hy⟩ := h y
  exact ⟨p', List.mem_cons_of_mem _ hm, hy⟩

/-- The list is zero on row `q`. -/
def ZeroRow (q : ℕ) (L : List (View.Piece (Elt Ideal) S4x128 .f32)) : Prop :=
  ∀ (hq : q < 4) (l : Fin 128), View.canon L (ValueIdx.ix2 (⟨q, hq⟩ : Fin 4) l : S4x128.Idx) = (0 : EReal)

/-- Once everything is nought, each row is. -/
theorem zeroRow_cleared (q : ℕ) : ZeroRow q [cleared] := fun hq l => by
  refine (congrFun (View.canon_cons_unit_lit' (Val := Elt Ideal) (e := .f32) (S := S4x128) inb_S4x128_S4x128_0_0 (k4_pay6 (F := Ideal)) [] (by decide)) _).trans ?_
  exact Ideal.ofBits_zero_f32

/-- Storing another row leaves a row of noughts as it is. -/
theorem zeroRow_cons (q o : ℕ) (h) (w : Vec Ideal S1x128 .f32) (L) (hL : ZeroRow q L) (hne : q ≠ o) :
    ZeroRow q ((⟨Rect.unit (s := S4x128) ![o, 0] ![1, 128] h, w⟩ : View.Piece (Elt Ideal) S4x128 .f32) :: L) := fun hq l =>
  (canon_row_miss (N := 128) o q hq h w L l hne).trans (hL hq l)

/-- A row of zeros. -/
def noSums : FVec Ideal S1x128 .f32 := fun _ => (0 : EReal)

/-- A row of noughts is read as noughts. -/
theorem readCov_zero {κ : Kind} {sp : Space} (v : View sig κ sp S4x128 .f32) (L : List (View.Piece (Elt Ideal) S4x128 .f32)) (q : ℕ)
    (h : ∀ a, (![q, 0] : Fin 2 → ℕ) a + (![1, 128] : Fin 2 → ℕ) a ≤ S4x128.size a) (hc : Covered L) (hz : ZeroRow q L) :
    v.readCov L (Rect.unit (s := S4x128) ![q, 0] ![1, 128] h).toLoadRect = noSums := by
  have hq : q + 1 ≤ 4 := h 0
  rw [View.readCov_eq_canon_ld _ _ _ hc]
  refine (ld_row (N := 128) _ q h).trans ?_
  funext i
  refine (congrArg (View.canon L) ?_).trans (hz hq (i 1))
  exact congrArg (fun k => (ValueIdx.ix2 k (i 1) : S4x128.Idx)) (Fin.ext (Nat.mod_eq_of_lt hq))

/-! ## The contents at a point -/

section Point

variable (V : (c : Dev nD) → (b : Ref sig .tc) → Buf (Elt Ideal) ((c : Thread nD τ).loc b)) (c : Dev nD) (t : Fin cfg4.N)

/-- The block of tokens, the books and their parts at a point. -/
abbrev tok : FVec Ideal S896x256 .f32 := iblk4 V c 0 t
/-- The books at point `t`. -/
abbrev books : FVec Ideal S4x1024x256 .f32 := iblk4 V c 1 t
/-- The parts at point `t`. -/
abbrev bookParts : FVec Ideal S3x4x1024x256 .bf16 := iblk4 V c 2 t

/-- Each of the four rows of indices fits. -/
theorem rows_fit : ∀ o : Fin 4, ∀ a, (![o.val, 0] : Fin 2 → ℕ) a + (![1, 896] : Fin 2 → ℕ) a ≤ (⟨2, ![4, 896]⟩ : Shape).size a := by
  decide

/-- Each of the four rows of lanes fits. -/
theorem lanes_fit : ∀ o : Fin 4, ∀ a, (![o.val, 0] : Fin 2 → ℕ) a + (![1, 128] : Fin 2 → ℕ) a ≤ (⟨2, ![4, 128]⟩ : Shape).size a := by
  decide

/-- The indices of a block, a row for each book. -/
def indexBlock (x0 : FVec Ideal S896x256 .f32) (x1 : FVec Ideal S4x1024x256 .f32) (x2 : FVec Ideal S3x4x1024x256 .bf16) :
    Vec Ideal S4x896 .i32 :=
  fourRows (e := .i32) (N := 896) (fun q => shapeCast S1x896 (picks (left x0 x1 x2 q) (slab x1 q)) shapeCasts_S896_S1x896) [] rows_fit

/-- The lane sums after a block, over what `old q` held before. -/
def lossBlock (x0 : FVec Ideal S896x256 .f32) (x1 : FVec Ideal S4x1024x256 .f32) (x2 : FVec Ideal S3x4x1024x256 .bf16)
    (old : ℕ → FVec Ideal S1x128 .f32) (L : List (View.Piece (Elt Ideal) S4x128 .f32)) : FVec Ideal S4x128 .f32 :=
  fourRows (e := .f32) (N := 128) (fun q => lanes (left x0 x1 x2 (q + 1)) (old q)) L lanes_fit

/-- The rows' result at point `t`. -/
theorem rows_at : (outsAt4 V c t.val t.isLt).1 = gathered (tok V c t) (books V c t) (bookParts V c t) 4 := by
  by_cases h0 : t.val % 7 = 0
  · rw [outsAt4_A V c t h0]
    frame_out
    simp only [ld_slab, ld_part, word7, word10, word11, word9, word14, word15, word18, word19, word21, word22, word26, word27,
      word29, word30, word34, word35, word36, word2]
    rfl
  · rw [outsAt4_B V c t h0]
    frame_out
    simp only [ld_slab, ld_part, word7, word10, word11, word9, word14, word15, word18, word19, word21, word22, word26, word27,
      word29, word30, word34, word35, word36, word2]
    rfl

/-- The turned result at point `t`. -/
theorem turned_at : (outsAt4 V c t.val t.isLt).2.1 = transpose S256x896 [1, 0]
    (gathered (tok V c t) (books V c t) (bookParts V c t) 4) transposes_S896x256_p1_0_S256x896 := by
  by_cases h0 : t.val % 7 = 0
  · rw [outsAt4_A V c t h0]
    frame_out
    simp only [ld_slab, ld_part, word7, word10, word11, word9, word14, word15, word18, word19, word21, word22, word26, word27,
      word29, word30, word34, word35, word36, word5]
    rfl
  · rw [outsAt4_B V c t h0]
    frame_out
    simp only [ld_slab, ld_part, word7, word10, word11, word9, word14, word15, word18, word19, word21, word22, word26, word27,
      word29, word30, word34, word35, word36, word5]
    rfl

/-- The indices at point `t`. -/
theorem index_at : (outsAt4 V c t.val t.isLt).2.2.1 = indexBlock (tok V c t) (books V c t) (bookParts V c t) := by
  by_cases h0 : t.val % 7 = 0
  · rw [outsAt4_A V c t h0]
    frame_out
    simp only [ld_slab, ld_part, word7, word10, word11, word9, word14, word15, word18, word19, word21, word22, word26, word27,
      word29, word30, word34, word35, word36, word2, word3, word16, word23, word31]
    rfl
  · rw [outsAt4_B V c t h0]
    frame_out
    simp only [ld_slab, ld_part, word7, word10, word11, word9, word14, word15, word18, word19, word21, word22, word26, word27,
      word29, word30, word34, word35, word36, word2, word3, word16, word23, word31]
    rfl

/-- The losses at the first point. -/
theorem loss_A (h0 : t.val % 7 = 0) : (outsAt4 V c t.val t.isLt).2.2.2
    = lossBlock (tok V c t) (books V c t) (bookParts V c t) (fun _ => noSums) [cleared] := by
  rw [outsAt4_A V c t h0]
  frame_out
  simp only [ld_slab, ld_part, word7, word10, word11, word9, word14, word15, word17, word18, word19, word21, word22, word24,
    word26, word27, word29, word30, word32, word33, word34, word35, word36, word2, word4]
  simp (disch := (repeat' (first | (exact covered_cleared) | (exact zeroRow_cleared _) | (apply covered_cons) |
    (refine zeroRow_cons _ _ _ _ _ ?_ (by decide))))) only [readCov_zero]
  rfl

/-- The losses at a later point. -/
theorem loss_B (h0 : ¬ t.val % 7 = 0) : (outsAt4 V c t.val t.isLt).2.2.2
    = lossBlock (tok V c t) (books V c t) (bookParts V c t)
        (oneRow (outsAt4 V c (t.val - 1) (Nat.lt_of_le_of_lt (Nat.sub_le _ _) t.isLt)).2.2.2) [] := by
  rw [outsAt4_B V c t h0]
  frame_out
  simp only [ld_slab, ld_part, word7, word10, word11, word9, word14, word15, word17, word18, word19, word21, word22, word24,
    word26, word27, word29, word30, word32, word33, word34, word35, word36, word2, word4]
  simp only [ld_row (N := 128)]
  rfl

end Point

end Cert.Proof
-- ==== Proof.QuantArrays.lean ====
/- What the quantizer's call leaves in its four result arrays, a row of tokens at a time. -/
module

public import proofs.«01_k».proof.Proof.QuantRegion

@[expose] public section

noncomputable section

open scoped BigOperators

namespace Cert.Proof

open Idealize.ShloMosaic Idealize.ShloMosaic.TcCoe
open Idealize.ShloMosaic.Pipeline (Dat Window)
open Cert.KernelIdeal Cert.KernelIdeal.Gen

/-- Book `q` of the books' array, as a book. -/
def bookOf (B : FVec Ideal S4x1024x256 .f32) (q : ℕ) : Book := fun k j => B (ValueIdx.ix3 ⟨q % 4, Nat.mod_lt _ (by decide)⟩ k j)

/-- The parts' array splits the books' array: the first part is the book, the other two are nothing. -/
def Splits (B : FVec Ideal S4x1024x256 .f32) (P : FVec Ideal S3x4x1024x256 .bf16) : Prop :=
  ∀ (q : ℕ) (k : Fin 1024) (j : Fin 256), partAt (partSlab P 0 q) k j = bookOf B q k j ∧ partAt (partSlab P 1 q) k j = 0
    ∧ partAt (partSlab P 2 q) k j = 0

section Rows

variable (x0 : FVec Ideal S896x256 .f32) (x1 : FVec Ideal S4x1024x256 .f32) (x2 : FVec Ideal S3x4x1024x256 .bf16)
  (hS : Splits x1 x2) (i : Fin 896)

include hS in
/-- The entries read off for rows whose row `i` is `r`. -/
theorem entryOf_apply (x : FVec Ideal S896x256 .f32) (r : Row) (h : rowAt x i = r) (q : ℕ) (j : Fin 256) :
    entryOf x1 x2 x q (ValueIdx.ix2 i j) = bookOf x1 q (nearest two r (bookOf x1 q)) j := by
  subst h
  exact (entry_apply _ _ _ _ i _ j (picks_apply x (slab x1 q) i) (hS q _ j).2.1 (hS q _ j).2.2).trans (hS q _ j).1

include hS in
/-- Row `i` of what is left after `q` stages. -/
theorem left_apply (q : ℕ) : rowAt (left x0 x1 x2 q) i = rest two (rowAt x0 i) (bookOf x1) q := by
  induction q with
  | zero => rfl
  | succ q ih =>
    funext j
    refine (ValueIdx.subf_apply _ _ _).trans (congrArg₂ (· - ·) (congrFun ih j) ?_)
    exact entryOf_apply x1 x2 hS i _ _ ih q j

include hS in
/-- Row `i` of the accumulated entries. -/
theorem gathered_apply (q : ℕ) : rowAt (gathered x0 x1 x2 q) i = total two (rowAt x0 i) (bookOf x1) q := by
  induction q with
  | zero => exact funext fun _ => Ideal.ofBits_zero_f32
  | succ q ih =>
    funext j
    refine (ValueIdx.addf_apply _ _ _).trans (congrArg₂ (· + ·) (congrFun ih j) ?_)
    exact entryOf_apply x1 x2 hS i _ _ (left_apply x0 x1 x2 hS i q) q j

include hS in
/-- The index of row `i` in book `q`. -/
theorem indexBlock_apply (q : ℕ) (hq : q < 4) : indexBlock x0 x1 x2 (ValueIdx.ix2 ⟨q, hq⟩ i)
    = BitVec.ofNat 32 (code two (rowAt x0 i) (bookOf x1) q).val := by
  refine (fourRows_apply _ _ _ q hq i).trans ?_
  rw [shapeCast_apply _ shapeCasts_S896_S1x896 _ (ValueIdx.ix1 i) (by
    rw [Shape.rowMajor_val_one, Shape.rowMajor_val_two]
    show i.val = 0 * 896 + i.val
    omega)]
  refine (picks_apply _ _ i).trans ?_
  rw [left_apply x0 x1 x2 hS i q]
  rfl

end Rows

/-- The squares of a block of rows in lane `l`: columns `l` and `128 + l`. -/
def laneSum (x0 : FVec Ideal S896x256 .f32) (x1 : FVec Ideal S4x1024x256 .f32) (q : ℕ) (l : Fin 128) : EReal :=
  ∑ a : Fin 2, ∑ i : Fin 896, rest two (rowAt x0 i) (bookOf x1) (q + 1) ⟨a.val * 128 + l.val, by omega⟩
    * rest two (rowAt x0 i) (bookOf x1) (q + 1) ⟨a.val * 128 + l.val, by omega⟩

/-- The losses' block at a row and a lane. -/
theorem lossBlock_apply (x0 : FVec Ideal S896x256 .f32) (x1 : FVec Ideal S4x1024x256 .f32) (x2 : FVec Ideal S3x4x1024x256 .bf16)
    (hS : Splits x1 x2) (old : ℕ → FVec Ideal S1x128 .f32) (L) (q : ℕ) (hq : q < 4) (l : Fin 128) :
    lossBlock x0 x1 x2 old L (ValueIdx.ix2 ⟨q, hq⟩ l) = old q (ValueIdx.ix2 0 l) + laneSum x0 x1 q l := by
  refine (fourRows_apply _ _ _ q hq l).trans ((lanes_apply _ _ l).trans (congrArg (_ + ·) ?_))
  exact Finset.sum_congr rfl fun a _ => Finset.sum_congr rfl fun i _ => by rw [left_apply x0 x1 x2 hS i (q + 1)]

section Arrays

variable (V : (c : Dev nD) → (b : Ref sig .tc) → Buf (Elt Ideal) ((c : Thread nD τ).loc b)) (c : Dev nD)

/-- Token `n` of the tokens' array. -/
abbrev tokenAt (T : FVec Ideal S6272x256 .f32) (n : Fin 6272) : Row := fun j => T (ValueIdx.ix2 n j)

/-- Where each window stands at point `t`: the rows' windows at block `t`, the others at the start. -/
theorem stands0 : ∀ t : Fin cfg4.N, win4_0.index t 0 = t.val ∧ win4_0.index t 1 = 0 := by decide +kernel
/-- The books' window always stands at the start. -/
theorem stands1 : ∀ (t : Fin cfg4.N) (a : Fin 3), win4_1.index t a = 0 := by decide +kernel
/-- So does the parts'. -/
theorem stands2 : ∀ (t : Fin cfg4.N) (a : Fin 4), win4_2.index t a = 0 := by decide +kernel
/-- The rows' result stands at block `t` of the rows. -/
theorem stands3 : ∀ t : Fin cfg4.N, win4_3.index t 0 = t.val ∧ win4_3.index t 1 = 0 := by decide +kernel
/-- The turned result stands at block `t` of the columns. -/
theorem stands4 : ∀ t : Fin cfg4.N, win4_4.index t 0 = 0 ∧ win4_4.index t 1 = t.val := by decide +kernel
/-- So do the indices. -/
theorem stands5 : ∀ t : Fin cfg4.N, win4_5.index t 0 = 0 ∧ win4_5.index t 1 = t.val := by decide +kernel
/-- The losses' window always stands at the start. -/
theorem stands6 : ∀ t : Fin cfg4.N, win4_6.index t 0 = 0 ∧ win4_6.index t 1 = 0 := by decide +kernel

/-- The token a point's block has at its row `i`. -/
abbrev tokenNo (t : Fin cfg4.N) (i : Fin 896) : Fin 6272 := ⟨896 * t.val + i.val, by have : t.val < 7 := t.isLt; omega⟩

/-- Row `i` of point `t`'s tokens is row `896·t + i` of all of them. -/
theorem tok_row (t : Fin cfg4.N) (i : Fin 896) : rowAt (tok V c t) i = tokenAt (V c main_v107) (tokenNo t i) := by
  funext j
  refine congrArg (V c main_v107) (funext fun a => Fin.ext ?_)
  match a with
  | ⟨0, _⟩ =>
    refine (Window.rect_emb_val win4_0 t (ValueIdx.ix2 i j : S896x256.Idx) 0).trans ?_
    rw [(stands0 t).1]
    show t.val * 896 + i.val = 896 * t.val + i.val
    omega
  | ⟨1, _⟩ =>
    refine (Window.rect_emb_val win4_0 t (ValueIdx.ix2 i j : S896x256.Idx) 1).trans ?_
    rw [(stands0 t).2]
    show 0 * 256 + j.val = j.val
    omega

/-- Every point reads the whole books. -/
theorem books_eq (t : Fin cfg4.N) : books V c t = V c main_arg9 := by
  funext y
  refine congrArg (V c main_arg9) (funext fun a => Fin.ext ?_)
  refine (Window.rect_emb_val win4_1 t y a).trans ?_
  rw [stands1 t a, Nat.zero_mul, Nat.zero_add]

/-- Every point reads the whole parts. -/
theorem parts_eq (t : Fin cfg4.N) : bookParts V c t = V c main_v120 := by
  funext y
  refine congrArg (V c main_v120) (funext fun a => Fin.ext ?_)
  refine (Window.rect_emb_val win4_2 t y a).trans ?_
  rw [stands2 t a, Nat.zero_mul, Nat.zero_add]

variable (hS : Splits (V c main_arg9) (V c main_v120))

include hS in
/-- The rows accumulated at a point. -/
theorem gathered_row (t : Fin cfg4.N) (i : Fin 896) (j : Fin 256) :
    gathered (tok V c t) (books V c t) (bookParts V c t) 4 (ValueIdx.ix2 i j)
      = total two (tokenAt (V c main_v107) (tokenNo t i)) (bookOf (V c main_arg9)) 4 j := by
  rw [books_eq, parts_eq]
  exact (congrFun (gathered_apply _ _ _ hS i 4) j).trans (by rw [tok_row])

include hS in
/-- The array of quantized rows. -/
theorem region4_rows : (dat4 V c).arrAt 3 cfg4.N = fun i : S6272x256.Idx =>
    total two (tokenAt (V c main_v107) (i 0)) (bookOf (V c main_arg9)) 4 (i 1) := by
  refine (dat4 V c).arrAt_eq_of_covers 3 _ (by decide +kernel) fun t hf y => ?_
  blk_simp
  rw [after4_3, rows_at]
  refine (congrArg _ (ValueIdx.eq_ix2 y)).trans ((gathered_row V c hS t (y 0) (y 1)).trans ?_)
  refine congrArg₂ (fun n j => total two (tokenAt (V c main_v107) n) (bookOf (V c main_arg9)) 4 j) (Fin.ext ?_) (Fin.ext ?_)
  · refine Eq.trans ?_ (Window.rect_emb_val win4_3 t y 0).symm
    rw [(stands3 t).1]
    show 896 * t.val + (y 0).val = t.val * 896 + (y 0).val
    omega
  · refine Eq.trans ?_ (Window.rect_emb_val win4_3 t y 1).symm
    rw [(stands3 t).2]
    show (y 1).val = 0 * 256 + (y 1).val
    omega

include hS in
/-- The array of quantized rows, turned. -/
theorem region4_turned : (dat4 V c).arrAt 4 cfg4.N = fun i : S256x6272.Idx =>
    total two (tokenAt (V c main_v107) (i 1)) (bookOf (V c main_arg9)) 4 (i 0) := by
  refine (dat4 V c).arrAt_eq_of_covers 4 _ (by decide +kernel) fun t hf y => ?_
  blk_simp
  rw [after4_4, turned_at]
  refine (transpose_apply [1, 0] _ transposes_S896x256_p1_0_S256x896 y (ValueIdx.ix2 (y 1) (y 0)) (fun a => by
    match a with
    | ⟨0, _⟩ => rfl
    | ⟨1, _⟩ => rfl)).trans ((gathered_row V c hS t (y 1) (y 0)).trans ?_)
  refine congrArg₂ (fun n j => total two (tokenAt (V c main_v107) n) (bookOf (V c main_arg9)) 4 j) (Fin.ext ?_) (Fin.ext ?_)
  · refine Eq.trans ?_ (Window.rect_emb_val win4_4 t y 1).symm
    rw [(stands4 t).2]
    show 896 * t.val + (y 1).val = t.val * 896 + (y 1).val
    omega
  · refine Eq.trans ?_ (Window.rect_emb_val win4_4 t y 0).symm
    rw [(stands4 t).1]
    show (y 0).val = 0 * 256 + (y 0).val
    omega

include hS in
/-- The array of indices. -/
theorem region4_index : (dat4 V c).arrAt 5 cfg4.N = fun i : S4x6272.Idx =>
    BitVec.ofNat 32 (code two (tokenAt (V c main_v107) (i 1)) (bookOf (V c main_arg9)) (i 0).val).val := by
  refine (dat4 V c).arrAt_eq_of_covers 5 _ (by decide +kernel) fun t hf y => ?_
  blk_simp
  rw [after4_5, index_at, books_eq, parts_eq]
  refine (congrArg _ (ValueIdx.eq_ix2 y)).trans ((indexBlock_apply _ _ _ hS (y 1) (y 0).val (y 0).isLt).trans ?_)
  refine (congrArg (fun x => BitVec.ofNat 32 (code two x (bookOf (V c main_arg9)) (y 0).val).val) (tok_row V c t (y 1))).trans ?_
  refine congrArg₂ (fun n q => BitVec.ofNat 32 (code two (tokenAt (V c main_v107) n) (bookOf (V c main_arg9)) q).val) (Fin.ext ?_) ?_
  · refine Eq.trans ?_ (Window.rect_emb_val win4_5 t y 1).symm
    rw [(stands5 t).2]
    show 896 * t.val + (y 1).val = t.val * 896 + (y 1).val
    omega
  · show (y 0).val = win4_5.index t 0 * 4 + (y 0).val
    rw [(stands5 t).1]
    show (y 0).val = 0 * 4 + (y 0).val
    omega

/-- The squares left of token `n` after stage `q`, at a column. -/
def square (q : ℕ) (n : Fin 6272) (j : Fin 256) : EReal :=
  rest two (tokenAt (V c main_v107) n) (bookOf (V c main_arg9)) (q + 1) j * rest two (tokenAt (V c main_v107) n) (bookOf (V c main_arg9)) (q + 1) j

/-- A point's part of lane `l`. -/
def pointSum (q : ℕ) (l : Fin 128) (t : ℕ) : EReal :=
  if h : t < cfg4.N then ∑ a : Fin 2, ∑ i : Fin 896, square V c q (tokenNo ⟨t, h⟩ i) ⟨a.val * 128 + l.val, by omega⟩ else 0

/-- A point's lane sum is read off the whole tokens. -/
theorem laneSum_eq (t : Fin cfg4.N) (q : ℕ) (l : Fin 128) : laneSum (tok V c t) (books V c t) q l = pointSum V c q l t.val := by
  unfold pointSum laneSum
  rw [dif_pos t.isLt, books_eq]
  exact Finset.sum_congr rfl fun a _ => Finset.sum_congr rfl fun i _ => by rw [tok_row]; rfl

include hS in
/-- The lane sums after point `t`. -/
theorem lanes_after (t : Fin cfg4.N) (q : ℕ) (hq : q < 4) (l : Fin 128) :
    (outsAt4 V c t.val t.isLt).2.2.2 (ValueIdx.ix2 (⟨q, hq⟩ : Fin 4) l : S4x128.Idx)
      = 0 + ∑ k ∈ Finset.range (t.val + 1), pointSum V c q l k := by
  have hS' : ∀ t, Splits (books V c t) (bookParts V c t) := fun t => by rw [books_eq, parts_eq]; exact hS
  refine Pipeline.eq_sum_of_reset_step_single (N := cfg4.N)
    (fun n hn => ((outsAt4 V c n hn).2.2.2 (ValueIdx.ix2 (⟨q, hq⟩ : Fin 4) l : S4x128.Idx) : EReal)) 7 0 (pointSum V c q l)
    (fun t h0 => ?_) (fun t h0 => ?_) (le_refl 7) t
  · show (outsAt4 V c t.val t.isLt).2.2.2 _ = _
    rw [loss_A V c t h0]
    exact (lossBlock_apply _ _ _ (hS' t) _ _ q hq l).trans (congrArg (_ + ·) (laneSum_eq V c t q l))
  · show (outsAt4 V c t.val t.isLt).2.2.2 _ = _
    rw [loss_B V c t h0]
    refine (lossBlock_apply _ _ _ (hS' t) _ _ q hq l).trans (congrArg₂ (· + ·) ?_ (laneSum_eq V c t q l))
    exact congrArg (fun k => (outsAt4 V c (t.val - 1) _).2.2.2 (ValueIdx.ix2 k l : S4x128.Idx)) (Fin.ext (Nat.mod_eq_of_lt hq))

include hS in
/-- The array of lane sums. -/
theorem region4_loss : (dat4 V c).arrAt 6 cfg4.N = fun i : S4x128.Idx =>
    0 + ∑ k ∈ Finset.range 7, pointSum V c (i 0).val (i 1) k := by
  refine (dat4 V c).arrAt_eq_of_covers 6 _ (by decide +kernel) fun t hf y => ?_
  have ht : t.val = 6 := by
    have h1 : t.val % 7 = 6 := (Pipeline.Window.flush_const win4_6 rfl (fun _ _ => rfl) (n := 7) (by decide) rfl t).mp hf
    have h2 : t.val < 7 := t.isLt
    omega
  blk_simp
  rw [after4_6]
  refine (congrArg _ (ValueIdx.eq_ix2 y)).trans ((lanes_after V c hS t (y 0).val (y 0).isLt (y 1)).trans ?_)
  rw [ht]
  refine congrArg₂ (fun q l => 0 + ∑ k ∈ Finset.range 7, pointSum V c q l k) ?_ (Fin.ext ?_)
  · show (y 0).val = win4_6.index t 0 * 4 + (y 0).val
    rw [(stands6 t).1]
    show (y 0).val = 0 * 4 + (y 0).val
    omega
  · refine Eq.trans ?_ (Window.rect_emb_val win4_6 t y 1).symm
    rw [(stands6 t).2]
    show (y 1).val = 0 * 128 + (y 1).val
    omega

end Arrays

end Cert.Proof
-- ==== Proof.RefStages.lean ====
/- The reference's four stages, a token at a time. -/
module

public import proofs.«01_k».proof.Proof.RefQuant
public import proofs.«01_k».proof.Proof.QuantArrays

@[expose] public section

noncomputable section

open scoped BigOperators

namespace Cert.Proof

open Idealize.ShloMosaic Cert.ReferenceIdeal Cert.ReferenceIdeal.Gen Cert.ReferenceIdeal.Read

section Stages

variable (T : FVec Ideal S2x3136x256 .f32) (C : ℕ → FVec Ideal S1024x256 .f32)

/-- What is left of the tokens after `q` stages. -/
def refRest : ℕ → FVec Ideal S2x3136x256 .f32
  | 0 => T
  | q + 1 => subf (refRest q) (refStraight (refRest q) (C q))

/-- What the tokens have been given after `q` stages. -/
def refTotal : ℕ → FVec Ideal S2x3136x256 .f32
  | 0 => broadcastInDim S2x3136x256 ![] bcast_S_S2x3136x256 (constant S_ .f32 0x00000000#32)
  | q + 1 => addf (refTotal q) (refStraight (refRest T C q) (C q))

variable (hT : ∀ b s j, Fin' (tokAt T b s j)) (hC : ∀ q k j, Fin' (bookIn (C q) k j))

include hT hC in
/-- What the reference leaves of a token after `q` stages is `rest`. -/
theorem refRest_apply (b : Fin 2) (s : Fin 3136) (q : ℕ) :
    tokAt (refRest T C q) b s = rest two (tokAt T b s) (fun q => bookIn (C q)) q := by
  induction q generalizing b s with
  | zero => rfl
  | succ q ih =>
    funext j
    have hf : ∀ b s j, Fin' (tokAt (refRest T C q) b s j) := fun b s j => by
      rw [ih b s]
      exact fin_rest two _ _ (hT b s) hC q j
    refine (ValueIdx.subf_apply _ _ _).trans (congrArg₂ (· - ·) (congrFun (ih b s) j) ?_)
    rw [refStraight_apply _ _ hf (hC q), ih b s]

include hT hC in
/-- It is finite. -/
theorem refRest_fin (q : ℕ) (b : Fin 2) (s : Fin 3136) (j : Fin 256) : Fin' (tokAt (refRest T C q) b s j) := by
  rw [refRest_apply T C hT hC]
  exact fin_rest two _ _ (hT b s) hC q j

include hT hC in
/-- What the reference has given a token after `q` stages is `total`. -/
theorem refTotal_apply (b : Fin 2) (s : Fin 3136) (q : ℕ) (j : Fin 256) :
    refTotal T C q (ValueIdx.ix3 b s j) = total two (tokAt T b s) (fun q => bookIn (C q)) q j := by
  induction q with
  | zero => exact (broadcastInDim_apply _ _ _ _ (fun a => a.elim0) (fun a => a.elim0)).trans Ideal.ofBits_zero_f32
  | succ q ih =>
    refine (ValueIdx.addf_apply _ _ _).trans (congrArg₂ (· + ·) ih ?_)
    rw [refStraight_apply _ _ (refRest_fin T C hT hC q) (hC q), refRest_apply T C hT hC]
    rfl

include hT hC in
/-- The reference's index at stage `q` is `code`. -/
theorem refCode_apply (b : Fin 2) (s : Fin 3136) (q : ℕ) :
    refPicks (refRest T C q) (C q) (ValueIdx.ix2 b s)
      = BitVec.ofNat 32 (code two (tokAt T b s) (fun q => bookIn (C q)) q).val := by
  rw [refPicks_apply, refRest_apply T C hT hC]
  rfl

include hT hC in
/-- The reference's loss at stage `q` is the mean square of what the stage leaves. -/
theorem refLosses_apply (q : ℕ) (i : S_.Idx) : refLoss (refRest T C q) (C q) i = Ideal.div
    (∑ y : S2x3136x256.Idx, rest two (tokAt T (y 0) (y 1)) (fun q => bookIn (C q)) (q + 1) (y 2)
      * rest two (tokAt T (y 0) (y 1)) (fun q => bookIn (C q)) (q + 1) (y 2))
    (Ideal.ofBits .f32 0x49C40000#32) := by
  rw [refLoss_apply _ _ (refRest_fin T C hT hC q) (hC q)]
  refine congrArg (Ideal.div · _) (Finset.sum_congr rfl fun y _ => ?_)
  obtain ⟨b, s, j, rfl⟩ : ∃ (b : Fin 2) (s : Fin 3136) (j : Fin 256), ValueIdx.ix3 b s j = y := ⟨y 0, y 1, y 2, (ValueIdx.eq_ix3 y).symm⟩
  have h := refRest_apply T C hT hC b s q
  have e : refRest T C q (ValueIdx.ix3 b s j) - bookIn (C q) (nearest two (tokAt (refRest T C q) b s) (bookIn (C q))) j
      = rest two (tokAt T b s) (fun q => bookIn (C q)) (q + 1) j := by
    rw [h]
    exact congrArg (· - _) (congrFun h j)
  exact congrArg₂ (· * ·) e e

end Stages

/-! ## The reference's own values -/

/-- Four values as a function of their number. -/
theorem four_eq {α : Type} (f : ℕ → α) (a b c d : α) (ha : a = f 0) (hb : b = f 1) (hc : c = f 2) (hd : d = f 3) :
    (![a, b, c, d] : Fin 4 → α) = fun q => f q.val := by
  subst ha hb hc hd
  funext q
  match q with
  | ⟨0, _⟩ => rfl
  | ⟨1, _⟩ => rfl
  | ⟨2, _⟩ => rfl
  | ⟨3, _⟩ => rfl

/-- Book `q` cut out of the books' array. -/
theorem cut_apply (x9 : FVec Ideal S4x1024x256 .f32) (q : Fin 4) (h : S4x1024x256.Slices ![q.val, 0, 0] S1x1024x256)
    (h' : S1x1024x256.ShapeCasts S1024x256) (k : Fin 1024) (j : Fin 256) :
    shapeCast S1024x256 (extractStridedSlice S1x1024x256 ![q.val, 0, 0] x9 h) h' (ValueIdx.ix2 k j) = x9 (ValueIdx.ix3 q k j) := by
  refine (shapeCast_apply _ h' _ (ValueIdx.ix3 0 k j) (by
    rw [Shape.rowMajor_val_two, Shape.rowMajor_val_three]
    show (0 * 1024 + k.val) * 256 + j.val = k.val * 256 + j.val
    omega)).trans ?_
  exact extractStridedSlice_apply _ _ h _ (ValueIdx.ix3 q k j) (fun a => by
    match a with
    | ⟨0, _⟩ => exact (Nat.add_zero q.val).symm
    | ⟨1, _⟩ => exact (Nat.zero_add k.val).symm
    | ⟨2, _⟩ => exact (Nat.zero_add j.val).symm)

/-- The reference's books. -/
def refBook (x9 : FVec Ideal S4x1024x256 .f32) (q : ℕ) : FVec Ideal S1024x256 .f32 :=
  (![val_main_v430 (F := Ideal) x9, val_main_v463 (F := Ideal) x9, val_main_v496 (F := Ideal) x9, val_main_v529 (F := Ideal) x9]
    : Fin 4 → FVec Ideal S1024x256 .f32) ⟨q % 4, Nat.mod_lt _ (by decide)⟩

/-- The reference's book `q` is the argument's. -/
theorem refBook_apply (x9 : FVec Ideal S4x1024x256 .f32) (q : ℕ) : bookIn (refBook x9 q) = bookOf x9 q := by
  funext k j
  unfold refBook bookOf
  generalize (⟨q % 4, Nat.mod_lt _ (by decide)⟩ : Fin 4) = p
  match p with
  | ⟨0, _⟩ => exact cut_apply x9 0 slices_S4x1024x256_S1x1024x256_0_0_0 _ k j
  | ⟨1, _⟩ => exact cut_apply x9 1 slices_S4x1024x256_S1x1024x256_1_0_0 _ k j
  | ⟨2, _⟩ => exact cut_apply x9 2 slices_S4x1024x256_S1x1024x256_2_0_0 _ k j
  | ⟨3, _⟩ => exact cut_apply x9 3 slices_S4x1024x256_S1x1024x256_3_0_0 _ k j

section Values

variable (x0 : FVec Ideal S2x3x224x224 .f32) (x1 : FVec Ideal S64x3x4x4 .f32) (x2 : FVec Ideal S64 .f32)
  (x3 : FVec Ideal S128x64x4x4 .f32) (x4 : FVec Ideal S128 .f32) (x5 : FVec Ideal S256x128x3x3 .f32) (x6 : FVec Ideal S256 .f32)
  (x7 : FVec Ideal S256x256x3x3 .f32) (x8 : FVec Ideal S256 .f32) (x9 : FVec Ideal S4x1024x256 .f32)

/-- Stage 1 of the reference: its indices, its straight-through entries and its loss. -/
theorem stage1 : val_main_v451 (F := Ideal) x0 x1 x2 x3 x4 x5 x6 x7 x8 x9 = refPicks (val_main_v427 (F := Ideal) x0 x1 x2 x3 x4 x5 x6 x7 x8) (val_main_v430 (F := Ideal) x9)
    ∧ val_main_v455 (F := Ideal) x0 x1 x2 x3 x4 x5 x6 x7 x8 x9 = refStraight (val_main_v427 (F := Ideal) x0 x1 x2 x3 x4 x5 x6 x7 x8) (val_main_v430 (F := Ideal) x9)
    ∧ val_main_v459 (F := Ideal) x0 x1 x2 x3 x4 x5 x6 x7 x8 x9 = refLoss (val_main_v427 (F := Ideal) x0 x1 x2 x3 x4 x5 x6 x7 x8) (val_main_v430 (F := Ideal) x9) := by
  have g : val_main_v444 (F := Ideal) x0 x1 x2 x3 x4 x5 x6 x7 x8 x9 = refGaps (val_main_v427 (F := Ideal) x0 x1 x2 x3 x4 x5 x6 x7 x8) (val_main_v430 (F := Ideal) x9) := by
    unfold val_main_v444 val_main_v443 val_main_v442 val_main_v441 val_main_v440 val_main_v439 val_main_v438 val_main_v437 val_main_v436 val_main_v435 val_main_v434 val_main_v433 val_main_v432 val_main_v431 val_main_cst_7 val_main_cst_8 val_main_cst_9
    rfl
  have p : val_main_v451 (F := Ideal) x0 x1 x2 x3 x4 x5 x6 x7 x8 x9 = refPicks (val_main_v427 (F := Ideal) x0 x1 x2 x3 x4 x5 x6 x7 x8) (val_main_v430 (F := Ideal) x9) := by
    unfold val_main_v451 val_main_v450 val_main_v449 val_main_v448 val_main_v447 val_main_v446 val_main_v445 val_main_call2_v1 val_main_call2_v0 val_main_c val_main_c_11 val_main_cst_10
    rw [g]
    rfl
  refine ⟨p, ?_, ?_⟩
  · unfold val_main_v455 val_main_v454 val_main_v453 val_main_v452
    rw [p]
    rfl
  · unfold val_main_v459 val_main_v458 val_main_v457 val_main_v456 val_main_v453 val_main_v452 val_main_cst_12 val_main_cst_13
    rw [p]
    rfl

/-- Stage 2 of the reference: its indices, its straight-through entries and its loss. -/
theorem stage2 : val_main_v484 (F := Ideal) x0 x1 x2 x3 x4 x5 x6 x7 x8 x9 = refPicks (val_main_v461 (F := Ideal) x0 x1 x2 x3 x4 x5 x6 x7 x8 x9) (val_main_v463 (F := Ideal) x9)
    ∧ val_main_v488 (F := Ideal) x0 x1 x2 x3 x4 x5 x6 x7 x8 x9 = refStraight (val_main_v461 (F := Ideal) x0 x1 x2 x3 x4 x5 x6 x7 x8 x9) (val_main_v463 (F := Ideal) x9)
    ∧ val_main_v492 (F := Ideal) x0 x1 x2 x3 x4 x5 x6 x7 x8 x9 = refLoss (val_main_v461 (F := Ideal) x0 x1 x2 x3 x4 x5 x6 x7 x8 x9) (val_main_v463 (F := Ideal) x9) := by
  have g : val_main_v477 (F := Ideal) x0 x1 x2 x3 x4 x5 x6 x7 x8 x9 = refGaps (val_main_v461 (F := Ideal) x0 x1 x2 x3 x4 x5 x6 x7 x8 x9) (val_main_v463 (F := Ideal) x9) := by
    unfold val_main_v477 val_main_v476 val_main_v475 val_main_v474 val_main_v473 val_main_v472 val_main_v471 val_main_v470 val_main_v469 val_main_v468 val_main_v467 val_main_v466 val_main_v465 val_main_v464 val_main_cst_14 val_main_cst_15 val_main_cst_16
    rfl
  have p : val_main_v484 (F := Ideal) x0 x1 x2 x3 x4 x5 x6 x7 x8 x9 = refPicks (val_main_v461 (F := Ideal) x0 x1 x2 x3 x4 x5 x6 x7 x8 x9) (val_main_v463 (F := Ideal) x9) := by
    unfold val_main_v484 val_main_v483 val_main_v482 val_main_v481 val_main_v480 val_main_v479 val_main_v478 val_main_call3_v1 val_main_call3_v0 val_main_c_18 val_main_c_19 val_main_cst_17
    rw [g]
    rfl
  refine ⟨p, ?_, ?_⟩
  · unfold val_main_v488 val_main_v487 val_main_v486 val_main_v485
    rw [p]
    rfl
  · unfold val_main_v492 val_main_v491 val_main_v490 val_main_v489 val_main_v486 val_main_v485 val_main_cst_20 val_main_cst_21
    rw [p]
    rfl

/-- Stage 3 of the reference: its indices, its straight-through entries and its loss. -/
theorem stage3 : val_main_v517 (F := Ideal) x0 x1 x2 x3 x4 x5 x6 x7 x8 x9 = refPicks (val_main_v494 (F := Ideal) x0 x1 x2 x3 x4 x5 x6 x7 x8 x9) (val_main_v496 (F := Ideal) x9)
    ∧ val_main_v521 (F := Ideal) x0 x1 x2 x3 x4 x5 x6 x7 x8 x9 = refStraight (val_main_v494 (F := Ideal) x0 x1 x2 x3 x4 x5 x6 x7 x8 x9) (val_main_v496 (F := Ideal) x9)
    ∧ val_main_v525 (F := Ideal) x0 x1 x2 x3 x4 x5 x6 x7 x8 x9 = refLoss (val_main_v494 (F := Ideal) x0 x1 x2 x3 x4 x5 x6 x7 x8 x9) (val_main_v496 (F := Ideal) x9) := by
  have g : val_main_v510 (F := Ideal) x0 x1 x2 x3 x4 x5 x6 x7 x8 x9 = refGaps (val_main_v494 (F := Ideal) x0 x1 x2 x3 x4 x5 x6 x7 x8 x9) (val_main_v496 (F := Ideal) x9) := by
    unfold val_main_v510 val_main_v509 val_main_v508 val_main_v507 val_main_v506 val_main_v505 val_main_v504 val_main_v503 val_main_v502 val_main_v501 val_main_v500 val_main_v499 val_main_v498 val_main_v497 val_main_cst_22 val_main_cst_23 val_main_cst_24
    rfl
  have p : val_main_v517 (F := Ideal) x0 x1 x2 x3 x4 x5 x6 x7 x8 x9 = refPicks (val_main_v494 (F := Ideal) x0 x1 x2 x3 x4 x5 x6 x7 x8 x9) (val_main_v496 (F := Ideal) x9) := by
    unfold val_main_v517 val_main_v516 val_main_v515 val_main_v514 val_main_v513 val_main_v512 val_main_v511 val_main_call4_v1 val_main_call4_v0 val_main_c_26 val_main_c_27 val_main_cst_25
    rw [g]
    rfl
  refine ⟨p, ?_, ?_⟩
  · unfold val_main_v521 val_main_v520 val_main_v519 val_main_v518
    rw [p]
    rfl
  · unfold val_main_v525 val_main_v524 val_main_v523 val_main_v522 val_main_v519 val_main_v518 val_main_cst_28 val_main_cst_29
    rw [p]
    rfl

/-- Stage 4 of the reference: its indices, its straight-through entries and its loss. -/
theorem stage4 : val_main_v550 (F := Ideal) x0 x1 x2 x3 x4 x5 x6 x7 x8 x9 = refPicks (val_main_v527 (F := Ideal) x0 x1 x2 x3 x4 x5 x6 x7 x8 x9) (val_main_v529 (F := Ideal) x9)
    ∧ val_main_v554 (F := Ideal) x0 x1 x2 x3 x4 x5 x6 x7 x8 x9 = refStraight (val_main_v527 (F := Ideal) x0 x1 x2 x3 x4 x5 x6 x7 x8 x9) (val_main_v529 (F := Ideal) x9)
    ∧ val_main_v558 (F := Ideal) x0 x1 x2 x3 x4 x5 x6 x7 x8 x9 = refLoss (val_main_v527 (F := Ideal) x0 x1 x2 x3 x4 x5 x6 x7 x8 x9) (val_main_v529 (F := Ideal) x9) := by
  have g : val_main_v543 (F := Ideal) x0 x1 x2 x3 x4 x5 x6 x7 x8 x9 = refGaps (val_main_v527 (F := Ideal) x0 x1 x2 x3 x4 x5 x6 x7 x8 x9) (val_main_v529 (F := Ideal) x9) := by
    unfold val_main_v543 val_main_v542 val_main_v541 val_main_v540 val_main_v539 val_main_v538 val_main_v537 val_main_v536 val_main_v535 val_main_v534 val_main_v533 val_main_v532 val_main_v531 val_main_v530 val_main_cst_30 val_main_cst_31 val_main_cst_32
    rfl
  have p : val_main_v550 (F := Ideal) x0 x1 x2 x3 x4 x5 x6 x7 x8 x9 = refPicks (val_main_v527 (F := Ideal) x0 x1 x2 x3 x4 x5 x6 x7 x8 x9) (val_main_v529 (F := Ideal) x9) := by
    unfold val_main_v550 val_main_v549 val_main_v548 val_main_v547 val_main_v546 val_main_v545 val_main_v544 val_main_call5_v1 val_main_call5_v0 val_main_c_34 val_main_c_35 val_main_cst_33
    rw [g]
    rfl
  refine ⟨p, ?_, ?_⟩
  · unfold val_main_v554 val_main_v553 val_main_v552 val_main_v551
    rw [p]
    rfl
  · unfold val_main_v558 val_main_v557 val_main_v556 val_main_v555 val_main_v552 val_main_v551 val_main_cst_36 val_main_cst_37
    rw [p]
    rfl

/-- The tokens' rests after each stage, and what they are given in all. -/
theorem rests_eq : val_main_v461 (F := Ideal) x0 x1 x2 x3 x4 x5 x6 x7 x8 x9 = refRest (val_main_v427 (F := Ideal) x0 x1 x2 x3 x4 x5 x6 x7 x8) (refBook x9) 1
    ∧ val_main_v494 (F := Ideal) x0 x1 x2 x3 x4 x5 x6 x7 x8 x9 = refRest (val_main_v427 (F := Ideal) x0 x1 x2 x3 x4 x5 x6 x7 x8) (refBook x9) 2
    ∧ val_main_v527 (F := Ideal) x0 x1 x2 x3 x4 x5 x6 x7 x8 x9 = refRest (val_main_v427 (F := Ideal) x0 x1 x2 x3 x4 x5 x6 x7 x8) (refBook x9) 3
    ∧ val_main_v559 (F := Ideal) x0 x1 x2 x3 x4 x5 x6 x7 x8 x9 = refTotal (val_main_v427 (F := Ideal) x0 x1 x2 x3 x4 x5 x6 x7 x8) (refBook x9) 4 := by
  have h1 : val_main_v461 (F := Ideal) x0 x1 x2 x3 x4 x5 x6 x7 x8 x9 = refRest (val_main_v427 (F := Ideal) x0 x1 x2 x3 x4 x5 x6 x7 x8) (refBook x9) 1 := by
    unfold val_main_v461
    rw [(stage1 x0 x1 x2 x3 x4 x5 x6 x7 x8 x9).2.1]
    rfl
  have h2 : val_main_v494 (F := Ideal) x0 x1 x2 x3 x4 x5 x6 x7 x8 x9 = refRest (val_main_v427 (F := Ideal) x0 x1 x2 x3 x4 x5 x6 x7 x8) (refBook x9) 2 := by
    unfold val_main_v494
    rw [(stage2 x0 x1 x2 x3 x4 x5 x6 x7 x8 x9).2.1, h1]
    rfl
  have h3 : val_main_v527 (F := Ideal) x0 x1 x2 x3 x4 x5 x6 x7 x8 x9 = refRest (val_main_v427 (F := Ideal) x0 x1 x2 x3 x4 x5 x6 x7 x8) (refBook x9) 3 := by
    unfold val_main_v527
    rw [(stage3 x0 x1 x2 x3 x4 x5 x6 x7 x8 x9).2.1, h2]
    rfl
  refine ⟨h1, h2, h3, ?_⟩
  unfold val_main_v559 val_main_v526 val_main_v493 val_main_v460 val_main_v428 val_main_cst_6
  rw [(stage1 x0 x1 x2 x3 x4 x5 x6 x7 x8 x9).2.1, (stage2 x0 x1 x2 x3 x4 x5 x6 x7 x8 x9).2.1, (stage3 x0 x1 x2 x3 x4 x5 x6 x7 x8 x9).2.1, (stage4 x0 x1 x2 x3 x4 x5 x6 x7 x8 x9).2.1, h1, h2, h3]
  rfl

/-- The indices and the losses of the four stages. -/
theorem stages_eq : (![val_main_v451 (F := Ideal) x0 x1 x2 x3 x4 x5 x6 x7 x8 x9, val_main_v484 (F := Ideal) x0 x1 x2 x3 x4 x5 x6 x7 x8 x9, val_main_v517 (F := Ideal) x0 x1 x2 x3 x4 x5 x6 x7 x8 x9,
      val_main_v550 (F := Ideal) x0 x1 x2 x3 x4 x5 x6 x7 x8 x9] : Fin 4 → IVec S2x3136 32) = (fun q => refPicks (refRest (val_main_v427 (F := Ideal) x0 x1 x2 x3 x4 x5 x6 x7 x8) (refBook x9) q.val) (refBook x9 q.val))
    ∧ (![val_main_v459 (F := Ideal) x0 x1 x2 x3 x4 x5 x6 x7 x8 x9, val_main_v492 (F := Ideal) x0 x1 x2 x3 x4 x5 x6 x7 x8 x9, val_main_v525 (F := Ideal) x0 x1 x2 x3 x4 x5 x6 x7 x8 x9,
      val_main_v558 (F := Ideal) x0 x1 x2 x3 x4 x5 x6 x7 x8 x9] : Fin 4 → FVec Ideal S_ .f32) = fun q => refLoss (refRest (val_main_v427 (F := Ideal) x0 x1 x2 x3 x4 x5 x6 x7 x8) (refBook x9) q.val) (refBook x9 q.val) := by
  obtain ⟨h1, h2, h3, -⟩ := rests_eq x0 x1 x2 x3 x4 x5 x6 x7 x8 x9
  have a1 := stage1 x0 x1 x2 x3 x4 x5 x6 x7 x8 x9
  have a2 := stage2 x0 x1 x2 x3 x4 x5 x6 x7 x8 x9
  have a3 := stage3 x0 x1 x2 x3 x4 x5 x6 x7 x8 x9
  have a4 := stage4 x0 x1 x2 x3 x4 x5 x6 x7 x8 x9
  have h0 : (val_main_v427 (F := Ideal) x0 x1 x2 x3 x4 x5 x6 x7 x8) = refRest (val_main_v427 (F := Ideal) x0 x1 x2 x3 x4 x5 x6 x7 x8) (refBook x9) 0 := by unfold refRest; rfl
  have b0 : val_main_v430 (F := Ideal) x9 = refBook x9 0 := rfl
  rw [h1] at a2
  rw [h2] at a3
  rw [h3] at a4
  have c1 := a1.1.trans (congrArg₂ refPicks h0 b0)
  have c2 := a1.2.2.trans (congrArg₂ refLoss h0 b0)
  exact ⟨four_eq (fun q => refPicks (refRest (val_main_v427 (F := Ideal) x0 x1 x2 x3 x4 x5 x6 x7 x8) (refBook x9) q) (refBook x9 q)) _ _ _ _ c1 a2.1 a3.1 a4.1, four_eq (fun q => refLoss (refRest (val_main_v427 (F := Ideal) x0 x1 x2 x3 x4 x5 x6 x7 x8) (refBook x9) q) (refBook x9 q)) _ _ _ _ c2 a2.2.2 a3.2.2 a4.2.2⟩

end Values

end Cert.Proof
-- ==== Proof.Finite.lean ====
/- Where every argument of the encoder and of the quantizer is neither infinity, so is every token. -/
module

public import proofs.«01_k».proof.Proof.RefConv
public import proofs.«01_k».proof.Proof.Quant
public import proofs.«01_k».proof.Proof.Gen.Pre_no_tie
public import Idealize.ShloMosaic.Lib.ReduceAll

@[expose] public section

noncomputable section

open scoped BigOperators

namespace Cert.Proof

open Idealize.ShloMosaic Idealize.ShloMosaic.ValueIdx

/-! ## What the precondition says -/

/-- A conjunction of two flags that is on has both flags on. -/
theorem both {s : Shape} {a b : IVec s 1} {i : s.Idx} (h : andi a b i = 1#1) : a i = 1#1 ∧ b i = 1#1 := by
  have h' : a i &&& b i = 1#1 := h
  revert h'
  generalize a i = p
  generalize b i = q
  revert p q
  decide

/-- The flag that every entry of an array is below infinity in absolute value. -/
theorem finite_of {s : Shape} {axes : List (Fin s.rank)} (x : FVec Ideal s .f32) (hb : Shape.BroadcastsInDim ⟨0, ![]⟩ s ![])
    (h' : s.ReducesTo axes ⟨0, ![]⟩) (hu : 0 < (⟨0, ![]⟩ : Shape).numel) (j : (⟨0, ![]⟩ : Shape).Idx)
    (h : Host.reduce IntOp.andi (cmpf .olt (Host.absf x) (broadcastInDim s ![] hb (constant ⟨0, ![]⟩ .f32 0x7F800000#32)))
      (constantI ⟨0, ![]⟩ 1 1#1) h' hu j = 1#1) (i : s.Idx) : Fin' (x i) := by
  have e := Host.reduce_andi_all _ _ _ _ j h i
  have hb' : broadcastInDim s ![] hb (constant (F := Ideal) ⟨0, ![]⟩ .f32 0x7F800000#32) i = (⊤ : EReal) :=
    (broadcastInDim_apply _ _ _ _ (fun a => a.elim0) (fun a => a.elim0)).trans (by simp [constant_apply, Ideal.ofBits, Ideal.ieee])
  have e' : FloatOps.cmpf (F := Ideal) (φ := .f32) .olt (Host.absf x i) (broadcastInDim s ![] hb (constant (F := Ideal) ⟨0, ![]⟩ .f32 0x7F800000#32) i) = 1#1 := e
  rw [hb'] at e'
  have e2 : Host.absf x i < (⊤ : EReal) := by
    by_contra hn
    rw [Ideal.cmpf_def] at e'
    simp only [Ideal.cmp, hn] at e'
    revert e'
    decide
  have e3 : max (x i) (-x i) < (⊤ : EReal) := e2
  exact ⟨fun h => by rw [h] at e3; simp at e3, fun h => by rw [h] at e3; simp at e3⟩

/-! ## Layers -/

/-- A layer's sum of finitely many products of finite numbers is finite. -/
theorem fin_convS (k s C : ℕ) (X W : ℕ → ℕ → ℕ → ℕ → EReal) (hX : ∀ b c h w, Fin' (X b c h w)) (hW : ∀ a b c d, Fin' (W a b c d))
    (b o h w : ℕ) : Fin' (convS k s C X W b o h w) :=
  fin_sum _ _ fun t _ => fin_sum _ _ fun c _ => fin_mul (hX _ _ _ _) (hW _ _ _ _)

/-- Zeros around finite numbers. -/
theorem fin_padS (p : ℕ) (X : ℕ → ℕ → ℕ → ℕ → EReal) (hX : ∀ b c h w, Fin' (X b c h w)) (b c h w : ℕ) : Fin' (padS p X b c h w) := by
  unfold padS
  split
  · exact hX _ _ _ _
  · exact fin_zero

/-- Entries read by number. -/
theorem fin_rd4 {a b c d : ℕ} (x : FVec Ideal ⟨4, ![a, b, c, d]⟩ .f32) (h : ∀ i, Fin' (x i)) (i j k l : ℕ) : Fin' (rd4 x i j k l) := by
  unfold rd4
  split
  · exact h _
  · exact fin_zero

/-- A finite vector is finite wherever it is read. -/
theorem fin_rd1 {a : ℕ} (x : FVec Ideal ⟨1, ![a]⟩ .f32) (h : ∀ i, Fin' (x i)) (i : ℕ) : Fin' (rd1 x i) := by
  unfold rd1
  split
  · exact h _
  · exact fin_zero

/-- A layer of finite numbers, before its rectifier. -/
theorem fin_layer {n0 n1 n2 n3 O C K N : ℕ} (k s : ℕ) (x : FVec Ideal ⟨4, ![n0, n1, n2, n3]⟩ .f32) (w : FVec Ideal ⟨4, ![O, C, K, K]⟩ .f32)
    (v : FVec Ideal ⟨1, ![N]⟩ .f32) (hx : ∀ i, Fin' (x i)) (hw : ∀ i, Fin' (w i)) (hv : ∀ i, Fin' (v i)) (b o h z : ℕ) :
    Fin' (convS k s C (padS 1 (rd4 x)) (rd4 w) b o h z + rd1 v o) :=
  fin_add (fin_convS _ _ _ _ _ (fin_padS _ _ (fin_rd4 x hx)) (fin_rd4 w hw) _ _ _ _) (fin_rd1 v hv _)

open Cert.ReferenceIdeal Cert.ReferenceIdeal.Gen Cert.ReferenceIdeal.Read in
/-- The encoder's output is finite. -/
theorem fin_encoder (x0 : FVec Ideal S2x3x224x224 .f32) (x1 : FVec Ideal S64x3x4x4 .f32) (x2 : FVec Ideal S64 .f32)
    (x3 : FVec Ideal S128x64x4x4 .f32) (x4 : FVec Ideal S128 .f32) (x5 : FVec Ideal S256x128x3x3 .f32) (x6 : FVec Ideal S256 .f32)
    (x7 : FVec Ideal S256x256x3x3 .f32) (x8 : FVec Ideal S256 .f32) (h0 : ∀ i, Fin' (x0 i)) (h1 : ∀ i, Fin' (x1 i))
    (h2 : ∀ i, Fin' (x2 i)) (h3 : ∀ i, Fin' (x3 i)) (h4 : ∀ i, Fin' (x4 i)) (h5 : ∀ i, Fin' (x5 i)) (h6 : ∀ i, Fin' (x6 i))
    (h7 : ∀ i, Fin' (x7 i)) (h8 : ∀ i, Fin' (x8 i)) (i : S2x256x56x56.Idx) :
    Fin' (val_main_v425 (F := Ideal) x0 x1 x2 x3 x4 x5 x6 x7 x8 i) := by
  have f1 : ∀ i, Fin' (val_main_v270 (F := Ideal) x0 x1 x2 i) := fun i => by
    rw [eq_ix4 i]
    exact (ref_conv1 x0 x1 x2 _ _ _ _).symm ▸ fin_max (fin_layer _ _ x0 x1 x2 h0 h1 h2 _ _ _ _) fin_zero
  have f2 : ∀ i, Fin' (val_main_v341 (F := Ideal) x0 x1 x2 x3 x4 i) := fun i => by
    rw [eq_ix4 i]
    exact (ref_conv2 x0 x1 x2 x3 x4 _ _ _ _).symm ▸ fin_max (fin_layer _ _ _ x3 x4 f1 h3 h4 _ _ _ _) fin_zero
  have f3 : ∀ i, Fin' (val_main_v384 (F := Ideal) x0 x1 x2 x3 x4 x5 x6 i) := fun i => by
    rw [eq_ix4 i]
    exact (ref_conv3 x0 x1 x2 x3 x4 x5 x6 _ _ _ _).symm ▸ fin_max (fin_layer _ _ _ x5 x6 f2 h5 h6 _ _ _ _) fin_zero
  rw [eq_ix4 i]
  exact (ref_conv4 x0 x1 x2 x3 x4 x5 x6 x7 x8 _ _ _ _).symm ▸ fin_layer _ _ _ x7 x8 f3 h7 h8 _ _ _ _

open Cert.Pre_no_tie in
/-- The precondition has every argument of the encoder, and the books, finite. -/
theorem pre_left (x0 : FVec Ideal S2x3x224x224 .f32) (x1 : FVec Ideal S64x3x4x4 .f32) (x2 : FVec Ideal S64 .f32)
    (x3 : FVec Ideal S128x64x4x4 .f32) (x4 : FVec Ideal S128 .f32) (x5 : FVec Ideal S256x128x3x3 .f32) (x6 : FVec Ideal S256 .f32)
    (x7 : FVec Ideal S256x256x3x3 .f32) (x8 : FVec Ideal S256 .f32) (x9 : FVec Ideal S4x1024x256 .f32)
    (x10 : FVec Ideal S128x256x3x3 .f32) (x11 : FVec Ideal S128 .f32) (x12 : FVec Ideal S128x64x4x4 .f32) (x13 : FVec Ideal S64 .f32)
    (x14 : FVec Ideal S64x3x4x4 .f32) (x15 : FVec Ideal S3 .f32) (j : S_.Idx)
    (h : fn (F := Ideal) x0 x1 x2 x3 x4 x5 x6 x7 x8 x9 x10 x11 x12 x13 x14 x15 j = 1#1) :
    (∀ i, Fin' (x0 i)) ∧ (∀ i, Fin' (x1 i)) ∧ (∀ i, Fin' (x2 i)) ∧ (∀ i, Fin' (x3 i)) ∧ (∀ i, Fin' (x4 i)) ∧ (∀ i, Fin' (x5 i))
      ∧ (∀ i, Fin' (x6 i)) ∧ (∀ i, Fin' (x7 i)) ∧ (∀ i, Fin' (x8 i)) ∧ ∀ i, Fin' (x9 i) := by
  unfold fn fn_part1 fn_part2 fn_part3 fn_part4 fn_part5 fn_part6 fn_part7 fn_part8 fn_part9 fn_part10 fn_part11 fn_part12 fn_part13
    fn_part14 fn_part15 fn_part16 fn_part17 fn_part18 fn_part19 fn_part20 fn_part21 fn_part22 at h
  obtain ⟨h, -⟩ := both h
  obtain ⟨h, -⟩ := both h
  obtain ⟨h, -⟩ := both h
  obtain ⟨h, -⟩ := both h
  obtain ⟨h, e8⟩ := both h
  obtain ⟨h, e7⟩ := both h
  obtain ⟨h, e6⟩ := both h
  obtain ⟨h, e5⟩ := both h
  obtain ⟨h, e4⟩ := both h
  obtain ⟨h, e3⟩ := both h
  obtain ⟨h, e2⟩ := both h
  obtain ⟨h, e1⟩ := both h
  obtain ⟨e9, e0⟩ := both h
  exact ⟨finite_of _ _ _ _ j e0, finite_of _ _ _ _ j e1, finite_of _ _ _ _ j e2, finite_of _ _ _ _ j e3, finite_of _ _ _ _ j e4,
    finite_of _ _ _ _ j e5, finite_of _ _ _ _ j e6, finite_of _ _ _ _ j e7, finite_of _ _ _ _ j e8, finite_of _ _ _ _ j e9⟩

end Cert.Proof
-- ==== Proof.RefResults.lean ====
/- The reference's quantizer results, a pixel at a time. -/
module

public import proofs.«01_k».proof.Proof.RefStages
public import proofs.«01_k».proof.Proof.Finite

@[expose] public section

noncomputable section

open scoped BigOperators

namespace Cert.Proof

open Idealize.ShloMosaic Cert.ReferenceIdeal Cert.ReferenceIdeal.Gen Cert.ReferenceIdeal.Read

/-- Four pieces of one shape, one behind the other, read at a point. -/
theorem concat_four {α : Type} {t s : Shape} (a : Fin t.rank) (x y z u : s.Idx → α)
    (h : Shape.Concatenates (([⟨s, x⟩, ⟨s, y⟩, ⟨s, z⟩, ⟨s, u⟩] : List ((s : Shape) × (s.Idx → α))).map (·.1)) t a) (hr : s.rank = t.rank)
    (K : ℕ) (hK : s.size (a.cast hr.symm) = K) (j : t.Idx) (n : Fin 4) (hn : (j a).val / K = n.val) (i : s.Idx)
    (hia : (i (a.cast hr.symm)).val = (j a).val % K) (hi : ∀ b : Fin s.rank, b.cast hr ≠ a → (i b).val = (j (b.cast hr)).val) :
    concatenate t a [⟨s, x⟩, ⟨s, y⟩, ⟨s, z⟩, ⟨s, u⟩] h j = (![x, y, z, u] : Fin 4 → s.Idx → α) n i := by
  have hl : ([⟨s, x⟩, ⟨s, y⟩, ⟨s, z⟩, ⟨s, u⟩] : List ((s : Shape) × (s.Idx → α)))
      = List.ofFn fun n : Fin 4 => (⟨s, (![x, y, z, u] : Fin 4 → s.Idx → α) n⟩ : (s : Shape) × (s.Idx → α)) := by
    simp [List.ofFn_succ]
  have hg := hl ▸ h
  have e := concatenate_ofFn_apply a (![x, y, z, u] : Fin 4 → s.Idx → α) hg hr K hK j n hn i hia hi
  rw [← e]
  congr 1

variable (x0 : FVec Ideal S2x3x224x224 .f32) (x1 : FVec Ideal S64x3x4x4 .f32) (x2 : FVec Ideal S64 .f32)
variable (x3 : FVec Ideal S128x64x4x4 .f32) (x4 : FVec Ideal S128 .f32) (x5 : FVec Ideal S256x128x3x3 .f32)
variable (x6 : FVec Ideal S256 .f32) (x7 : FVec Ideal S256x256x3x3 .f32) (x8 : FVec Ideal S256 .f32)
variable (x9 : FVec Ideal S4x1024x256 .f32)

/-- A token's coordinate is the encoder's image at the token's pixel. -/
theorem token_apply (b : Fin 2) (s : Fin 3136) (j : Fin 256) :
    tokAt (val_main_v427 (F := Ideal) x0 x1 x2 x3 x4 x5 x6 x7 x8) b s j
      = val_main_v425 (F := Ideal) x0 x1 x2 x3 x4 x5 x6 x7 x8 (ValueIdx.ix4 b j ⟨s.val / 56, by omega⟩ ⟨s.val % 56, by omega⟩) := by
  unfold tokAt val_main_v427 val_main_v426
  refine (shapeCast_apply _ _ _ (ValueIdx.ix4 b (⟨s.val / 56, by omega⟩ : Fin 56) (⟨s.val % 56, by omega⟩ : Fin 56) j) ?_).trans ?_
  · rw [Shape.rowMajor_val_four, Shape.rowMajor_val_three]
    show ((b.val * 56 + s.val / 56) * 56 + s.val % 56) * 256 + j.val = (b.val * 3136 + s.val) * 256 + j.val
    omega
  · exact transpose_apply _ _ _ _ _ (fun a => by
      match a with
      | ⟨0, _⟩ => rfl
      | ⟨1, _⟩ => rfl
      | ⟨2, _⟩ => rfl
      | ⟨3, _⟩ => rfl)

/-- The quantized image is the sums of the quantizer's entries, at their pixels. -/
theorem qmap_apply (b : Fin 2) (o : Fin 256) (h w : Fin 56) :
    val_main_v573 (F := Ideal) x0 x1 x2 x3 x4 x5 x6 x7 x8 x9 (ValueIdx.ix4 b o h w)
      = val_main_v559 (F := Ideal) x0 x1 x2 x3 x4 x5 x6 x7 x8 x9 (ValueIdx.ix3 b ⟨h.val * 56 + w.val, by omega⟩ o) := by
  unfold val_main_v573 val_main_v572
  refine (transpose_apply _ _ _ _ (ValueIdx.ix4 b h w o) (fun a => by
      match a with
      | ⟨0, _⟩ => rfl
      | ⟨1, _⟩ => rfl
      | ⟨2, _⟩ => rfl
      | ⟨3, _⟩ => rfl)).trans (shapeCast_apply _ _ _ _ ?_)
  rw [Shape.rowMajor_val_four, Shape.rowMajor_val_three]
  show (b.val * 3136 + (h.val * 56 + w.val)) * 256 + o.val = ((b.val * 56 + h.val) * 56 + w.val) * 256 + o.val
  omega

/-- Four stages' vectors, each given an axis for the stage, stacked and folded to images, read at a point. -/
theorem stacked_apply (y0 y1 y2 y3 : IVec S2x3136 32) (b : Fin 2) (q : Fin 4) (h w : Fin 56) (n : Fin 3136) (hn : n.val = h.val * 56 + w.val) :
    shapeCast S2x4x56x56 (concatenate S2x4x3136 1 [⟨S2x1x3136, broadcastInDim S2x1x3136 ![0, 2] bcast_S2x3136_S2x1x3136_0_2 y0⟩,
        ⟨S2x1x3136, broadcastInDim S2x1x3136 ![0, 2] bcast_S2x3136_S2x1x3136_0_2 y1⟩, ⟨S2x1x3136, broadcastInDim S2x1x3136 ![0, 2] bcast_S2x3136_S2x1x3136_0_2 y2⟩,
        ⟨S2x1x3136, broadcastInDim S2x1x3136 ![0, 2] bcast_S2x3136_S2x1x3136_0_2 y3⟩] concatenates_S2x1x3136_S2x1x3136_S2x1x3136_S2x1x3136_S2x4x3136_d1)
      shapeCasts_S2x4x3136_S2x4x56x56 (ValueIdx.ix4 b q h w) = (![y0, y1, y2, y3] : Fin 4 → IVec S2x3136 32) q (ValueIdx.ix2 b n) := by
  have hb : ∀ y : IVec S2x3136 32, broadcastInDim S2x1x3136 ![0, 2] bcast_S2x3136_S2x1x3136_0_2 y (ValueIdx.ix3 b (0 : Fin 1) n)
      = y (ValueIdx.ix2 b n) :=
    fun y => broadcastInDim_apply _ _ _ _ _ (fun a => by
      match a with
      | ⟨0, _⟩ => rfl
      | ⟨1, _⟩ => rfl)
  refine (shapeCast_apply _ _ _ (ValueIdx.ix3 b q n) ?_).trans ?_
  · rw [Shape.rowMajor_val_four, Shape.rowMajor_val_three]
    show (b.val * 4 + q.val) * 3136 + n.val = ((b.val * 4 + q.val) * 56 + h.val) * 56 + w.val
    omega
  refine (concat_four (t := S2x4x3136) (s := S2x1x3136) 1 _ _ _ _ _ rfl 1 rfl _ q (Nat.div_one _)
    (ValueIdx.ix3 b (0 : Fin 1) n) (Nat.mod_one _).symm (fun a ha => by
      match a, ha with
      | ⟨0, _⟩, _ => rfl
      | ⟨1, _⟩, ha => exact absurd rfl ha
      | ⟨2, _⟩, _ => rfl)).trans ?_
  match q with
  | ⟨0, _⟩ => exact hb y0
  | ⟨1, _⟩ => exact hb y1
  | ⟨2, _⟩ => exact hb y2
  | ⟨3, _⟩ => exact hb y3

/-- The indices' image reads the four stages' picks. -/
theorem stage_pick (b : Fin 2) (q : Fin 4) (h w : Fin 56) :
    val_main_v566 (F := Ideal) x0 x1 x2 x3 x4 x5 x6 x7 x8 x9 (ValueIdx.ix4 b q h w)
      = (![val_main_v451 (F := Ideal) x0 x1 x2 x3 x4 x5 x6 x7 x8 x9, val_main_v484 (F := Ideal) x0 x1 x2 x3 x4 x5 x6 x7 x8 x9, val_main_v517 (F := Ideal) x0 x1 x2 x3 x4 x5 x6 x7 x8 x9,
          val_main_v550 (F := Ideal) x0 x1 x2 x3 x4 x5 x6 x7 x8 x9] : Fin 4 → IVec S2x3136 32) q (ValueIdx.ix2 b ⟨h.val * 56 + w.val, by omega⟩) := by
  unfold val_main_v566 val_main_v565 val_main_v561 val_main_v562 val_main_v563 val_main_v564
  exact stacked_apply _ _ _ _ b q h w _ rfl

/-- The losses' vector reads the four stages' losses. -/
theorem stage_loss (q : Fin 4) :
    val_main_v571 (F := Ideal) x0 x1 x2 x3 x4 x5 x6 x7 x8 x9 (ValueIdx.ix1 q)
      = (![val_main_v459 (F := Ideal) x0 x1 x2 x3 x4 x5 x6 x7 x8 x9, val_main_v492 (F := Ideal) x0 x1 x2 x3 x4 x5 x6 x7 x8 x9, val_main_v525 (F := Ideal) x0 x1 x2 x3 x4 x5 x6 x7 x8 x9,
          val_main_v558 (F := Ideal) x0 x1 x2 x3 x4 x5 x6 x7 x8 x9] : Fin 4 → FVec Ideal S_ .f32) q ValueIdx.ix0 := by
  unfold val_main_v571 val_main_v567 val_main_v568 val_main_v569 val_main_v570
  generalize val_main_v459 (F := Ideal) x0 x1 x2 x3 x4 x5 x6 x7 x8 x9 = y0
  generalize val_main_v492 (F := Ideal) x0 x1 x2 x3 x4 x5 x6 x7 x8 x9 = y1
  generalize val_main_v525 (F := Ideal) x0 x1 x2 x3 x4 x5 x6 x7 x8 x9 = y2
  generalize val_main_v558 (F := Ideal) x0 x1 x2 x3 x4 x5 x6 x7 x8 x9 = y3
  refine (concat_four (t := S4) (s := S1) 0 _ _ _ _ _ rfl 1 rfl _ q (Nat.div_one _)
    (ValueIdx.ix1 (0 : Fin 1)) (Nat.mod_one _).symm (fun a ha => by
      match a, ha with
      | ⟨0, _⟩, ha => exact absurd rfl ha)).trans ?_
  have hb : ∀ y : FVec Ideal S_ .f32, broadcastInDim S1 ![] bcast_S_S1 y (ValueIdx.ix1 (0 : Fin 1)) = y ValueIdx.ix0 :=
    fun y => broadcastInDim_apply _ _ _ _ _ (fun a => a.elim0)
  match q with
  | ⟨0, _⟩ => exact hb y0
  | ⟨1, _⟩ => exact hb y1
  | ⟨2, _⟩ => exact hb y2
  | ⟨3, _⟩ => exact hb y3

variable (hT : ∀ i, Fin' (val_main_v425 (F := Ideal) x0 x1 x2 x3 x4 x5 x6 x7 x8 i)) (hB : ∀ i, Fin' (x9 i))

include hT in
/-- The tokens are finite where the encoder's image is. -/
theorem fin_token (b : Fin 2) (s : Fin 3136) (j : Fin 256) : Fin' (tokAt (val_main_v427 (F := Ideal) x0 x1 x2 x3 x4 x5 x6 x7 x8) b s j) :=
  (token_apply x0 x1 x2 x3 x4 x5 x6 x7 x8 b s j).symm ▸ hT _

include hB in
/-- The entries are finite where the books are. -/
theorem fin_entry (q : ℕ) (k : Fin 1024) (j : Fin 256) : Fin' (bookIn (refBook x9 q) k j) :=
  (congrFun (congrFun (refBook_apply x9 q) k) j).symm ▸ hB _

include hT hB

/-- The quantized image, at a pixel: the sum of the entries picked for the pixel's token. -/
theorem qmap_total (b : Fin 2) (o : Fin 256) (h w : Fin 56) :
    val_main_v573 (F := Ideal) x0 x1 x2 x3 x4 x5 x6 x7 x8 x9 (ValueIdx.ix4 b o h w)
      = total two (tokAt (val_main_v427 (F := Ideal) x0 x1 x2 x3 x4 x5 x6 x7 x8) b ⟨h.val * 56 + w.val, by omega⟩) (bookOf x9) 4 o := by
  rw [qmap_apply, (rests_eq x0 x1 x2 x3 x4 x5 x6 x7 x8 x9).2.2.2,
    refTotal_apply _ _ (fin_token x0 x1 x2 x3 x4 x5 x6 x7 x8 hT) (fin_entry x9 hB)]
  exact congrArg (fun C => total two _ C 4 o) (funext (refBook_apply x9))

/-- An index: the nearest entry's number. -/
theorem pick_code (b : Fin 2) (q : Fin 4) (h w : Fin 56) :
    val_main_v566 (F := Ideal) x0 x1 x2 x3 x4 x5 x6 x7 x8 x9 (ValueIdx.ix4 b q h w)
      = BitVec.ofNat 32 (code two (tokAt (val_main_v427 (F := Ideal) x0 x1 x2 x3 x4 x5 x6 x7 x8) b ⟨h.val * 56 + w.val, by omega⟩)
          (bookOf x9) q.val).val := by
  rw [stage_pick, congrFun (stages_eq x0 x1 x2 x3 x4 x5 x6 x7 x8 x9).1 q]
  refine (refCode_apply _ _ (fin_token x0 x1 x2 x3 x4 x5 x6 x7 x8 hT) (fin_entry x9 hB) b _ q.val).trans ?_
  exact congrArg (fun C => BitVec.ofNat 32 (code two _ C q.val).val) (funext (refBook_apply x9))

/-- A loss: the mean square of what is left. -/
theorem loss_mean (q : Fin 4) :
    val_main_v571 (F := Ideal) x0 x1 x2 x3 x4 x5 x6 x7 x8 x9 (ValueIdx.ix1 q)
      = Ideal.div (∑ b : Fin 2, ∑ s : Fin 3136, ∑ j : Fin 256,
          rest two (tokAt (val_main_v427 (F := Ideal) x0 x1 x2 x3 x4 x5 x6 x7 x8) b s) (bookOf x9) (q.val + 1) j
            * rest two (tokAt (val_main_v427 (F := Ideal) x0 x1 x2 x3 x4 x5 x6 x7 x8) b s) (bookOf x9) (q.val + 1) j)
        (Ideal.ofBits .f32 0x49C40000#32) := by
  rw [stage_loss, congrFun (stages_eq x0 x1 x2 x3 x4 x5 x6 x7 x8 x9).2 q]
  refine (refLosses_apply _ _ (fin_token x0 x1 x2 x3 x4 x5 x6 x7 x8 hT) (fin_entry x9 hB) q.val _).trans ?_
  have hf : (fun q => bookIn (refBook x9 q)) = bookOf x9 := funext (refBook_apply x9)
  rw [hf]
  exact congrArg (fun z => Ideal.div z _) (sum_idx3 _)

end Cert.Proof

end
-- ==== Proof.Quantized.lean ====
/- The kernel's quantizer results are the reference's. -/
module

public import proofs.«01_k».proof.Proof.Decoder
public import proofs.«01_k».proof.Proof.RefResults

@[expose] public section

noncomputable section

open scoped BigOperators

namespace Cert.Proof

open Idealize.ShloMosaic Idealize.ShloMosaic.TcCoe
open Cert.KernelIdeal Cert.KernelIdeal.Gen
open Cert.ReferenceIdeal.Read (val_main_v427 val_main_v566 val_main_v571)

/-- The parts of a finite book: the book, nothing and nothing. -/
theorem splits_parts (B : FVec Ideal S4x1024x256 .f32) (hB : ∀ i, Fin' (B i)) : Splits B (parts B) := by
  have e : ∀ (p : Fin 3) (q : ℕ) (k : Fin 1024) (j : Fin 256), partAt (partSlab (parts B) p.val q) k j
      = (![B, subf B B, subf (subf B B) (subf B B)] : Fin 3 → FVec Ideal S4x1024x256 .f32) p
          (ValueIdx.ix3 ⟨q % 4, Nat.mod_lt _ (by decide)⟩ k j) := by
    intro p q k j
    refine (concatenate_ofFn_apply (t := S3x4x1024x256) (s₁ := S1x4x1024x256) 0 (part B)
      (by decide : Shape.Concatenates (List.replicate 3 S1x4x1024x256) S3x4x1024x256 0) rfl 1 rfl _ p
      ((Nat.div_one _).trans (Nat.mod_eq_of_lt p.isLt))
      (ValueIdx.ix4 (0 : Fin 1) (⟨q % 4, Nat.mod_lt _ (by decide)⟩ : Fin 4) k j) (Nat.mod_one _).symm (fun a ha => by
        match a, ha with
        | ⟨0, _⟩, ha => exact absurd rfl ha
        | ⟨1, _⟩, _ => rfl
        | ⟨2, _⟩, _ => rfl
        | ⟨3, _⟩, _ => rfl)).trans ?_
    exact broadcastInDim_apply _ _ _ _ _ (fun a => by
      match a with
      | ⟨0, _⟩ => rfl
      | ⟨1, _⟩ => rfl
      | ⟨2, _⟩ => rfl)
  have z : ∀ i, subf B B i = 0 := fun i => sub_self_of_fin (hB i)
  refine fun q k j => ⟨e 0 q k j, (e 1 q k j).trans (z _), (e 2 q k j).trans ?_⟩
  show subf B B _ - subf B B _ = 0
  rw [z, sub_zero]

/-- A sum over the points, halves, rows and lanes of the call is one over the pictures, tokens and coordinates. -/
theorem sum_lanes (f : ℕ → ℕ → EReal) :
    (∑ l : Fin 128, ∑ t ∈ Finset.range 7, ∑ a : Fin 2, ∑ i : Fin 896, f (896 * t + i.val) (a.val * 128 + l.val))
      = ∑ b : Fin 2, ∑ s : Fin 3136, ∑ j : Fin 256, f (b.val * 3136 + s.val) j.val := by
  have hn : ∀ g : ℕ → EReal, (∑ t ∈ Finset.range 7, ∑ i : Fin 896, g (896 * t + i.val)) = ∑ b : Fin 2, ∑ s : Fin 3136, g (b.val * 3136 + s.val) := by
    intro g
    rw [Fin.sum_univ_univ_mul_add 2 3136 g, ← Fin.sum_univ_eq_sum_range (fun t => ∑ i : Fin 896, g (896 * t + i.val)) 7]
    simp only [Nat.mul_comm 896]
    exact Fin.sum_univ_univ_mul_add 7 896 g
  have hj : ∀ g : ℕ → EReal, (∑ l : Fin 128, ∑ a : Fin 2, g (a.val * 128 + l.val)) = ∑ j : Fin 256, g j.val := by
    intro g
    rw [Finset.sum_comm]
    exact Fin.sum_univ_univ_mul_add 2 128 g
  calc _ = ∑ l : Fin 128, ∑ a : Fin 2, ∑ t ∈ Finset.range 7, ∑ i : Fin 896, f (896 * t + i.val) (a.val * 128 + l.val) :=
        Finset.sum_congr rfl fun l _ => Finset.sum_comm
    _ = ∑ l : Fin 128, ∑ a : Fin 2, ∑ b : Fin 2, ∑ s : Fin 3136, f (b.val * 3136 + s.val) (a.val * 128 + l.val) :=
        Finset.sum_congr rfl fun l _ => Finset.sum_congr rfl fun a _ => hn fun n => f n (a.val * 128 + l.val)
    _ = ∑ j : Fin 256, ∑ b : Fin 2, ∑ s : Fin 3136, f (b.val * 3136 + s.val) j.val :=
        hj fun j => ∑ b : Fin 2, ∑ s : Fin 3136, f (b.val * 3136 + s.val) j
    _ = ∑ b : Fin 2, ∑ j : Fin 256, ∑ s : Fin 3136, f (b.val * 3136 + s.val) j.val := Finset.sum_comm
    _ = _ := Finset.sum_congr rfl fun b _ => Finset.sum_comm

variable (m : (ℓ : Loc nD τ sig) → Buf (Elt Ideal) ℓ) (ρ : Dev nD → PrngReg) (c : Dev nD)

/-- The reference's tokens. -/
abbrev tk := val_main_v427 (F := Ideal) (a0 m c) (a1 m c) (a2 m c) (a3 m c) (a4 m c) (a5 m c) (a6 m c) (a7 m c) (a8 m c)

/-- The reference's token of the call's row `n`. -/
def refToken (n : ℕ) : Row := tokAt (tk m c) ⟨n / 3136 % 2, Nat.mod_lt _ (by decide)⟩ ⟨n % 3136, Nat.mod_lt _ (by decide)⟩

/-- The token of row `3136·b + s` is picture `b`'s token `s`. -/
theorem refToken_at (b : Fin 2) (s : Fin 3136) : refToken m c (b.val * 3136 + s.val) = tokAt (tk m c) b s := by
  unfold refToken
  congr 1 <;> apply Fin.ext <;> dsimp only <;> omega

/-- The token of a pixel's row. -/
theorem refToken_pixel (b : Fin 2) (h w : Fin 56) (hn : h.val * 56 + w.val < 3136) :
    refToken m c ((b.val * 56 + h.val) * 56 + w.val) = tokAt (tk m c) b ⟨h.val * 56 + w.val, hn⟩ := by
  rw [← refToken_at]
  exact congrArg (refToken m c) (by show _ = b.val * 3136 + (h.val * 56 + w.val); omega)

/-- The call's row `n` is the reference's token. -/
theorem token_eq (n : Fin 6272) : tokenAt (V17 m ρ c main_v107) n = refToken m c n.val := by
  funext j
  have hn := n.isLt
  have e1 : (W17 m ρ c main_v107 : FVec Ideal S6272x256 .f32) = W16 m ρ c main_v107 := W17_of m ρ c main_v107 (by decide)
  have e2 := rows4 m ρ c (n.val / 3136) j.val (n.val % 3136 / 56) (n.val % 3136 % 56) (by omega) j.isLt (by omega) (by omega)
  rw [rd2_of _ (by omega) j.isLt, rd4_of _ (by omega) j.isLt (by omega) (by omega)] at e2
  refine (congrFun e1 (ValueIdx.ix2 n j)).trans ((congrArg (fun k => (W16 m ρ c main_v107 : FVec Ideal S6272x256 .f32) (ValueIdx.ix2 k j)) ?_).trans
    (e2.trans ?_))
  · exact Fin.ext (by show n.val = (n.val / 3136 * 56 + n.val % 3136 / 56) * 56 + n.val % 3136 % 56; omega)
  · unfold refToken
    rw [token_apply]
    congr 2
    exact Fin.ext (by show n.val / 3136 = n.val / 3136 % 2; omega)

/-- The call's books are the argument's. -/
theorem books9 : (V17 m ρ c main_arg9 : FVec Ideal S4x1024x256 .f32) = a9 m c := W17_args m ρ c main_arg9 (by decide)

variable (hB : ∀ i, Fin' (a9 m c i))

include hB in
/-- The parts the call reads split the books it reads. -/
theorem splits9 : Splits (V17 m ρ c main_arg9) (V17 m ρ c main_v120) := by
  have e : (V17 m ρ c main_v120 : FVec Ideal S3x4x1024x256 .bf16) = parts (a9 m c) :=
    (pre4_parts (W16 m ρ c)).trans (congrArg parts (W16_args m ρ c main_arg9 (by decide)))
  rw [e, books9]
  exact splits_parts _ hB

variable (hT : ∀ i, Fin' (r4 m c i))

include hB

/-- The call's rows: the sums of the entries picked for the reference's tokens. -/
theorem rows_eq : (W18 m ρ c main_v121_0 : FVec Ideal S6272x256 .f32)
    = fun i : S6272x256.Idx => total two (refToken m c (i 0).val) (bookOf (a9 m c)) 4 (i 1) := by
  refine ((W18_arr m ρ c 3).trans (region4_rows (V17 m ρ) c (splits9 m ρ c hB))).trans ?_
  funext i
  exact congrArg₂ (fun x B => total two x B 4 (i 1)) (token_eq m ρ c (i 0)) (congrArg bookOf (books9 m ρ c))

/-- The same, turned. -/
theorem turned_eq : (W18 m ρ c main_v121_1 : FVec Ideal S256x6272 .f32)
    = fun i : S256x6272.Idx => total two (refToken m c (i 1).val) (bookOf (a9 m c)) 4 (i 0) := by
  refine ((W18_arr m ρ c 4).trans (region4_turned (V17 m ρ) c (splits9 m ρ c hB))).trans ?_
  funext i
  exact congrArg₂ (fun x B => total two x B 4 (i 0)) (token_eq m ρ c (i 1)) (congrArg bookOf (books9 m ρ c))

/-- The call's indices: the nearest entries' numbers. -/
theorem index_eq : (W18 m ρ c main_v121_2 : IVec S4x6272 32)
    = fun i : S4x6272.Idx => BitVec.ofNat 32 (code two (refToken m c (i 1).val) (bookOf (a9 m c)) (i 0).val).val := by
  refine ((W18_arr m ρ c 5).trans (region4_index (V17 m ρ) c (splits9 m ρ c hB))).trans ?_
  funext i
  exact congrArg₂ (fun x B => BitVec.ofNat 32 (code two x B (i 0).val).val) (token_eq m ρ c (i 1)) (congrArg bookOf (books9 m ρ c))

/-- The square of what is left of row `n` after stage `q`, at coordinate `j`. -/
def refSquare (q n j : ℕ) : EReal :=
  rest two (refToken m c n) (bookOf (a9 m c)) (q + 1) ⟨j % 256, Nat.mod_lt _ (by decide)⟩
    * rest two (refToken m c n) (bookOf (a9 m c)) (q + 1) ⟨j % 256, Nat.mod_lt _ (by decide)⟩

/-- The call's lanes of losses: sums of squares of what is left. -/
theorem lanes_eq : (W18 m ρ c main_v121_3 : FVec Ideal S4x128 .f32) = fun i : S4x128.Idx =>
    ∑ t ∈ Finset.range 7, ∑ a : Fin 2, ∑ k : Fin 896, refSquare m c (i 0).val (896 * t + k.val) (a.val * 128 + (i 1).val) := by
  refine ((W18_arr m ρ c 6).trans (region4_loss (V17 m ρ) c (splits9 m ρ c hB))).trans ?_
  funext i
  rw [zero_add]
  refine Finset.sum_congr rfl fun t ht => ?_
  unfold pointSum
  rw [dif_pos (show t < cfg4.N from Finset.mem_range.mp ht)]
  refine Finset.sum_congr rfl fun a _ => Finset.sum_congr rfl fun k _ => ?_
  unfold square refSquare
  have hl : (i 1).val < 128 := (i 1).isLt
  have hj : (⟨a.val * 128 + (i 1).val, by omega⟩ : Fin 256) = ⟨(a.val * 128 + (i 1).val) % 256, Nat.mod_lt _ (by decide)⟩ :=
    Fin.ext (Nat.mod_eq_of_lt (by omega)).symm
  rw [token_eq, books9, hj]

include hT

/-- The decoder's rows are the reference's quantized image. -/
theorem quantized_rows (b o h w : ℕ) (hb : b < 2) (ho : o < 256) (hh : h < 56) (hw : w < 56) :
    rd2 (W18 m ρ c main_v121_0 : FVec Ideal S6272x256 .f32) ((b * 56 + h) * 56 + w) o = rd4 (r5 m c) b o h w := by
  rw [rd2_of _ (by omega) ho, rd4_of _ hb ho hh hw, rows_eq m ρ c hB]
  refine (congrFun (congrArg (fun x => total two x (bookOf (a9 m c)) 4) (refToken_pixel m c ⟨b, hb⟩ ⟨h, hh⟩ ⟨w, hw⟩ (by dsimp only; omega))) _).trans ?_
  exact (qmap_total (a0 m c) (a1 m c) (a2 m c) (a3 m c) (a4 m c) (a5 m c) (a6 m c) (a7 m c) (a8 m c) (a9 m c) hT hB ⟨b, hb⟩ ⟨o, ho⟩ ⟨h, hh⟩ ⟨w, hw⟩).symm

/-- The kernel's fourth result when the quantizer's call has been read off: the reference's quantized image. -/
theorem qmap_eq : (W19 m ρ c main_v129 : FVec Ideal S2x256x56x56 .f32) = r5 m c := by
  refine (post_qmap (W18 m ρ c)).trans ?_
  funext i
  obtain ⟨b, o, h, w, rfl⟩ : ∃ b o h w, i = ValueIdx.ix4 b o h w := ⟨i 0, i 1, i 2, i 3, ValueIdx.eq_ix4 i⟩
  refine (transpose_apply _ _ transposes_S256x2x56x56_S2x256x56x56_1_0_2_3 _ (ValueIdx.ix4 o b h w) (fun a => by
    match a with
    | ⟨0, _⟩ => rfl
    | ⟨1, _⟩ => rfl
    | ⟨2, _⟩ => rfl
    | ⟨3, _⟩ => rfl)).trans ?_
  refine (shapeCast_apply _ _ _ (ValueIdx.ix2 o (⟨(b.val * 56 + h.val) * 56 + w.val, by omega⟩ : Fin 6272)) ?_).trans ?_
  · rw [Shape.rowMajor_val_four, Shape.rowMajor_val_two]
    show o.val * 6272 + ((b.val * 56 + h.val) * 56 + w.val) = ((o.val * 2 + b.val) * 56 + h.val) * 56 + w.val
    omega
  rw [turned_eq m ρ c hB]
  refine (congrFun (congrArg (fun x => total two x (bookOf (a9 m c)) 4) (refToken_pixel m c b h w (by omega))) _).trans ?_
  exact (qmap_total (a0 m c) (a1 m c) (a2 m c) (a3 m c) (a4 m c) (a5 m c) (a6 m c) (a7 m c) (a8 m c) (a9 m c) hT hB b o h w).symm

/-- The reference's indices. -/
abbrev rIndices := val_main_v566 (F := Ideal) (a0 m c) (a1 m c) (a2 m c) (a3 m c) (a4 m c) (a5 m c) (a6 m c) (a7 m c) (a8 m c) (a9 m c)
/-- The reference's losses. -/
abbrev rLosses := val_main_v571 (F := Ideal) (a0 m c) (a1 m c) (a2 m c) (a3 m c) (a4 m c) (a5 m c) (a6 m c) (a7 m c) (a8 m c) (a9 m c)

/-- The kernel's second result: the reference's indices. -/
theorem indices_eq : (W19 m ρ c main_v126 : IVec S2x4x56x56 32) = rIndices m c := by
  refine (post_indices (W18 m ρ c)).trans ?_
  funext i
  obtain ⟨b, q, h, w, rfl⟩ : ∃ b q h w, i = ValueIdx.ix4 b q h w := ⟨i 0, i 1, i 2, i 3, ValueIdx.eq_ix4 i⟩
  refine (transpose_apply _ _ transposes_S4x2x56x56_S2x4x56x56_1_0_2_3 _ (ValueIdx.ix4 q b h w) (fun a => by
    match a with
    | ⟨0, _⟩ => rfl
    | ⟨1, _⟩ => rfl
    | ⟨2, _⟩ => rfl
    | ⟨3, _⟩ => rfl)).trans ?_
  refine (shapeCast_apply _ _ _ (ValueIdx.ix2 q (⟨(b.val * 56 + h.val) * 56 + w.val, by omega⟩ : Fin 6272)) ?_).trans ?_
  · rw [Shape.rowMajor_val_four, Shape.rowMajor_val_two]
    show q.val * 6272 + ((b.val * 56 + h.val) * 56 + w.val) = ((q.val * 2 + b.val) * 56 + h.val) * 56 + w.val
    omega
  rw [index_eq m ρ c hB]
  refine (congrArg (fun x => BitVec.ofNat 32 (code two x (bookOf (a9 m c)) q.val).val) (refToken_pixel m c b h w (by omega))).trans ?_
  exact (pick_code (a0 m c) (a1 m c) (a2 m c) (a3 m c) (a4 m c) (a5 m c) (a6 m c) (a7 m c) (a8 m c) (a9 m c) hT hB b q h w).symm

/-- The kernel's third result: the reference's losses. -/
theorem loss_eq : (W19 m ρ c main_v124 : FVec Ideal S4 .f32) = rLosses m c := by
  refine (post_loss (W18 m ρ c)).trans ?_
  funext i
  obtain ⟨q, rfl⟩ : ∃ q, i = ValueIdx.ix1 q := ⟨i 0, ValueIdx.eq_ix1 i⟩
  rw [lanes_eq m ρ c hB]
  refine Eq.trans ?_ (loss_mean (a0 m c) (a1 m c) (a2 m c) (a3 m c) (a4 m c) (a5 m c) (a6 m c) (a7 m c) (a8 m c) (a9 m c) hT hB q).symm
  refine congrArg₂ Ideal.div ?_ (broadcastInDim_apply _ _ _ _ ValueIdx.ix0 (fun a => a.elim0))
  have hR : S4x128.Reduces [1] S4 := by decide
  refine (Ideal.hostReduceAdd_single reducesTo_S4x128_S4_d1 hR _ _ (ValueIdx.ix1 q)).trans ?_
  refine (congrArg (fun z => z + _) Ideal.ofBits_zero_f32).trans ((zero_add _).trans ?_)
  refine (sum_lanes (refSquare m c q.val)).trans ?_
  refine Finset.sum_congr rfl fun b _ => Finset.sum_congr rfl fun s _ => Finset.sum_congr rfl fun j _ => ?_
  unfold refSquare
  rw [refToken_at, show (⟨j.val % 256, Nat.mod_lt _ (by decide)⟩ : Fin 256) = j from Fin.ext (Nat.mod_eq_of_lt j.isLt)]

end Cert.Proof

end
-- ==== Proof.Launched.lean ====
/- What the kernel's launch leaves: every buffer at the contents the last boundary of the run gives it. -/
module

public import proofs.«01_k».proof.Proof.Gen.KernelIdeal.Frame

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The idealized kernel terminates from any memory, and every unscoped buffer of a device ends at its contents at the last boundary. -/
theorem kernel_ends : θ_run defs (onTc (τ := τ) (main (F := F))) ⟨m, fun _ => 0, ρ⟩
    (fun r => ∀ c : Dev nD, ∀ b ∈ Pipeline.ucRefs τ sig, r.2.mem (((c : Thread nD τ)).1, b) = W37 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W37 m ρ c b)
    (hfin := fun c s' => by
      iintro ⟨⟨Hh, -⟩, HSI⟩
      unfold StableHlo.held
      imodintro
      iapply (pointsTo_read_all (Pipeline.ucRefs τ sig) (fun b => (((c : Thread nD τ)).1, b)) (W37 m ρ c) s')
      isplitl [Hh] <;> iassumption)
    (hQ := fun s h _ => h)

end Cert.Proof

end
-- ==== Proof.Results.lean ====
/- The kernel's four results are the reference's values of the same arguments. -/
module

public import proofs.«01_k».proof.Defs
public import proofs.«01_k».proof.Proof.Quantized
public import proofs.«01_k».proof.Proof.Launched

@[expose] public section

noncomputable section

namespace Cert.Proof

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- What the quantizer's results hold when its call has been read off, they hold at the end. -/
theorem kept (r : Ref sig .tc) (hr : r = main_v126 ∨ r = main_v124 ∨ r = main_v129) :
    W37 m ρ c (Proc.devRef .tc r) = W19 m ρ c (Proc.devRef .tc r) := by
  rcases hr with rfl | rfl | rfl <;> exact (W37_of m ρ c _ (by decide))
      |>.trans (W36_of m ρ c _ (by decide))
      |>.trans (W35_of m ρ c _ (by decide))
      |>.trans (W34_of m ρ c _ (by decide))
      |>.trans (W33_of m ρ c _ (by decide))
      |>.trans (W32_of m ρ c _ (by decide))
      |>.trans (W31_of m ρ c _ (by decide))
      |>.trans (W30_of m ρ c _ (by decide))
      |>.trans (W29_of m ρ c _ (by decide))
      |>.trans (W28_of m ρ c _ (by decide))
      |>.trans (W27_of m ρ c _ (by decide))
      |>.trans (W26_of m ρ c _ (by decide))
      |>.trans (W25_of m ρ c _ (by decide))
      |>.trans (W24_of m ρ c _ (by decide))
      |>.trans (W23_of m ρ c _ (by decide))
      |>.trans (W22_of m ρ c _ (by decide))
      |>.trans (W21_of m ρ c _ (by decide))
      |>.trans (W20_of m ρ c _ (by decide))

/-- The precondition leaves the encoder's image and the books finite. -/
theorem finite_of_pre (h : Cert.Pre_KernelIdeal (hPre_no_tie := Cert.Pre_no_tie.Gen.facts) m) :
    (∀ i, Fin' (r4 m c i)) ∧ ∀ i, Fin' (a9 m c i) := by
  obtain ⟨h0, h1, h2, h3, h4, h5, h6, h7, h8, h9⟩ := pre_left (a0 m c) (a1 m c) (a2 m c) (a3 m c) (a4 m c) (a5 m c) (a6 m c) (a7 m c) (a8 m c) (a9 m c) (a10 m c) (a11 m c) (a12 m c) (a13 m c) (a14 m c) (a15 m c) ValueIdx.ix0 (congrFun (h c) ValueIdx.ix0)
  exact ⟨fin_encoder (a0 m c) (a1 m c) (a2 m c) (a3 m c) (a4 m c) (a5 m c) (a6 m c) (a7 m c) (a8 m c) h0 h1 h2 h3 h4 h5 h6 h7 h8, h9⟩

/-- The idealized kernel, launched from a memory of which the precondition holds, ends with the reference's values in its four
    results and its arguments as they were. -/
theorem kernel_values (h : Cert.Pre_KernelIdeal (hPre_no_tie := Cert.Pre_no_tie.Gen.facts) m) :
    θ_run defs (onTc (τ := τ) (main (F := Ideal))) ⟨m, fun _ => 0, ρ⟩ fun r => ∀ c : Dev nD,
      (r.2.mem ((c.tc : Thread nD τ).loc main_v321) : FVec Ideal S2x3x224x224 .f32) = r8 m c
      ∧ (r.2.mem ((c.tc : Thread nD τ).loc main_v126) : IVec S2x4x56x56 32) = rIndices m c
      ∧ (r.2.mem ((c.tc : Thread nD τ).loc main_v124) : FVec Ideal S4 .f32) = rLosses m c
      ∧ (r.2.mem ((c.tc : Thread nD τ).loc main_v129) : FVec Ideal S2x256x56x56 .f32) = r5 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun r e c => by
    obtain ⟨hT, hB⟩ := finite_of_pre m c h
    exact ⟨(e c _ (mem_uc main_v321 (by decide))).trans (recon_eq m ρ c (quantized_rows m ρ c hB hT)),
      (e c _ (mem_uc main_v126 (by decide))).trans ((kept m ρ c main_v126 (.inl rfl)).trans (indices_eq m ρ c hB hT)),
      (e c _ (mem_uc main_v124 (by decide))).trans ((kept m ρ c main_v124 (.inr (.inl rfl))).trans (loss_eq m ρ c hB hT)),
      (e c _ (mem_uc main_v129 (by decide))).trans ((kept m ρ c main_v129 (.inr (.inr rfl))).trans (qmap_eq m ρ c hB hT)),
      (e c _ (mem_uc main_arg0 (by decide))).trans (W37_main_arg0 m ρ c),
      (e c _ (mem_uc main_arg1 (by decide))).trans (W37_main_arg1 m ρ c),
      (e c _ (mem_uc main_arg2 (by decide))).trans (W37_main_arg2 m ρ c),
      (e c _ (mem_uc main_arg3 (by decide))).trans (W37_main_arg3 m ρ c),
      (e c _ (mem_uc main_arg4 (by decide))).trans (W37_main_arg4 m ρ c),
      (e c _ (mem_uc main_arg5 (by decide))).trans (W37_main_arg5 m ρ c),
      (e c _ (mem_uc main_arg6 (by decide))).trans (W37_main_arg6 m ρ c),
      (e c _ (mem_uc main_arg7 (by decide))).trans (W37_main_arg7 m ρ c),
      (e c _ (mem_uc main_arg8 (by decide))).trans (W37_main_arg8 m ρ c),
      (e c _ (mem_uc main_arg9 (by decide))).trans (W37_main_arg9 m ρ c),
      (e c _ (mem_uc main_arg10 (by decide))).trans (W37_main_arg10 m ρ c),
      (e c _ (mem_uc main_arg11 (by decide))).trans (W37_main_arg11 m ρ c),
      (e c _ (mem_uc main_arg12 (by decide))).trans (W37_main_arg12 m ρ c),
      (e c _ (mem_uc main_arg13 (by decide))).trans (W37_main_arg13 m ρ c),
      (e c _ (mem_uc main_arg14 (by decide))).trans (W37_main_arg14 m ρ c),
      (e c _ (mem_uc main_arg15 (by decide))).trans (W37_main_arg15 m ρ c)⟩) (kernel_ends m ρ)

end Cert.Proof

end
-- ==== Proof.RefRun.lean ====
/- The reference's run, its results as the values of its arguments. -/
module

public import proofs.«01_k».proof.Proof.Gen.ReferenceIdeal.Run
public import proofs.«01_k».proof.Proof.Gen.ReferenceIdeal.Read

@[expose] public section

noncomputable section

namespace Cert.Proof

open Idealize.ShloMosaic Idealize.SL.Sem
open Cert.ReferenceIdeal Cert.ReferenceIdeal.Gen Cert.ReferenceIdeal.Value Cert.ReferenceIdeal.Read

variable (m : (ℓ : Loc nD τ sig) → Buf (Elt Ideal) ℓ) (c : Dev nD)

/-- The reference's arguments. -/
abbrev b0 : FVec Ideal S2x3x224x224 .f32 := m ((c.tc : Thread nD τ).loc main_arg0)
abbrev b1 : FVec Ideal S64x3x4x4 .f32 := m ((c.tc : Thread nD τ).loc main_arg1)
abbrev b2 : FVec Ideal S64 .f32 := m ((c.tc : Thread nD τ).loc main_arg2)
abbrev b3 : FVec Ideal S128x64x4x4 .f32 := m ((c.tc : Thread nD τ).loc main_arg3)
abbrev b4 : FVec Ideal S128 .f32 := m ((c.tc : Thread nD τ).loc main_arg4)
abbrev b5 : FVec Ideal S256x128x3x3 .f32 := m ((c.tc : Thread nD τ).loc main_arg5)
abbrev b6 : FVec Ideal S256 .f32 := m ((c.tc : Thread nD τ).loc main_arg6)
abbrev b7 : FVec Ideal S256x256x3x3 .f32 := m ((c.tc : Thread nD τ).loc main_arg7)
abbrev b8 : FVec Ideal S256 .f32 := m ((c.tc : Thread nD τ).loc main_arg8)
abbrev b9 : FVec Ideal S4x1024x256 .f32 := m ((c.tc : Thread nD τ).loc main_arg9)
abbrev b10 : FVec Ideal S128x256x3x3 .f32 := m ((c.tc : Thread nD τ).loc main_arg10)
abbrev b11 : FVec Ideal S128 .f32 := m ((c.tc : Thread nD τ).loc main_arg11)
abbrev b12 : FVec Ideal S128x64x4x4 .f32 := m ((c.tc : Thread nD τ).loc main_arg12)
abbrev b13 : FVec Ideal S64 .f32 := m ((c.tc : Thread nD τ).loc main_arg13)
abbrev b14 : FVec Ideal S64x3x4x4 .f32 := m ((c.tc : Thread nD τ).loc main_arg14)
abbrev b15 : FVec Ideal S3 .f32 := m ((c.tc : Thread nD τ).loc main_arg15)

/-- The idealized reference terminates from any memory, its results at the values of its arguments, and these as they were. -/
theorem reference_ends (ρ : Dev nD → PrngReg) : θ_run defs (onTc (τ := τ) (main (F := Ideal))) ⟨m, fun _ => 0, ρ⟩ fun r => ∀ c : Dev nD,
    r.2.mem ((c.tc : Thread nD τ).loc main_v757) = val_main_v757 (F := Ideal) (b0 m c) (b1 m c) (b2 m c) (b3 m c) (b4 m c) (b5 m c) (b6 m c) (b7 m c) (b8 m c) (b9 m c) (b10 m c) (b11 m c) (b12 m c) (b13 m c) (b14 m c) (b15 m c)
      ∧ r.2.mem ((c.tc : Thread nD τ).loc main_v566) = val_main_v566 (F := Ideal) (b0 m c) (b1 m c) (b2 m c) (b3 m c) (b4 m c) (b5 m c) (b6 m c) (b7 m c) (b8 m c) (b9 m c)
      ∧ r.2.mem ((c.tc : Thread nD τ).loc main_v571) = val_main_v571 (F := Ideal) (b0 m c) (b1 m c) (b2 m c) (b3 m c) (b4 m c) (b5 m c) (b6 m c) (b7 m c) (b8 m c) (b9 m c)
      ∧ r.2.mem ((c.tc : Thread nD τ).loc main_v573) = val_main_v573 (F := Ideal) (b0 m c) (b1 m c) (b2 m c) (b3 m c) (b4 m c) (b5 m c) (b6 m c) (b7 m c) (b8 m c) (b9 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun r h c => ⟨(h c).1.trans (val_main_v757_eq (StableHlo.launchContents m c)), (h c).2.1.trans (val_main_v566_eq (StableHlo.launchContents m c)),
    (h c).2.2.1.trans (val_main_v571_eq (StableHlo.launchContents m c)), (h c).2.2.2.1.trans (val_main_v573_eq (StableHlo.launchContents m c)), (h c).2.2.2.2⟩)
    (Value.run (F := Ideal) m ρ)

end Cert.Proof

end
-- ==== Proof.Algebraic.lean ====
/- The value claim: from the same arguments, the idealized kernel and the idealized reference end with the same four results. -/
module

public import proofs.«01_k».proof.Proof.Results
public import proofs.«01_k».proof.Proof.RefRun

@[expose] public section

noncomputable section

namespace Cert.Proof

open Idealize.ShloMosaic Idealize.SL.Sem

variable (m : (ℓ : Loc Cert.KernelIdeal.nD Cert.KernelIdeal.τ Cert.KernelIdeal.sig) → Buf (Elt Ideal) ℓ) (g : Dev Cert.KernelIdeal.nD → PrngReg)
variable (m' : (ℓ : Loc Cert.ReferenceIdeal.nD Cert.ReferenceIdeal.τ Cert.ReferenceIdeal.sig) → Buf (Elt Ideal) ℓ) (g' : Dev Cert.ReferenceIdeal.nD → PrngReg)

/-- The reference, launched from a memory with the kernel's arguments, ends with its values of them. -/
theorem reference_values (h : ∀ c : Dev Cert.KernelIdeal.nD, b0 m' c = a0 m c ∧ b1 m' c = a1 m c ∧ b2 m' c = a2 m c ∧ b3 m' c = a3 m c ∧ b4 m' c = a4 m c ∧ b5 m' c = a5 m c ∧ b6 m' c = a6 m c ∧ b7 m' c = a7 m c ∧ b8 m' c = a8 m c ∧ b9 m' c = a9 m c ∧ b10 m' c = a10 m c ∧ b11 m' c = a11 m c ∧ b12 m' c = a12 m c ∧ b13 m' c = a13 m c ∧ b14 m' c = a14 m c ∧ b15 m' c = a15 m c) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
        (r.2.mem ((c.tc : Thread Cert.ReferenceIdeal.nD Cert.ReferenceIdeal.τ).loc Cert.ReferenceIdeal.main_v757) : FVec Ideal Cert.ReferenceIdeal.S2x3x224x224 .f32) = r8 m c
        ∧ (r.2.mem ((c.tc : Thread Cert.ReferenceIdeal.nD Cert.ReferenceIdeal.τ).loc Cert.ReferenceIdeal.main_v566) : IVec Cert.ReferenceIdeal.S2x4x56x56 32) = rIndices m c
        ∧ (r.2.mem ((c.tc : Thread Cert.ReferenceIdeal.nD Cert.ReferenceIdeal.τ).loc Cert.ReferenceIdeal.main_v571) : FVec Ideal Cert.ReferenceIdeal.S4 .f32) = rLosses m c
        ∧ (r.2.mem ((c.tc : Thread Cert.ReferenceIdeal.nD Cert.ReferenceIdeal.τ).loc Cert.ReferenceIdeal.main_v573) : FVec Ideal Cert.ReferenceIdeal.S2x256x56x56 .f32) = r5 m c
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
        ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
        ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
        ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)) := by
  refine (θ_run Cert.ReferenceIdeal.defs _ _).mono (fun r e c => ?_) (reference_ends m' g')
  obtain ⟨e0, e1, e2, e3, e4, e5, e6, e7, e8, e9, e10, e11, e12, e13, e14, e15⟩ := h c
  obtain ⟨w0, w1, w2, w3, w⟩ := e c
  rw [e0, e1, e2, e3, e4, e5, e6, e7, e8, e9, e10, e11, e12, e13, e14, e15] at w0
  rw [e0, e1, e2, e3, e4, e5, e6, e7, e8, e9] at w1 w2 w3
  exact ⟨w0, w1, w2, w3, w⟩

/-- Both ends, the arguments' agreement stated of plain arrays. -/
theorem same_results (hp : Cert.Pre_KernelIdeal (hPre_no_tie := Cert.Pre_no_tie.Gen.facts) m) (h : ∀ c : Dev Cert.KernelIdeal.nD, b0 m' c = a0 m c ∧ b1 m' c = a1 m c ∧ b2 m' c = a2 m c ∧ b3 m' c = a3 m c ∧ b4 m' c = a4 m c ∧ b5 m' c = a5 m c ∧ b6 m' c = a6 m c ∧ b7 m' c = a7 m c ∧ b8 m' c = a8 m c ∧ b9 m' c = a9 m c ∧ b10 m' c = a10 m c ∧ b11 m' c = a11 m c ∧ b12 m' c = a12 m c ∧ b13 m' c = a13 m c ∧ b14 m' c = a14 m c ∧ b15 m' c = a15 m c) :
    ∃ (v0 : Dev Cert.KernelIdeal.nD → FVec Ideal Cert.KernelIdeal.S2x3x224x224 .f32) (v1 : Dev Cert.KernelIdeal.nD → IVec Cert.KernelIdeal.S2x4x56x56 32)
      (v2 : Dev Cert.KernelIdeal.nD → FVec Ideal Cert.KernelIdeal.S4 .f32) (v3 : Dev Cert.KernelIdeal.nD → FVec Ideal Cert.KernelIdeal.S2x256x56x56 .f32),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
        (r.2.mem ((c.tc : Thread Cert.KernelIdeal.nD Cert.KernelIdeal.τ).loc Cert.KernelIdeal.main_v321) : FVec Ideal Cert.KernelIdeal.S2x3x224x224 .f32) = v0 c
        ∧ (r.2.mem ((c.tc : Thread Cert.KernelIdeal.nD Cert.KernelIdeal.τ).loc Cert.KernelIdeal.main_v126) : IVec Cert.KernelIdeal.S2x4x56x56 32) = v1 c
        ∧ (r.2.mem ((c.tc : Thread Cert.KernelIdeal.nD Cert.KernelIdeal.τ).loc Cert.KernelIdeal.main_v124) : FVec Ideal Cert.KernelIdeal.S4 .f32) = v2 c
        ∧ (r.2.mem ((c.tc : Thread Cert.KernelIdeal.nD Cert.KernelIdeal.τ).loc Cert.KernelIdeal.main_v129) : FVec Ideal Cert.KernelIdeal.S2x256x56x56 .f32) = v3 c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
        ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
        ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
        (r.2.mem ((c.tc : Thread Cert.ReferenceIdeal.nD Cert.ReferenceIdeal.τ).loc Cert.ReferenceIdeal.main_v757) : FVec Ideal Cert.ReferenceIdeal.S2x3x224x224 .f32) = v0 c
        ∧ (r.2.mem ((c.tc : Thread Cert.ReferenceIdeal.nD Cert.ReferenceIdeal.τ).loc Cert.ReferenceIdeal.main_v566) : IVec Cert.ReferenceIdeal.S2x4x56x56 32) = v1 c
        ∧ (r.2.mem ((c.tc : Thread Cert.ReferenceIdeal.nD Cert.ReferenceIdeal.τ).loc Cert.ReferenceIdeal.main_v571) : FVec Ideal Cert.ReferenceIdeal.S4 .f32) = v2 c
        ∧ (r.2.mem ((c.tc : Thread Cert.ReferenceIdeal.nD Cert.ReferenceIdeal.τ).loc Cert.ReferenceIdeal.main_v573) : FVec Ideal Cert.ReferenceIdeal.S2x256x56x56 .f32) = v3 c
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
        ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
        ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
        ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)) :=
  ⟨r8 m, rIndices m, rLosses m, r5 m, kernel_values m g hp, reference_values m m' g' h⟩

/-- The idealized kernel and the idealized reference, launched from memories with the same arguments, end with the same four results. -/
theorem algebraic : Cert.algebraic_KernelIdeal_ReferenceIdeal (hKernelIdeal := Cert.KernelIdeal.Gen.facts)
    (hReferenceIdeal := Cert.ReferenceIdeal.Gen.facts) (hPre_no_tie := Cert.Pre_no_tie.Gen.facts) :=
  same_results

end Cert.Proof

end
-- ==== Proof.lean ====
/- The certificate: the frames of the kernel, of its idealization and of the reference, that the idealization is the kernel's
   own text, and that the idealized kernel's four results are the idealized reference's. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_no_tie
public import proofs.«01_k».proof.Proof.RefFrame
public import proofs.«01_k».proof.Proof.Algebraic

@[expose] public section

noncomputable section

namespace Cert.Proof

open Idealize.ShloMosaic Idealize.SL.Sem

/-- The certificate's claims. -/
theorem claim : Cert.Claim :=
  ⟨Cert.Kernel.Gen.facts, Cert.KernelIdeal.Gen.facts, Cert.ReferenceIdeal.Gen.facts, Cert.Pre_no_tie.Gen.facts,
   fun m ρ _ => Cert.Kernel.Gen.frame m ρ, fun m ρ _ => Cert.Kernel.Gen.frame m ρ,
   fun m ρ _ => Cert.KernelIdeal.Gen.frame m ρ, reference_frame,
   fun m ρ _ => reference_frame m ρ trivial, trivial, algebraic⟩

end Cert.Proof

end
